-- ==== Defs.lean ====
def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_ffn [hPre_finite_ffn : Cert.Pre_finite_ffn.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_ffn.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5))).1 = (fun _ => 1#1)
    ∧ (Cert.Pre_finite_ffn.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5))).2.1 = (fun _ => 1#1)
    ∧ (Cert.Pre_finite_ffn.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5))).2.2.1 = (fun _ => 1#1)
    ∧ (Cert.Pre_finite_ffn.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4)) (m ((c.tc : Thread Cert.KernelFIdeal.nD Cert.KernelFIdeal.τ).loc Cert.KernelFIdeal.main_arg5))).2.2.2 = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_ffn [hPre_finite_ffn : Cert.Pre_finite_ffn.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_ffn.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5))).1 = (fun _ => 1#1)
    ∧ (Cert.Pre_finite_ffn.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5))).2.1 = (fun _ => 1#1)
    ∧ (Cert.Pre_finite_ffn.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5))).2.2.1 = (fun _ => 1#1)
    ∧ (Cert.Pre_finite_ffn.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4)) (m ((c.tc : Thread Cert.ReferenceFIdeal.nD Cert.ReferenceFIdeal.τ).loc Cert.ReferenceFIdeal.main_arg5))).2.2.2 = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_ReferenceWTIdeal (m : (ℓ : Loc Cert.ReferenceWTIdeal.nD Cert.ReferenceWTIdeal.τ Cert.ReferenceWTIdeal.sig) → Buf (Elt Ideal) ℓ) : Prop :=
  True

def Pre_KernelWA (m : (ℓ : Loc Cert.KernelWA.nD Cert.KernelWA.τ Cert.KernelWA.sig) → Buf (Elt Bits) ℓ) : Prop :=
  True

def Pre_KernelWAIdeal (m : (ℓ : Loc Cert.KernelWAIdeal.nD Cert.KernelWAIdeal.τ Cert.KernelWAIdeal.sig) → Buf (Elt Ideal) ℓ) : Prop :=
  True

def Pre_ReferenceWAIdeal (m : (ℓ : Loc Cert.ReferenceWAIdeal.nD Cert.ReferenceWAIdeal.τ Cert.ReferenceWAIdeal.sig) → Buf (Elt Ideal) ℓ) : Prop :=
  True

def Pre_KernelWC (m : (ℓ : Loc Cert.KernelWC.nD Cert.KernelWC.τ Cert.KernelWC.sig) → Buf (Elt Bits) ℓ) : Prop :=
  True

def Pre_KernelWCIdeal (m : (ℓ : Loc Cert.KernelWCIdeal.nD Cert.KernelWCIdeal.τ Cert.KernelWCIdeal.sig) → Buf (Elt Ideal) ℓ) : Prop :=
  True

def Pre_ReferenceWCIdeal (m : (ℓ : Loc Cert.ReferenceWCIdeal.nD Cert.ReferenceWCIdeal.τ Cert.ReferenceWCIdeal.sig) → Buf (Elt Ideal) ℓ) : Prop :=
  True

def Pre_ReferenceWCTIdeal (m : (ℓ : Loc Cert.ReferenceWCTIdeal.nD Cert.ReferenceWCTIdeal.τ Cert.ReferenceWCTIdeal.sig) → Buf (Elt Ideal) ℓ) : Prop :=
  True

def Pre_KernelWQ (m : (ℓ : Loc Cert.KernelWQ.nD Cert.KernelWQ.τ Cert.KernelWQ.sig) → Buf (Elt Bits) ℓ) : Prop :=
  True

def Pre_KernelWQIdeal (m : (ℓ : Loc Cert.KernelWQIdeal.nD Cert.KernelWQIdeal.τ Cert.KernelWQIdeal.sig) → Buf (Elt Ideal) ℓ) : Prop :=
  True

def Pre_ReferenceWQIdeal (m : (ℓ : Loc Cert.ReferenceWQIdeal.nD Cert.ReferenceWQIdeal.τ Cert.ReferenceWQIdeal.sig) → Buf (Elt Ideal) ℓ) : Prop :=
  True

def Pre_KernelWG (m : (ℓ : Loc Cert.KernelWG.nD Cert.KernelWG.τ Cert.KernelWG.sig) → Buf (Elt Bits) ℓ) : Prop :=
  True

def Pre_KernelWGIdeal (m : (ℓ : Loc Cert.KernelWGIdeal.nD Cert.KernelWGIdeal.τ Cert.KernelWGIdeal.sig) → Buf (Elt Ideal) ℓ) : Prop :=
  True

def Pre_ReferenceWGIdeal (m : (ℓ : Loc Cert.ReferenceWGIdeal.nD Cert.ReferenceWGIdeal.τ Cert.ReferenceWGIdeal.sig) → Buf (Elt Ideal) ℓ) : Prop :=
  True

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5))
      ∧ r.2.sem = fun _ => 0)

def quiescent_KernelFIdeal_pre_finite_ffn [hKernelFIdeal : Cert.KernelFIdeal.Facts] [hPre_finite_ffn : Cert.Pre_finite_ffn.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_ffn m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5))
      ∧ r.2.sem = fun _ => 0)

def quiescent_ReferenceFIdeal_pre_finite_ffn [hReferenceFIdeal : Cert.ReferenceFIdeal.Facts] [hPre_finite_ffn : Cert.Pre_finite_ffn.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_ffn m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1))
      ∧ r.2.sem = fun _ => 0)

def quiescent_ReferenceWTIdeal [hReferenceWTIdeal : Cert.ReferenceWTIdeal.Facts] : Prop :=
  ∀ (m : (ℓ : Loc Cert.ReferenceWTIdeal.nD Cert.ReferenceWTIdeal.τ Cert.ReferenceWTIdeal.sig) → Buf (Elt Ideal) ℓ) (g : Dev Cert.ReferenceWTIdeal.nD → PrngReg), Pre_ReferenceWTIdeal m →
    θ_run (Cert.ReferenceWTIdeal.defs (F := Ideal)) (onTc (τ := Cert.ReferenceWTIdeal.τ) (Cert.ReferenceWTIdeal.main (F := Ideal))) ⟨m, fun _ => 0, g⟩ (fun r => (∀ c : Dev Cert.ReferenceWTIdeal.nD,
      r.2.mem ((c.tc : Thread Cert.ReferenceWTIdeal.nD Cert.ReferenceWTIdeal.τ).loc Cert.ReferenceWTIdeal.main_arg0) = m ((c.tc : Thread Cert.ReferenceWTIdeal.nD Cert.ReferenceWTIdeal.τ).loc Cert.ReferenceWTIdeal.main_arg0)
      ∧ r.2.mem ((c.tc : Thread Cert.ReferenceWTIdeal.nD Cert.ReferenceWTIdeal.τ).loc Cert.ReferenceWTIdeal.main_arg1) = m ((c.tc : Thread Cert.ReferenceWTIdeal.nD Cert.ReferenceWTIdeal.τ).loc Cert.ReferenceWTIdeal.main_arg1))
      ∧ r.2.sem = fun _ => 0)

def quiescent_KernelWA [hKernelWA : Cert.KernelWA.Facts] : Prop :=
  ∀ (m : (ℓ : Loc Cert.KernelWA.nD Cert.KernelWA.τ Cert.KernelWA.sig) → Buf (Elt Bits) ℓ) (g : Dev Cert.KernelWA.nD → PrngReg), Pre_KernelWA m →
    θ_run (Cert.KernelWA.defs (F := Bits)) (onTc (τ := Cert.KernelWA.τ) (Cert.KernelWA.main (F := Bits))) ⟨m, fun _ => 0, g⟩ (fun r => (∀ c : Dev Cert.KernelWA.nD,
      r.2.mem ((c.tc : Thread Cert.KernelWA.nD Cert.KernelWA.τ).loc Cert.KernelWA.main_arg0) = m ((c.tc : Thread Cert.KernelWA.nD Cert.KernelWA.τ).loc Cert.KernelWA.main_arg0)
      ∧ r.2.mem ((c.tc : Thread Cert.KernelWA.nD Cert.KernelWA.τ).loc Cert.KernelWA.main_arg1) = m ((c.tc : Thread Cert.KernelWA.nD Cert.KernelWA.τ).loc Cert.KernelWA.main_arg1))
      ∧ r.2.sem = fun _ => 0)

def quiescent_KernelWAIdeal [hKernelWAIdeal : Cert.KernelWAIdeal.Facts] : Prop :=
  ∀ (m : (ℓ : Loc Cert.KernelWAIdeal.nD Cert.KernelWAIdeal.τ Cert.KernelWAIdeal.sig) → Buf (Elt Ideal) ℓ) (g : Dev Cert.KernelWAIdeal.nD → PrngReg), Pre_KernelWAIdeal m →
    θ_run (Cert.KernelWAIdeal.defs (F := Ideal)) (onTc (τ := Cert.KernelWAIdeal.τ) (Cert.KernelWAIdeal.main (F := Ideal))) ⟨m, fun _ => 0, g⟩ (fun r => (∀ c : Dev Cert.KernelWAIdeal.nD,
      r.2.mem ((c.tc : Thread Cert.KernelWAIdeal.nD Cert.KernelWAIdeal.τ).loc Cert.KernelWAIdeal.main_arg0) = m ((c.tc : Thread Cert.KernelWAIdeal.nD Cert.KernelWAIdeal.τ).loc Cert.KernelWAIdeal.main_arg0)
      ∧ r.2.mem ((c.tc : Thread Cert.KernelWAIdeal.nD Cert.KernelWAIdeal.τ).loc Cert.KernelWAIdeal.main_arg1) = m ((c.tc : Thread Cert.KernelWAIdeal.nD Cert.KernelWAIdeal.τ).loc Cert.KernelWAIdeal.main_arg1))
      ∧ r.2.sem = fun _ => 0)

def quiescent_ReferenceWAIdeal [hReferenceWAIdeal : Cert.ReferenceWAIdeal.Facts] : Prop :=
  ∀ (m : (ℓ : Loc Cert.ReferenceWAIdeal.nD Cert.ReferenceWAIdeal.τ Cert.ReferenceWAIdeal.sig) → Buf (Elt Ideal) ℓ) (g : Dev Cert.ReferenceWAIdeal.nD → PrngReg), Pre_ReferenceWAIdeal m →
    θ_run (Cert.ReferenceWAIdeal.defs (F := Ideal)) (onTc (τ := Cert.ReferenceWAIdeal.τ) (Cert.ReferenceWAIdeal.main (F := Ideal))) ⟨m, fun _ => 0, g⟩ (fun r => (∀ c : Dev Cert.ReferenceWAIdeal.nD,
      r.2.mem ((c.tc : Thread Cert.ReferenceWAIdeal.nD Cert.ReferenceWAIdeal.τ).loc Cert.ReferenceWAIdeal.main_arg0) = m ((c.tc : Thread Cert.ReferenceWAIdeal.nD Cert.ReferenceWAIdeal.τ).loc Cert.ReferenceWAIdeal.main_arg0)
      ∧ r.2.mem ((c.tc : Thread Cert.ReferenceWAIdeal.nD Cert.ReferenceWAIdeal.τ).loc Cert.ReferenceWAIdeal.main_arg1) = m ((c.tc : Thread Cert.ReferenceWAIdeal.nD Cert.ReferenceWAIdeal.τ).loc Cert.ReferenceWAIdeal.main_arg1))
      ∧ r.2.sem = fun _ => 0)

def quiescent_KernelWC [hKernelWC : Cert.KernelWC.Facts] : Prop :=
  ∀ (m : (ℓ : Loc Cert.KernelWC.nD Cert.KernelWC.τ Cert.KernelWC.sig) → Buf (Elt Bits) ℓ) (g : Dev Cert.KernelWC.nD → PrngReg), Pre_KernelWC m →
    θ_run (Cert.KernelWC.defs (F := Bits)) (onTc (τ := Cert.KernelWC.τ) (Cert.KernelWC.main (F := Bits))) ⟨m, fun _ => 0, g⟩ (fun r => (∀ c : Dev Cert.KernelWC.nD,
      r.2.mem ((c.tc : Thread Cert.KernelWC.nD Cert.KernelWC.τ).loc Cert.KernelWC.main_arg0) = m ((c.tc : Thread Cert.KernelWC.nD Cert.KernelWC.τ).loc Cert.KernelWC.main_arg0)
      ∧ r.2.mem ((c.tc : Thread Cert.KernelWC.nD Cert.KernelWC.τ).loc Cert.KernelWC.main_arg1) = m ((c.tc : Thread Cert.KernelWC.nD Cert.KernelWC.τ).loc Cert.KernelWC.main_arg1))
      ∧ r.2.sem = fun _ => 0)

def quiescent_KernelWCIdeal [hKernelWCIdeal : Cert.KernelWCIdeal.Facts] : Prop :=
  ∀ (m : (ℓ : Loc Cert.KernelWCIdeal.nD Cert.KernelWCIdeal.τ Cert.KernelWCIdeal.sig) → Buf (Elt Ideal) ℓ) (g : Dev Cert.KernelWCIdeal.nD → PrngReg), Pre_KernelWCIdeal m →
    θ_run (Cert.KernelWCIdeal.defs (F := Ideal)) (onTc (τ := Cert.KernelWCIdeal.τ) (Cert.KernelWCIdeal.main (F := Ideal))) ⟨m, fun _ => 0, g⟩ (fun r => (∀ c : Dev Cert.KernelWCIdeal.nD,
      r.2.mem ((c.tc : Thread Cert.KernelWCIdeal.nD Cert.KernelWCIdeal.τ).loc Cert.KernelWCIdeal.main_arg0) = m ((c.tc : Thread Cert.KernelWCIdeal.nD Cert.KernelWCIdeal.τ).loc Cert.KernelWCIdeal.main_arg0)
      ∧ r.2.mem ((c.tc : Thread Cert.KernelWCIdeal.nD Cert.KernelWCIdeal.τ).loc Cert.KernelWCIdeal.main_arg1) = m ((c.tc : Thread Cert.KernelWCIdeal.nD Cert.KernelWCIdeal.τ).loc Cert.KernelWCIdeal.main_arg1))
      ∧ r.2.sem = fun _ => 0)

def quiescent_ReferenceWCIdeal [hReferenceWCIdeal : Cert.ReferenceWCIdeal.Facts] : Prop :=
  ∀ (m : (ℓ : Loc Cert.ReferenceWCIdeal.nD Cert.ReferenceWCIdeal.τ Cert.ReferenceWCIdeal.sig) → Buf (Elt Ideal) ℓ) (g : Dev Cert.ReferenceWCIdeal.nD → PrngReg), Pre_ReferenceWCIdeal m →
    θ_run (Cert.ReferenceWCIdeal.defs (F := Ideal)) (onTc (τ := Cert.ReferenceWCIdeal.τ) (Cert.ReferenceWCIdeal.main (F := Ideal))) ⟨m, fun _ => 0, g⟩ (fun r => (∀ c : Dev Cert.ReferenceWCIdeal.nD,
      r.2.mem ((c.tc : Thread Cert.ReferenceWCIdeal.nD Cert.ReferenceWCIdeal.τ).loc Cert.ReferenceWCIdeal.main_arg0) = m ((c.tc : Thread Cert.ReferenceWCIdeal.nD Cert.ReferenceWCIdeal.τ).loc Cert.ReferenceWCIdeal.main_arg0)
      ∧ r.2.mem ((c.tc : Thread Cert.ReferenceWCIdeal.nD Cert.ReferenceWCIdeal.τ).loc Cert.ReferenceWCIdeal.main_arg1) = m ((c.tc : Thread Cert.ReferenceWCIdeal.nD Cert.ReferenceWCIdeal.τ).loc Cert.ReferenceWCIdeal.main_arg1))
      ∧ r.2.sem = fun _ => 0)

def quiescent_ReferenceWCTIdeal [hReferenceWCTIdeal : Cert.ReferenceWCTIdeal.Facts] : Prop :=
  ∀ (m : (ℓ : Loc Cert.ReferenceWCTIdeal.nD Cert.ReferenceWCTIdeal.τ Cert.ReferenceWCTIdeal.sig) → Buf (Elt Ideal) ℓ) (g : Dev Cert.ReferenceWCTIdeal.nD → PrngReg), Pre_ReferenceWCTIdeal m →
    θ_run (Cert.ReferenceWCTIdeal.defs (F := Ideal)) (onTc (τ := Cert.ReferenceWCTIdeal.τ) (Cert.ReferenceWCTIdeal.main (F := Ideal))) ⟨m, fun _ => 0, g⟩ (fun r => (∀ c : Dev Cert.ReferenceWCTIdeal.nD,
      r.2.mem ((c.tc : Thread Cert.ReferenceWCTIdeal.nD Cert.ReferenceWCTIdeal.τ).loc Cert.ReferenceWCTIdeal.main_arg0) = m ((c.tc : Thread Cert.ReferenceWCTIdeal.nD Cert.ReferenceWCTIdeal.τ).loc Cert.ReferenceWCTIdeal.main_arg0)
      ∧ r.2.mem ((c.tc : Thread Cert.ReferenceWCTIdeal.nD Cert.ReferenceWCTIdeal.τ).loc Cert.ReferenceWCTIdeal.main_arg1) = m ((c.tc : Thread Cert.ReferenceWCTIdeal.nD Cert.ReferenceWCTIdeal.τ).loc Cert.ReferenceWCTIdeal.main_arg1))
      ∧ r.2.sem = fun _ => 0)

def quiescent_KernelWQ [hKernelWQ : Cert.KernelWQ.Facts] : Prop :=
  ∀ (m : (ℓ : Loc Cert.KernelWQ.nD Cert.KernelWQ.τ Cert.KernelWQ.sig) → Buf (Elt Bits) ℓ) (g : Dev Cert.KernelWQ.nD → PrngReg), Pre_KernelWQ m →
    θ_run (Cert.KernelWQ.defs (F := Bits)) (onTc (τ := Cert.KernelWQ.τ) (Cert.KernelWQ.main (F := Bits))) ⟨m, fun _ => 0, g⟩ (fun r => (∀ c : Dev Cert.KernelWQ.nD,
      r.2.mem ((c.tc : Thread Cert.KernelWQ.nD Cert.KernelWQ.τ).loc Cert.KernelWQ.main_arg0) = m ((c.tc : Thread Cert.KernelWQ.nD Cert.KernelWQ.τ).loc Cert.KernelWQ.main_arg0)
      ∧ r.2.mem ((c.tc : Thread Cert.KernelWQ.nD Cert.KernelWQ.τ).loc Cert.KernelWQ.main_arg1) = m ((c.tc : Thread Cert.KernelWQ.nD Cert.KernelWQ.τ).loc Cert.KernelWQ.main_arg1))
      ∧ r.2.sem = fun _ => 0)

def quiescent_KernelWQIdeal [hKernelWQIdeal : Cert.KernelWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg), Pre_KernelWQIdeal m →
    θ_run (Cert.KernelWQIdeal.defs (F := Ideal)) (onTc (τ := Cert.KernelWQIdeal.τ) (Cert.KernelWQIdeal.main (F := Ideal))) ⟨m, fun _ => 0, g⟩ (fun r => (∀ c : Dev Cert.KernelWQIdeal.nD,
      r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
      ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1))
      ∧ r.2.sem = fun _ => 0)

def quiescent_ReferenceWQIdeal [hReferenceWQIdeal : Cert.ReferenceWQIdeal.Facts] : Prop :=
  ∀ (m : (ℓ : Loc Cert.ReferenceWQIdeal.nD Cert.ReferenceWQIdeal.τ Cert.ReferenceWQIdeal.sig) → Buf (Elt Ideal) ℓ) (g : Dev Cert.ReferenceWQIdeal.nD → PrngReg), Pre_ReferenceWQIdeal m →
    θ_run (Cert.ReferenceWQIdeal.defs (F := Ideal)) (onTc (τ := Cert.ReferenceWQIdeal.τ) (Cert.ReferenceWQIdeal.main (F := Ideal))) ⟨m, fun _ => 0, g⟩ (fun r => (∀ c : Dev Cert.ReferenceWQIdeal.nD,
      r.2.mem ((c.tc : Thread Cert.ReferenceWQIdeal.nD Cert.ReferenceWQIdeal.τ).loc Cert.ReferenceWQIdeal.main_arg0) = m ((c.tc : Thread Cert.ReferenceWQIdeal.nD Cert.ReferenceWQIdeal.τ).loc Cert.ReferenceWQIdeal.main_arg0)
      ∧ r.2.mem ((c.tc : Thread Cert.ReferenceWQIdeal.nD Cert.ReferenceWQIdeal.τ).loc Cert.ReferenceWQIdeal.main_arg1) = m ((c.tc : Thread Cert.ReferenceWQIdeal.nD Cert.ReferenceWQIdeal.τ).loc Cert.ReferenceWQIdeal.main_arg1))
      ∧ r.2.sem = fun _ => 0)

def quiescent_KernelWG [hKernelWG : Cert.KernelWG.Facts] : Prop :=
  ∀ (m : (ℓ : Loc Cert.KernelWG.nD Cert.KernelWG.τ Cert.KernelWG.sig) → Buf (Elt Bits) ℓ) (g : Dev Cert.KernelWG.nD → PrngReg), Pre_KernelWG m →
    θ_run (Cert.KernelWG.defs (F := Bits)) (onTc (τ := Cert.KernelWG.τ) (Cert.KernelWG.main (F := Bits))) ⟨m, fun _ => 0, g⟩ (fun r => (∀ c : Dev Cert.KernelWG.nD,
      r.2.mem ((c.tc : Thread Cert.KernelWG.nD Cert.KernelWG.τ).loc Cert.KernelWG.main_arg0) = m ((c.tc : Thread Cert.KernelWG.nD Cert.KernelWG.τ).loc Cert.KernelWG.main_arg0)
      ∧ r.2.mem ((c.tc : Thread Cert.KernelWG.nD Cert.KernelWG.τ).loc Cert.KernelWG.main_arg1) = m ((c.tc : Thread Cert.KernelWG.nD Cert.KernelWG.τ).loc Cert.KernelWG.main_arg1))
      ∧ r.2.sem = fun _ => 0)

def quiescent_KernelWGIdeal [hKernelWGIdeal : Cert.KernelWGIdeal.Facts] : Prop :=
  ∀ (m : (ℓ : Loc Cert.KernelWGIdeal.nD Cert.KernelWGIdeal.τ Cert.KernelWGIdeal.sig) → Buf (Elt Ideal) ℓ) (g : Dev Cert.KernelWGIdeal.nD → PrngReg), Pre_KernelWGIdeal m →
    θ_run (Cert.KernelWGIdeal.defs (F := Ideal)) (onTc (τ := Cert.KernelWGIdeal.τ) (Cert.KernelWGIdeal.main (F := Ideal))) ⟨m, fun _ => 0, g⟩ (fun r => (∀ c : Dev Cert.KernelWGIdeal.nD,
      r.2.mem ((c.tc : Thread Cert.KernelWGIdeal.nD Cert.KernelWGIdeal.τ).loc Cert.KernelWGIdeal.main_arg0) = m ((c.tc : Thread Cert.KernelWGIdeal.nD Cert.KernelWGIdeal.τ).loc Cert.KernelWGIdeal.main_arg0)
      ∧ r.2.mem ((c.tc : Thread Cert.KernelWGIdeal.nD Cert.KernelWGIdeal.τ).loc Cert.KernelWGIdeal.main_arg1) = m ((c.tc : Thread Cert.KernelWGIdeal.nD Cert.KernelWGIdeal.τ).loc Cert.KernelWGIdeal.main_arg1))
      ∧ r.2.sem = fun _ => 0)

def quiescent_ReferenceWGIdeal [hReferenceWGIdeal : Cert.ReferenceWGIdeal.Facts] : Prop :=
  ∀ (m : (ℓ : Loc Cert.ReferenceWGIdeal.nD Cert.ReferenceWGIdeal.τ Cert.ReferenceWGIdeal.sig) → Buf (Elt Ideal) ℓ) (g : Dev Cert.ReferenceWGIdeal.nD → PrngReg), Pre_ReferenceWGIdeal m →
    θ_run (Cert.ReferenceWGIdeal.defs (F := Ideal)) (onTc (τ := Cert.ReferenceWGIdeal.τ) (Cert.ReferenceWGIdeal.main (F := Ideal))) ⟨m, fun _ => 0, g⟩ (fun r => (∀ c : Dev Cert.ReferenceWGIdeal.nD,
      r.2.mem ((c.tc : Thread Cert.ReferenceWGIdeal.nD Cert.ReferenceWGIdeal.τ).loc Cert.ReferenceWGIdeal.main_arg0) = m ((c.tc : Thread Cert.ReferenceWGIdeal.nD Cert.ReferenceWGIdeal.τ).loc Cert.ReferenceWGIdeal.main_arg0)
      ∧ r.2.mem ((c.tc : Thread Cert.ReferenceWGIdeal.nD Cert.ReferenceWGIdeal.τ).loc Cert.ReferenceWGIdeal.main_arg1) = m ((c.tc : Thread Cert.ReferenceWGIdeal.nD Cert.ReferenceWGIdeal.τ).loc Cert.ReferenceWGIdeal.main_arg1))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5)
      ∧ r.2.mem ((c.tc : Thread Cert.KernelH.nD Cert.KernelH.τ).loc Cert.KernelH.main_arg6) = m ((c.tc : Thread Cert.KernelH.nD Cert.KernelH.τ).loc Cert.KernelH.main_arg6))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
      ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5)
      ∧ r.2.mem ((c.tc : Thread Cert.ReferenceHIdeal.nD Cert.ReferenceHIdeal.τ).loc Cert.ReferenceHIdeal.main_arg6) = m ((c.tc : Thread Cert.ReferenceHIdeal.nD Cert.ReferenceHIdeal.τ).loc Cert.ReferenceHIdeal.main_arg6))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3)
      ∧ r.2.mem ((c.tc : Thread Cert.KernelQ.nD Cert.KernelQ.τ).loc Cert.KernelQ.main_arg4) = m ((c.tc : Thread Cert.KernelQ.nD Cert.KernelQ.τ).loc Cert.KernelQ.main_arg4)
      ∧ r.2.mem ((c.tc : Thread Cert.KernelQ.nD Cert.KernelQ.τ).loc Cert.KernelQ.main_arg5) = m ((c.tc : Thread Cert.KernelQ.nD Cert.KernelQ.τ).loc Cert.KernelQ.main_arg5)
      ∧ r.2.mem ((c.tc : Thread Cert.KernelQ.nD Cert.KernelQ.τ).loc Cert.KernelQ.main_arg6) = m ((c.tc : Thread Cert.KernelQ.nD Cert.KernelQ.τ).loc Cert.KernelQ.main_arg6)
      ∧ r.2.mem ((c.tc : Thread Cert.KernelQ.nD Cert.KernelQ.τ).loc Cert.KernelQ.main_arg7) = m ((c.tc : Thread Cert.KernelQ.nD Cert.KernelQ.τ).loc Cert.KernelQ.main_arg7)
      ∧ r.2.mem ((c.tc : Thread Cert.KernelQ.nD Cert.KernelQ.τ).loc Cert.KernelQ.main_arg8) = m ((c.tc : Thread Cert.KernelQ.nD Cert.KernelQ.τ).loc Cert.KernelQ.main_arg8)
      ∧ r.2.mem ((c.tc : Thread Cert.KernelQ.nD Cert.KernelQ.τ).loc Cert.KernelQ.main_arg9) = m ((c.tc : Thread Cert.KernelQ.nD Cert.KernelQ.τ).loc Cert.KernelQ.main_arg9)
      ∧ r.2.mem ((c.tc : Thread Cert.KernelQ.nD Cert.KernelQ.τ).loc Cert.KernelQ.main_arg10) = m ((c.tc : Thread Cert.KernelQ.nD Cert.KernelQ.τ).loc Cert.KernelQ.main_arg10))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
      ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4)
      ∧ r.2.mem ((c.tc : Thread Cert.KernelQIdeal.nD Cert.KernelQIdeal.τ).loc Cert.KernelQIdeal.main_arg5) = m ((c.tc : Thread Cert.KernelQIdeal.nD Cert.KernelQIdeal.τ).loc Cert.KernelQIdeal.main_arg5)
      ∧ r.2.mem ((c.tc : Thread Cert.KernelQIdeal.nD Cert.KernelQIdeal.τ).loc Cert.KernelQIdeal.main_arg6) = m ((c.tc : Thread Cert.KernelQIdeal.nD Cert.KernelQIdeal.τ).loc Cert.KernelQIdeal.main_arg6)
      ∧ r.2.mem ((c.tc : Thread Cert.KernelQIdeal.nD Cert.KernelQIdeal.τ).loc Cert.KernelQIdeal.main_arg7) = m ((c.tc : Thread Cert.KernelQIdeal.nD Cert.KernelQIdeal.τ).loc Cert.KernelQIdeal.main_arg7)
      ∧ r.2.mem ((c.tc : Thread Cert.KernelQIdeal.nD Cert.KernelQIdeal.τ).loc Cert.KernelQIdeal.main_arg8) = m ((c.tc : Thread Cert.KernelQIdeal.nD Cert.KernelQIdeal.τ).loc Cert.KernelQIdeal.main_arg8)
      ∧ r.2.mem ((c.tc : Thread Cert.KernelQIdeal.nD Cert.KernelQIdeal.τ).loc Cert.KernelQIdeal.main_arg9) = m ((c.tc : Thread Cert.KernelQIdeal.nD Cert.KernelQIdeal.τ).loc Cert.KernelQIdeal.main_arg9)
      ∧ r.2.mem ((c.tc : Thread Cert.KernelQIdeal.nD Cert.KernelQIdeal.τ).loc Cert.KernelQIdeal.main_arg10) = m ((c.tc : Thread Cert.KernelQIdeal.nD Cert.KernelQIdeal.τ).loc Cert.KernelQIdeal.main_arg10))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3)
      ∧ r.2.mem ((c.tc : Thread Cert.ReferenceQIdeal.nD Cert.ReferenceQIdeal.τ).loc Cert.ReferenceQIdeal.main_arg4) = m ((c.tc : Thread Cert.ReferenceQIdeal.nD Cert.ReferenceQIdeal.τ).loc Cert.ReferenceQIdeal.main_arg4)
      ∧ r.2.mem ((c.tc : Thread Cert.ReferenceQIdeal.nD Cert.ReferenceQIdeal.τ).loc Cert.ReferenceQIdeal.main_arg5) = m ((c.tc : Thread Cert.ReferenceQIdeal.nD Cert.ReferenceQIdeal.τ).loc Cert.ReferenceQIdeal.main_arg5)
      ∧ r.2.mem ((c.tc : Thread Cert.ReferenceQIdeal.nD Cert.ReferenceQIdeal.τ).loc Cert.ReferenceQIdeal.main_arg6) = m ((c.tc : Thread Cert.ReferenceQIdeal.nD Cert.ReferenceQIdeal.τ).loc Cert.ReferenceQIdeal.main_arg6)
      ∧ r.2.mem ((c.tc : Thread Cert.ReferenceQIdeal.nD Cert.ReferenceQIdeal.τ).loc Cert.ReferenceQIdeal.main_arg7) = m ((c.tc : Thread Cert.ReferenceQIdeal.nD Cert.ReferenceQIdeal.τ).loc Cert.ReferenceQIdeal.main_arg7)
      ∧ r.2.mem ((c.tc : Thread Cert.ReferenceQIdeal.nD Cert.ReferenceQIdeal.τ).loc Cert.ReferenceQIdeal.main_arg8) = m ((c.tc : Thread Cert.ReferenceQIdeal.nD Cert.ReferenceQIdeal.τ).loc Cert.ReferenceQIdeal.main_arg8)
      ∧ r.2.mem ((c.tc : Thread Cert.ReferenceQIdeal.nD Cert.ReferenceQIdeal.τ).loc Cert.ReferenceQIdeal.main_arg9) = m ((c.tc : Thread Cert.ReferenceQIdeal.nD Cert.ReferenceQIdeal.τ).loc Cert.ReferenceQIdeal.main_arg9)
      ∧ r.2.mem ((c.tc : Thread Cert.ReferenceQIdeal.nD Cert.ReferenceQIdeal.τ).loc Cert.ReferenceQIdeal.main_arg10) = m ((c.tc : Thread Cert.ReferenceQIdeal.nD Cert.ReferenceQIdeal.τ).loc Cert.ReferenceQIdeal.main_arg10))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7)
      ∧ r.2.mem ((c.tc : Thread Cert.KernelS.nD Cert.KernelS.τ).loc Cert.KernelS.main_arg8) = m ((c.tc : Thread Cert.KernelS.nD Cert.KernelS.τ).loc Cert.KernelS.main_arg8)
      ∧ r.2.mem ((c.tc : Thread Cert.KernelS.nD Cert.KernelS.τ).loc Cert.KernelS.main_arg9) = m ((c.tc : Thread Cert.KernelS.nD Cert.KernelS.τ).loc Cert.KernelS.main_arg9)
      ∧ r.2.mem ((c.tc : Thread Cert.KernelS.nD Cert.KernelS.τ).loc Cert.KernelS.main_arg10) = m ((c.tc : Thread Cert.KernelS.nD Cert.KernelS.τ).loc Cert.KernelS.main_arg10)
      ∧ r.2.mem ((c.tc : Thread Cert.KernelS.nD Cert.KernelS.τ).loc Cert.KernelS.main_arg11) = m ((c.tc : Thread Cert.KernelS.nD Cert.KernelS.τ).loc Cert.KernelS.main_arg11)
      ∧ r.2.mem ((c.tc : Thread Cert.KernelS.nD Cert.KernelS.τ).loc Cert.KernelS.main_arg12) = m ((c.tc : Thread Cert.KernelS.nD Cert.KernelS.τ).loc Cert.KernelS.main_arg12)
      ∧ r.2.mem ((c.tc : Thread Cert.KernelS.nD Cert.KernelS.τ).loc Cert.KernelS.main_arg13) = m ((c.tc : Thread Cert.KernelS.nD Cert.KernelS.τ).loc Cert.KernelS.main_arg13)
      ∧ r.2.mem ((c.tc : Thread Cert.KernelS.nD Cert.KernelS.τ).loc Cert.KernelS.main_arg14) = m ((c.tc : Thread Cert.KernelS.nD Cert.KernelS.τ).loc Cert.KernelS.main_arg14)
      ∧ r.2.mem ((c.tc : Thread Cert.KernelS.nD Cert.KernelS.τ).loc Cert.KernelS.main_arg15) = m ((c.tc : Thread Cert.KernelS.nD Cert.KernelS.τ).loc Cert.KernelS.main_arg15)
      ∧ r.2.mem ((c.tc : Thread Cert.KernelS.nD Cert.KernelS.τ).loc Cert.KernelS.main_arg16) = m ((c.tc : Thread Cert.KernelS.nD Cert.KernelS.τ).loc Cert.KernelS.main_arg16)
      ∧ r.2.mem ((c.tc : Thread Cert.KernelS.nD Cert.KernelS.τ).loc Cert.KernelS.main_arg17) = m ((c.tc : Thread Cert.KernelS.nD Cert.KernelS.τ).loc Cert.KernelS.main_arg17)
      ∧ r.2.mem ((c.tc : Thread Cert.KernelS.nD Cert.KernelS.τ).loc Cert.KernelS.main_arg18) = m ((c.tc : Thread Cert.KernelS.nD Cert.KernelS.τ).loc Cert.KernelS.main_arg18)
      ∧ r.2.mem ((c.tc : Thread Cert.KernelS.nD Cert.KernelS.τ).loc Cert.KernelS.main_arg19) = m ((c.tc : Thread Cert.KernelS.nD Cert.KernelS.τ).loc Cert.KernelS.main_arg19)
      ∧ r.2.mem ((c.tc : Thread Cert.KernelS.nD Cert.KernelS.τ).loc Cert.KernelS.main_arg20) = m ((c.tc : Thread Cert.KernelS.nD Cert.KernelS.τ).loc Cert.KernelS.main_arg20)
      ∧ r.2.mem ((c.tc : Thread Cert.KernelS.nD Cert.KernelS.τ).loc Cert.KernelS.main_arg21) = m ((c.tc : Thread Cert.KernelS.nD Cert.KernelS.τ).loc Cert.KernelS.main_arg21)
      ∧ r.2.mem ((c.tc : Thread Cert.KernelS.nD Cert.KernelS.τ).loc Cert.KernelS.main_arg22) = m ((c.tc : Thread Cert.KernelS.nD Cert.KernelS.τ).loc Cert.KernelS.main_arg22)
      ∧ r.2.mem ((c.tc : Thread Cert.KernelS.nD Cert.KernelS.τ).loc Cert.KernelS.main_arg23) = m ((c.tc : Thread Cert.KernelS.nD Cert.KernelS.τ).loc Cert.KernelS.main_arg23)
      ∧ r.2.mem ((c.tc : Thread Cert.KernelS.nD Cert.KernelS.τ).loc Cert.KernelS.main_arg24) = m ((c.tc : Thread Cert.KernelS.nD Cert.KernelS.τ).loc Cert.KernelS.main_arg24)
      ∧ r.2.mem ((c.tc : Thread Cert.KernelS.nD Cert.KernelS.τ).loc Cert.KernelS.main_arg25) = m ((c.tc : Thread Cert.KernelS.nD Cert.KernelS.τ).loc Cert.KernelS.main_arg25)
      ∧ r.2.mem ((c.tc : Thread Cert.KernelS.nD Cert.KernelS.τ).loc Cert.KernelS.main_arg26) = m ((c.tc : Thread Cert.KernelS.nD Cert.KernelS.τ).loc Cert.KernelS.main_arg26)
      ∧ r.2.mem ((c.tc : Thread Cert.KernelS.nD Cert.KernelS.τ).loc Cert.KernelS.main_arg27) = m ((c.tc : Thread Cert.KernelS.nD Cert.KernelS.τ).loc Cert.KernelS.main_arg27)
      ∧ r.2.mem ((c.tc : Thread Cert.KernelS.nD Cert.KernelS.τ).loc Cert.KernelS.main_arg28) = m ((c.tc : Thread Cert.KernelS.nD Cert.KernelS.τ).loc Cert.KernelS.main_arg28))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
      ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
      ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
      ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
      ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
      ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
      ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13)
      ∧ r.2.mem ((c.tc : Thread Cert.KernelSIdeal.nD Cert.KernelSIdeal.τ).loc Cert.KernelSIdeal.main_arg14) = m ((c.tc : Thread Cert.KernelSIdeal.nD Cert.KernelSIdeal.τ).loc Cert.KernelSIdeal.main_arg14)
      ∧ r.2.mem ((c.tc : Thread Cert.KernelSIdeal.nD Cert.KernelSIdeal.τ).loc Cert.KernelSIdeal.main_arg15) = m ((c.tc : Thread Cert.KernelSIdeal.nD Cert.KernelSIdeal.τ).loc Cert.KernelSIdeal.main_arg15)
      ∧ r.2.mem ((c.tc : Thread Cert.KernelSIdeal.nD Cert.KernelSIdeal.τ).loc Cert.KernelSIdeal.main_arg16) = m ((c.tc : Thread Cert.KernelSIdeal.nD Cert.KernelSIdeal.τ).loc Cert.KernelSIdeal.main_arg16)
      ∧ r.2.mem ((c.tc : Thread Cert.KernelSIdeal.nD Cert.KernelSIdeal.τ).loc Cert.KernelSIdeal.main_arg17) = m ((c.tc : Thread Cert.KernelSIdeal.nD Cert.KernelSIdeal.τ).loc Cert.KernelSIdeal.main_arg17)
      ∧ r.2.mem ((c.tc : Thread Cert.KernelSIdeal.nD Cert.KernelSIdeal.τ).loc Cert.KernelSIdeal.main_arg18) = m ((c.tc : Thread Cert.KernelSIdeal.nD Cert.KernelSIdeal.τ).loc Cert.KernelSIdeal.main_arg18)
      ∧ r.2.mem ((c.tc : Thread Cert.KernelSIdeal.nD Cert.KernelSIdeal.τ).loc Cert.KernelSIdeal.main_arg19) = m ((c.tc : Thread Cert.KernelSIdeal.nD Cert.KernelSIdeal.τ).loc Cert.KernelSIdeal.main_arg19)
      ∧ r.2.mem ((c.tc : Thread Cert.KernelSIdeal.nD Cert.KernelSIdeal.τ).loc Cert.KernelSIdeal.main_arg20) = m ((c.tc : Thread Cert.KernelSIdeal.nD Cert.KernelSIdeal.τ).loc Cert.KernelSIdeal.main_arg20)
      ∧ r.2.mem ((c.tc : Thread Cert.KernelSIdeal.nD Cert.KernelSIdeal.τ).loc Cert.KernelSIdeal.main_arg21) = m ((c.tc : Thread Cert.KernelSIdeal.nD Cert.KernelSIdeal.τ).loc Cert.KernelSIdeal.main_arg21)
      ∧ r.2.mem ((c.tc : Thread Cert.KernelSIdeal.nD Cert.KernelSIdeal.τ).loc Cert.KernelSIdeal.main_arg22) = m ((c.tc : Thread Cert.KernelSIdeal.nD Cert.KernelSIdeal.τ).loc Cert.KernelSIdeal.main_arg22)
      ∧ r.2.mem ((c.tc : Thread Cert.KernelSIdeal.nD Cert.KernelSIdeal.τ).loc Cert.KernelSIdeal.main_arg23) = m ((c.tc : Thread Cert.KernelSIdeal.nD Cert.KernelSIdeal.τ).loc Cert.KernelSIdeal.main_arg23)
      ∧ r.2.mem ((c.tc : Thread Cert.KernelSIdeal.nD Cert.KernelSIdeal.τ).loc Cert.KernelSIdeal.main_arg24) = m ((c.tc : Thread Cert.KernelSIdeal.nD Cert.KernelSIdeal.τ).loc Cert.KernelSIdeal.main_arg24)
      ∧ r.2.mem ((c.tc : Thread Cert.KernelSIdeal.nD Cert.KernelSIdeal.τ).loc Cert.KernelSIdeal.main_arg25) = m ((c.tc : Thread Cert.KernelSIdeal.nD Cert.KernelSIdeal.τ).loc Cert.KernelSIdeal.main_arg25)
      ∧ r.2.mem ((c.tc : Thread Cert.KernelSIdeal.nD Cert.KernelSIdeal.τ).loc Cert.KernelSIdeal.main_arg26) = m ((c.tc : Thread Cert.KernelSIdeal.nD Cert.KernelSIdeal.τ).loc Cert.KernelSIdeal.main_arg26)
      ∧ r.2.mem ((c.tc : Thread Cert.KernelSIdeal.nD Cert.KernelSIdeal.τ).loc Cert.KernelSIdeal.main_arg27) = m ((c.tc : Thread Cert.KernelSIdeal.nD Cert.KernelSIdeal.τ).loc Cert.KernelSIdeal.main_arg27)
      ∧ r.2.mem ((c.tc : Thread Cert.KernelSIdeal.nD Cert.KernelSIdeal.τ).loc Cert.KernelSIdeal.main_arg28) = m ((c.tc : Thread Cert.KernelSIdeal.nD Cert.KernelSIdeal.τ).loc Cert.KernelSIdeal.main_arg28))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7)
      ∧ r.2.mem ((c.tc : Thread Cert.ReferenceSIdeal.nD Cert.ReferenceSIdeal.τ).loc Cert.ReferenceSIdeal.main_arg8) = m ((c.tc : Thread Cert.ReferenceSIdeal.nD Cert.ReferenceSIdeal.τ).loc Cert.ReferenceSIdeal.main_arg8)
      ∧ r.2.mem ((c.tc : Thread Cert.ReferenceSIdeal.nD Cert.ReferenceSIdeal.τ).loc Cert.ReferenceSIdeal.main_arg9) = m ((c.tc : Thread Cert.ReferenceSIdeal.nD Cert.ReferenceSIdeal.τ).loc Cert.ReferenceSIdeal.main_arg9)
      ∧ r.2.mem ((c.tc : Thread Cert.ReferenceSIdeal.nD Cert.ReferenceSIdeal.τ).loc Cert.ReferenceSIdeal.main_arg10) = m ((c.tc : Thread Cert.ReferenceSIdeal.nD Cert.ReferenceSIdeal.τ).loc Cert.ReferenceSIdeal.main_arg10)
      ∧ r.2.mem ((c.tc : Thread Cert.ReferenceSIdeal.nD Cert.ReferenceSIdeal.τ).loc Cert.ReferenceSIdeal.main_arg11) = m ((c.tc : Thread Cert.ReferenceSIdeal.nD Cert.ReferenceSIdeal.τ).loc Cert.ReferenceSIdeal.main_arg11)
      ∧ r.2.mem ((c.tc : Thread Cert.ReferenceSIdeal.nD Cert.ReferenceSIdeal.τ).loc Cert.ReferenceSIdeal.main_arg12) = m ((c.tc : Thread Cert.ReferenceSIdeal.nD Cert.ReferenceSIdeal.τ).loc Cert.ReferenceSIdeal.main_arg12)
      ∧ r.2.mem ((c.tc : Thread Cert.ReferenceSIdeal.nD Cert.ReferenceSIdeal.τ).loc Cert.ReferenceSIdeal.main_arg13) = m ((c.tc : Thread Cert.ReferenceSIdeal.nD Cert.ReferenceSIdeal.τ).loc Cert.ReferenceSIdeal.main_arg13)
      ∧ r.2.mem ((c.tc : Thread Cert.ReferenceSIdeal.nD Cert.ReferenceSIdeal.τ).loc Cert.ReferenceSIdeal.main_arg14) = m ((c.tc : Thread Cert.ReferenceSIdeal.nD Cert.ReferenceSIdeal.τ).loc Cert.ReferenceSIdeal.main_arg14)
      ∧ r.2.mem ((c.tc : Thread Cert.ReferenceSIdeal.nD Cert.ReferenceSIdeal.τ).loc Cert.ReferenceSIdeal.main_arg15) = m ((c.tc : Thread Cert.ReferenceSIdeal.nD Cert.ReferenceSIdeal.τ).loc Cert.ReferenceSIdeal.main_arg15)
      ∧ r.2.mem ((c.tc : Thread Cert.ReferenceSIdeal.nD Cert.ReferenceSIdeal.τ).loc Cert.ReferenceSIdeal.main_arg16) = m ((c.tc : Thread Cert.ReferenceSIdeal.nD Cert.ReferenceSIdeal.τ).loc Cert.ReferenceSIdeal.main_arg16)
      ∧ r.2.mem ((c.tc : Thread Cert.ReferenceSIdeal.nD Cert.ReferenceSIdeal.τ).loc Cert.ReferenceSIdeal.main_arg17) = m ((c.tc : Thread Cert.ReferenceSIdeal.nD Cert.ReferenceSIdeal.τ).loc Cert.ReferenceSIdeal.main_arg17)
      ∧ r.2.mem ((c.tc : Thread Cert.ReferenceSIdeal.nD Cert.ReferenceSIdeal.τ).loc Cert.ReferenceSIdeal.main_arg18) = m ((c.tc : Thread Cert.ReferenceSIdeal.nD Cert.ReferenceSIdeal.τ).loc Cert.ReferenceSIdeal.main_arg18)
      ∧ r.2.mem ((c.tc : Thread Cert.ReferenceSIdeal.nD Cert.ReferenceSIdeal.τ).loc Cert.ReferenceSIdeal.main_arg19) = m ((c.tc : Thread Cert.ReferenceSIdeal.nD Cert.ReferenceSIdeal.τ).loc Cert.ReferenceSIdeal.main_arg19)
      ∧ r.2.mem ((c.tc : Thread Cert.ReferenceSIdeal.nD Cert.ReferenceSIdeal.τ).loc Cert.ReferenceSIdeal.main_arg20) = m ((c.tc : Thread Cert.ReferenceSIdeal.nD Cert.ReferenceSIdeal.τ).loc Cert.ReferenceSIdeal.main_arg20)
      ∧ r.2.mem ((c.tc : Thread Cert.ReferenceSIdeal.nD Cert.ReferenceSIdeal.τ).loc Cert.ReferenceSIdeal.main_arg21) = m ((c.tc : Thread Cert.ReferenceSIdeal.nD Cert.ReferenceSIdeal.τ).loc Cert.ReferenceSIdeal.main_arg21)
      ∧ r.2.mem ((c.tc : Thread Cert.ReferenceSIdeal.nD Cert.ReferenceSIdeal.τ).loc Cert.ReferenceSIdeal.main_arg22) = m ((c.tc : Thread Cert.ReferenceSIdeal.nD Cert.ReferenceSIdeal.τ).loc Cert.ReferenceSIdeal.main_arg22)
      ∧ r.2.mem ((c.tc : Thread Cert.ReferenceSIdeal.nD Cert.ReferenceSIdeal.τ).loc Cert.ReferenceSIdeal.main_arg23) = m ((c.tc : Thread Cert.ReferenceSIdeal.nD Cert.ReferenceSIdeal.τ).loc Cert.ReferenceSIdeal.main_arg23)
      ∧ r.2.mem ((c.tc : Thread Cert.ReferenceSIdeal.nD Cert.ReferenceSIdeal.τ).loc Cert.ReferenceSIdeal.main_arg24) = m ((c.tc : Thread Cert.ReferenceSIdeal.nD Cert.ReferenceSIdeal.τ).loc Cert.ReferenceSIdeal.main_arg24)
      ∧ r.2.mem ((c.tc : Thread Cert.ReferenceSIdeal.nD Cert.ReferenceSIdeal.τ).loc Cert.ReferenceSIdeal.main_arg25) = m ((c.tc : Thread Cert.ReferenceSIdeal.nD Cert.ReferenceSIdeal.τ).loc Cert.ReferenceSIdeal.main_arg25)
      ∧ r.2.mem ((c.tc : Thread Cert.ReferenceSIdeal.nD Cert.ReferenceSIdeal.τ).loc Cert.ReferenceSIdeal.main_arg26) = m ((c.tc : Thread Cert.ReferenceSIdeal.nD Cert.ReferenceSIdeal.τ).loc Cert.ReferenceSIdeal.main_arg26)
      ∧ r.2.mem ((c.tc : Thread Cert.ReferenceSIdeal.nD Cert.ReferenceSIdeal.τ).loc Cert.ReferenceSIdeal.main_arg27) = m ((c.tc : Thread Cert.ReferenceSIdeal.nD Cert.ReferenceSIdeal.τ).loc Cert.ReferenceSIdeal.main_arg27)
      ∧ r.2.mem ((c.tc : Thread Cert.ReferenceSIdeal.nD Cert.ReferenceSIdeal.τ).loc Cert.ReferenceSIdeal.main_arg28) = m ((c.tc : Thread Cert.ReferenceSIdeal.nD Cert.ReferenceSIdeal.τ).loc Cert.ReferenceSIdeal.main_arg28))
      ∧ r.2.sem = fun _ => 0)

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)
      ∧ m' ((c.tc : Thread Cert.ReferenceIIdeal.nD Cert.ReferenceIIdeal.τ).loc Cert.ReferenceIIdeal.main_arg3) = m ((c.tc : Thread Cert.KernelIIdeal.nD Cert.KernelIIdeal.τ).loc Cert.KernelIIdeal.main_arg3)
      ∧ m' ((c.tc : Thread Cert.ReferenceIIdeal.nD Cert.ReferenceIIdeal.τ).loc Cert.ReferenceIIdeal.main_arg4) = m ((c.tc : Thread Cert.KernelIIdeal.nD Cert.KernelIIdeal.τ).loc Cert.KernelIIdeal.main_arg4)) →
    ∃ (v0 : (c : Dev Cert.KernelIIdeal.nD) → Buf (Elt Ideal) ((c.tc : Thread Cert.KernelIIdeal.nD Cert.KernelIIdeal.τ).loc Cert.KernelIIdeal.main_v9_0)) (v1 : (c : Dev Cert.KernelIIdeal.nD) → Buf (Elt Ideal) ((c.tc : Thread Cert.KernelIIdeal.nD Cert.KernelIIdeal.τ).loc Cert.KernelIIdeal.main_v9_1)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v9_0) = v0 c
          ∧ r.2.mem ((c.tc : Thread Cert.KernelIIdeal.nD Cert.KernelIIdeal.τ).loc Cert.KernelIIdeal.main_v9_1) = v1 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
          ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
          ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v36) = v0 c
          ∧ r.2.mem ((c.tc : Thread Cert.ReferenceIIdeal.nD Cert.ReferenceIIdeal.τ).loc Cert.ReferenceIIdeal.main_v19) = v1 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2)
          ∧ r.2.mem ((c.tc : Thread Cert.ReferenceIIdeal.nD Cert.ReferenceIIdeal.τ).loc Cert.ReferenceIIdeal.main_arg3) = m' ((c.tc : Thread Cert.ReferenceIIdeal.nD Cert.ReferenceIIdeal.τ).loc Cert.ReferenceIIdeal.main_arg3)
          ∧ r.2.mem ((c.tc : Thread Cert.ReferenceIIdeal.nD Cert.ReferenceIIdeal.τ).loc Cert.ReferenceIIdeal.main_arg4) = m' ((c.tc : Thread Cert.ReferenceIIdeal.nD Cert.ReferenceIIdeal.τ).loc Cert.ReferenceIIdeal.main_arg4))

def preserves_KernelF_KernelFIdeal : Prop :=
  True

def algebraic_KernelFIdeal_ReferenceFIdeal_pre_finite_ffn [hKernelFIdeal : Cert.KernelFIdeal.Facts] [hReferenceFIdeal : Cert.ReferenceFIdeal.Facts] [hPre_finite_ffn : Cert.Pre_finite_ffn.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_ffn m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)) →
    ∃ (v0 : (c : Dev Cert.KernelFIdeal.nD) → Buf (Elt Ideal) ((c.tc : Thread Cert.KernelFIdeal.nD Cert.KernelFIdeal.τ).loc Cert.KernelFIdeal.main_v22_0)) (v1 : (c : Dev Cert.KernelFIdeal.nD) → Buf (Elt Ideal) ((c.tc : Thread Cert.KernelFIdeal.nD Cert.KernelFIdeal.τ).loc Cert.KernelFIdeal.main_v22_1)) (v2 : (c : Dev Cert.KernelFIdeal.nD) → Buf (Elt Ideal) ((c.tc : Thread Cert.KernelFIdeal.nD Cert.KernelFIdeal.τ).loc Cert.KernelFIdeal.main_v22_2)) (v3 : (c : Dev Cert.KernelFIdeal.nD) → Buf (Elt Ideal) ((c.tc : Thread Cert.KernelFIdeal.nD Cert.KernelFIdeal.τ).loc Cert.KernelFIdeal.main_v22_3)) (v4 : (c : Dev Cert.KernelFIdeal.nD) → Buf (Elt Ideal) ((c.tc : Thread Cert.KernelFIdeal.nD Cert.KernelFIdeal.τ).loc Cert.KernelFIdeal.main_v22_4)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v22_0) = v0 c
          ∧ r.2.mem ((c.tc : Thread Cert.KernelFIdeal.nD Cert.KernelFIdeal.τ).loc Cert.KernelFIdeal.main_v22_1) = v1 c
          ∧ r.2.mem ((c.tc : Thread Cert.KernelFIdeal.nD Cert.KernelFIdeal.τ).loc Cert.KernelFIdeal.main_v22_2) = v2 c
          ∧ r.2.mem ((c.tc : Thread Cert.KernelFIdeal.nD Cert.KernelFIdeal.τ).loc Cert.KernelFIdeal.main_v22_3) = v3 c
          ∧ r.2.mem ((c.tc : Thread Cert.KernelFIdeal.nD Cert.KernelFIdeal.τ).loc Cert.KernelFIdeal.main_v22_4) = v4 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v47) = v0 c
          ∧ r.2.mem ((c.tc : Thread Cert.ReferenceFIdeal.nD Cert.ReferenceFIdeal.τ).loc Cert.ReferenceFIdeal.main_v48) = v1 c
          ∧ r.2.mem ((c.tc : Thread Cert.ReferenceFIdeal.nD Cert.ReferenceFIdeal.τ).loc Cert.ReferenceFIdeal.main_v46) = v2 c
          ∧ r.2.mem ((c.tc : Thread Cert.ReferenceFIdeal.nD Cert.ReferenceFIdeal.τ).loc Cert.ReferenceFIdeal.main_v49) = v3 c
          ∧ r.2.mem ((c.tc : Thread Cert.ReferenceFIdeal.nD Cert.ReferenceFIdeal.τ).loc Cert.ReferenceFIdeal.main_v29) = v4 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v2)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v2) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v4) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1))

def algebraic_KernelWIdeal_ReferenceWTIdeal [hKernelWIdeal : Cert.KernelWIdeal.Facts] [hReferenceWTIdeal : Cert.ReferenceWTIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWTIdeal.nD Cert.ReferenceWTIdeal.τ Cert.ReferenceWTIdeal.sig) → Buf (Elt Ideal) ℓ) (g' : Dev Cert.ReferenceWTIdeal.nD → PrngReg), Pre_KernelWIdeal m →
    (∀ c : Dev Cert.KernelWIdeal.nD,
      m' ((c.tc : Thread Cert.ReferenceWTIdeal.nD Cert.ReferenceWTIdeal.τ).loc Cert.ReferenceWTIdeal.main_arg0) = m ((c.tc : Thread Cert.KernelWIdeal.nD Cert.KernelWIdeal.τ).loc Cert.KernelWIdeal.main_arg0)
      ∧ m' ((c.tc : Thread Cert.ReferenceWTIdeal.nD Cert.ReferenceWTIdeal.τ).loc Cert.ReferenceWTIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v2)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v2) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.ReferenceWTIdeal.defs (F := Ideal)) (onTc (τ := Cert.ReferenceWTIdeal.τ) (Cert.ReferenceWTIdeal.main (F := Ideal))) ⟨m', fun _ => 0, g'⟩ (fun r => ∀ c : Dev Cert.ReferenceWTIdeal.nD,
          r.2.mem ((c.tc : Thread Cert.ReferenceWTIdeal.nD Cert.ReferenceWTIdeal.τ).loc Cert.ReferenceWTIdeal.main_v5) = v0 c
          ∧ r.2.mem ((c.tc : Thread Cert.ReferenceWTIdeal.nD Cert.ReferenceWTIdeal.τ).loc Cert.ReferenceWTIdeal.main_arg0) = m' ((c.tc : Thread Cert.ReferenceWTIdeal.nD Cert.ReferenceWTIdeal.τ).loc Cert.ReferenceWTIdeal.main_arg0)
          ∧ r.2.mem ((c.tc : Thread Cert.ReferenceWTIdeal.nD Cert.ReferenceWTIdeal.τ).loc Cert.ReferenceWTIdeal.main_arg1) = m' ((c.tc : Thread Cert.ReferenceWTIdeal.nD Cert.ReferenceWTIdeal.τ).loc Cert.ReferenceWTIdeal.main_arg1))

def preserves_KernelWA_KernelWAIdeal : Prop :=
  True

def algebraic_KernelWAIdeal_ReferenceWAIdeal [hKernelWAIdeal : Cert.KernelWAIdeal.Facts] [hReferenceWAIdeal : Cert.ReferenceWAIdeal.Facts] : Prop :=
  ∀ (m : (ℓ : Loc Cert.KernelWAIdeal.nD Cert.KernelWAIdeal.τ Cert.KernelWAIdeal.sig) → Buf (Elt Ideal) ℓ) (g : Dev Cert.KernelWAIdeal.nD → PrngReg)
    (m' : (ℓ : Loc Cert.ReferenceWAIdeal.nD Cert.ReferenceWAIdeal.τ Cert.ReferenceWAIdeal.sig) → Buf (Elt Ideal) ℓ) (g' : Dev Cert.ReferenceWAIdeal.nD → PrngReg), Pre_KernelWAIdeal m →
    (∀ c : Dev Cert.KernelWAIdeal.nD,
      m' ((c.tc : Thread Cert.ReferenceWAIdeal.nD Cert.ReferenceWAIdeal.τ).loc Cert.ReferenceWAIdeal.main_arg0) = m ((c.tc : Thread Cert.KernelWAIdeal.nD Cert.KernelWAIdeal.τ).loc Cert.KernelWAIdeal.main_arg0)
      ∧ m' ((c.tc : Thread Cert.ReferenceWAIdeal.nD Cert.ReferenceWAIdeal.τ).loc Cert.ReferenceWAIdeal.main_arg1) = m ((c.tc : Thread Cert.KernelWAIdeal.nD Cert.KernelWAIdeal.τ).loc Cert.KernelWAIdeal.main_arg1)) →
    ∃ (v0 : (c : Dev Cert.KernelWAIdeal.nD) → Buf (Elt Ideal) ((c.tc : Thread Cert.KernelWAIdeal.nD Cert.KernelWAIdeal.τ).loc Cert.KernelWAIdeal.main_v2)),
      θ_run (Cert.KernelWAIdeal.defs (F := Ideal)) (onTc (τ := Cert.KernelWAIdeal.τ) (Cert.KernelWAIdeal.main (F := Ideal))) ⟨m, fun _ => 0, g⟩ (fun r => ∀ c : Dev Cert.KernelWAIdeal.nD,
          r.2.mem ((c.tc : Thread Cert.KernelWAIdeal.nD Cert.KernelWAIdeal.τ).loc Cert.KernelWAIdeal.main_v2) = v0 c
          ∧ r.2.mem ((c.tc : Thread Cert.KernelWAIdeal.nD Cert.KernelWAIdeal.τ).loc Cert.KernelWAIdeal.main_arg0) = m ((c.tc : Thread Cert.KernelWAIdeal.nD Cert.KernelWAIdeal.τ).loc Cert.KernelWAIdeal.main_arg0)
          ∧ r.2.mem ((c.tc : Thread Cert.KernelWAIdeal.nD Cert.KernelWAIdeal.τ).loc Cert.KernelWAIdeal.main_arg1) = m ((c.tc : Thread Cert.KernelWAIdeal.nD Cert.KernelWAIdeal.τ).loc Cert.KernelWAIdeal.main_arg1))
      ∧ θ_run (Cert.ReferenceWAIdeal.defs (F := Ideal)) (onTc (τ := Cert.ReferenceWAIdeal.τ) (Cert.ReferenceWAIdeal.main (F := Ideal))) ⟨m', fun _ => 0, g'⟩ (fun r => ∀ c : Dev Cert.ReferenceWAIdeal.nD,
          r.2.mem ((c.tc : Thread Cert.ReferenceWAIdeal.nD Cert.ReferenceWAIdeal.τ).loc Cert.ReferenceWAIdeal.main_v4) = v0 c
          ∧ r.2.mem ((c.tc : Thread Cert.ReferenceWAIdeal.nD Cert.ReferenceWAIdeal.τ).loc Cert.ReferenceWAIdeal.main_arg0) = m' ((c.tc : Thread Cert.ReferenceWAIdeal.nD Cert.ReferenceWAIdeal.τ).loc Cert.ReferenceWAIdeal.main_arg0)
          ∧ r.2.mem ((c.tc : Thread Cert.ReferenceWAIdeal.nD Cert.ReferenceWAIdeal.τ).loc Cert.ReferenceWAIdeal.main_arg1) = m' ((c.tc : Thread Cert.ReferenceWAIdeal.nD Cert.ReferenceWAIdeal.τ).loc Cert.ReferenceWAIdeal.main_arg1))

def preserves_KernelWC_KernelWCIdeal : Prop :=
  True

def algebraic_KernelWCIdeal_ReferenceWCIdeal [hKernelWCIdeal : Cert.KernelWCIdeal.Facts] [hReferenceWCIdeal : Cert.ReferenceWCIdeal.Facts] : Prop :=
  ∀ (m : (ℓ : Loc Cert.KernelWCIdeal.nD Cert.KernelWCIdeal.τ Cert.KernelWCIdeal.sig) → Buf (Elt Ideal) ℓ) (g : Dev Cert.KernelWCIdeal.nD → PrngReg)
    (m' : (ℓ : Loc Cert.ReferenceWCIdeal.nD Cert.ReferenceWCIdeal.τ Cert.ReferenceWCIdeal.sig) → Buf (Elt Ideal) ℓ) (g' : Dev Cert.ReferenceWCIdeal.nD → PrngReg), Pre_KernelWCIdeal m →
    (∀ c : Dev Cert.KernelWCIdeal.nD,
      m' ((c.tc : Thread Cert.ReferenceWCIdeal.nD Cert.ReferenceWCIdeal.τ).loc Cert.ReferenceWCIdeal.main_arg0) = m ((c.tc : Thread Cert.KernelWCIdeal.nD Cert.KernelWCIdeal.τ).loc Cert.KernelWCIdeal.main_arg0)
      ∧ m' ((c.tc : Thread Cert.ReferenceWCIdeal.nD Cert.ReferenceWCIdeal.τ).loc Cert.ReferenceWCIdeal.main_arg1) = m ((c.tc : Thread Cert.KernelWCIdeal.nD Cert.KernelWCIdeal.τ).loc Cert.KernelWCIdeal.main_arg1)) →
    ∃ (v0 : (c : Dev Cert.KernelWCIdeal.nD) → Buf (Elt Ideal) ((c.tc : Thread Cert.KernelWCIdeal.nD Cert.KernelWCIdeal.τ).loc Cert.KernelWCIdeal.main_v2)),
      θ_run (Cert.KernelWCIdeal.defs (F := Ideal)) (onTc (τ := Cert.KernelWCIdeal.τ) (Cert.KernelWCIdeal.main (F := Ideal))) ⟨m, fun _ => 0, g⟩ (fun r => ∀ c : Dev Cert.KernelWCIdeal.nD,
          r.2.mem ((c.tc : Thread Cert.KernelWCIdeal.nD Cert.KernelWCIdeal.τ).loc Cert.KernelWCIdeal.main_v2) = v0 c
          ∧ r.2.mem ((c.tc : Thread Cert.KernelWCIdeal.nD Cert.KernelWCIdeal.τ).loc Cert.KernelWCIdeal.main_arg0) = m ((c.tc : Thread Cert.KernelWCIdeal.nD Cert.KernelWCIdeal.τ).loc Cert.KernelWCIdeal.main_arg0)
          ∧ r.2.mem ((c.tc : Thread Cert.KernelWCIdeal.nD Cert.KernelWCIdeal.τ).loc Cert.KernelWCIdeal.main_arg1) = m ((c.tc : Thread Cert.KernelWCIdeal.nD Cert.KernelWCIdeal.τ).loc Cert.KernelWCIdeal.main_arg1))
      ∧ θ_run (Cert.ReferenceWCIdeal.defs (F := Ideal)) (onTc (τ := Cert.ReferenceWCIdeal.τ) (Cert.ReferenceWCIdeal.main (F := Ideal))) ⟨m', fun _ => 0, g'⟩ (fun r => ∀ c : Dev Cert.ReferenceWCIdeal.nD,
          r.2.mem ((c.tc : Thread Cert.ReferenceWCIdeal.nD Cert.ReferenceWCIdeal.τ).loc Cert.ReferenceWCIdeal.main_v4) = v0 c
          ∧ r.2.mem ((c.tc : Thread Cert.ReferenceWCIdeal.nD Cert.ReferenceWCIdeal.τ).loc Cert.ReferenceWCIdeal.main_arg0) = m' ((c.tc : Thread Cert.ReferenceWCIdeal.nD Cert.ReferenceWCIdeal.τ).loc Cert.ReferenceWCIdeal.main_arg0)
          ∧ r.2.mem ((c.tc : Thread Cert.ReferenceWCIdeal.nD Cert.ReferenceWCIdeal.τ).loc Cert.ReferenceWCIdeal.main_arg1) = m' ((c.tc : Thread Cert.ReferenceWCIdeal.nD Cert.ReferenceWCIdeal.τ).loc Cert.ReferenceWCIdeal.main_arg1))

def algebraic_KernelWCIdeal_ReferenceWCTIdeal [hKernelWCIdeal : Cert.KernelWCIdeal.Facts] [hReferenceWCTIdeal : Cert.ReferenceWCTIdeal.Facts] : Prop :=
  ∀ (m : (ℓ : Loc Cert.KernelWCIdeal.nD Cert.KernelWCIdeal.τ Cert.KernelWCIdeal.sig) → Buf (Elt Ideal) ℓ) (g : Dev Cert.KernelWCIdeal.nD → PrngReg)
    (m' : (ℓ : Loc Cert.ReferenceWCTIdeal.nD Cert.ReferenceWCTIdeal.τ Cert.ReferenceWCTIdeal.sig) → Buf (Elt Ideal) ℓ) (g' : Dev Cert.ReferenceWCTIdeal.nD → PrngReg), Pre_KernelWCIdeal m →
    (∀ c : Dev Cert.KernelWCIdeal.nD,
      m' ((c.tc : Thread Cert.ReferenceWCTIdeal.nD Cert.ReferenceWCTIdeal.τ).loc Cert.ReferenceWCTIdeal.main_arg0) = m ((c.tc : Thread Cert.KernelWCIdeal.nD Cert.KernelWCIdeal.τ).loc Cert.KernelWCIdeal.main_arg0)
      ∧ m' ((c.tc : Thread Cert.ReferenceWCTIdeal.nD Cert.ReferenceWCTIdeal.τ).loc Cert.ReferenceWCTIdeal.main_arg1) = m ((c.tc : Thread Cert.KernelWCIdeal.nD Cert.KernelWCIdeal.τ).loc Cert.KernelWCIdeal.main_arg1)) →
    ∃ (v0 : (c : Dev Cert.KernelWCIdeal.nD) → Buf (Elt Ideal) ((c.tc : Thread Cert.KernelWCIdeal.nD Cert.KernelWCIdeal.τ).loc Cert.KernelWCIdeal.main_v2)),
      θ_run (Cert.KernelWCIdeal.defs (F := Ideal)) (onTc (τ := Cert.KernelWCIdeal.τ) (Cert.KernelWCIdeal.main (F := Ideal))) ⟨m, fun _ => 0, g⟩ (fun r => ∀ c : Dev Cert.KernelWCIdeal.nD,
          r.2.mem ((c.tc : Thread Cert.KernelWCIdeal.nD Cert.KernelWCIdeal.τ).loc Cert.KernelWCIdeal.main_v2) = v0 c
          ∧ r.2.mem ((c.tc : Thread Cert.KernelWCIdeal.nD Cert.KernelWCIdeal.τ).loc Cert.KernelWCIdeal.main_arg0) = m ((c.tc : Thread Cert.KernelWCIdeal.nD Cert.KernelWCIdeal.τ).loc Cert.KernelWCIdeal.main_arg0)
          ∧ r.2.mem ((c.tc : Thread Cert.KernelWCIdeal.nD Cert.KernelWCIdeal.τ).loc Cert.KernelWCIdeal.main_arg1) = m ((c.tc : Thread Cert.KernelWCIdeal.nD Cert.KernelWCIdeal.τ).loc Cert.KernelWCIdeal.main_arg1))
      ∧ θ_run (Cert.ReferenceWCTIdeal.defs (F := Ideal)) (onTc (τ := Cert.ReferenceWCTIdeal.τ) (Cert.ReferenceWCTIdeal.main (F := Ideal))) ⟨m', fun _ => 0, g'⟩ (fun r => ∀ c : Dev Cert.ReferenceWCTIdeal.nD,
          r.2.mem ((c.tc : Thread Cert.ReferenceWCTIdeal.nD Cert.ReferenceWCTIdeal.τ).loc Cert.ReferenceWCTIdeal.main_v5) = v0 c
          ∧ r.2.mem ((c.tc : Thread Cert.ReferenceWCTIdeal.nD Cert.ReferenceWCTIdeal.τ).loc Cert.ReferenceWCTIdeal.main_arg0) = m' ((c.tc : Thread Cert.ReferenceWCTIdeal.nD Cert.ReferenceWCTIdeal.τ).loc Cert.ReferenceWCTIdeal.main_arg0)
          ∧ r.2.mem ((c.tc : Thread Cert.ReferenceWCTIdeal.nD Cert.ReferenceWCTIdeal.τ).loc Cert.ReferenceWCTIdeal.main_arg1) = m' ((c.tc : Thread Cert.ReferenceWCTIdeal.nD Cert.ReferenceWCTIdeal.τ).loc Cert.ReferenceWCTIdeal.main_arg1))

def preserves_KernelWQ_KernelWQIdeal : Prop :=
  True

def algebraic_KernelWQIdeal_ReferenceWQIdeal [hKernelWQIdeal : Cert.KernelWQIdeal.Facts] [hReferenceWQIdeal : Cert.ReferenceWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg)
    (m' : (ℓ : Loc Cert.ReferenceWQIdeal.nD Cert.ReferenceWQIdeal.τ Cert.ReferenceWQIdeal.sig) → Buf (Elt Ideal) ℓ) (g' : Dev Cert.ReferenceWQIdeal.nD → PrngReg), Pre_KernelWQIdeal m →
    (∀ c : Dev Cert.KernelWQIdeal.nD,
      m' ((c.tc : Thread Cert.ReferenceWQIdeal.nD Cert.ReferenceWQIdeal.τ).loc Cert.ReferenceWQIdeal.main_arg0) = m ((c.tc : Thread Cert.KernelWQIdeal.nD Cert.KernelWQIdeal.τ).loc Cert.KernelWQIdeal.main_arg0)
      ∧ m' ((c.tc : Thread Cert.ReferenceWQIdeal.nD Cert.ReferenceWQIdeal.τ).loc Cert.ReferenceWQIdeal.main_arg1) = m ((c.tc : Thread Cert.KernelWQIdeal.nD Cert.KernelWQIdeal.τ).loc Cert.KernelWQIdeal.main_arg1)) →
    ∃ (v0 : (c : Dev Cert.KernelWQIdeal.nD) → Buf (Elt Ideal) ((c.tc : Thread Cert.KernelWQIdeal.nD Cert.KernelWQIdeal.τ).loc Cert.KernelWQIdeal.main_v2)),
      θ_run (Cert.KernelWQIdeal.defs (F := Ideal)) (onTc (τ := Cert.KernelWQIdeal.τ) (Cert.KernelWQIdeal.main (F := Ideal))) ⟨m, fun _ => 0, g⟩ (fun r => ∀ c : Dev Cert.KernelWQIdeal.nD,
          r.2.mem ((c.tc : Thread Cert.KernelWQIdeal.nD Cert.KernelWQIdeal.τ).loc Cert.KernelWQIdeal.main_v2) = v0 c
          ∧ r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
          ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1))
      ∧ θ_run (Cert.ReferenceWQIdeal.defs (F := Ideal)) (onTc (τ := Cert.ReferenceWQIdeal.τ) (Cert.ReferenceWQIdeal.main (F := Ideal))) ⟨m', fun _ => 0, g'⟩ (fun r => ∀ c : Dev Cert.ReferenceWQIdeal.nD,
          r.2.mem ((c.tc : Thread Cert.ReferenceWQIdeal.nD Cert.ReferenceWQIdeal.τ).loc Cert.ReferenceWQIdeal.main_v5) = v0 c
          ∧ r.2.mem ((c.tc : Thread Cert.ReferenceWQIdeal.nD Cert.ReferenceWQIdeal.τ).loc Cert.ReferenceWQIdeal.main_arg0) = m' ((c.tc : Thread Cert.ReferenceWQIdeal.nD Cert.ReferenceWQIdeal.τ).loc Cert.ReferenceWQIdeal.main_arg0)
          ∧ r.2.mem ((c.tc : Thread Cert.ReferenceWQIdeal.nD Cert.ReferenceWQIdeal.τ).loc Cert.ReferenceWQIdeal.main_arg1) = m' ((c.tc : Thread Cert.ReferenceWQIdeal.nD Cert.ReferenceWQIdeal.τ).loc Cert.ReferenceWQIdeal.main_arg1))

def preserves_KernelWG_KernelWGIdeal : Prop :=
  True

def algebraic_KernelWGIdeal_ReferenceWGIdeal [hKernelWGIdeal : Cert.KernelWGIdeal.Facts] [hReferenceWGIdeal : Cert.ReferenceWGIdeal.Facts] : Prop :=
  ∀ (m : (ℓ : Loc Cert.KernelWGIdeal.nD Cert.KernelWGIdeal.τ Cert.KernelWGIdeal.sig) → Buf (Elt Ideal) ℓ) (g : Dev Cert.KernelWGIdeal.nD → PrngReg)
    (m' : (ℓ : Loc Cert.ReferenceWGIdeal.nD Cert.ReferenceWGIdeal.τ Cert.ReferenceWGIdeal.sig) → Buf (Elt Ideal) ℓ) (g' : Dev Cert.ReferenceWGIdeal.nD → PrngReg), Pre_KernelWGIdeal m →
    (∀ c : Dev Cert.KernelWGIdeal.nD,
      m' ((c.tc : Thread Cert.ReferenceWGIdeal.nD Cert.ReferenceWGIdeal.τ).loc Cert.ReferenceWGIdeal.main_arg0) = m ((c.tc : Thread Cert.KernelWGIdeal.nD Cert.KernelWGIdeal.τ).loc Cert.KernelWGIdeal.main_arg0)
      ∧ m' ((c.tc : Thread Cert.ReferenceWGIdeal.nD Cert.ReferenceWGIdeal.τ).loc Cert.ReferenceWGIdeal.main_arg1) = m ((c.tc : Thread Cert.KernelWGIdeal.nD Cert.KernelWGIdeal.τ).loc Cert.KernelWGIdeal.main_arg1)) →
    ∃ (v0 : (c : Dev Cert.KernelWGIdeal.nD) → Buf (Elt Ideal) ((c.tc : Thread Cert.KernelWGIdeal.nD Cert.KernelWGIdeal.τ).loc Cert.KernelWGIdeal.main_v2)),
      θ_run (Cert.KernelWGIdeal.defs (F := Ideal)) (onTc (τ := Cert.KernelWGIdeal.τ) (Cert.KernelWGIdeal.main (F := Ideal))) ⟨m, fun _ => 0, g⟩ (fun r => ∀ c : Dev Cert.KernelWGIdeal.nD,
          r.2.mem ((c.tc : Thread Cert.KernelWGIdeal.nD Cert.KernelWGIdeal.τ).loc Cert.KernelWGIdeal.main_v2) = v0 c
          ∧ r.2.mem ((c.tc : Thread Cert.KernelWGIdeal.nD Cert.KernelWGIdeal.τ).loc Cert.KernelWGIdeal.main_arg0) = m ((c.tc : Thread Cert.KernelWGIdeal.nD Cert.KernelWGIdeal.τ).loc Cert.KernelWGIdeal.main_arg0)
          ∧ r.2.mem ((c.tc : Thread Cert.KernelWGIdeal.nD Cert.KernelWGIdeal.τ).loc Cert.KernelWGIdeal.main_arg1) = m ((c.tc : Thread Cert.KernelWGIdeal.nD Cert.KernelWGIdeal.τ).loc Cert.KernelWGIdeal.main_arg1))
      ∧ θ_run (Cert.ReferenceWGIdeal.defs (F := Ideal)) (onTc (τ := Cert.ReferenceWGIdeal.τ) (Cert.ReferenceWGIdeal.main (F := Ideal))) ⟨m', fun _ => 0, g'⟩ (fun r => ∀ c : Dev Cert.ReferenceWGIdeal.nD,
          r.2.mem ((c.tc : Thread Cert.ReferenceWGIdeal.nD Cert.ReferenceWGIdeal.τ).loc Cert.ReferenceWGIdeal.main_v5) = v0 c
          ∧ r.2.mem ((c.tc : Thread Cert.ReferenceWGIdeal.nD Cert.ReferenceWGIdeal.τ).loc Cert.ReferenceWGIdeal.main_arg0) = m' ((c.tc : Thread Cert.ReferenceWGIdeal.nD Cert.ReferenceWGIdeal.τ).loc Cert.ReferenceWGIdeal.main_arg0)
          ∧ r.2.mem ((c.tc : Thread Cert.ReferenceWGIdeal.nD Cert.ReferenceWGIdeal.τ).loc Cert.ReferenceWGIdeal.main_arg1) = m' ((c.tc : Thread Cert.ReferenceWGIdeal.nD Cert.ReferenceWGIdeal.τ).loc Cert.ReferenceWGIdeal.main_arg1))

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)) →
    ∃ (v0 : (c : Dev Cert.KernelPIdeal.nD) → Buf (Elt Ideal) ((c.tc : Thread Cert.KernelPIdeal.nD Cert.KernelPIdeal.τ).loc Cert.KernelPIdeal.main_v2_0)) (v1 : (c : Dev Cert.KernelPIdeal.nD) → Buf (Elt Ideal) ((c.tc : Thread Cert.KernelPIdeal.nD Cert.KernelPIdeal.τ).loc Cert.KernelPIdeal.main_v2_1)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v2_0) = v0 c
          ∧ r.2.mem ((c.tc : Thread Cert.KernelPIdeal.nD Cert.KernelPIdeal.τ).loc Cert.KernelPIdeal.main_v2_1) = v1 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v12) = v0 c
          ∧ r.2.mem ((c.tc : Thread Cert.ReferencePIdeal.nD Cert.ReferencePIdeal.τ).loc Cert.ReferencePIdeal.main_v13) = v1 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)
      ∧ m' ((c.tc : Thread Cert.ReferenceHIdeal.nD Cert.ReferenceHIdeal.τ).loc Cert.ReferenceHIdeal.main_arg5) = m ((c.tc : Thread Cert.KernelHIdeal.nD Cert.KernelHIdeal.τ).loc Cert.KernelHIdeal.main_arg5)
      ∧ m' ((c.tc : Thread Cert.ReferenceHIdeal.nD Cert.ReferenceHIdeal.τ).loc Cert.ReferenceHIdeal.main_arg6) = m ((c.tc : Thread Cert.KernelHIdeal.nD Cert.KernelHIdeal.τ).loc Cert.KernelHIdeal.main_arg6)) →
    ∃ (v0 : (c : Dev Cert.KernelHIdeal.nD) → Buf (Elt Ideal) ((c.tc : Thread Cert.KernelHIdeal.nD Cert.KernelHIdeal.τ).loc Cert.KernelHIdeal.main_v18_0)) (v1 : (c : Dev Cert.KernelHIdeal.nD) → Buf (Elt Ideal) ((c.tc : Thread Cert.KernelHIdeal.nD Cert.KernelHIdeal.τ).loc Cert.KernelHIdeal.main_v18_1)) (v2 : (c : Dev Cert.KernelHIdeal.nD) → Buf (Elt Ideal) ((c.tc : Thread Cert.KernelHIdeal.nD Cert.KernelHIdeal.τ).loc Cert.KernelHIdeal.main_v18_2)) (v3 : (c : Dev Cert.KernelHIdeal.nD) → Buf (Elt Ideal) ((c.tc : Thread Cert.KernelHIdeal.nD Cert.KernelHIdeal.τ).loc Cert.KernelHIdeal.main_v18_3)) (v4 : (c : Dev Cert.KernelHIdeal.nD) → Buf (Elt Ideal) ((c.tc : Thread Cert.KernelHIdeal.nD Cert.KernelHIdeal.τ).loc Cert.KernelHIdeal.main_v18_4)) (v5 : (c : Dev Cert.KernelHIdeal.nD) → Buf (Elt Ideal) ((c.tc : Thread Cert.KernelHIdeal.nD Cert.KernelHIdeal.τ).loc Cert.KernelHIdeal.main_v18_5)) (v6 : (c : Dev Cert.KernelHIdeal.nD) → Buf (Elt Ideal) ((c.tc : Thread Cert.KernelHIdeal.nD Cert.KernelHIdeal.τ).loc Cert.KernelHIdeal.main_v18_6)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v18_0) = v0 c
          ∧ r.2.mem ((c.tc : Thread Cert.KernelHIdeal.nD Cert.KernelHIdeal.τ).loc Cert.KernelHIdeal.main_v18_1) = v1 c
          ∧ r.2.mem ((c.tc : Thread Cert.KernelHIdeal.nD Cert.KernelHIdeal.τ).loc Cert.KernelHIdeal.main_v18_2) = v2 c
          ∧ r.2.mem ((c.tc : Thread Cert.KernelHIdeal.nD Cert.KernelHIdeal.τ).loc Cert.KernelHIdeal.main_v18_3) = v3 c
          ∧ r.2.mem ((c.tc : Thread Cert.KernelHIdeal.nD Cert.KernelHIdeal.τ).loc Cert.KernelHIdeal.main_v18_4) = v4 c
          ∧ r.2.mem ((c.tc : Thread Cert.KernelHIdeal.nD Cert.KernelHIdeal.τ).loc Cert.KernelHIdeal.main_v18_5) = v5 c
          ∧ r.2.mem ((c.tc : Thread Cert.KernelHIdeal.nD Cert.KernelHIdeal.τ).loc Cert.KernelHIdeal.main_v18_6) = v6 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
          ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
          ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v67) = v0 c
          ∧ r.2.mem ((c.tc : Thread Cert.ReferenceHIdeal.nD Cert.ReferenceHIdeal.τ).loc Cert.ReferenceHIdeal.main_v68) = v1 c
          ∧ r.2.mem ((c.tc : Thread Cert.ReferenceHIdeal.nD Cert.ReferenceHIdeal.τ).loc Cert.ReferenceHIdeal.main_v69) = v2 c
          ∧ r.2.mem ((c.tc : Thread Cert.ReferenceHIdeal.nD Cert.ReferenceHIdeal.τ).loc Cert.ReferenceHIdeal.main_v66) = v3 c
          ∧ r.2.mem ((c.tc : Thread Cert.ReferenceHIdeal.nD Cert.ReferenceHIdeal.τ).loc Cert.ReferenceHIdeal.main_v70) = v4 c
          ∧ r.2.mem ((c.tc : Thread Cert.ReferenceHIdeal.nD Cert.ReferenceHIdeal.τ).loc Cert.ReferenceHIdeal.main_v71) = v5 c
          ∧ r.2.mem ((c.tc : Thread Cert.ReferenceHIdeal.nD Cert.ReferenceHIdeal.τ).loc Cert.ReferenceHIdeal.main_v50) = v6 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4)
          ∧ r.2.mem ((c.tc : Thread Cert.ReferenceHIdeal.nD Cert.ReferenceHIdeal.τ).loc Cert.ReferenceHIdeal.main_arg5) = m' ((c.tc : Thread Cert.ReferenceHIdeal.nD Cert.ReferenceHIdeal.τ).loc Cert.ReferenceHIdeal.main_arg5)
          ∧ r.2.mem ((c.tc : Thread Cert.ReferenceHIdeal.nD Cert.ReferenceHIdeal.τ).loc Cert.ReferenceHIdeal.main_arg6) = m' ((c.tc : Thread Cert.ReferenceHIdeal.nD Cert.ReferenceHIdeal.τ).loc Cert.ReferenceHIdeal.main_arg6))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)
      ∧ m' ((c.tc : Thread Cert.ReferenceQIdeal.nD Cert.ReferenceQIdeal.τ).loc Cert.ReferenceQIdeal.main_arg4) = m ((c.tc : Thread Cert.KernelQIdeal.nD Cert.KernelQIdeal.τ).loc Cert.KernelQIdeal.main_arg4)
      ∧ m' ((c.tc : Thread Cert.ReferenceQIdeal.nD Cert.ReferenceQIdeal.τ).loc Cert.ReferenceQIdeal.main_arg5) = m ((c.tc : Thread Cert.KernelQIdeal.nD Cert.KernelQIdeal.τ).loc Cert.KernelQIdeal.main_arg5)
      ∧ m' ((c.tc : Thread Cert.ReferenceQIdeal.nD Cert.ReferenceQIdeal.τ).loc Cert.ReferenceQIdeal.main_arg6) = m ((c.tc : Thread Cert.KernelQIdeal.nD Cert.KernelQIdeal.τ).loc Cert.KernelQIdeal.main_arg6)
      ∧ m' ((c.tc : Thread Cert.ReferenceQIdeal.nD Cert.ReferenceQIdeal.τ).loc Cert.ReferenceQIdeal.main_arg7) = m ((c.tc : Thread Cert.KernelQIdeal.nD Cert.KernelQIdeal.τ).loc Cert.KernelQIdeal.main_arg7)
      ∧ m' ((c.tc : Thread Cert.ReferenceQIdeal.nD Cert.ReferenceQIdeal.τ).loc Cert.ReferenceQIdeal.main_arg8) = m ((c.tc : Thread Cert.KernelQIdeal.nD Cert.KernelQIdeal.τ).loc Cert.KernelQIdeal.main_arg8)
      ∧ m' ((c.tc : Thread Cert.ReferenceQIdeal.nD Cert.ReferenceQIdeal.τ).loc Cert.ReferenceQIdeal.main_arg9) = m ((c.tc : Thread Cert.KernelQIdeal.nD Cert.KernelQIdeal.τ).loc Cert.KernelQIdeal.main_arg9)
      ∧ m' ((c.tc : Thread Cert.ReferenceQIdeal.nD Cert.ReferenceQIdeal.τ).loc Cert.ReferenceQIdeal.main_arg10) = m ((c.tc : Thread Cert.KernelQIdeal.nD Cert.KernelQIdeal.τ).loc Cert.KernelQIdeal.main_arg10)) →
    ∃ (v0 : (c : Dev Cert.KernelQIdeal.nD) → Buf (Elt Ideal) ((c.tc : Thread Cert.KernelQIdeal.nD Cert.KernelQIdeal.τ).loc Cert.KernelQIdeal.main_v4_0)) (v1 : (c : Dev Cert.KernelQIdeal.nD) → Buf (Elt Ideal) ((c.tc : Thread Cert.KernelQIdeal.nD Cert.KernelQIdeal.τ).loc Cert.KernelQIdeal.main_v4_1)) (v2 : (c : Dev Cert.KernelQIdeal.nD) → Buf (Elt Ideal) ((c.tc : Thread Cert.KernelQIdeal.nD Cert.KernelQIdeal.τ).loc Cert.KernelQIdeal.main_v4_2)) (v3 : (c : Dev Cert.KernelQIdeal.nD) → Buf (Elt Ideal) ((c.tc : Thread Cert.KernelQIdeal.nD Cert.KernelQIdeal.τ).loc Cert.KernelQIdeal.main_v4_3)) (v4 : (c : Dev Cert.KernelQIdeal.nD) → Buf (Elt Ideal) ((c.tc : Thread Cert.KernelQIdeal.nD Cert.KernelQIdeal.τ).loc Cert.KernelQIdeal.main_v4_4)) (v5 : (c : Dev Cert.KernelQIdeal.nD) → Buf (Elt Ideal) ((c.tc : Thread Cert.KernelQIdeal.nD Cert.KernelQIdeal.τ).loc Cert.KernelQIdeal.main_v4_5)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v4_0) = v0 c
          ∧ r.2.mem ((c.tc : Thread Cert.KernelQIdeal.nD Cert.KernelQIdeal.τ).loc Cert.KernelQIdeal.main_v4_1) = v1 c
          ∧ r.2.mem ((c.tc : Thread Cert.KernelQIdeal.nD Cert.KernelQIdeal.τ).loc Cert.KernelQIdeal.main_v4_2) = v2 c
          ∧ r.2.mem ((c.tc : Thread Cert.KernelQIdeal.nD Cert.KernelQIdeal.τ).loc Cert.KernelQIdeal.main_v4_3) = v3 c
          ∧ r.2.mem ((c.tc : Thread Cert.KernelQIdeal.nD Cert.KernelQIdeal.τ).loc Cert.KernelQIdeal.main_v4_4) = v4 c
          ∧ r.2.mem ((c.tc : Thread Cert.KernelQIdeal.nD Cert.KernelQIdeal.τ).loc Cert.KernelQIdeal.main_v4_5) = v5 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3)
          ∧ r.2.mem ((c.tc : Thread Cert.KernelQIdeal.nD Cert.KernelQIdeal.τ).loc Cert.KernelQIdeal.main_arg4) = m ((c.tc : Thread Cert.KernelQIdeal.nD Cert.KernelQIdeal.τ).loc Cert.KernelQIdeal.main_arg4)
          ∧ r.2.mem ((c.tc : Thread Cert.KernelQIdeal.nD Cert.KernelQIdeal.τ).loc Cert.KernelQIdeal.main_arg5) = m ((c.tc : Thread Cert.KernelQIdeal.nD Cert.KernelQIdeal.τ).loc Cert.KernelQIdeal.main_arg5)
          ∧ r.2.mem ((c.tc : Thread Cert.KernelQIdeal.nD Cert.KernelQIdeal.τ).loc Cert.KernelQIdeal.main_arg6) = m ((c.tc : Thread Cert.KernelQIdeal.nD Cert.KernelQIdeal.τ).loc Cert.KernelQIdeal.main_arg6)
          ∧ r.2.mem ((c.tc : Thread Cert.KernelQIdeal.nD Cert.KernelQIdeal.τ).loc Cert.KernelQIdeal.main_arg7) = m ((c.tc : Thread Cert.KernelQIdeal.nD Cert.KernelQIdeal.τ).loc Cert.KernelQIdeal.main_arg7)
          ∧ r.2.mem ((c.tc : Thread Cert.KernelQIdeal.nD Cert.KernelQIdeal.τ).loc Cert.KernelQIdeal.main_arg8) = m ((c.tc : Thread Cert.KernelQIdeal.nD Cert.KernelQIdeal.τ).loc Cert.KernelQIdeal.main_arg8)
          ∧ r.2.mem ((c.tc : Thread Cert.KernelQIdeal.nD Cert.KernelQIdeal.τ).loc Cert.KernelQIdeal.main_arg9) = m ((c.tc : Thread Cert.KernelQIdeal.nD Cert.KernelQIdeal.τ).loc Cert.KernelQIdeal.main_arg9)
          ∧ r.2.mem ((c.tc : Thread Cert.KernelQIdeal.nD Cert.KernelQIdeal.τ).loc Cert.KernelQIdeal.main_arg10) = m ((c.tc : Thread Cert.KernelQIdeal.nD Cert.KernelQIdeal.τ).loc Cert.KernelQIdeal.main_arg10))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v41) = v0 c
          ∧ r.2.mem ((c.tc : Thread Cert.ReferenceQIdeal.nD Cert.ReferenceQIdeal.τ).loc Cert.ReferenceQIdeal.main_v42) = v1 c
          ∧ r.2.mem ((c.tc : Thread Cert.ReferenceQIdeal.nD Cert.ReferenceQIdeal.τ).loc Cert.ReferenceQIdeal.main_v43) = v2 c
          ∧ r.2.mem ((c.tc : Thread Cert.ReferenceQIdeal.nD Cert.ReferenceQIdeal.τ).loc Cert.ReferenceQIdeal.main_v44) = v3 c
          ∧ r.2.mem ((c.tc : Thread Cert.ReferenceQIdeal.nD Cert.ReferenceQIdeal.τ).loc Cert.ReferenceQIdeal.main_v40) = v4 c
          ∧ r.2.mem ((c.tc : Thread Cert.ReferenceQIdeal.nD Cert.ReferenceQIdeal.τ).loc Cert.ReferenceQIdeal.main_v57) = v5 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3)
          ∧ r.2.mem ((c.tc : Thread Cert.ReferenceQIdeal.nD Cert.ReferenceQIdeal.τ).loc Cert.ReferenceQIdeal.main_arg4) = m' ((c.tc : Thread Cert.ReferenceQIdeal.nD Cert.ReferenceQIdeal.τ).loc Cert.ReferenceQIdeal.main_arg4)
          ∧ r.2.mem ((c.tc : Thread Cert.ReferenceQIdeal.nD Cert.ReferenceQIdeal.τ).loc Cert.ReferenceQIdeal.main_arg5) = m' ((c.tc : Thread Cert.ReferenceQIdeal.nD Cert.ReferenceQIdeal.τ).loc Cert.ReferenceQIdeal.main_arg5)
          ∧ r.2.mem ((c.tc : Thread Cert.ReferenceQIdeal.nD Cert.ReferenceQIdeal.τ).loc Cert.ReferenceQIdeal.main_arg6) = m' ((c.tc : Thread Cert.ReferenceQIdeal.nD Cert.ReferenceQIdeal.τ).loc Cert.ReferenceQIdeal.main_arg6)
          ∧ r.2.mem ((c.tc : Thread Cert.ReferenceQIdeal.nD Cert.ReferenceQIdeal.τ).loc Cert.ReferenceQIdeal.main_arg7) = m' ((c.tc : Thread Cert.ReferenceQIdeal.nD Cert.ReferenceQIdeal.τ).loc Cert.ReferenceQIdeal.main_arg7)
          ∧ r.2.mem ((c.tc : Thread Cert.ReferenceQIdeal.nD Cert.ReferenceQIdeal.τ).loc Cert.ReferenceQIdeal.main_arg8) = m' ((c.tc : Thread Cert.ReferenceQIdeal.nD Cert.ReferenceQIdeal.τ).loc Cert.ReferenceQIdeal.main_arg8)
          ∧ r.2.mem ((c.tc : Thread Cert.ReferenceQIdeal.nD Cert.ReferenceQIdeal.τ).loc Cert.ReferenceQIdeal.main_arg9) = m' ((c.tc : Thread Cert.ReferenceQIdeal.nD Cert.ReferenceQIdeal.τ).loc Cert.ReferenceQIdeal.main_arg9)
          ∧ r.2.mem ((c.tc : Thread Cert.ReferenceQIdeal.nD Cert.ReferenceQIdeal.τ).loc Cert.ReferenceQIdeal.main_arg10) = m' ((c.tc : Thread Cert.ReferenceQIdeal.nD Cert.ReferenceQIdeal.τ).loc Cert.ReferenceQIdeal.main_arg10))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)
      ∧ m' ((c.tc : Thread Cert.ReferenceSIdeal.nD Cert.ReferenceSIdeal.τ).loc Cert.ReferenceSIdeal.main_arg8) = m ((c.tc : Thread Cert.KernelSIdeal.nD Cert.KernelSIdeal.τ).loc Cert.KernelSIdeal.main_arg8)
      ∧ m' ((c.tc : Thread Cert.ReferenceSIdeal.nD Cert.ReferenceSIdeal.τ).loc Cert.ReferenceSIdeal.main_arg9) = m ((c.tc : Thread Cert.KernelSIdeal.nD Cert.KernelSIdeal.τ).loc Cert.KernelSIdeal.main_arg9)
      ∧ m' ((c.tc : Thread Cert.ReferenceSIdeal.nD Cert.ReferenceSIdeal.τ).loc Cert.ReferenceSIdeal.main_arg10) = m ((c.tc : Thread Cert.KernelSIdeal.nD Cert.KernelSIdeal.τ).loc Cert.KernelSIdeal.main_arg10)
      ∧ m' ((c.tc : Thread Cert.ReferenceSIdeal.nD Cert.ReferenceSIdeal.τ).loc Cert.ReferenceSIdeal.main_arg11) = m ((c.tc : Thread Cert.KernelSIdeal.nD Cert.KernelSIdeal.τ).loc Cert.KernelSIdeal.main_arg11)
      ∧ m' ((c.tc : Thread Cert.ReferenceSIdeal.nD Cert.ReferenceSIdeal.τ).loc Cert.ReferenceSIdeal.main_arg12) = m ((c.tc : Thread Cert.KernelSIdeal.nD Cert.KernelSIdeal.τ).loc Cert.KernelSIdeal.main_arg12)
      ∧ m' ((c.tc : Thread Cert.ReferenceSIdeal.nD Cert.ReferenceSIdeal.τ).loc Cert.ReferenceSIdeal.main_arg13) = m ((c.tc : Thread Cert.KernelSIdeal.nD Cert.KernelSIdeal.τ).loc Cert.KernelSIdeal.main_arg13)
      ∧ m' ((c.tc : Thread Cert.ReferenceSIdeal.nD Cert.ReferenceSIdeal.τ).loc Cert.ReferenceSIdeal.main_arg14) = m ((c.tc : Thread Cert.KernelSIdeal.nD Cert.KernelSIdeal.τ).loc Cert.KernelSIdeal.main_arg14)
      ∧ m' ((c.tc : Thread Cert.ReferenceSIdeal.nD Cert.ReferenceSIdeal.τ).loc Cert.ReferenceSIdeal.main_arg15) = m ((c.tc : Thread Cert.KernelSIdeal.nD Cert.KernelSIdeal.τ).loc Cert.KernelSIdeal.main_arg15)
      ∧ m' ((c.tc : Thread Cert.ReferenceSIdeal.nD Cert.ReferenceSIdeal.τ).loc Cert.ReferenceSIdeal.main_arg16) = m ((c.tc : Thread Cert.KernelSIdeal.nD Cert.KernelSIdeal.τ).loc Cert.KernelSIdeal.main_arg16)
      ∧ m' ((c.tc : Thread Cert.ReferenceSIdeal.nD Cert.ReferenceSIdeal.τ).loc Cert.ReferenceSIdeal.main_arg17) = m ((c.tc : Thread Cert.KernelSIdeal.nD Cert.KernelSIdeal.τ).loc Cert.KernelSIdeal.main_arg17)
      ∧ m' ((c.tc : Thread Cert.ReferenceSIdeal.nD Cert.ReferenceSIdeal.τ).loc Cert.ReferenceSIdeal.main_arg18) = m ((c.tc : Thread Cert.KernelSIdeal.nD Cert.KernelSIdeal.τ).loc Cert.KernelSIdeal.main_arg18)
      ∧ m' ((c.tc : Thread Cert.ReferenceSIdeal.nD Cert.ReferenceSIdeal.τ).loc Cert.ReferenceSIdeal.main_arg19) = m ((c.tc : Thread Cert.KernelSIdeal.nD Cert.KernelSIdeal.τ).loc Cert.KernelSIdeal.main_arg19)
      ∧ m' ((c.tc : Thread Cert.ReferenceSIdeal.nD Cert.ReferenceSIdeal.τ).loc Cert.ReferenceSIdeal.main_arg20) = m ((c.tc : Thread Cert.KernelSIdeal.nD Cert.KernelSIdeal.τ).loc Cert.KernelSIdeal.main_arg20)
      ∧ m' ((c.tc : Thread Cert.ReferenceSIdeal.nD Cert.ReferenceSIdeal.τ).loc Cert.ReferenceSIdeal.main_arg21) = m ((c.tc : Thread Cert.KernelSIdeal.nD Cert.KernelSIdeal.τ).loc Cert.KernelSIdeal.main_arg21)
      ∧ m' ((c.tc : Thread Cert.ReferenceSIdeal.nD Cert.ReferenceSIdeal.τ).loc Cert.ReferenceSIdeal.main_arg22) = m ((c.tc : Thread Cert.KernelSIdeal.nD Cert.KernelSIdeal.τ).loc Cert.KernelSIdeal.main_arg22)
      ∧ m' ((c.tc : Thread Cert.ReferenceSIdeal.nD Cert.ReferenceSIdeal.τ).loc Cert.ReferenceSIdeal.main_arg23) = m ((c.tc : Thread Cert.KernelSIdeal.nD Cert.KernelSIdeal.τ).loc Cert.KernelSIdeal.main_arg23)
      ∧ m' ((c.tc : Thread Cert.ReferenceSIdeal.nD Cert.ReferenceSIdeal.τ).loc Cert.ReferenceSIdeal.main_arg24) = m ((c.tc : Thread Cert.KernelSIdeal.nD Cert.KernelSIdeal.τ).loc Cert.KernelSIdeal.main_arg24)
      ∧ m' ((c.tc : Thread Cert.ReferenceSIdeal.nD Cert.ReferenceSIdeal.τ).loc Cert.ReferenceSIdeal.main_arg25) = m ((c.tc : Thread Cert.KernelSIdeal.nD Cert.KernelSIdeal.τ).loc Cert.KernelSIdeal.main_arg25)
      ∧ m' ((c.tc : Thread Cert.ReferenceSIdeal.nD Cert.ReferenceSIdeal.τ).loc Cert.ReferenceSIdeal.main_arg26) = m ((c.tc : Thread Cert.KernelSIdeal.nD Cert.KernelSIdeal.τ).loc Cert.KernelSIdeal.main_arg26)
      ∧ m' ((c.tc : Thread Cert.ReferenceSIdeal.nD Cert.ReferenceSIdeal.τ).loc Cert.ReferenceSIdeal.main_arg27) = m ((c.tc : Thread Cert.KernelSIdeal.nD Cert.KernelSIdeal.τ).loc Cert.KernelSIdeal.main_arg27)
      ∧ m' ((c.tc : Thread Cert.ReferenceSIdeal.nD Cert.ReferenceSIdeal.τ).loc Cert.ReferenceSIdeal.main_arg28) = m ((c.tc : Thread Cert.KernelSIdeal.nD Cert.KernelSIdeal.τ).loc Cert.KernelSIdeal.main_arg28)) →
    ∃ (v0 : (c : Dev Cert.KernelSIdeal.nD) → Buf (Elt Ideal) ((c.tc : Thread Cert.KernelSIdeal.nD Cert.KernelSIdeal.τ).loc Cert.KernelSIdeal.main_v43_0)) (v1 : (c : Dev Cert.KernelSIdeal.nD) → Buf (Elt Ideal) ((c.tc : Thread Cert.KernelSIdeal.nD Cert.KernelSIdeal.τ).loc Cert.KernelSIdeal.main_v43_1)) (v2 : (c : Dev Cert.KernelSIdeal.nD) → Buf (Elt Ideal) ((c.tc : Thread Cert.KernelSIdeal.nD Cert.KernelSIdeal.τ).loc Cert.KernelSIdeal.main_v43_2)) (v3 : (c : Dev Cert.KernelSIdeal.nD) → Buf (Elt Ideal) ((c.tc : Thread Cert.KernelSIdeal.nD Cert.KernelSIdeal.τ).loc Cert.KernelSIdeal.main_v43_3)) (v4 : (c : Dev Cert.KernelSIdeal.nD) → Buf (Elt Ideal) ((c.tc : Thread Cert.KernelSIdeal.nD Cert.KernelSIdeal.τ).loc Cert.KernelSIdeal.main_v43_4)) (v5 : (c : Dev Cert.KernelSIdeal.nD) → Buf (Elt Ideal) ((c.tc : Thread Cert.KernelSIdeal.nD Cert.KernelSIdeal.τ).loc Cert.KernelSIdeal.main_v43_5)) (v6 : (c : Dev Cert.KernelSIdeal.nD) → Buf (Elt Ideal) ((c.tc : Thread Cert.KernelSIdeal.nD Cert.KernelSIdeal.τ).loc Cert.KernelSIdeal.main_v43_6)) (v7 : (c : Dev Cert.KernelSIdeal.nD) → Buf (Elt Ideal) ((c.tc : Thread Cert.KernelSIdeal.nD Cert.KernelSIdeal.τ).loc Cert.KernelSIdeal.main_v43_7)) (v8 : (c : Dev Cert.KernelSIdeal.nD) → Buf (Elt Ideal) ((c.tc : Thread Cert.KernelSIdeal.nD Cert.KernelSIdeal.τ).loc Cert.KernelSIdeal.main_v43_8)) (v9 : (c : Dev Cert.KernelSIdeal.nD) → Buf (Elt Ideal) ((c.tc : Thread Cert.KernelSIdeal.nD Cert.KernelSIdeal.τ).loc Cert.KernelSIdeal.main_v43_9)) (v10 : (c : Dev Cert.KernelSIdeal.nD) → Buf (Elt Ideal) ((c.tc : Thread Cert.KernelSIdeal.nD Cert.KernelSIdeal.τ).loc Cert.KernelSIdeal.main_v43_10)) (v11 : (c : Dev Cert.KernelSIdeal.nD) → Buf (Elt Ideal) ((c.tc : Thread Cert.KernelSIdeal.nD Cert.KernelSIdeal.τ).loc Cert.KernelSIdeal.main_v43_11)) (v12 : (c : Dev Cert.KernelSIdeal.nD) → Buf (Elt Ideal) ((c.tc : Thread Cert.KernelSIdeal.nD Cert.KernelSIdeal.τ).loc Cert.KernelSIdeal.main_v43_12)) (v13 : (c : Dev Cert.KernelSIdeal.nD) → Buf (Elt Ideal) ((c.tc : Thread Cert.KernelSIdeal.nD Cert.KernelSIdeal.τ).loc Cert.KernelSIdeal.main_v43_13)) (v14 : (c : Dev Cert.KernelSIdeal.nD) → Buf (Elt Ideal) ((c.tc : Thread Cert.KernelSIdeal.nD Cert.KernelSIdeal.τ).loc Cert.KernelSIdeal.main_v43_14)) (v15 : (c : Dev Cert.KernelSIdeal.nD) → Buf (Elt Ideal) ((c.tc : Thread Cert.KernelSIdeal.nD Cert.KernelSIdeal.τ).loc Cert.KernelSIdeal.main_v43_15)) (v16 : (c : Dev Cert.KernelSIdeal.nD) → Buf (Elt Ideal) ((c.tc : Thread Cert.KernelSIdeal.nD Cert.KernelSIdeal.τ).loc Cert.KernelSIdeal.main_v43_16)) (v17 : (c : Dev Cert.KernelSIdeal.nD) → Buf (Elt Ideal) ((c.tc : Thread Cert.KernelSIdeal.nD Cert.KernelSIdeal.τ).loc Cert.KernelSIdeal.main_v43_17)) (v18 : (c : Dev Cert.KernelSIdeal.nD) → Buf (Elt Ideal) ((c.tc : Thread Cert.KernelSIdeal.nD Cert.KernelSIdeal.τ).loc Cert.KernelSIdeal.main_v43_18)) (v19 : (c : Dev Cert.KernelSIdeal.nD) → Buf (Elt Ideal) ((c.tc : Thread Cert.KernelSIdeal.nD Cert.KernelSIdeal.τ).loc Cert.KernelSIdeal.main_v43_19)) (v20 : (c : Dev Cert.KernelSIdeal.nD) → Buf (Elt Ideal) ((c.tc : Thread Cert.KernelSIdeal.nD Cert.KernelSIdeal.τ).loc Cert.KernelSIdeal.main_v43_20)) (v21 : (c : Dev Cert.KernelSIdeal.nD) → Buf (Elt Ideal) ((c.tc : Thread Cert.KernelSIdeal.nD Cert.KernelSIdeal.τ).loc Cert.KernelSIdeal.main_v43_21)) (v22 : (c : Dev Cert.KernelSIdeal.nD) → Buf (Elt Ideal) ((c.tc : Thread Cert.KernelSIdeal.nD Cert.KernelSIdeal.τ).loc Cert.KernelSIdeal.main_v43_22)) (v23 : (c : Dev Cert.KernelSIdeal.nD) → Buf (Elt Ideal) ((c.tc : Thread Cert.KernelSIdeal.nD Cert.KernelSIdeal.τ).loc Cert.KernelSIdeal.main_v43_23)) (v24 : (c : Dev Cert.KernelSIdeal.nD) → Buf (Elt Ideal) ((c.tc : Thread Cert.KernelSIdeal.nD Cert.KernelSIdeal.τ).loc Cert.KernelSIdeal.main_v43_24)) (v25 : (c : Dev Cert.KernelSIdeal.nD) → Buf (Elt Ideal) ((c.tc : Thread Cert.KernelSIdeal.nD Cert.KernelSIdeal.τ).loc Cert.KernelSIdeal.main_v43_25)) (v26 : (c : Dev Cert.KernelSIdeal.nD) → Buf (Elt Ideal) ((c.tc : Thread Cert.KernelSIdeal.nD Cert.KernelSIdeal.τ).loc Cert.KernelSIdeal.main_v43_26)) (v27 : (c : Dev Cert.KernelSIdeal.nD) → Buf (Elt Ideal) ((c.tc : Thread Cert.KernelSIdeal.nD Cert.KernelSIdeal.τ).loc Cert.KernelSIdeal.main_v43_27)) (v28 : (c : Dev Cert.KernelSIdeal.nD) → Buf (Elt Ideal) ((c.tc : Thread Cert.KernelSIdeal.nD Cert.KernelSIdeal.τ).loc Cert.KernelSIdeal.main_v43_28)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v43_0) = v0 c
          ∧ r.2.mem ((c.tc : Thread Cert.KernelSIdeal.nD Cert.KernelSIdeal.τ).loc Cert.KernelSIdeal.main_v43_1) = v1 c
          ∧ r.2.mem ((c.tc : Thread Cert.KernelSIdeal.nD Cert.KernelSIdeal.τ).loc Cert.KernelSIdeal.main_v43_2) = v2 c
          ∧ r.2.mem ((c.tc : Thread Cert.KernelSIdeal.nD Cert.KernelSIdeal.τ).loc Cert.KernelSIdeal.main_v43_3) = v3 c
          ∧ r.2.mem ((c.tc : Thread Cert.KernelSIdeal.nD Cert.KernelSIdeal.τ).loc Cert.KernelSIdeal.main_v43_4) = v4 c
          ∧ r.2.mem ((c.tc : Thread Cert.KernelSIdeal.nD Cert.KernelSIdeal.τ).loc Cert.KernelSIdeal.main_v43_5) = v5 c
          ∧ r.2.mem ((c.tc : Thread Cert.KernelSIdeal.nD Cert.KernelSIdeal.τ).loc Cert.KernelSIdeal.main_v43_6) = v6 c
          ∧ r.2.mem ((c.tc : Thread Cert.KernelSIdeal.nD Cert.KernelSIdeal.τ).loc Cert.KernelSIdeal.main_v43_7) = v7 c
          ∧ r.2.mem ((c.tc : Thread Cert.KernelSIdeal.nD Cert.KernelSIdeal.τ).loc Cert.KernelSIdeal.main_v43_8) = v8 c
          ∧ r.2.mem ((c.tc : Thread Cert.KernelSIdeal.nD Cert.KernelSIdeal.τ).loc Cert.KernelSIdeal.main_v43_9) = v9 c
          ∧ r.2.mem ((c.tc : Thread Cert.KernelSIdeal.nD Cert.KernelSIdeal.τ).loc Cert.KernelSIdeal.main_v43_10) = v10 c
          ∧ r.2.mem ((c.tc : Thread Cert.KernelSIdeal.nD Cert.KernelSIdeal.τ).loc Cert.KernelSIdeal.main_v43_11) = v11 c
          ∧ r.2.mem ((c.tc : Thread Cert.KernelSIdeal.nD Cert.KernelSIdeal.τ).loc Cert.KernelSIdeal.main_v43_12) = v12 c
          ∧ r.2.mem ((c.tc : Thread Cert.KernelSIdeal.nD Cert.KernelSIdeal.τ).loc Cert.KernelSIdeal.main_v43_13) = v13 c
          ∧ r.2.mem ((c.tc : Thread Cert.KernelSIdeal.nD Cert.KernelSIdeal.τ).loc Cert.KernelSIdeal.main_v43_14) = v14 c
          ∧ r.2.mem ((c.tc : Thread Cert.KernelSIdeal.nD Cert.KernelSIdeal.τ).loc Cert.KernelSIdeal.main_v43_15) = v15 c
          ∧ r.2.mem ((c.tc : Thread Cert.KernelSIdeal.nD Cert.KernelSIdeal.τ).loc Cert.KernelSIdeal.main_v43_16) = v16 c
          ∧ r.2.mem ((c.tc : Thread Cert.KernelSIdeal.nD Cert.KernelSIdeal.τ).loc Cert.KernelSIdeal.main_v43_17) = v17 c
          ∧ r.2.mem ((c.tc : Thread Cert.KernelSIdeal.nD Cert.KernelSIdeal.τ).loc Cert.KernelSIdeal.main_v43_18) = v18 c
          ∧ r.2.mem ((c.tc : Thread Cert.KernelSIdeal.nD Cert.KernelSIdeal.τ).loc Cert.KernelSIdeal.main_v43_19) = v19 c
          ∧ r.2.mem ((c.tc : Thread Cert.KernelSIdeal.nD Cert.KernelSIdeal.τ).loc Cert.KernelSIdeal.main_v43_20) = v20 c
          ∧ r.2.mem ((c.tc : Thread Cert.KernelSIdeal.nD Cert.KernelSIdeal.τ).loc Cert.KernelSIdeal.main_v43_21) = v21 c
          ∧ r.2.mem ((c.tc : Thread Cert.KernelSIdeal.nD Cert.KernelSIdeal.τ).loc Cert.KernelSIdeal.main_v43_22) = v22 c
          ∧ r.2.mem ((c.tc : Thread Cert.KernelSIdeal.nD Cert.KernelSIdeal.τ).loc Cert.KernelSIdeal.main_v43_23) = v23 c
          ∧ r.2.mem ((c.tc : Thread Cert.KernelSIdeal.nD Cert.KernelSIdeal.τ).loc Cert.KernelSIdeal.main_v43_24) = v24 c
          ∧ r.2.mem ((c.tc : Thread Cert.KernelSIdeal.nD Cert.KernelSIdeal.τ).loc Cert.KernelSIdeal.main_v43_25) = v25 c
          ∧ r.2.mem ((c.tc : Thread Cert.KernelSIdeal.nD Cert.KernelSIdeal.τ).loc Cert.KernelSIdeal.main_v43_26) = v26 c
          ∧ r.2.mem ((c.tc : Thread Cert.KernelSIdeal.nD Cert.KernelSIdeal.τ).loc Cert.KernelSIdeal.main_v43_27) = v27 c
          ∧ r.2.mem ((c.tc : Thread Cert.KernelSIdeal.nD Cert.KernelSIdeal.τ).loc Cert.KernelSIdeal.main_v43_28) = v28 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
          ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
          ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
          ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
          ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
          ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
          ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13)
          ∧ r.2.mem ((c.tc : Thread Cert.KernelSIdeal.nD Cert.KernelSIdeal.τ).loc Cert.KernelSIdeal.main_arg14) = m ((c.tc : Thread Cert.KernelSIdeal.nD Cert.KernelSIdeal.τ).loc Cert.KernelSIdeal.main_arg14)
          ∧ r.2.mem ((c.tc : Thread Cert.KernelSIdeal.nD Cert.KernelSIdeal.τ).loc Cert.KernelSIdeal.main_arg15) = m ((c.tc : Thread Cert.KernelSIdeal.nD Cert.KernelSIdeal.τ).loc Cert.KernelSIdeal.main_arg15)
          ∧ r.2.mem ((c.tc : Thread Cert.KernelSIdeal.nD Cert.KernelSIdeal.τ).loc Cert.KernelSIdeal.main_arg16) = m ((c.tc : Thread Cert.KernelSIdeal.nD Cert.KernelSIdeal.τ).loc Cert.KernelSIdeal.main_arg16)
          ∧ r.2.mem ((c.tc : Thread Cert.KernelSIdeal.nD Cert.KernelSIdeal.τ).loc Cert.KernelSIdeal.main_arg17) = m ((c.tc : Thread Cert.KernelSIdeal.nD Cert.KernelSIdeal.τ).loc Cert.KernelSIdeal.main_arg17)
          ∧ r.2.mem ((c.tc : Thread Cert.KernelSIdeal.nD Cert.KernelSIdeal.τ).loc Cert.KernelSIdeal.main_arg18) = m ((c.tc : Thread Cert.KernelSIdeal.nD Cert.KernelSIdeal.τ).loc Cert.KernelSIdeal.main_arg18)
          ∧ r.2.mem ((c.tc : Thread Cert.KernelSIdeal.nD Cert.KernelSIdeal.τ).loc Cert.KernelSIdeal.main_arg19) = m ((c.tc : Thread Cert.KernelSIdeal.nD Cert.KernelSIdeal.τ).loc Cert.KernelSIdeal.main_arg19)
          ∧ r.2.mem ((c.tc : Thread Cert.KernelSIdeal.nD Cert.KernelSIdeal.τ).loc Cert.KernelSIdeal.main_arg20) = m ((c.tc : Thread Cert.KernelSIdeal.nD Cert.KernelSIdeal.τ).loc Cert.KernelSIdeal.main_arg20)
          ∧ r.2.mem ((c.tc : Thread Cert.KernelSIdeal.nD Cert.KernelSIdeal.τ).loc Cert.KernelSIdeal.main_arg21) = m ((c.tc : Thread Cert.KernelSIdeal.nD Cert.KernelSIdeal.τ).loc Cert.KernelSIdeal.main_arg21)
          ∧ r.2.mem ((c.tc : Thread Cert.KernelSIdeal.nD Cert.KernelSIdeal.τ).loc Cert.KernelSIdeal.main_arg22) = m ((c.tc : Thread Cert.KernelSIdeal.nD Cert.KernelSIdeal.τ).loc Cert.KernelSIdeal.main_arg22)
          ∧ r.2.mem ((c.tc : Thread Cert.KernelSIdeal.nD Cert.KernelSIdeal.τ).loc Cert.KernelSIdeal.main_arg23) = m ((c.tc : Thread Cert.KernelSIdeal.nD Cert.KernelSIdeal.τ).loc Cert.KernelSIdeal.main_arg23)
          ∧ r.2.mem ((c.tc : Thread Cert.KernelSIdeal.nD Cert.KernelSIdeal.τ).loc Cert.KernelSIdeal.main_arg24) = m ((c.tc : Thread Cert.KernelSIdeal.nD Cert.KernelSIdeal.τ).loc Cert.KernelSIdeal.main_arg24)
          ∧ r.2.mem ((c.tc : Thread Cert.KernelSIdeal.nD Cert.KernelSIdeal.τ).loc Cert.KernelSIdeal.main_arg25) = m ((c.tc : Thread Cert.KernelSIdeal.nD Cert.KernelSIdeal.τ).loc Cert.KernelSIdeal.main_arg25)
          ∧ r.2.mem ((c.tc : Thread Cert.KernelSIdeal.nD Cert.KernelSIdeal.τ).loc Cert.KernelSIdeal.main_arg26) = m ((c.tc : Thread Cert.KernelSIdeal.nD Cert.KernelSIdeal.τ).loc Cert.KernelSIdeal.main_arg26)
          ∧ r.2.mem ((c.tc : Thread Cert.KernelSIdeal.nD Cert.KernelSIdeal.τ).loc Cert.KernelSIdeal.main_arg27) = m ((c.tc : Thread Cert.KernelSIdeal.nD Cert.KernelSIdeal.τ).loc Cert.KernelSIdeal.main_arg27)
          ∧ r.2.mem ((c.tc : Thread Cert.KernelSIdeal.nD Cert.KernelSIdeal.τ).loc Cert.KernelSIdeal.main_arg28) = m ((c.tc : Thread Cert.KernelSIdeal.nD Cert.KernelSIdeal.τ).loc Cert.KernelSIdeal.main_arg28))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v168) = v0 c
          ∧ r.2.mem ((c.tc : Thread Cert.ReferenceSIdeal.nD Cert.ReferenceSIdeal.τ).loc Cert.ReferenceSIdeal.main_v169) = v1 c
          ∧ r.2.mem ((c.tc : Thread Cert.ReferenceSIdeal.nD Cert.ReferenceSIdeal.τ).loc Cert.ReferenceSIdeal.main_v170) = v2 c
          ∧ r.2.mem ((c.tc : Thread Cert.ReferenceSIdeal.nD Cert.ReferenceSIdeal.τ).loc Cert.ReferenceSIdeal.main_v171) = v3 c
          ∧ r.2.mem ((c.tc : Thread Cert.ReferenceSIdeal.nD Cert.ReferenceSIdeal.τ).loc Cert.ReferenceSIdeal.main_v172) = v4 c
          ∧ r.2.mem ((c.tc : Thread Cert.ReferenceSIdeal.nD Cert.ReferenceSIdeal.τ).loc Cert.ReferenceSIdeal.main_v173) = v5 c
          ∧ r.2.mem ((c.tc : Thread Cert.ReferenceSIdeal.nD Cert.ReferenceSIdeal.τ).loc Cert.ReferenceSIdeal.main_v174) = v6 c
          ∧ r.2.mem ((c.tc : Thread Cert.ReferenceSIdeal.nD Cert.ReferenceSIdeal.τ).loc Cert.ReferenceSIdeal.main_v175) = v7 c
          ∧ r.2.mem ((c.tc : Thread Cert.ReferenceSIdeal.nD Cert.ReferenceSIdeal.τ).loc Cert.ReferenceSIdeal.main_v176) = v8 c
          ∧ r.2.mem ((c.tc : Thread Cert.ReferenceSIdeal.nD Cert.ReferenceSIdeal.τ).loc Cert.ReferenceSIdeal.main_v177) = v9 c
          ∧ r.2.mem ((c.tc : Thread Cert.ReferenceSIdeal.nD Cert.ReferenceSIdeal.τ).loc Cert.ReferenceSIdeal.main_v178) = v10 c
          ∧ r.2.mem ((c.tc : Thread Cert.ReferenceSIdeal.nD Cert.ReferenceSIdeal.τ).loc Cert.ReferenceSIdeal.main_v179) = v11 c
          ∧ r.2.mem ((c.tc : Thread Cert.ReferenceSIdeal.nD Cert.ReferenceSIdeal.τ).loc Cert.ReferenceSIdeal.main_v180) = v12 c
          ∧ r.2.mem ((c.tc : Thread Cert.ReferenceSIdeal.nD Cert.ReferenceSIdeal.τ).loc Cert.ReferenceSIdeal.main_v181) = v13 c
          ∧ r.2.mem ((c.tc : Thread Cert.ReferenceSIdeal.nD Cert.ReferenceSIdeal.τ).loc Cert.ReferenceSIdeal.main_v182) = v14 c
          ∧ r.2.mem ((c.tc : Thread Cert.ReferenceSIdeal.nD Cert.ReferenceSIdeal.τ).loc Cert.ReferenceSIdeal.main_v183) = v15 c
          ∧ r.2.mem ((c.tc : Thread Cert.ReferenceSIdeal.nD Cert.ReferenceSIdeal.τ).loc Cert.ReferenceSIdeal.main_v184) = v16 c
          ∧ r.2.mem ((c.tc : Thread Cert.ReferenceSIdeal.nD Cert.ReferenceSIdeal.τ).loc Cert.ReferenceSIdeal.main_v185) = v17 c
          ∧ r.2.mem ((c.tc : Thread Cert.ReferenceSIdeal.nD Cert.ReferenceSIdeal.τ).loc Cert.ReferenceSIdeal.main_v186) = v18 c
          ∧ r.2.mem ((c.tc : Thread Cert.ReferenceSIdeal.nD Cert.ReferenceSIdeal.τ).loc Cert.ReferenceSIdeal.main_v187) = v19 c
          ∧ r.2.mem ((c.tc : Thread Cert.ReferenceSIdeal.nD Cert.ReferenceSIdeal.τ).loc Cert.ReferenceSIdeal.main_v188) = v20 c
          ∧ r.2.mem ((c.tc : Thread Cert.ReferenceSIdeal.nD Cert.ReferenceSIdeal.τ).loc Cert.ReferenceSIdeal.main_v189) = v21 c
          ∧ r.2.mem ((c.tc : Thread Cert.ReferenceSIdeal.nD Cert.ReferenceSIdeal.τ).loc Cert.ReferenceSIdeal.main_v190) = v22 c
          ∧ r.2.mem ((c.tc : Thread Cert.ReferenceSIdeal.nD Cert.ReferenceSIdeal.τ).loc Cert.ReferenceSIdeal.main_v191) = v23 c
          ∧ r.2.mem ((c.tc : Thread Cert.ReferenceSIdeal.nD Cert.ReferenceSIdeal.τ).loc Cert.ReferenceSIdeal.main_v192) = v24 c
          ∧ r.2.mem ((c.tc : Thread Cert.ReferenceSIdeal.nD Cert.ReferenceSIdeal.τ).loc Cert.ReferenceSIdeal.main_v193) = v25 c
          ∧ r.2.mem ((c.tc : Thread Cert.ReferenceSIdeal.nD Cert.ReferenceSIdeal.τ).loc Cert.ReferenceSIdeal.main_v194) = v26 c
          ∧ r.2.mem ((c.tc : Thread Cert.ReferenceSIdeal.nD Cert.ReferenceSIdeal.τ).loc Cert.ReferenceSIdeal.main_v195) = v27 c
          ∧ r.2.mem ((c.tc : Thread Cert.ReferenceSIdeal.nD Cert.ReferenceSIdeal.τ).loc Cert.ReferenceSIdeal.main_v196) = v28 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7)
          ∧ r.2.mem ((c.tc : Thread Cert.ReferenceSIdeal.nD Cert.ReferenceSIdeal.τ).loc Cert.ReferenceSIdeal.main_arg8) = m' ((c.tc : Thread Cert.ReferenceSIdeal.nD Cert.ReferenceSIdeal.τ).loc Cert.ReferenceSIdeal.main_arg8)
          ∧ r.2.mem ((c.tc : Thread Cert.ReferenceSIdeal.nD Cert.ReferenceSIdeal.τ).loc Cert.ReferenceSIdeal.main_arg9) = m' ((c.tc : Thread Cert.ReferenceSIdeal.nD Cert.ReferenceSIdeal.τ).loc Cert.ReferenceSIdeal.main_arg9)
          ∧ r.2.mem ((c.tc : Thread Cert.ReferenceSIdeal.nD Cert.ReferenceSIdeal.τ).loc Cert.ReferenceSIdeal.main_arg10) = m' ((c.tc : Thread Cert.ReferenceSIdeal.nD Cert.ReferenceSIdeal.τ).loc Cert.ReferenceSIdeal.main_arg10)
          ∧ r.2.mem ((c.tc : Thread Cert.ReferenceSIdeal.nD Cert.ReferenceSIdeal.τ).loc Cert.ReferenceSIdeal.main_arg11) = m' ((c.tc : Thread Cert.ReferenceSIdeal.nD Cert.ReferenceSIdeal.τ).loc Cert.ReferenceSIdeal.main_arg11)
          ∧ r.2.mem ((c.tc : Thread Cert.ReferenceSIdeal.nD Cert.ReferenceSIdeal.τ).loc Cert.ReferenceSIdeal.main_arg12) = m' ((c.tc : Thread Cert.ReferenceSIdeal.nD Cert.ReferenceSIdeal.τ).loc Cert.ReferenceSIdeal.main_arg12)
          ∧ r.2.mem ((c.tc : Thread Cert.ReferenceSIdeal.nD Cert.ReferenceSIdeal.τ).loc Cert.ReferenceSIdeal.main_arg13) = m' ((c.tc : Thread Cert.ReferenceSIdeal.nD Cert.ReferenceSIdeal.τ).loc Cert.ReferenceSIdeal.main_arg13)
          ∧ r.2.mem ((c.tc : Thread Cert.ReferenceSIdeal.nD Cert.ReferenceSIdeal.τ).loc Cert.ReferenceSIdeal.main_arg14) = m' ((c.tc : Thread Cert.ReferenceSIdeal.nD Cert.ReferenceSIdeal.τ).loc Cert.ReferenceSIdeal.main_arg14)
          ∧ r.2.mem ((c.tc : Thread Cert.ReferenceSIdeal.nD Cert.ReferenceSIdeal.τ).loc Cert.ReferenceSIdeal.main_arg15) = m' ((c.tc : Thread Cert.ReferenceSIdeal.nD Cert.ReferenceSIdeal.τ).loc Cert.ReferenceSIdeal.main_arg15)
          ∧ r.2.mem ((c.tc : Thread Cert.ReferenceSIdeal.nD Cert.ReferenceSIdeal.τ).loc Cert.ReferenceSIdeal.main_arg16) = m' ((c.tc : Thread Cert.ReferenceSIdeal.nD Cert.ReferenceSIdeal.τ).loc Cert.ReferenceSIdeal.main_arg16)
          ∧ r.2.mem ((c.tc : Thread Cert.ReferenceSIdeal.nD Cert.ReferenceSIdeal.τ).loc Cert.ReferenceSIdeal.main_arg17) = m' ((c.tc : Thread Cert.ReferenceSIdeal.nD Cert.ReferenceSIdeal.τ).loc Cert.ReferenceSIdeal.main_arg17)
          ∧ r.2.mem ((c.tc : Thread Cert.ReferenceSIdeal.nD Cert.ReferenceSIdeal.τ).loc Cert.ReferenceSIdeal.main_arg18) = m' ((c.tc : Thread Cert.ReferenceSIdeal.nD Cert.ReferenceSIdeal.τ).loc Cert.ReferenceSIdeal.main_arg18)
          ∧ r.2.mem ((c.tc : Thread Cert.ReferenceSIdeal.nD Cert.ReferenceSIdeal.τ).loc Cert.ReferenceSIdeal.main_arg19) = m' ((c.tc : Thread Cert.ReferenceSIdeal.nD Cert.ReferenceSIdeal.τ).loc Cert.ReferenceSIdeal.main_arg19)
          ∧ r.2.mem ((c.tc : Thread Cert.ReferenceSIdeal.nD Cert.ReferenceSIdeal.τ).loc Cert.ReferenceSIdeal.main_arg20) = m' ((c.tc : Thread Cert.ReferenceSIdeal.nD Cert.ReferenceSIdeal.τ).loc Cert.ReferenceSIdeal.main_arg20)
          ∧ r.2.mem ((c.tc : Thread Cert.ReferenceSIdeal.nD Cert.ReferenceSIdeal.τ).loc Cert.ReferenceSIdeal.main_arg21) = m' ((c.tc : Thread Cert.ReferenceSIdeal.nD Cert.ReferenceSIdeal.τ).loc Cert.ReferenceSIdeal.main_arg21)
          ∧ r.2.mem ((c.tc : Thread Cert.ReferenceSIdeal.nD Cert.ReferenceSIdeal.τ).loc Cert.ReferenceSIdeal.main_arg22) = m' ((c.tc : Thread Cert.ReferenceSIdeal.nD Cert.ReferenceSIdeal.τ).loc Cert.ReferenceSIdeal.main_arg22)
          ∧ r.2.mem ((c.tc : Thread Cert.ReferenceSIdeal.nD Cert.ReferenceSIdeal.τ).loc Cert.ReferenceSIdeal.main_arg23) = m' ((c.tc : Thread Cert.ReferenceSIdeal.nD Cert.ReferenceSIdeal.τ).loc Cert.ReferenceSIdeal.main_arg23)
          ∧ r.2.mem ((c.tc : Thread Cert.ReferenceSIdeal.nD Cert.ReferenceSIdeal.τ).loc Cert.ReferenceSIdeal.main_arg24) = m' ((c.tc : Thread Cert.ReferenceSIdeal.nD Cert.ReferenceSIdeal.τ).loc Cert.ReferenceSIdeal.main_arg24)
          ∧ r.2.mem ((c.tc : Thread Cert.ReferenceSIdeal.nD Cert.ReferenceSIdeal.τ).loc Cert.ReferenceSIdeal.main_arg25) = m' ((c.tc : Thread Cert.ReferenceSIdeal.nD Cert.ReferenceSIdeal.τ).loc Cert.ReferenceSIdeal.main_arg25)
          ∧ r.2.mem ((c.tc : Thread Cert.ReferenceSIdeal.nD Cert.ReferenceSIdeal.τ).loc Cert.ReferenceSIdeal.main_arg26) = m' ((c.tc : Thread Cert.ReferenceSIdeal.nD Cert.ReferenceSIdeal.τ).loc Cert.ReferenceSIdeal.main_arg26)
          ∧ r.2.mem ((c.tc : Thread Cert.ReferenceSIdeal.nD Cert.ReferenceSIdeal.τ).loc Cert.ReferenceSIdeal.main_arg27) = m' ((c.tc : Thread Cert.ReferenceSIdeal.nD Cert.ReferenceSIdeal.τ).loc Cert.ReferenceSIdeal.main_arg27)
          ∧ r.2.mem ((c.tc : Thread Cert.ReferenceSIdeal.nD Cert.ReferenceSIdeal.τ).loc Cert.ReferenceSIdeal.main_arg28) = m' ((c.tc : Thread Cert.ReferenceSIdeal.nD Cert.ReferenceSIdeal.τ).loc Cert.ReferenceSIdeal.main_arg28))

def Claim : Prop :=
  ∃ (hKernelI : Cert.KernelI.Facts) (hKernelIIdeal : Cert.KernelIIdeal.Facts) (hReferenceIIdeal : Cert.ReferenceIIdeal.Facts) (hKernelF : Cert.KernelF.Facts) (hKernelFIdeal : Cert.KernelFIdeal.Facts) (hReferenceFIdeal : Cert.ReferenceFIdeal.Facts) (hKernelW : Cert.KernelW.Facts) (hKernelWIdeal : Cert.KernelWIdeal.Facts) (hReferenceWIdeal : Cert.ReferenceWIdeal.Facts) (hReferenceWTIdeal : Cert.ReferenceWTIdeal.Facts) (hKernelWA : Cert.KernelWA.Facts) (hKernelWAIdeal : Cert.KernelWAIdeal.Facts) (hReferenceWAIdeal : Cert.ReferenceWAIdeal.Facts) (hKernelWC : Cert.KernelWC.Facts) (hKernelWCIdeal : Cert.KernelWCIdeal.Facts) (hReferenceWCIdeal : Cert.ReferenceWCIdeal.Facts) (hReferenceWCTIdeal : Cert.ReferenceWCTIdeal.Facts) (hKernelWQ : Cert.KernelWQ.Facts) (hKernelWQIdeal : Cert.KernelWQIdeal.Facts) (hReferenceWQIdeal : Cert.ReferenceWQIdeal.Facts) (hKernelWG : Cert.KernelWG.Facts) (hKernelWGIdeal : Cert.KernelWGIdeal.Facts) (hReferenceWGIdeal : Cert.ReferenceWGIdeal.Facts) (hKernelP : Cert.KernelP.Facts) (hKernelPIdeal : Cert.KernelPIdeal.Facts) (hReferencePIdeal : Cert.ReferencePIdeal.Facts) (hKernelH : Cert.KernelH.Facts) (hKernelHIdeal : Cert.KernelHIdeal.Facts) (hReferenceHIdeal : Cert.ReferenceHIdeal.Facts) (hKernelQ : Cert.KernelQ.Facts) (hKernelQIdeal : Cert.KernelQIdeal.Facts) (hReferenceQIdeal : Cert.ReferenceQIdeal.Facts) (hKernelS : Cert.KernelS.Facts) (hKernelSIdeal : Cert.KernelSIdeal.Facts) (hReferenceSIdeal : Cert.ReferenceSIdeal.Facts) (hPre_finite_ffn : Cert.Pre_finite_ffn.Facts),
    quiescent_KernelI (hKernelI := hKernelI)
    ∧ quiescent_KernelIIdeal (hKernelIIdeal := hKernelIIdeal)
    ∧ quiescent_ReferenceIIdeal (hReferenceIIdeal := hReferenceIIdeal)
    ∧ quiescent_KernelF (hKernelF := hKernelF)
    ∧ quiescent_KernelFIdeal (hKernelFIdeal := hKernelFIdeal)
    ∧ quiescent_KernelFIdeal_pre_finite_ffn (hKernelFIdeal := hKernelFIdeal) (hPre_finite_ffn := hPre_finite_ffn)
    ∧ quiescent_ReferenceFIdeal (hReferenceFIdeal := hReferenceFIdeal)
    ∧ quiescent_ReferenceFIdeal_pre_finite_ffn (hReferenceFIdeal := hReferenceFIdeal) (hPre_finite_ffn := hPre_finite_ffn)
    ∧ quiescent_KernelW (hKernelW := hKernelW)
    ∧ quiescent_KernelWIdeal (hKernelWIdeal := hKernelWIdeal)
    ∧ quiescent_ReferenceWIdeal (hReferenceWIdeal := hReferenceWIdeal)
    ∧ quiescent_ReferenceWTIdeal (hReferenceWTIdeal := hReferenceWTIdeal)
    ∧ quiescent_KernelWA (hKernelWA := hKernelWA)
    ∧ quiescent_KernelWAIdeal (hKernelWAIdeal := hKernelWAIdeal)
    ∧ quiescent_ReferenceWAIdeal (hReferenceWAIdeal := hReferenceWAIdeal)
    ∧ quiescent_KernelWC (hKernelWC := hKernelWC)
    ∧ quiescent_KernelWCIdeal (hKernelWCIdeal := hKernelWCIdeal)
    ∧ quiescent_ReferenceWCIdeal (hReferenceWCIdeal := hReferenceWCIdeal)
    ∧ quiescent_ReferenceWCTIdeal (hReferenceWCTIdeal := hReferenceWCTIdeal)
    ∧ quiescent_KernelWQ (hKernelWQ := hKernelWQ)
    ∧ quiescent_KernelWQIdeal (hKernelWQIdeal := hKernelWQIdeal)
    ∧ quiescent_ReferenceWQIdeal (hReferenceWQIdeal := hReferenceWQIdeal)
    ∧ quiescent_KernelWG (hKernelWG := hKernelWG)
    ∧ quiescent_KernelWGIdeal (hKernelWGIdeal := hKernelWGIdeal)
    ∧ quiescent_ReferenceWGIdeal (hReferenceWGIdeal := hReferenceWGIdeal)
    ∧ quiescent_KernelP (hKernelP := hKernelP)
    ∧ quiescent_KernelPIdeal (hKernelPIdeal := hKernelPIdeal)
    ∧ quiescent_ReferencePIdeal (hReferencePIdeal := hReferencePIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelS (hKernelS := hKernelS)
    ∧ quiescent_KernelSIdeal (hKernelSIdeal := hKernelSIdeal)
    ∧ quiescent_ReferenceSIdeal (hReferenceSIdeal := hReferenceSIdeal)
    ∧ preserves_KernelI_KernelIIdeal
    ∧ algebraic_KernelIIdeal_ReferenceIIdeal (hKernelIIdeal := hKernelIIdeal) (hReferenceIIdeal := hReferenceIIdeal)
    ∧ preserves_KernelF_KernelFIdeal
    ∧ algebraic_KernelFIdeal_ReferenceFIdeal_pre_finite_ffn (hKernelFIdeal := hKernelFIdeal) (hReferenceFIdeal := hReferenceFIdeal) (hPre_finite_ffn := hPre_finite_ffn)
    ∧ preserves_KernelW_KernelWIdeal
    ∧ algebraic_KernelWIdeal_ReferenceWIdeal (hKernelWIdeal := hKernelWIdeal) (hReferenceWIdeal := hReferenceWIdeal)
    ∧ algebraic_KernelWIdeal_ReferenceWTIdeal (hKernelWIdeal := hKernelWIdeal) (hReferenceWTIdeal := hReferenceWTIdeal)
    ∧ preserves_KernelWA_KernelWAIdeal
    ∧ algebraic_KernelWAIdeal_ReferenceWAIdeal (hKernelWAIdeal := hKernelWAIdeal) (hReferenceWAIdeal := hReferenceWAIdeal)
    ∧ preserves_KernelWC_KernelWCIdeal
    ∧ algebraic_KernelWCIdeal_ReferenceWCIdeal (hKernelWCIdeal := hKernelWCIdeal) (hReferenceWCIdeal := hReferenceWCIdeal)
    ∧ algebraic_KernelWCIdeal_ReferenceWCTIdeal (hKernelWCIdeal := hKernelWCIdeal) (hReferenceWCTIdeal := hReferenceWCTIdeal)
    ∧ preserves_KernelWQ_KernelWQIdeal
    ∧ algebraic_KernelWQIdeal_ReferenceWQIdeal (hKernelWQIdeal := hKernelWQIdeal) (hReferenceWQIdeal := hReferenceWQIdeal)
    ∧ preserves_KernelWG_KernelWGIdeal
    ∧ algebraic_KernelWGIdeal_ReferenceWGIdeal (hKernelWGIdeal := hKernelWGIdeal) (hReferenceWGIdeal := hReferenceWGIdeal)
    ∧ preserves_KernelP_KernelPIdeal
    ∧ algebraic_KernelPIdeal_ReferencePIdeal (hKernelPIdeal := hKernelPIdeal) (hReferencePIdeal := hReferencePIdeal)
    ∧ preserves_KernelH_KernelHIdeal
    ∧ algebraic_KernelHIdeal_ReferenceHIdeal (hKernelHIdeal := hKernelHIdeal) (hReferenceHIdeal := hReferenceHIdeal)
    ∧ preserves_KernelQ_KernelQIdeal
    ∧ algebraic_KernelQIdeal_ReferenceQIdeal (hKernelQIdeal := hKernelQIdeal) (hReferenceQIdeal := hReferenceQIdeal)
    ∧ preserves_KernelS_KernelSIdeal
    ∧ algebraic_KernelSIdeal_ReferenceSIdeal (hKernelSIdeal := hKernelSIdeal) (hReferenceSIdeal := hReferenceSIdeal)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S4096x1024 1 × IVec S1x1024 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg4
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg5
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== KernelI.lean ====
abbrev S4096x8704 : Shape := ⟨2, ![4096, 8704]⟩
abbrev S4096x1024 : Shape := ⟨2, ![4096, 1024]⟩
abbrev S1x1024 : Shape := ⟨2, ![1, 1024]⟩
abbrev S1024x8704 : Shape := ⟨2, ![1024, 8704]⟩
abbrev S4096x1536 : Shape := ⟨2, ![4096, 1536]⟩
abbrev S4096x2048 : Shape := ⟨2, ![4096, 2048]⟩
abbrev S8704x1024 : Shape := ⟨2, ![8704, 1024]⟩
abbrev S256x1536 : Shape := ⟨2, ![256, 1536]⟩
abbrev S256x1024 : Shape := ⟨2, ![256, 1024]⟩
abbrev S256x2048 : Shape := ⟨2, ![256, 2048]⟩
abbrev S_ : Shape := ⟨0, ![]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S4096x8704, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x8704, .f32⟩
  | .hbm, ⟨5, _⟩ => ⟨S4096x8704, .bf16⟩
  | .hbm, ⟨6, _⟩ => ⟨S4096x1536, .bf16⟩
  | .hbm, ⟨7, _⟩ => ⟨S4096x1536, .bf16⟩
  | .hbm, ⟨8, _⟩ => ⟨S4096x1536, .bf16⟩
  | .hbm, ⟨9, _⟩ => ⟨S4096x1024, .bf16⟩
  | .hbm, ⟨10, _⟩ => ⟨S4096x1024, .bf16⟩
  | .hbm, ⟨11, _⟩ => ⟨S4096x2048, .bf16⟩
  | .hbm, ⟨12, _⟩ => ⟨S8704x1024, .f32⟩
  | .hbm, ⟨13, _⟩ => ⟨S8704x1024, .bf16⟩
  | .hbm, ⟨14, _⟩ => ⟨S4096x1024, .f32⟩
  | .hbm, ⟨15, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S256x1536, .bf16⟩
  | .local _ .vmem, ⟨3, _⟩ => ⟨S256x1536, .bf16⟩
  | .local _ .vmem, ⟨4, _⟩ => ⟨S256x1536, .bf16⟩
  | .local _ .vmem, ⟨5, _⟩ => ⟨S256x1536, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S8704x1024, .bf16⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIIdeal.lean ====
abbrev S4096x8704 : Shape := ⟨2, ![4096, 8704]⟩
abbrev S4096x1024 : Shape := ⟨2, ![4096, 1024]⟩
abbrev S1x1024 : Shape := ⟨2, ![1, 1024]⟩
abbrev S1024x8704 : Shape := ⟨2, ![1024, 8704]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x8704, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x8704, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x8704, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelF.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1024 : Shape := ⟨1, ![1024]⟩

abbrev nBuf : Space → Nat
  | .hbm => 36
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S4096x1024, .bf16⟩
  | .hbm, ⟨26, _⟩ => ⟨S2816x1024, .f32⟩
  | .hbm, ⟨27, _⟩ => ⟨S2816x1024, .bf16⟩
  | .hbm, ⟨28, _⟩ => ⟨S2816x1024, .f32⟩
  | .hbm, ⟨29, _⟩ => ⟨S2816x1024, .bf16⟩
  | .hbm, ⟨30, _⟩ => ⟨S2816x1024, .bf16⟩
  | .hbm, ⟨31, _⟩ => ⟨S4096x2816, .bf16⟩
  | .hbm, ⟨32, _⟩ => ⟨S4096x2816, .bf16⟩
  | .hbm, ⟨33, _⟩ => ⟨S4096x1024, .f32⟩
  | .hbm, ⟨34, _⟩ => ⟨S4096x1024, .bf16⟩
  | .hbm, ⟨35, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S2816x1024, .bf16⟩
  | .local _ .vmem, ⟨21, _⟩ => ⟨S2816x1024, .bf16⟩
  | .local _ .vmem, ⟨22, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceFIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x2816, .bf16⟩
  | .hbm, ⟨77, _⟩ => ⟨S4096x2816, .bf16⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== KernelW.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelWIdeal.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ReferenceWTIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWA.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelWAIdeal.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWAIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWC.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelWCIdeal.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWCIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ReferenceWCTIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWQ.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S4096x1024, .bf16⟩
  | .hbm, ⟨4, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KernelWQIdeal.lean ====
abbrev S4096x1536 : Shape := ⟨2, ![4096, 1536]⟩
abbrev S4096x1024 : Shape := ⟨2, ![4096, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S4096x1024, .bf16⟩
  | .hbm, ⟨4, _⟩ => ⟨S1536x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWQIdeal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWG.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWGIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelP.lean ====
abbrev S4096x1024 : Shape := ⟨2, ![4096, 1024]⟩
abbrev S1x1024 : Shape := ⟨2, ![1, 1024]⟩
abbrev S1024x8704 : Shape := ⟨2, ![1024, 8704]⟩
abbrev S8704x1024 : Shape := ⟨2, ![8704, 1024]⟩
abbrev S4096x8704 : Shape := ⟨2, ![4096, 8704]⟩
abbrev S256x1024 : Shape := ⟨2, ![256, 1024]⟩
abbrev S256x8704 : Shape := ⟨2, ![256, 8704]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8704, .f32⟩
  | .hbm, ⟨3, _⟩ => ⟨S8704x1024, .f32⟩
  | .hbm, ⟨4, _⟩ => ⟨S8704x1024, .bf16⟩
  | .hbm, ⟨5, _⟩ => ⟨S4096x1024, .bf16⟩
  | .hbm, ⟨6, _⟩ => ⟨S4096x8704, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x8704, .f32⟩
  | .local _ .vmem, ⟨6, _⟩ => ⟨S256x8704, .f32⟩
  | .local _ .vmem, ⟨7, _⟩ => ⟨S8704x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePIdeal.lean ====
abbrev S4096x1024 : Shape := ⟨2, ![4096, 1024]⟩
abbrev S1x1024 : Shape := ⟨2, ![1, 1024]⟩
abbrev S1024x8704 : Shape := ⟨2, ![1024, 8704]⟩
abbrev S_ : Shape := ⟨0, ![]⟩
abbrev S4096 : Shape := ⟨1, ![4096]⟩
abbrev S4096x1 : Shape := ⟨2, ![4096, 1]⟩
abbrev S4096x8704 : Shape := ⟨2, ![4096, 8704]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8704, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x8704, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelH.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 35
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S2816x1024, .f32⟩
  | .hbm, ⟨24, _⟩ => ⟨S2816x1024, .bf16⟩
  | .hbm, ⟨25, _⟩ => ⟨S2816x1024, .f32⟩
  | .hbm, ⟨26, _⟩ => ⟨S2816x1024, .bf16⟩
  | .hbm, ⟨27, _⟩ => ⟨S2816x1024, .bf16⟩
  | .hbm, ⟨28, _⟩ => ⟨S4096x2816, .bf16⟩
  | .hbm, ⟨29, _⟩ => ⟨S4096x2816, .bf16⟩
  | .hbm, ⟨30, _⟩ => ⟨S4096x2816, .bf16⟩
  | .hbm, ⟨31, _⟩ => ⟨S4096x1024, .f32⟩
  | .hbm, ⟨32, _⟩ => ⟨S4096x1024, .bf16⟩
  | .hbm, ⟨33, _⟩ => ⟨S1x128, .f32⟩
  | .hbm, ⟨34, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x128, .f32⟩
  | .local _ .vmem, ⟨18, _⟩ => ⟨S1x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev main_v18_5 : Ref sig .tc := ⟨.hbm, 33, rfl⟩
abbrev main_v18_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceHIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x2816, .bf16⟩
  | .hbm, ⟨102, _⟩ => ⟨S4096x2816, .bf16⟩
  | .hbm, ⟨103, _⟩ => ⟨S4096x2816, .bf16⟩
  | .hbm, ⟨104, _⟩ => ⟨S4096x1024, .bf16⟩
  | .hbm, ⟨105, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_cst_11 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== KernelQ.lean ====
abbrev S4096x512 : Shape := ⟨2, ![4096, 512]⟩
abbrev S4096x1024 : Shape := ⟨2, ![4096, 1024]⟩
abbrev S4096x8704 : Shape := ⟨2, ![4096, 8704]⟩
abbrev S512x1024 : Shape := ⟨2, ![512, 1024]⟩
abbrev S1024x1024 : Shape := ⟨2, ![1024, 1024]⟩
abbrev S1x2048 : Shape := ⟨2, ![1, 2048]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 33
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8704, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x512, .bf16⟩
  | .hbm, ⟨12, _⟩ => ⟨S512x1024, .bf16⟩
  | .hbm, ⟨13, _⟩ => ⟨S1024x1024, .bf16⟩
  | .hbm, ⟨14, _⟩ => ⟨S1024x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x2048, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceQIdeal.lean ====
abbrev S4096x512 : Shape := ⟨2, ![4096, 512]⟩
abbrev S4096x1024 : Shape := ⟨2, ![4096, 1024]⟩
abbrev S4096x8704 : Shape := ⟨2, ![4096, 8704]⟩
abbrev S512x1024 : Shape := ⟨2, ![512, 1024]⟩
abbrev S1024x1024 : Shape := ⟨2, ![1024, 1024]⟩
abbrev S1x2048 : Shape := ⟨2, ![1, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8704, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x1024, .bf16⟩
  | .hbm, ⟨69, _⟩ => ⟨S4096x1024, .bf16⟩
  | .hbm, ⟨70, _⟩ => ⟨S4096x1024, .bf16⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== KernelS.lean ====
abbrev S1x1024 : Shape := ⟨2, ![1, 1024]⟩
abbrev S1x2048 : Shape := ⟨2, ![1, 2048]⟩
abbrev S1x128 : Shape := ⟨2, ![1, 128]⟩
abbrev S_ : Shape := ⟨0, ![]⟩
abbrev S8x128 : Shape := ⟨2, ![8, 128]⟩
abbrev S1024 : Shape := ⟨1, ![1024]⟩
abbrev S2048 : Shape := ⟨1, ![2048]⟩
abbrev S8192 : Shape := ⟨1, ![8192]⟩
abbrev S64x128 : Shape := ⟨2, ![64, 128]⟩
abbrev S72x128 : Shape := ⟨2, ![72, 128]⟩
abbrev S16x128 : Shape := ⟨2, ![16, 128]⟩

abbrev nBuf : Space → Nat
  | .hbm => 103
  | .vmem => 33
  | .smem => 0
  | _ => 0

abbrev bufTy : (tb : Table) → Fin (tcTables nBuf tb) → BufTy
  | .hbm, ⟨0, _⟩ => ⟨S1x1024, .f32⟩
  | .hbm, ⟨1, _⟩ => ⟨S1x2048, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x2048, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x2048, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x2048, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x128, .f32⟩
  | .hbm, ⟨29, _⟩ => ⟨S_, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S1024, .f32⟩
  | .hbm, ⟨35, _⟩ => ⟨S2048, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S8192, .f32⟩
  | .hbm, ⟨42, _⟩ => ⟨S64x128, .f32⟩
  | .hbm, ⟨43, _⟩ => ⟨S72x128, .f32⟩
  | .hbm, ⟨44, _⟩ => ⟨S1024, .f32⟩
  | .hbm, ⟨45, _⟩ => ⟨S2048, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S8192, .f32⟩
  | .hbm, ⟨52, _⟩ => ⟨S64x128, .f32⟩
  | .hbm, ⟨53, _⟩ => ⟨S72x128, .f32⟩
  | .hbm, ⟨54, _⟩ => ⟨S1024, .f32⟩
  | .hbm, ⟨55, _⟩ => ⟨S2048, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S8192, .f32⟩
  | .hbm, ⟨62, _⟩ => ⟨S64x128, .f32⟩
  | .hbm, ⟨63, _⟩ => ⟨S72x128, .f32⟩
  | .hbm, ⟨64, _⟩ => ⟨S1024, .f32⟩
  | .hbm, ⟨65, _⟩ => ⟨S2048, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S8192, .f32⟩
  | .hbm, ⟨72, _⟩ => ⟨S64x128, .f32⟩
  | .hbm, ⟨73, _⟩ => ⟨S72x128, .f32⟩
  | .hbm, ⟨74, _⟩ => ⟨S8x128, .f32⟩
  | .hbm, ⟨75, _⟩ => ⟨S16x128, .f32⟩
  | .hbm, ⟨76, _⟩ => ⟨S8x128, .f32⟩
  | .hbm, ⟨77, _⟩ => ⟨S8x128, .f32⟩
  | .hbm, ⟨78, _⟩ => ⟨S8x128, .f32⟩
  | .hbm, ⟨79, _⟩ => ⟨S8x128, .f32⟩
  | .hbm, ⟨80, _⟩ => ⟨S8x128, .f32⟩
  | .hbm, ⟨81, _⟩ => ⟨S8x128, .f32⟩
  | .hbm, ⟨82, _⟩ => ⟨S16x128, .f32⟩
  | .hbm, ⟨83, _⟩ => ⟨S8x128, .f32⟩
  | .hbm, ⟨84, _⟩ => ⟨S8x128, .f32⟩
  | .hbm, ⟨85, _⟩ => ⟨S8x128, .f32⟩
  | .hbm, ⟨86, _⟩ => ⟨S8x128, .f32⟩
  | .hbm, ⟨87, _⟩ => ⟨S8x128, .f32⟩
  | .hbm, ⟨88, _⟩ => ⟨S8x128, .f32⟩
  | .hbm, ⟨89, _⟩ => ⟨S16x128, .f32⟩
  | .hbm, ⟨90, _⟩ => ⟨S8x128, .f32⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S8x128, .f32⟩
  | .hbm, ⟨95, _⟩ => ⟨S8x128, .f32⟩
  | .hbm, ⟨96, _⟩ => ⟨S16x128, .f32⟩
  | .hbm, ⟨97, _⟩ => ⟨S8x128, .f32⟩
  | .hbm, ⟨98, _⟩ => ⟨S8x128, .f32⟩
  | .hbm, ⟨99, _⟩ => ⟨S8x128, .f32⟩
  | .hbm, ⟨100, _⟩ => ⟨S8x128, .f32⟩
  | .hbm, ⟨101, _⟩ => ⟨S8x128, .f32⟩
  | .hbm, ⟨102, _⟩ => ⟨S8x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S8x128, .f32⟩
  | .local _ .vmem, ⟨5, _⟩ => ⟨S16x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S16x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S16x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S16x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev main_v43_2 : Ref sig .tc := ⟨.hbm, 76, rfl⟩
abbrev main_v43_3 : Ref sig .tc := ⟨.hbm, 77, rfl⟩
abbrev main_v43_4 : Ref sig .tc := ⟨.hbm, 78, rfl⟩
abbrev main_v43_5 : Ref sig .tc := ⟨.hbm, 79, rfl⟩
abbrev main_v43_6 : Ref sig .tc := ⟨.hbm, 80, rfl⟩
abbrev main_v43_7 : Ref sig .tc := ⟨.hbm, 81, rfl⟩
abbrev main_v43_8 : Ref sig .tc := ⟨.hbm, 82, rfl⟩
abbrev main_v43_9 : Ref sig .tc := ⟨.hbm, 83, rfl⟩
abbrev main_v43_10 : Ref sig .tc := ⟨.hbm, 84, rfl⟩
abbrev main_v43_11 : Ref sig .tc := ⟨.hbm, 85, rfl⟩
abbrev main_v43_12 : Ref sig .tc := ⟨.hbm, 86, rfl⟩
abbrev main_v43_13 : Ref sig .tc := ⟨.hbm, 87, rfl⟩
abbrev main_v43_14 : Ref sig .tc := ⟨.hbm, 88, rfl⟩
abbrev main_v43_15 : Ref sig .tc := ⟨.hbm, 89, rfl⟩
abbrev main_v43_16 : Ref sig .tc := ⟨.hbm, 90, rfl⟩
abbrev main_v43_17 : Ref sig .tc := ⟨.hbm, 91, rfl⟩
abbrev main_v43_18 : Ref sig .tc := ⟨.hbm, 92, rfl⟩
abbrev main_v43_19 : Ref sig .tc := ⟨.hbm, 93, rfl⟩
abbrev main_v43_20 : Ref sig .tc := ⟨.hbm, 94, rfl⟩
abbrev main_v43_21 : Ref sig .tc := ⟨.hbm, 95, rfl⟩
abbrev main_v43_22 : Ref sig .tc := ⟨.hbm, 96, rfl⟩
abbrev main_v43_23 : Ref sig .tc := ⟨.hbm, 97, rfl⟩
abbrev main_v43_24 : Ref sig .tc := ⟨.hbm, 98, rfl⟩
abbrev main_v43_25 : Ref sig .tc := ⟨.hbm, 99, rfl⟩
abbrev main_v43_26 : Ref sig .tc := ⟨.hbm, 100, rfl⟩
abbrev main_v43_27 : Ref sig .tc := ⟨.hbm, 101, rfl⟩
abbrev main_v43_28 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32

abbrev nD : Nat := 1
abbrev τ : Topo := Topo.v7x

variable {F : FTy → Type} [FloatOps F]

abbrev grid0 : Pipeline.Grid := .none

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S16x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S8x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
-- ==== ReferenceSIdeal.lean ====
abbrev S1x1024 : Shape := ⟨2, ![1, 1024]⟩
abbrev S1x2048 : Shape := ⟨2, ![1, 2048]⟩
abbrev S1x128 : Shape := ⟨2, ![1, 128]⟩
abbrev S_ : Shape := ⟨0, ![]⟩
abbrev S8x128 : Shape := ⟨2, ![8, 128]⟩
abbrev S16x128 : Shape := ⟨2, ![16, 128]⟩

abbrev nBuf : Space → Nat
  | .hbm => 289
  | .vmem => 0
  | .smem => 0
  | _ => 0

abbrev hbmTy0_0 (i : Nat) : BufTy := match i % 128 with
  | 0 => ⟨S1x1024, .f32⟩
  | 1 => ⟨S1x2048, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x2048, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x2048, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x2048, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x128, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S1x2048, .f32⟩
  | 73 => ⟨S_, .f32⟩
  | 74 => ⟨S1x2048, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_1 (i : Nat) : BufTy := match i % 128 with
  | 0 => ⟨S_, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S8x128, .f32⟩
  | 5 => ⟨S16x128, .f32⟩
  | 6 => ⟨S8x128, .f32⟩
  | 7 => ⟨S8x128, .f32⟩
  | 8 => ⟨S8x128, .f32⟩
  | 9 => ⟨S8x128, .f32⟩
  | 10 => ⟨S8x128, .f32⟩
  | 11 => ⟨S8x128, .f32⟩
  | 12 => ⟨S16x128, .f32⟩
  | 13 => ⟨S8x128, .f32⟩
  | 14 => ⟨S8x128, .f32⟩
  | 15 => ⟨S8x128, .f32⟩
  | 16 => ⟨S8x128, .f32⟩
  | 17 => ⟨S8x128, .f32⟩
  | 18 => ⟨S8x128, .f32⟩
  | 19 => ⟨S16x128, .f32⟩
  | 20 => ⟨S8x128, .f32⟩
  | 21 => ⟨S8x128, .f32⟩
  | 22 => ⟨S8x128, .f32⟩
  | 23 => ⟨S8x128, .f32⟩
  | 24 => ⟨S8x128, .f32⟩
  | 25 => ⟨S8x128, .f32⟩
  | 26 => ⟨S16x128, .f32⟩
  | 27 => ⟨S8x128, .f32⟩
  | 28 => ⟨S8x128, .f32⟩
  | 29 => ⟨S8x128, .f32⟩
  | 30 => ⟨S8x128, .f32⟩
  | 31 => ⟨S8x128, .f32⟩
  | 32 => ⟨S8x128, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_3 : Ref sig .tc := ⟨.hbm, 44, rfl⟩
abbrev main_v11 : Ref sig .tc := ⟨.hbm, 45, rfl⟩
abbrev main_v12 : Ref sig .tc := ⟨.hbm, 46, rfl⟩
abbrev main_cst_4 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_5 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_6 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_7 : Ref sig .tc := ⟨.hbm, 59, rfl⟩
abbrev main_v22 : Ref sig .tc := ⟨.hbm, 60, rfl⟩
abbrev main_v23 : Ref sig .tc := ⟨.hbm, 61, rfl⟩
abbrev main_cst_8 : Ref sig .tc := ⟨.hbm, 62, rfl⟩
abbrev main_v24 : Ref sig .tc := ⟨.hbm, 63, rfl⟩
abbrev main_v25 : Ref sig .tc := ⟨.hbm, 64, rfl⟩
abbrev main_cst_9 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_10 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_11 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_12 : Ref sig .tc := ⟨.hbm, 77, rfl⟩
abbrev main_v35 : Ref sig .tc := ⟨.hbm, 78, rfl⟩
abbrev main_v36 : Ref sig .tc := ⟨.hbm, 79, rfl⟩
abbrev main_cst_13 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_14 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_15 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_16 : Ref sig .tc := ⟨.hbm, 92, rfl⟩
abbrev main_v46 : Ref sig .tc := ⟨.hbm, 93, rfl⟩
abbrev main_v47 : Ref sig .tc := ⟨.hbm, 94, rfl⟩
abbrev main_cst_17 : Ref sig .tc := ⟨.hbm, 95, rfl⟩
abbrev main_v48 : Ref sig .tc := ⟨.hbm, 96, rfl⟩
abbrev main_v49 : Ref sig .tc := ⟨.hbm, 97, rfl⟩
abbrev main_cst_18 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_19 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_20 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_21 : Ref sig .tc := ⟨.hbm, 110, rfl⟩
abbrev main_v59 : Ref sig .tc := ⟨.hbm, 111, rfl⟩
abbrev main_v60 : Ref sig .tc := ⟨.hbm, 112, rfl⟩
abbrev main_cst_22 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_23 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_24 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_25 : Ref sig .tc := ⟨.hbm, 125, rfl⟩
abbrev main_v70 : Ref sig .tc := ⟨.hbm, 126, rfl⟩
abbrev main_v71 : Ref sig .tc := ⟨.hbm, 127, rfl⟩
abbrev main_cst_26 : Ref sig .tc := ⟨.hbm, 128, rfl⟩
abbrev main_v72 : Ref sig .tc := ⟨.hbm, 129, rfl⟩
abbrev main_v73 : Ref sig .tc := ⟨.hbm, 130, rfl⟩
abbrev main_cst_27 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_28 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_cst_29 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_30 : Ref sig .tc := ⟨.hbm, 143, rfl⟩
abbrev main_v83 : Ref sig .tc := ⟨.hbm, 144, rfl⟩
abbrev main_v84 : Ref sig .tc := ⟨.hbm, 145, rfl⟩
abbrev main_cst_31 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_32 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_33 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_34 : Ref sig .tc := ⟨.hbm, 158, rfl⟩
abbrev main_v94 : Ref sig .tc := ⟨.hbm, 159, rfl⟩
abbrev main_v95 : Ref sig .tc := ⟨.hbm, 160, rfl⟩
abbrev main_cst_35 : Ref sig .tc := ⟨.hbm, 161, rfl⟩
abbrev main_v96 : Ref sig .tc := ⟨.hbm, 162, rfl⟩
abbrev main_v97 : Ref sig .tc := ⟨.hbm, 163, rfl⟩
abbrev main_cst_36 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_37 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_38 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_39 : Ref sig .tc := ⟨.hbm, 176, rfl⟩
abbrev main_v107 : Ref sig .tc := ⟨.hbm, 177, rfl⟩
abbrev main_v108 : Ref sig .tc := ⟨.hbm, 178, rfl⟩
abbrev main_cst_40 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_41 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_cst_42 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_43 : Ref sig .tc := ⟨.hbm, 191, rfl⟩
abbrev main_v118 : Ref sig .tc := ⟨.hbm, 192, rfl⟩
abbrev main_v119 : Ref sig .tc := ⟨.hbm, 193, rfl⟩
abbrev main_cst_44 : Ref sig .tc := ⟨.hbm, 194, rfl⟩
abbrev main_v120 : Ref sig .tc := ⟨.hbm, 195, rfl⟩
abbrev main_v121 : Ref sig .tc := ⟨.hbm, 196, rfl⟩
abbrev main_cst_45 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_46 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_47 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_cst_48 : Ref sig .tc := ⟨.hbm, 209, rfl⟩
abbrev main_v131 : Ref sig .tc := ⟨.hbm, 210, rfl⟩
abbrev main_v132 : Ref sig .tc := ⟨.hbm, 211, rfl⟩
abbrev main_cst_49 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_cst_50 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_cst_51 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_52 : Ref sig .tc := ⟨.hbm, 224, rfl⟩
abbrev main_v142 : Ref sig .tc := ⟨.hbm, 225, rfl⟩
abbrev main_v143 : Ref sig .tc := ⟨.hbm, 226, rfl⟩
abbrev main_cst_53 : Ref sig .tc := ⟨.hbm, 227, rfl⟩
abbrev main_v144 : Ref sig .tc := ⟨.hbm, 228, rfl⟩
abbrev main_v145 : Ref sig .tc := ⟨.hbm, 229, rfl⟩
abbrev main_cst_54 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_55 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_cst_56 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_cst_57 : Ref sig .tc := ⟨.hbm, 242, rfl⟩
abbrev main_v155 : Ref sig .tc := ⟨.hbm, 243, rfl⟩
abbrev main_v156 : Ref sig .tc := ⟨.hbm, 244, rfl⟩
abbrev main_cst_58 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_cst_59 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_cst_60 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_cst_61 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩

abbrev nD : Nat := 1
abbrev τ : Topo := Topo.v7x

variable {F : FTy → Type} [FloatOps F]
-- ==== Proof.Common.lean ====
module

public import Idealize.ShloMosaic.Lib.Pipeline.Value
public import Idealize.ShloMosaic.Lib.Pointwise

/-! Facts that the proofs of all the calls use. -/

@[expose] public section
noncomputable section
open Idealize.ShloMosaic
namespace Step

theorem hz : (![0, 0] : Fin 2 → Nat) = fun _ => 0 := funext fun a => by fin_cases a <;> rfl

section Reads
variable {Val : EltTy → Type} {s : Shape} {e : EltTy} [∀ e, Nonempty (Val e)]

/-- One store of a whole shape leaves its payload. -/
theorem canon_whole (w : s.Idx → Val e) (L : List (View.Piece Val s e)) :
    View.canon ((⟨Rect.whole s, w⟩ : View.Piece Val s e) :: L) = w := by
  funext y
  have h := View.canon_cons_emb (Val := Val) (Rect.whole s) w L y
  rwa [Rect.emb_whole_apply] at h

/-- A load of part of a buffer that was filled whole reads that part of what filled it. -/
theorem readCov_whole {sig : RefSig} {κ : Kind} {sp : Space} (v : View sig κ sp s e) (w : s.Idx → Val e) (r : Rect s) :
    v.readCov [(⟨Rect.whole s, w⟩ : View.Piece Val s e)] r.toLoadRect = View.ld w r := by
  rw [View.readCov_eq_canon', canon_whole]

end Reads
end Step
-- ==== Proof.InBlocks.lean ====
module

public import proofs.«01_k».proof.Proof.Gen.KernelIIdeal.Value
public import proofs.«01_k».proof.Proof.Common
public import Idealize.ShloMosaic.Lib.Pipeline.ReadBack
public import Idealize.ShloMosaic.Lib.Tactic

/-! The input side of the layer, backward: what one grid point leaves in its two outputs and in the weights it keeps. -/

@[expose] public section
noncomputable section
open Idealize.ShloMosaic Idealize.ShloMosaic.TcCoe Idealize.SL.Sem
open Idealize.ShloMosaic.Pipeline (Dat)
namespace Cert.KernelIIdeal.Hand
open Cert.KernelIIdeal Cert.KernelIIdeal.Gen Step
variable {F : FTy → Type} [FloatOps F]
variable (m : (ℓ : Loc nD τ sig) → Buf (Elt F) ℓ)

/-- The gradient of the normalised rows: the six pieces of the projection's gradient times the rows of `W` that
    belong to them, 512 at a time. -/
def dhB (x0 x1 x2 : Vec F S256x1536 .bf16) (x3 x4 : Vec F S256x1024 .bf16) (x5 : Vec F S256x2048 .bf16) (W : Vec F S8704x1024 .bf16) : FVec F S256x1024 .f32 :=
  k0_pay8 (k0_pay7 (k0_pay6 (View.ld x0 (Rect.unit ![0, 0] ![256, 512] inb_S256x1536_S256x512_0_0))
    (View.ld W (Rect.unit ![0, 0] ![512, 1024] inb_S8704x1024_S512x1024_0_0)) (View.ld x0 (Rect.unit ![0, 512] ![256, 512] inb_S256x1536_S256x512_0_512))
    (View.ld W (Rect.unit ![512, 0] ![512, 1024] inb_S8704x1024_S512x1024_512_0)) (View.ld x0 (Rect.unit ![0, 1024] ![256, 512] inb_S256x1536_S256x512_0_1024))
    (View.ld W (Rect.unit ![1024, 0] ![512, 1024] inb_S8704x1024_S512x1024_1024_0)) (View.ld x1 (Rect.unit ![0, 0] ![256, 512] inb_S256x1536_S256x512_0_0))
    (View.ld W (Rect.unit ![1536, 0] ![512, 1024] inb_S8704x1024_S512x1024_1536_0)) (View.ld x1 (Rect.unit ![0, 512] ![256, 512] inb_S256x1536_S256x512_0_512))
    (View.ld W (Rect.unit ![2048, 0] ![512, 1024] inb_S8704x1024_S512x1024_2048_0))) (View.ld x1 (Rect.unit ![0, 1024] ![256, 512] inb_S256x1536_S256x512_0_1024))
    (View.ld W (Rect.unit ![2560, 0] ![512, 1024] inb_S8704x1024_S512x1024_2560_0)) (View.ld x2 (Rect.unit ![0, 0] ![256, 512] inb_S256x1536_S256x512_0_0))
    (View.ld W (Rect.unit ![3072, 0] ![512, 1024] inb_S8704x1024_S512x1024_3072_0)) (View.ld x2 (Rect.unit ![0, 512] ![256, 512] inb_S256x1536_S256x512_0_512))
    (View.ld W (Rect.unit ![3584, 0] ![512, 1024] inb_S8704x1024_S512x1024_3584_0)) (View.ld x2 (Rect.unit ![0, 1024] ![256, 512] inb_S256x1536_S256x512_0_1024))
    (View.ld W (Rect.unit ![4096, 0] ![512, 1024] inb_S8704x1024_S512x1024_4096_0)) (View.ld x3 (Rect.unit ![0, 0] ![256, 512] inb_S256x1024_S256x512_0_0))
    (View.ld W (Rect.unit ![4608, 0] ![512, 1024] inb_S8704x1024_S512x1024_4608_0)) (View.ld x3 (Rect.unit ![0, 512] ![256, 512] inb_S256x1024_S256x512_0_512))
    (View.ld W (Rect.unit ![5120, 0] ![512, 1024] inb_S8704x1024_S512x1024_5120_0))) (View.ld x4 (Rect.unit ![0, 0] ![256, 512] inb_S256x1024_S256x512_0_0))
    (View.ld W (Rect.unit ![5632, 0] ![512, 1024] inb_S8704x1024_S512x1024_5632_0)) (View.ld x4 (Rect.unit ![0, 512] ![256, 512] inb_S256x1024_S256x512_0_512))
    (View.ld W (Rect.unit ![6144, 0] ![512, 1024] inb_S8704x1024_S512x1024_6144_0)) (View.ld x5 (Rect.unit ![0, 0] ![256, 512] inb_S256x2048_S256x512_0_0))
    (View.ld W (Rect.unit ![6656, 0] ![512, 1024] inb_S8704x1024_S512x1024_6656_0)) (View.ld x5 (Rect.unit ![0, 512] ![256, 512] inb_S256x2048_S256x512_0_512))
    (View.ld W (Rect.unit ![7168, 0] ![512, 1024] inb_S8704x1024_S512x1024_7168_0)) (View.ld x5 (Rect.unit ![0, 1024] ![256, 512] inb_S256x2048_S256x512_0_1024))
    (View.ld W (Rect.unit ![7680, 0] ![512, 1024] inb_S8704x1024_S512x1024_7680_0)) (View.ld x5 (Rect.unit ![0, 1536] ![256, 512] inb_S256x2048_S256x512_0_1536))
    (View.ld W (Rect.unit ![8192, 0] ![512, 1024] inb_S8704x1024_S512x1024_8192_0))

/-- The weights a point keeps are the ones the first point copied. -/
theorem sc_A (c : Dev nD) (t : Fin cfg0.N) (h0 : t.val % 16 = 0) :
    (outsAt0 m c t.val t.isLt).2.2 = V m c main_v8 := by
  rw [outsAt0_A m c t h0]
  dsimp only
  unfold sout0_A_0
  rw [View.read_writes_junk_eq_canon]
  unfold kernelRun0_A
  dsimp only
  sl_unfold_words
  rw [canon_whole]
  rfl

theorem sc_B (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  dsimp only
  rfl

theorem sc (c : Dev nD) : ∀ (n : ℕ) (h : n < cfg0.N), (outsAt0 m c n h).2.2 = V m c main_v8
  | 0, h => sc_A m c ⟨0, h⟩ rfl
  | n + 1, h => by
    by_cases h0 : (n + 1) % 16 = 0
    · exact sc_A m c ⟨n + 1, h⟩ h0
    · exact (sc_B m c ⟨n + 1, h⟩ h0).trans (sc c n _)

/-- The gradient of the normalised rows at a point, from the arrays. -/
def dhT (c : Dev nD) (t : Fin cfg0.N) : FVec F S256x1024 .f32 :=
  dhB (iblk m c 0 t) (iblk m c 1 t) (iblk m c 2 t) (iblk m c 3 t) (iblk m c 4 t) (iblk m c 5 t) (V m c main_v8)

theorem o9_A (c : Dev nD) (t : Fin cfg0.N) (h0 : t.val % 16 = 0) :
    (outsAt0 m c t.val t.isLt).1 = k0_pay4 (dhT m c t) (iblk m c 6 t) (iblk m c 7 t) (iblk m c 8 t) := by
  rw [outsAt0_A m c t h0]
  dsimp only
  unfold out0_A_9
  rw [View.read_writes_junk_eq_canon]
  unfold kernelRun0_A
  dsimp only
  sl_unfold_words
  rw [View.canon_unit_zero hz]
  simp only [View.readAt_eq_ld, readCov_whole, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [View.ld_unit_zero (S := S256x1024) hz, View.ld_unit_zero (S := S1x1024) hz]
  rfl

theorem o9_B (c : Dev nD) (t : Fin cfg0.N) (h0 : ¬t.val % 16 = 0) :
    (outsAt0 m c t.val t.isLt).1 = k0_pay4 (dhT m c t) (iblk m c 6 t) (iblk m c 7 t) (iblk m c 8 t) := by
  rw [outsAt0_B m c t h0]
  dsimp only
  rw [sc]
  unfold out0_B_9
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

theorem o9 (c : Dev nD) (t : Fin cfg0.N) :
    (outsAt0 m c t.val t.isLt).1 = k0_pay4 (dhT m c t) (iblk m c 6 t) (iblk m c 7 t) (iblk m c 8 t) := by
  by_cases h0 : t.val % 16 = 0
  · exact o9_A m c t h0
  · exact o9_B m c t h0

theorem o10_A (c : Dev nD) (t : Fin cfg0.N) (h0 : t.val % 16 = 0) :
    (outsAt0 m c t.val t.isLt).2.1 = k0_pay3 (dhT m c t) (iblk m c 6 t) k0_pay5 := by
  rw [outsAt0_A m c t h0]
  dsimp only
  unfold out0_A_10
  rw [View.read_writes_junk_eq_canon]
  unfold kernelRun0_A
  dsimp only
  sl_unfold_words
  rw [View.canon_cons_unit_zero (S := S1x1024) hz]
  simp only [View.readAt_eq_ld, readCov_whole, View.readCov_unit_zero (S := S1x1024) _ hz, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [View.ld_unit_zero (S := S256x1024) hz, View.ld_unit_zero (S := S1x1024) hz]
  rfl

theorem o10_B (c : Dev nD) (t : Fin cfg0.N) (h0 : ¬t.val % 16 = 0) :
    (outsAt0 m c t.val t.isLt).2.1 = k0_pay3 (dhT m c t) (iblk m c 6 t)
      (outsAt0 m c (t.val - 1) (Nat.lt_of_le_of_lt (Nat.sub_le _ _) t.isLt)).2.1 := by
  rw [outsAt0_B m c t h0]
  dsimp only
  rw [sc]
  unfold out0_B_10
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

end Cert.KernelIIdeal.Hand
end
-- ==== Proof.Real.lean ====
module

public import Idealize.ShloMosaic.Lib.Pointwise
public import Idealize.ShloMosaic.Lib.Pipeline.ValueKit

/-! Facts about the extended reals: sums cut into pieces, and the gradient of the root-mean-square norm. -/

@[expose] public section
noncomputable section
open Idealize.ShloMosaic
namespace Step

/-- A sum over `a + b` indices is the sum over the first `a` and over the last `b`. -/
theorem sum_cut {M : Type} [AddCommMonoid M] {n : ℕ} (a b : ℕ) (h : a + b = n) (f : Fin n → M) :
    ∑ i, f i = (∑ i : Fin a, f ⟨i.val, by omega⟩) + ∑ i : Fin b, f ⟨a + i.val, by omega⟩ := by
  subst h
  exact Fin.sum_univ_add f

/-- A sum over 8704 indices, 512 at a time. -/
theorem sum_seventeen {M : Type} [AddCommMonoid M] (f : Fin 8704 → M) :
    ∑ i, f i = (∑ k : Fin 512, f ⟨k.val, by omega⟩) +
      (∑ k : Fin 512, f ⟨512 + k.val, by omega⟩) +
      (∑ k : Fin 512, f ⟨1024 + k.val, by omega⟩) +
      (∑ k : Fin 512, f ⟨1536 + k.val, by omega⟩) +
      (∑ k : Fin 512, f ⟨2048 + k.val, by omega⟩) +
      (∑ k : Fin 512, f ⟨2560 + k.val, by omega⟩) +
      (∑ k : Fin 512, f ⟨3072 + k.val, by omega⟩) +
      (∑ k : Fin 512, f ⟨3584 + k.val, by omega⟩) +
      (∑ k : Fin 512, f ⟨4096 + k.val, by omega⟩) +
      (∑ k : Fin 512, f ⟨4608 + k.val, by omega⟩) +
      (∑ k : Fin 512, f ⟨5120 + k.val, by omega⟩) +
      (∑ k : Fin 512, f ⟨5632 + k.val, by omega⟩) +
      (∑ k : Fin 512, f ⟨6144 + k.val, by omega⟩) +
      (∑ k : Fin 512, f ⟨6656 + k.val, by omega⟩) +
      (∑ k : Fin 512, f ⟨7168 + k.val, by omega⟩) +
      (∑ k : Fin 512, f ⟨7680 + k.val, by omega⟩) +
      (∑ k : Fin 512, f ⟨8192 + k.val, by omega⟩) := by
  rw [
    sum_cut (n := 8704) 8192 512 rfl,
    sum_cut (n := 8192) 7680 512 rfl,
    sum_cut (n := 7680) 7168 512 rfl,
    sum_cut (n := 7168) 6656 512 rfl,
    sum_cut (n := 6656) 6144 512 rfl,
    sum_cut (n := 6144) 5632 512 rfl,
    sum_cut (n := 5632) 5120 512 rfl,
    sum_cut (n := 5120) 4608 512 rfl,
    sum_cut (n := 4608) 4096 512 rfl,
    sum_cut (n := 4096) 3584 512 rfl,
    sum_cut (n := 3584) 3072 512 rfl,
    sum_cut (n := 3072) 2560 512 rfl,
    sum_cut (n := 2560) 2048 512 rfl,
    sum_cut (n := 2048) 1536 512 rfl,
    sum_cut (n := 1536) 1024 512 rfl,
    sum_cut (n := 1024) 512 512 rfl]

/-- Σ over `Q * B` rows, block by block. -/
theorem sum_blocks {M : Type} [AddCommMonoid M] {n : ℕ} (Q B : ℕ) (h : Q * B = n) (f : Fin n → M) :
    ∑ i, f i = ∑ t : Fin Q, ∑ k : Fin B, f ⟨t.val * B + k.val, by
      subst h
      calc t.val * B + k.val < t.val * B + B := by omega
        _ = (t.val + 1) * B := by ring
        _ ≤ Q * B := Nat.mul_le_mul_right _ t.isLt⟩ := by
  subst h
  rw [← Fintype.sum_prod_type' (f := fun (t : Fin Q) (k : Fin B) => f ⟨t.val * B + k.val, _⟩)]
  refine (Fintype.sum_equiv finProdFinEquiv _ _ fun x => ?_).symm
  congr 1
  apply Fin.ext
  simp [finProdFinEquiv, Nat.mul_comm, Nat.add_comm]

/-- A factor that is a real number ≥ 0 comes out of a sum. -/
theorem sum_mul_coe {n : ℕ} (f : Fin n → EReal) (r : ℝ) (hr : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem mul_self_nonneg (x : EReal) : 0 ≤ x * x := by
  induction x with
  | bot => simp
  | top => simp
  | coe r => exact_mod_cast _root_.mul_self_nonneg r

/-- The words of the norm: 1024, its small constant and -1/2. -/
theorem w1024 : Ideal.ofBits FTy.f32 1149239296#32 = ((1024 : ℝ) : EReal) := by
  simp [Ideal.ofBits, Ideal.ieee, -EReal.coe_mul]; norm_num
theorem weps : ∃ e : ℝ, 0 < e ∧ Ideal.ofBits FTy.f32 897988541#32 = (e : EReal) := by
  refine ⟨_, ?_, by simp [Ideal.ofBits, Ideal.ieee, -EReal.coe_mul]; rfl⟩
  positivity
theorem whalf : Ideal.ofBits FTy.f32 3204448256#32 = ((-(1/2) : ℝ) : EReal) := by
  simp [Ideal.ofBits, Ideal.ieee, -EReal.coe_mul]; norm_num

/-- The reciprocal root ρ of a mean square is a real number ≥ 0, also where a square is infinite, and divided by the mean square it is ρ³. -/
theorem rstd {s : EReal} (hs : 0 ≤ s) : ∃ ρ : ℝ, 0 ≤ ρ ∧
    Ideal.rsqrt (Ideal.div s (Ideal.ofBits FTy.f32 1149239296#32) + Ideal.ofBits FTy.f32 897988541#32) = (ρ : EReal) ∧
    Ideal.div (ρ : EReal) (Ideal.div s (Ideal.ofBits FTy.f32 1149239296#32) + Ideal.ofBits FTy.f32 897988541#32) = ((ρ * ρ * ρ : ℝ) : EReal) := by
  obtain ⟨e, he, hE⟩ := weps
  rw [w1024, hE, Ideal.div_coe (by norm_num)]
  induction s with
  | bot => simp at hs
  | top =>
    refine ⟨0, le_rfl, ?_, ?_⟩
    · rw [EReal.top_mul_coe_of_pos (by norm_num), EReal.top_add_coe, Ideal.rsqrt_top]; rfl
    · rw [EReal.top_mul_coe_of_pos (by norm_num), EReal.top_add_coe]
      simp [Ideal.div]
  | coe x =>
    have hx : 0 ≤ x := by exact_mod_cast hs
    have hp : 0 < x * (1 / 1024) + e := by positivity
    refine ⟨(√(x * (1 / 1024) + e))⁻¹, by positivity, ?_, ?_⟩
    · rw [← EReal.coe_mul, ← EReal.coe_add, Ideal.rsqrt_coe, if_neg (not_lt.mpr hp.le), if_neg hp.ne']
    · have h2 : (√(x * (1 / 1024) + e))⁻¹ * (√(x * (1 / 1024) + e))⁻¹ = 1 / (x * (1 / 1024) + e) := by
        rw [← mul_inv, Real.mul_self_sqrt hp.le]
        exact (one_div _).symm
      rw [← EReal.coe_mul, ← EReal.coe_add, Ideal.div_coe hp.ne', ← EReal.coe_mul, mul_assoc, h2]

theorem add_self (y : EReal) : y + y = ((2 : ℝ) : EReal) * y := by
  have : ((2 : ℝ) : EReal) = 1 + 1 := by rw [← EReal.coe_one, ← EReal.coe_add]; norm_num
  rw [this, EReal.right_distrib_of_nonneg zero_le_one zero_le_one, one_mul]

/-- The gradient through the root-mean-square norm of a row `x`, with `u` the gradient of the scaled row, as the kernel
    groups it and as differentiating the norm's lines groups it. -/
theorem rms_grad {n : ℕ} (x u : Fin n → EReal) (a : EReal) (ρ : ℝ) (hρ : 0 ≤ ρ) (l : Fin n) :
    a + (ρ : EReal) * (u l - x l * (ρ : EReal) * Ideal.div (∑ k, u k * (x k * (ρ : EReal))) (Ideal.ofBits FTy.f32 1149239296#32))
    = a + u l * (ρ : EReal)
      + x l * Ideal.div ((∑ k, x k * u k) * (Ideal.ofBits FTy.f32 3204448256#32 * ((ρ * ρ * ρ : ℝ) : EReal))) (Ideal.ofBits FTy.f32 1149239296#32)
      + Ideal.div ((∑ k, x k * u k) * (Ideal.ofBits FTy.f32 3204448256#32 * ((ρ * ρ * ρ : ℝ) : EReal))) (Ideal.ofBits FTy.f32 1149239296#32) * x l := by
  have hs : ∑ k, u k * (x k * (ρ : EReal)) = (∑ k, x k * u k) * (ρ : EReal) := by
    rw [sum_mul_coe _ ρ hρ]
    exact Finset.sum_congr rfl fun k _ => by ac_rfl
  rw [hs, w1024, whalf, Ideal.div_coe (by norm_num), Ideal.div_coe (by norm_num)]
  generalize (∑ k, x k * u k) = S
  rw [sub_eq_add_neg, EReal.left_distrib_of_nonneg_of_ne_top (by exact_mod_cast hρ) (EReal.coe_ne_top ρ), add_assoc (a + _),
    ← add_assoc a, mul_comm (ρ : EReal) (u l)]
  congr 1
  rw [mul_comm _ (x l), add_self]
  have h1 : ∀ y : EReal, -y = ((-1 : ℝ) : EReal) * y := fun y => by
    rw [EReal.coe_neg, EReal.coe_one, neg_mul, one_mul]
  rw [h1]
  have e1 : (ρ : EReal) * (((-1 : ℝ) : EReal) * (x l * (ρ : EReal) * (S * (ρ : EReal) * ((1 / 1024 : ℝ) : EReal))))
      = ((ρ * (-1) * ρ * ρ * (1 / 1024) : ℝ) : EReal) * (x l * S) := by
    simp only [EReal.coe_mul]; ac_rfl
  have e2 : ((2 : ℝ) : EReal) * (x l * (S * (((-(1/2) : ℝ) : EReal) * ((ρ * ρ * ρ : ℝ) : EReal)) * ((1 / 1024 : ℝ) : EReal)))
      = ((2 * (-(1/2)) * (ρ * ρ * ρ) * (1 / 1024) : ℝ) : EReal) * (x l * S) := by
    simp only [EReal.coe_mul]; ac_rfl
  rw [e1, e2]
  congr 2
  ring

end Step
end
-- ==== Proof.InValue.lean ====
module

public import proofs.«01_k».proof.Proof.Gen.ReferenceIIdeal.Read
public import proofs.«01_k».proof.Proof.InBlocks
public import proofs.«01_k».proof.Proof.Real
public import Idealize.ShloMosaic.Lib.Pipeline.ValueKit
public import Idealize.ShloMosaic.Lib.StableHlo.ReadAt

/-! The input side of the layer, backward: the two result arrays of the kernel are the reference's. -/

@[expose] public section
set_option maxRecDepth 16384
noncomputable section
open Idealize.ShloMosaic Idealize.ShloMosaic.TcCoe Idealize.SL.Sem
open Idealize.ShloMosaic.Pipeline (Dat)

namespace Cert.ReferenceIIdeal.Hand
open Cert.ReferenceIIdeal Cert.ReferenceIIdeal.Gen Cert.ReferenceIIdeal.Read Step
variable (x0 : (⟨S4096x8704, .f32⟩ : BufTy).Contents (Elt Ideal)) (x1 x2 : (⟨S4096x1024, .f32⟩ : BufTy).Contents (Elt Ideal))
  (x3 : (⟨S1x1024, .f32⟩ : BufTy).Contents (Elt Ideal)) (x4 : (⟨S1024x8704, .f32⟩ : BufTy).Contents (Elt Ideal))

/-- The gradient of the normalised rows. -/
def dh (r : Fin 4096) (l : Fin 1024) : EReal := ∑ k : Fin 8704, x0 (ix2 r k) * x4 (ix2 l k)
/-- The reciprocal root of a row's mean square. -/
def rs (r : Fin 4096) : EReal :=
  Ideal.rsqrt (Ideal.div (∑ k : Fin 1024, x1 (ix2 r k) * x1 (ix2 r k)) (Ideal.ofBits FTy.f32 1149239296#32) + Ideal.ofBits FTy.f32 897988541#32)

theorem dx_apply (r : Fin 4096) (l : Fin 1024) : val_main_v36 x0 x1 x2 x3 x4 (ix2 r l) =
    x2 (ix2 r l) + rs x1 r * (dh x0 x4 r l * x3 (ix2 0 l) - x1 (ix2 r l) * rs x1 r *
      Ideal.div (∑ k, dh x0 x4 r k * x3 (ix2 0 k) * (x1 (ix2 r k) * rs x1 r)) (Ideal.ofBits FTy.f32 1149239296#32)) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36]
  obtain ⟨ρ, h0, h1, h2⟩ := rstd (s := ∑ k : Fin 1024, x1 (ix2 r k) * x1 (ix2 r k)) (Finset.sum_nonneg fun k _ => Step.mul_self_nonneg _)
  simp only [rs, h1, h2, Finset.univ_unique, Finset.sum_singleton]
  exact (rms_grad (fun k => x1 (ix2 r k)) (fun k => dh x0 x4 r k * x3 (ix2 0 k)) _ ρ h0 l).symm

theorem gnorm_apply (l : Fin 1024) : val_main_v19 x0 x1 x4 (ix2 0 l) = ∑ r, dh x0 x4 r l * (x1 (ix2 r l) * rs x1 r) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_v28, val_main_cst_5, val_main_v29, val_main_v30, val_main_cst_6, val_main_v31, val_main_v32, val_main_v33, val_main_v34, val_main_v35, val_main_v36]
  exact Finset.sum_congr rfl fun r _ => mul_comm _ _

end Cert.ReferenceIIdeal.Hand

namespace Cert.KernelIIdeal.Hand
open Cert.KernelIIdeal Cert.KernelIIdeal.Gen Step Cert.ReferenceIIdeal.Hand
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0] :=
  (by decide +kernel : ∀ t : Fin grid0.N, _)

/-- Row `r` of block `t` among the 4096 rows. -/
def row (t : Fin cfg0.N) (r : Fin 256) : Fin 4096 := ⟨t.val * 256 + r.val, by have := t.isLt; have : cfg0.N = 16 := rfl; omega⟩

theorem d0_apply (c : Dev nD) (t : Fin cfg0.N) (r : Fin 256) (l : Fin 1536) :
    iblk m c 0 t (ix2 r l) = m ((c : Thread nD τ).loc main_arg0) (ix2 (row t r) ⟨l.val, by omega⟩) := by
  unfold row
  blk_point [iblk, V, idx t]
theorem d1_apply (c : Dev nD) (t : Fin cfg0.N) (r : Fin 256) (l : Fin 1536) :
    iblk m c 1 t (ix2 r l) = m ((c : Thread nD τ).loc main_arg0) (ix2 (row t r) ⟨1536 + l.val, by omega⟩) := by
  unfold row
  blk_point [iblk, V, idx t]
theorem d2_apply (c : Dev nD) (t : Fin cfg0.N) (r : Fin 256) (l : Fin 1536) :
    iblk m c 2 t (ix2 r l) = m ((c : Thread nD τ).loc main_arg0) (ix2 (row t r) ⟨3072 + l.val, by omega⟩) := by
  unfold row
  blk_point [iblk, V, idx t]
theorem d3_apply (c : Dev nD) (t : Fin cfg0.N) (r : Fin 256) (l : Fin 1024) :
    iblk m c 3 t (ix2 r l) = m ((c : Thread nD τ).loc main_arg0) (ix2 (row t r) ⟨4608 + l.val, by omega⟩) := by
  unfold row
  blk_point [iblk, V, idx t]
theorem d4_apply (c : Dev nD) (t : Fin cfg0.N) (r : Fin 256) (l : Fin 1024) :
    iblk m c 4 t (ix2 r l) = m ((c : Thread nD τ).loc main_arg0) (ix2 (row t r) ⟨5632 + l.val, by omega⟩) := by
  unfold row
  blk_point [iblk, V, idx t]
theorem d5_apply (c : Dev nD) (t : Fin cfg0.N) (r : Fin 256) (l : Fin 2048) :
    iblk m c 5 t (ix2 r l) = m ((c : Thread nD τ).loc main_arg0) (ix2 (row t r) ⟨6656 + l.val, by omega⟩) := by
  unfold row
  blk_point [iblk, V, idx t]
theorem w_apply (c : Dev nD) (k : Fin 8704) (l : Fin 1024) :
    V m c main_v8 (ix2 k l) = m ((c : Thread nD τ).loc main_arg4) (ix2 l k) := by
  unfold V
  after_reads_at

theorem dhB_apply (x0 x1 x2 : Vec Ideal S256x1536 .bf16) (x3 x4 : Vec Ideal S256x1024 .bf16) (x5 : Vec Ideal S256x2048 .bf16)
    (W : Vec Ideal S8704x1024 .bf16) (A B : Fin 8704 → EReal) (r : Fin 256) (l : Fin 1024)
    (h0 : ∀ k : Fin 1536, x0 (ix2 r k) = A ⟨k.val, by omega⟩)
    (h1 : ∀ k : Fin 1536, x1 (ix2 r k) = A ⟨1536 + k.val, by omega⟩)
    (h2 : ∀ k : Fin 1536, x2 (ix2 r k) = A ⟨3072 + k.val, by omega⟩)
    (h3 : ∀ k : Fin 1024, x3 (ix2 r k) = A ⟨4608 + k.val, by omega⟩)
    (h4 : ∀ k : Fin 1024, x4 (ix2 r k) = A ⟨5632 + k.val, by omega⟩)
    (h5 : ∀ k : Fin 2048, x5 (ix2 r k) = A ⟨6656 + k.val, by omega⟩)
    (hW : ∀ k, W (ix2 k l) = B k) : dhB x0 x1 x2 x3 x4 x5 W (ix2 r l) = ∑ k, A k * B k := by
  rw [sum_seventeen]
  pointwise [dhB, k0_pay8, k0_pay7, k0_pay6]
  simp only [h0, h1, h2, h3, h4, h5, hW, ← Nat.add_assoc, Nat.reduceAdd]

theorem dhT_apply (c : Dev nD) (t : Fin cfg0.N) (r : Fin 256) (l : Fin 1024) :
    dhT m c t (ix2 r l) = dh (m ((c : Thread nD τ).loc main_arg0)) (m ((c : Thread nD τ).loc main_arg4)) (row t r) l :=
  dhB_apply _ _ _ _ _ _ _ _ _ r l (d0_apply m c t r) (d1_apply m c t r) (d2_apply m c t r) (d3_apply m c t r)
    (d4_apply m c t r) (d5_apply m c t r) fun k => w_apply m c k l

theorem x_apply (c : Dev nD) (t : Fin cfg0.N) (r : Fin 256) (l : Fin 1024) :
    iblk m c 6 t (ix2 r l) = m ((c : Thread nD τ).loc main_arg1) (ix2 (row t r) l) := by
  unfold row
  blk_point [iblk, V, idx t]
theorem dx1_apply (c : Dev nD) (t : Fin cfg0.N) (r : Fin 256) (l : Fin 1024) :
    iblk m c 7 t (ix2 r l) = m ((c : Thread nD τ).loc main_arg2) (ix2 (row t r) l) := by
  unfold row
  blk_point [iblk, V, idx t]
theorem g_apply (c : Dev nD) (t : Fin cfg0.N) (l : Fin 1024) :
    iblk m c 8 t (ix2 0 l) = m ((c : Thread nD τ).loc main_arg3) (ix2 0 l) := by
  blk_point [iblk, V, idx t]

theorem final9 (c : Dev nD) : (dats m 0 c).arrAt 9 cfg0.N = Cert.ReferenceIIdeal.Read.val_main_v36 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 9 _ (by decide +kernel) fun t hf y => ?_
  blk_simp
  rw [after0_9, o9]
  idx_vars y
  have he : (win0_9.blk t).view.emb (ix2 y0 y1) = ix2 (row t y0) y1 := by
    unfold row
    blk_ext [idx t]
  refine Eq.trans ?_ (congrArg _ he.symm)
  rw [dx_apply]
  pointwise [k0_pay4, k0_pay2, k0_pay1]
  simp only [dhT_apply, x_apply, dx1_apply, g_apply]
  rfl

theorem final10 (c : Dev nD) : (dats m 0 c).arrAt 10 cfg0.N = Cert.ReferenceIIdeal.Read.val_main_v19 (F := Ideal)
    (m ((c : Thread nD τ).loc main_arg0)) (m ((c : Thread nD τ).loc main_arg1)) (m ((c : Thread nD τ).loc main_arg4)) := by
  refine (dats m 0 c).arrAt_eq_of_after_last 10 t0_15 (by decide +kernel) _ fun j => ?_
  blk_simp
  rw [after0_10]
  idx_vars j
  obtain rfl : j0 = 0 := Subsingleton.elim _ _
  have := Pipeline.eq_sum_fin_of_reset_step_apply_last (fun n h => (outsAt0 m c n h).2.1) 16 (k0_pay5 (F := Ideal))
    (fun t j => ∑ r : Fin 256, dhT m c t (ix2 r (j 1)) * k0_pay2 (iblk m c 6 t) (ix2 r (j 1)))
    (fun t h0 i => by
      idx_vars i
      beta_reduce
      rw [o10_A m c t h0]
      pointwise [k0_pay3])
    (fun t h0 i => by
      idx_vars i
      beta_reduce
      rw [o10_B m c t h0]
      pointwise [k0_pay3])
    le_rfl t0_15 rfl (ix2 0 j1)
  refine this.trans ?_
  change k0_pay5 (F := Ideal) (ix2 0 j1) + ∑ t : Fin cfg0.N, ∑ r : Fin 256, dhT m c t (ix2 r j1) * k0_pay2 (iblk m c 6 t) (ix2 r j1) = _
  rw [gnorm_apply, sum_blocks 16 256 rfl]
  pointwise [k0_pay5, k0_pay2, k0_pay1]
  simp only [dhT_apply, x_apply]
  rfl
end Cert.KernelIIdeal.Hand
end
-- ==== Proof.InClaim.lean ====
module

public import proofs.«01_k».proof.Defs
public import proofs.«01_k».proof.Proof.InValue
public import proofs.«01_k».proof.Proof.Gen.KernelI
public import proofs.«01_k».proof.Proof.Gen.KernelI.Frame
public import proofs.«01_k».proof.Proof.Gen.ReferenceIIdeal
public import Idealize.ShloMosaic.Lib.Quiescent

/-! The claims about the input side of the layer, backward. -/

@[expose] public section
noncomputable section
open Idealize.ShloMosaic Idealize.SL.Sem
namespace Cert.Proof.In

theorem frameP : Cert.quiescent_KernelI (hKernelI := Cert.KernelI.Gen.facts) := fun m ρ _ => Cert.KernelI.Gen.frame m ρ

theorem framePI : Cert.quiescent_KernelIIdeal (hKernelIIdeal := Cert.KernelIIdeal.Gen.facts) := fun m ρ _ => Cert.KernelIIdeal.Gen.frame m ρ

theorem frameRI : Cert.quiescent_ReferenceIIdeal (hReferenceIIdeal := Cert.ReferenceIIdeal.Gen.facts) := fun m ρ _ =>
  (θ_run _ _ _).mono (fun r h => ⟨fun c => (h c).2.2, sem_eq_zero_of_no_sems rfl r.2⟩) (Cert.ReferenceIIdeal.Value.run m ρ)

theorem value : Cert.algebraic_KernelIIdeal_ReferenceIIdeal (hKernelIIdeal := Cert.KernelIIdeal.Gen.facts)
    (hReferenceIIdeal := Cert.ReferenceIIdeal.Gen.facts) := by
  intro m g m' g' _ hm
  refine ⟨_, _, (θ_run _ _ _).mono (fun r h c => ⟨(h c).1.trans (Cert.KernelIIdeal.Hand.final9 m c), (h c).2.1.trans (Cert.KernelIIdeal.Hand.final10 m c), (h c).2.2⟩)
    (Cert.KernelIIdeal.Value.run_blocks m g), (θ_run _ _ _).mono (fun r h c => ?_) (Cert.ReferenceIIdeal.Value.run m' g')⟩
  obtain ⟨h1, h2, h3⟩ := h c
  obtain ⟨e0, e1, e2, e3, e4⟩ := hm c
  refine ⟨?_, ?_, h3⟩
  · rw [h1, Cert.ReferenceIIdeal.Read.val_main_v36_eq, e0, e1, e2, e3, e4]
  · rw [← e0, ← e1, ← e4]
    exact h2.trans (Cert.ReferenceIIdeal.Read.val_main_v19_eq ..)

end Cert.Proof.In
end
-- ==== Proof.FMath.lean ====
module

public import proofs.«01_k».proof.Proof.Real

/-! The gated unit of the feed-forward layer over the extended reals. -/

@[expose] public section
noncomputable section
open Idealize.ShloMosaic
namespace Step

theorem w_half : Ideal.ofBits FTy.f32 1056964608#32 = (((1 / 2 : ℝ)) : EReal) := by
  simp [Ideal.ofBits, Ideal.ieee, -EReal.coe_mul]; norm_num
theorem w_one : Ideal.ofBits FTy.f32 1065353216#32 = 1 := by
  simp [Ideal.ofBits, Ideal.ieee, -EReal.coe_mul]; norm_num

/-- The logistic function by way of the hyperbolic tangent of half the argument. -/
theorem half_tanh (x : EReal) : Ideal.ofBits FTy.f32 1056964608#32 * Ideal.tanh (Ideal.ofBits FTy.f32 1056964608#32 * x)
    + Ideal.ofBits FTy.f32 1056964608#32 = Ideal.logistic x := by
  rw [w_half]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, EReal.coe_eq_coe_iff]
    rw [Real.tanh_eq_sinh_div_cosh, Real.sinh_eq, Real.cosh_eq]
    have e : Real.exp (-r) = Real.exp (-(1 / 2 * r)) * Real.exp (-(1 / 2 * r)) := by rw [← Real.exp_add]; ring_nf
    have e1 : Real.exp (1 / 2 * r) * Real.exp (-(1 / 2 * r)) = 1 := by rw [← Real.exp_add]; simp
    rw [e]
    have p := Real.exp_pos (1 / 2 * r)
    have q := Real.exp_pos (-(1 / 2 * r))
    generalize Real.exp (1 / 2 * r) = u at *
    generalize Real.exp (-(1 / 2 * r)) = v at *
    have h1 : u + v ≠ 0 := by positivity
    have h2 : 1 + v * v ≠ 0 := by positivity
    field_simp
    linear_combination (2 * v) * e1

/-- The gate's gradient, where the gradient that reaches the gate is finite: as the kernel groups it and as
    differentiating the reference's line groups it. -/
theorem gate_grad (x : EReal) (c : ℝ) :
    (c : EReal) * (Ideal.logistic x * (1 + x * (1 - Ideal.logistic x)))
      = (c : EReal) * Ideal.logistic x + x * ((c : EReal) * (Ideal.logistic x * (1 - Ideal.logistic x))) := by
  induction x with
  | bot => simp
  | top =>
    have e : (1 : EReal) - 1 = 0 := by rw [← EReal.coe_one, ← EReal.coe_sub, sub_self]; rfl
    simp [e]
  | coe r =>
    rw [Ideal.logistic_coe]
    norm_cast
    ring

/-- A finite sum of real numbers is real, and so is a product. -/
theorem real_sum {n : ℕ} {f : Fin n → EReal} (h : ∀ k, ∃ r : ℝ, f k = (r : EReal)) : ∃ r : ℝ, ∑ k, f k = (r : EReal) := by
  choose g hg using h
  refine ⟨∑ k, g k, ?_⟩
  simp only [hg]
  induction (Finset.univ : Finset (Fin n)) using Finset.cons_induction with
  | empty => simp
  | cons a s ha ih => rw [Finset.sum_cons, Finset.sum_cons, ih, EReal.coe_add]
theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A row times the reciprocal root of its mean square is real, also where an entry is infinite. -/
theorem real_scaled {n : ℕ} (x : Fin n → EReal) (l : Fin n) : ∃ r : ℝ,
    x l * Ideal.rsqrt (Ideal.div (∑ k, x k * x k) (Ideal.ofBits FTy.f32 1149239296#32) + Ideal.ofBits FTy.f32 897988541#32) = (r : EReal) := by
  by_cases h : ∃ r : ℝ, x l = (r : EReal)
  · obtain ⟨ρ, _, h1, _⟩ := rstd (s := ∑ k, x k * x k) (Finset.sum_nonneg fun k _ => mul_self_nonneg _)
    rw [h1]
    exact real_mul h ⟨ρ, rfl⟩
  · have ht : ∑ k, x k * x k = ⊤ := by
      have hl : x l * x l = ⊤ := by
        induction hx : x l with
        | bot => simp
        | top => simp
        | coe r => exact absurd ⟨r, hx⟩ h
      refine top_le_iff.mp (hl ▸ Finset.single_le_sum (f := fun k => x k * x k) (fun k _ => mul_self_nonneg _) (Finset.mem_univ l))
    obtain ⟨e, _, hE⟩ := weps
    rw [ht, w1024, hE, Ideal.div_coe (by norm_num), EReal.top_mul_coe_of_pos (by norm_num), EReal.top_add_coe, Ideal.rsqrt_top, mul_zero]
    exact ⟨0, rfl⟩

/-- Below ∞ in absolute value is real. -/
theorem real_of_lt {x : EReal} (h : ∀ r : ℝ, x ≠ (r : EReal)) : x = ⊥ ∨ x = ⊤ := by
  induction x with
  | bot => exact .inl rfl
  | top => exact .inr rfl
  | coe r => exact absurd rfl (h r)
end Step
end
-- ==== Proof.FRef.lean ====
module

public import proofs.«01_k».proof.Proof.Gen.ReferenceFIdeal.Read
public import proofs.«01_k».proof.Proof.FMath
public import Idealize.ShloMosaic.Lib.Pipeline.ValueKit

/-! The feed-forward layer, backward: what the reference computes, entry by entry. -/

@[expose] public section
set_option maxRecDepth 16384
noncomputable section
open Idealize.ShloMosaic Idealize.ShloMosaic.TcCoe Idealize.SL.Sem
namespace Cert.ReferenceFIdeal.Hand
open Cert.ReferenceFIdeal Cert.ReferenceFIdeal.Gen Cert.ReferenceFIdeal.Read Step
variable (x0 x1 : (⟨S4096x1024, .f32⟩ : BufTy).Contents (Elt Ideal)) (x2 : (⟨S1x1024, .f32⟩ : BufTy).Contents (Elt Ideal))
  (x3 x4 : (⟨S1024x2816, .f32⟩ : BufTy).Contents (Elt Ideal)) (x5 : (⟨S2816x1024, .f32⟩ : BufTy).Contents (Elt Ideal))

/-- The reciprocal root of a row's mean square. -/
def rs (r : Fin 4096) : EReal :=
  Ideal.rsqrt (Ideal.div (∑ k : Fin 1024, x1 (ix2 r k) * x1 (ix2 r k)) (Ideal.ofBits FTy.f32 1149239296#32) + Ideal.ofBits FTy.f32 897988541#32)
/-- A projection of the normalised rows: the gate with `w = x3`, the up projection with `w = x4`. -/
def pr (w : (⟨S1024x2816, .f32⟩ : BufTy).Contents (Elt Ideal)) (r : Fin 4096) (k : Fin 2816) : EReal :=
  ∑ j : Fin 1024, x1 (ix2 r j) * rs x1 r * x2 (ix2 0 j) * w (ix2 j k)
/-- The gradient that reaches the gated unit. -/
def df (r : Fin 4096) (k : Fin 2816) : EReal := ∑ j : Fin 1024, x0 (ix2 r j) * x5 (ix2 k j)
/-- The gate's and the up projection's gradients. -/
def da (r : Fin 4096) (k : Fin 2816) : EReal :=
  df x0 x5 r k * pr x1 x2 x4 r k * Ideal.logistic (pr x1 x2 x3 r k)
    + pr x1 x2 x3 r k * (df x0 x5 r k * pr x1 x2 x4 r k) * (Ideal.logistic (pr x1 x2 x3 r k) * (1 - Ideal.logistic (pr x1 x2 x3 r k)))
def db (r : Fin 4096) (k : Fin 2816) : EReal := pr x1 x2 x3 r k * Ideal.logistic (pr x1 x2 x3 r k) * df x0 x5 r k
/-- The gradient of the normalised rows. -/
def dh (r : Fin 4096) (l : Fin 1024) : EReal :=
  (∑ k : Fin 2816, da x0 x1 x2 x3 x4 x5 r k * x3 (ix2 l k)) + ∑ k : Fin 2816, db x0 x1 x2 x3 x5 r k * x4 (ix2 l k)

theorem da_apply (r : Fin 4096) (l : Fin 2816) : val_main_v47 x0 x1 x2 x3 x4 x5 (ix2 r l) = da x0 x1 x2 x3 x4 x5 r l := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_call1_v0, val_main_call1_v1, val_main_call1_v2, val_main_v23, val_main_v24, val_main_v25, val_main_v26, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46, val_main_v47, val_main_v48, val_main_v49]
  rfl
theorem db_apply (r : Fin 4096) (l : Fin 2816) : val_main_v48 x0 x1 x2 x3 x5 (ix2 r l) = db x0 x1 x2 x3 x5 r l := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_call1_v0, val_main_call1_v1, val_main_call1_v2, val_main_v23, val_main_v24, val_main_v25, val_main_v26, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46, val_main_v47, val_main_v48, val_main_v49]
  rfl
theorem dh_apply (r : Fin 4096) (l : Fin 1024) : val_main_v26 x0 x1 x2 x3 x4 x5 (ix2 r l) = dh x0 x1 x2 x3 x4 x5 r l := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_call1_v0, val_main_call1_v1, val_main_call1_v2, val_main_v23, val_main_v24, val_main_v25, val_main_v26, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46, val_main_v47, val_main_v48, val_main_v49]
  rfl
theorem dx_apply (r : Fin 4096) (l : Fin 1024) : val_main_v46 x0 x1 x2 x3 x4 x5 (ix2 r l) =
    x0 (ix2 r l) + rs x1 r * (dh x0 x1 x2 x3 x4 x5 r l * x2 (ix2 0 l) - x1 (ix2 r l) * rs x1 r *
      Ideal.div (∑ k, dh x0 x1 x2 x3 x4 x5 r k * x2 (ix2 0 k) * (x1 (ix2 r k) * rs x1 r)) (Ideal.ofBits FTy.f32 1149239296#32)) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_call1_v0, val_main_call1_v1, val_main_call1_v2, val_main_v23, val_main_v24, val_main_v25, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46, val_main_v47, val_main_v48, val_main_v49]
  simp only [dh_apply]
  obtain ⟨ρ, h0, h1, h2⟩ := rstd (s := ∑ k : Fin 1024, x1 (ix2 r k) * x1 (ix2 r k)) (Finset.sum_nonneg fun k _ => Step.mul_self_nonneg _)
  simp only [rs, h1, h2, Finset.univ_unique, Finset.sum_singleton]
  rw [rms_grad (fun k => x1 (ix2 r k)) (fun k => dh x0 x1 x2 x3 x4 x5 r k * x2 (ix2 0 k)) _ ρ h0 l]
  simp only [add_assoc]
theorem dxb_apply (r : Fin 4096) (l : Fin 1024) : val_main_v49 x0 x1 x2 x3 x4 x5 (ix2 r l) = val_main_v46 x0 x1 x2 x3 x4 x5 (ix2 r l) := by
  unfold val_main_v49
  rfl
theorem gnorm_apply (l : Fin 1024) : val_main_v29 x0 x1 x2 x3 x4 x5 (ix2 0 l) = ∑ r, dh x0 x1 x2 x3 x4 x5 r l * (x1 (ix2 r l) * rs x1 r) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_call1_v0, val_main_call1_v1, val_main_call1_v2, val_main_v23, val_main_v24, val_main_v25, val_main_v27, val_main_cst_3, val_main_v28, val_main_v29, val_main_v30, val_main_v31, val_main_v32, val_main_cst_4, val_main_v33, val_main_v34, val_main_v35, val_main_v36, val_main_v37, val_main_cst_5, val_main_v38, val_main_v39, val_main_cst_6, val_main_v40, val_main_v41, val_main_v42, val_main_v43, val_main_v44, val_main_v45, val_main_v46, val_main_v47, val_main_v48, val_main_v49]
  simp only [dh_apply]
  exact Finset.sum_congr rfl fun r _ => mul_comm _ _

/-- Where the gradient that arrives, the scale and the two weights of the up and down projections are real numbers, the
    gradient that reaches the gate is real. -/
theorem real_ct (h0 : ∀ i, ∃ r : ℝ, x0 i = (r : EReal)) (h2 : ∀ i, ∃ r : ℝ, x2 i = (r : EReal))
    (h4 : ∀ i, ∃ r : ℝ, x4 i = (r : EReal)) (h5 : ∀ i, ∃ r : ℝ, x5 i = (r : EReal)) (r : Fin 4096) (k : Fin 2816) :
    ∃ c : ℝ, df x0 x5 r k * pr x1 x2 x4 r k = (c : EReal) :=
  real_mul (real_sum fun _ => real_mul (h0 _) (h5 _))
    (real_sum fun j => real_mul (real_mul (real_scaled (fun j => x1 (ix2 r j)) j) (h2 _)) (h4 _))

theorem da_eq (h0 : ∀ i, ∃ r : ℝ, x0 i = (r : EReal)) (h2 : ∀ i, ∃ r : ℝ, x2 i = (r : EReal))
    (h4 : ∀ i, ∃ r : ℝ, x4 i = (r : EReal)) (h5 : ∀ i, ∃ r : ℝ, x5 i = (r : EReal)) (r : Fin 4096) (k : Fin 2816) :
    df x0 x5 r k * pr x1 x2 x4 r k * (Ideal.logistic (pr x1 x2 x3 r k) * (1 + pr x1 x2 x3 r k * (1 - Ideal.logistic (pr x1 x2 x3 r k))))
      = da x0 x1 x2 x3 x4 x5 r k := by
  obtain ⟨c, hc⟩ := real_ct x0 x1 x2 x4 x5 h0 h2 h4 h5 r k
  rw [da, hc, gate_grad, mul_assoc (pr x1 x2 x3 r k)]

end Cert.ReferenceFIdeal.Hand
end
-- ==== Proof.FRun.lean ====
module

public import proofs.«01_k».proof.Proof.Gen.KernelFIdeal.Frame
public import Idealize.ShloMosaic.Lib.Pipeline.Value

/-! The feed-forward layer, backward: the run with each of the five result arrays named. -/

@[expose] public section
noncomputable section
open Idealize.ShloMosaic Idealize.ShloMosaic.TcCoe Idealize.SL.Sem
open Idealize.ShloMosaic.Pipeline (Dat)
namespace Cert.KernelFIdeal.Hand
open Cert.KernelFIdeal Cert.KernelFIdeal.Gen
variable {F : FTy → Type} [FloatOps F]
variable (m : (ℓ : Loc nD τ sig) → Buf (Elt F) ℓ) (ρ : Dev nD → PrngReg)

theorem post6 (r : PUnit × MemSt nD τ sig (Elt F)) (h : Pipeline.FramePost cfgs (dats m) 0 (V m) r) (c : Dev nD) :
    r.2.mem ((c : Thread nD τ).loc main_v22_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v22_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v22_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v22_3) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v22_4) = (dats m 0 c).arrAt 10 cfg0.N :=
  (h c).1 10

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Each result array after the run is what the grid points left in it; the arguments are unchanged. -/
theorem run_blocks : θ_run defs (onTc (τ := τ) (main (F := F))) ⟨m, fun _ => 0, ρ⟩ fun r => ∀ c : Dev nD,
      r.2.mem ((c : Thread nD τ).loc main_v22_0) = (dats m 0 c).arrAt 6 cfg0.N
      ∧ r.2.mem ((c : Thread nD τ).loc main_v22_1) = (dats m 0 c).arrAt 7 cfg0.N
      ∧ r.2.mem ((c : Thread nD τ).loc main_v22_2) = (dats m 0 c).arrAt 8 cfg0.N
      ∧ r.2.mem ((c : Thread nD τ).loc main_v22_3) = (dats m 0 c).arrAt 9 cfg0.N
      ∧ r.2.mem ((c : Thread nD τ).loc main_v22_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelFIdeal.Hand
-- ==== Proof.FBlocks.lean ====
module

public import proofs.«01_k».proof.Proof.FRun
public import proofs.«01_k».proof.Proof.Common
public import Idealize.ShloMosaic.Lib.Pipeline.ReadBack
public import Idealize.ShloMosaic.Lib.Tactic

/-! The feed-forward layer, backward: what one grid point leaves in its five outputs and in the three weights it keeps. -/

@[expose] public section
noncomputable section
open Idealize.ShloMosaic Idealize.ShloMosaic.TcCoe Idealize.SL.Sem
open Idealize.ShloMosaic.Pipeline (Dat)
namespace Cert.KernelFIdeal.Hand
open Cert.KernelFIdeal Cert.KernelFIdeal.Gen Step
variable {F : FTy → Type} [FloatOps F]
variable (m : (ℓ : Loc nD τ sig) → Buf (Elt F) ℓ)

/-- Columns 0 to 1023, 1024 to 2047 and 2048 to 2815 of a block of 2816 columns. -/
abbrev c0 (x : Vec F S256x2816 .bf16) : Vec F S256x1024 .bf16 := View.ld x (Rect.unit ![0, 0] ![256, 1024] inb_S256x2816_S256x1024_0_0)
abbrev c1 (x : Vec F S256x2816 .bf16) : Vec F S256x1024 .bf16 := View.ld x (Rect.unit ![0, 1024] ![256, 1024] inb_S256x2816_S256x1024_0_1024)
abbrev c2 (x : Vec F S256x2816 .bf16) : Vec F S256x768 .bf16 := View.ld x (Rect.unit ![0, 2048] ![256, 768] inb_S256x2816_S256x768_0_2048)

/-- The same rows of a weight. -/
abbrev r0 (w : Vec F S2816x1024 .bf16) : Vec F S1024x1024 .bf16 := View.ld w (Rect.unit ![0, 0] ![1024, 1024] inb_S2816x1024_S1024x1024_0_0)
abbrev r1 (w : Vec F S2816x1024 .bf16) : Vec F S1024x1024 .bf16 := View.ld w (Rect.unit ![1024, 0] ![1024, 1024] inb_S2816x1024_S1024x1024_1024_0)
abbrev r2 (w : Vec F S2816x1024 .bf16) : Vec F S768x1024 .bf16 := View.ld w (Rect.unit ![2048, 0] ![768, 1024] inb_S2816x1024_S768x1024_2048_0)

/-- The gate's gradient, in the three pieces it is stored in. -/
def daB (x0 : Vec F S256x1024 .bf16) (x2 x3 : Vec F S256x2816 .bf16) (wd : Vec F S2816x1024 .bf16) : Vec F S256x2816 .bf16 :=
  View.canon (Val := Elt F) (s := S256x2816) (e := .bf16)
    [⟨Rect.unit ![0, 2048] ![256, 768] inb_S256x2816_S256x768_0_2048, k0_pay22 (k0_pay4 x0) (r2 wd) (c2 x2) (c2 x3)⟩,
      ⟨Rect.unit ![0, 1024] ![256, 1024] inb_S256x2816_S256x1024_0_1024, k0_pay16 (k0_pay4 x0) (r1 wd) (c1 x2) (c1 x3)⟩,
      ⟨Rect.unit ![0, 0] ![256, 1024] inb_S256x2816_S256x1024_0_0, k0_pay10 x0 (r0 wd) (c0 x2) (c0 x3)⟩]

/-- The up projection's gradient, in the three pieces it is stored in. -/
def dbB (x0 : Vec F S256x1024 .bf16) (x2 : Vec F S256x2816 .bf16) (wd : Vec F S2816x1024 .bf16) : Vec F S256x2816 .bf16 :=
  View.canon (Val := Elt F) (s := S256x2816) (e := .bf16)
    [⟨Rect.unit ![0, 2048] ![256, 768] inb_S256x2816_S256x768_0_2048, k0_pay21 (k0_pay4 x0) (r2 wd) (c2 x2)⟩,
      ⟨Rect.unit ![0, 1024] ![256, 1024] inb_S256x2816_S256x1024_0_1024, k0_pay15 (k0_pay4 x0) (r1 wd) (c1 x2)⟩,
      ⟨Rect.unit ![0, 0] ![256, 1024] inb_S256x2816_S256x1024_0_0, k0_pay9 x0 (r0 wd) (c0 x2)⟩]

/-- The first two thirds of the gradient of the normalised rows. -/
def accB (x0 : Vec F S256x1024 .bf16) (x2 x3 : Vec F S256x2816 .bf16) (wg wu wd : Vec F S2816x1024 .bf16) : FVec F S256x1024 .f32 :=
  k0_pay17 (k0_pay11 k0_pay5 (k0_pay9 x0 (r0 wd) (c0 x2)) (k0_pay10 x0 (r0 wd) (c0 x2) (c0 x3)) (r0 wg) (r0 wu))
    (k0_pay15 (k0_pay4 x0) (r1 wd) (c1 x2)) (k0_pay16 (k0_pay4 x0) (r1 wd) (c1 x2) (c1 x3)) (r1 wg) (r1 wu)

def dx1B (x0 : Vec F S256x1024 .bf16) (x1 : Vec F S256x1024 .f32) (x2 x3 : Vec F S256x2816 .bf16) (x4 : Vec F S256x1024 .f32) (x5 : Vec F S1x1024 .f32)
    (wg wu wd : Vec F S2816x1024 .bf16) : FVec F S256x1024 .f32 :=
  k0_pay1 (k0_pay24 x4) (k0_pay25 x4) x1
    (k0_pay27 (accB x0 x2 x3 wg wu wd) (k0_pay21 (k0_pay4 x0) (r2 wd) (c2 x2)) (k0_pay22 (k0_pay4 x0) (r2 wd) (c2 x2) (c2 x3)) (r2 wg) (r2 wu) x5)
    (k0_pay28 (accB x0 x2 x3 wg wu wd) (k0_pay21 (k0_pay4 x0) (r2 wd) (c2 x2)) (k0_pay22 (k0_pay4 x0) (r2 wd) (c2 x2) (c2 x3)) (r2 wg) (r2 wu) x4 x5)

def dx1bB (x0 : Vec F S256x1024 .bf16) (x1 : Vec F S256x1024 .f32) (x2 x3 : Vec F S256x2816 .bf16) (x4 : Vec F S256x1024 .f32) (x5 : Vec F S1x1024 .f32)
    (wg wu wd : Vec F S2816x1024 .bf16) : FVec F S256x1024 .bf16 :=
  k0_pay2 (k0_pay24 x4) (k0_pay25 x4) x1
    (k0_pay27 (accB x0 x2 x3 wg wu wd) (k0_pay21 (k0_pay4 x0) (r2 wd) (c2 x2)) (k0_pay22 (k0_pay4 x0) (r2 wd) (c2 x2) (c2 x3)) (r2 wg) (r2 wu) x5)
    (k0_pay28 (accB x0 x2 x3 wg wu wd) (k0_pay21 (k0_pay4 x0) (r2 wd) (c2 x2)) (k0_pay22 (k0_pay4 x0) (r2 wd) (c2 x2) (c2 x3)) (r2 wg) (r2 wu) x4 x5)

def gB (x0 : Vec F S256x1024 .bf16) (x2 x3 : Vec F S256x2816 .bf16) (x4 : Vec F S256x1024 .f32)
    (wg wu wd : Vec F S2816x1024 .bf16) (acc : Vec F S1x1024 .f32) : FVec F S1x1024 .f32 :=
  k0_pay26 (accB x0 x2 x3 wg wu wd) (k0_pay21 (k0_pay4 x0) (r2 wd) (c2 x2)) (k0_pay22 (k0_pay4 x0) (r2 wd) (c2 x2) (c2 x3)) (r2 wg) (r2 wu) x4 acc

/-! The weights a point keeps are the ones the first point copied. -/

theorem sg_A (c : Dev nD) (t : Fin cfg0.N) (h0 : t.val % 16 = 0) :
    (outsAt0 m c t.val t.isLt).2.2.2.2.2.1 = V m c main_v18 := by
  rw [outsAt0_A m c t h0 h0]
  dsimp only
  unfold sout0_A_0
  rw [View.read_writes_junk_eq_canon]
  unfold kernelRun0_A
  dsimp only
  sl_unfold_words
  rw [canon_whole]
  rfl

theorem su_A (c : Dev nD) (t : Fin cfg0.N) (h0 : t.val % 16 = 0) :
    (outsAt0 m c t.val t.isLt).2.2.2.2.2.2.1 = V m c main_v20 := by
  rw [outsAt0_A m c t h0 h0]
  dsimp only
  unfold sout0_A_1
  rw [View.read_writes_junk_eq_canon]
  unfold kernelRun0_A
  dsimp only
  sl_unfold_words
  rw [canon_whole]
  rfl

theorem sd_A (c : Dev nD) (t : Fin cfg0.N) (h0 : t.val % 16 = 0) :
    (outsAt0 m c t.val t.isLt).2.2.2.2.2.2.2 = V m c main_v21 := by
  rw [outsAt0_A m c t h0 h0]
  dsimp only
  unfold sout0_A_2
  rw [View.read_writes_junk_eq_canon]
  unfold kernelRun0_A
  dsimp only
  sl_unfold_words
  rw [canon_whole]
  rfl

theorem s_B (c : Dev nD) (t : Fin cfg0.N) (h0 : ¬t.val % 16 = 0) :
    (outsAt0 m c t.val t.isLt).2.2.2.2.2 = (outsAt0 m c (t.val - 1) (Nat.lt_of_le_of_lt (Nat.sub_le _ _) t.isLt)).2.2.2.2.2 := by
  rw [outsAt0_B m c t h0 h0]
  dsimp only
  rfl

theorem sc (c : Dev nD) : ∀ (n : ℕ) (h : n < cfg0.N), (outsAt0 m c n h).2.2.2.2.2 = (V m c main_v18, V m c main_v20, V m c main_v21)
  | 0, h => Prod.ext (sg_A m c ⟨0, h⟩ rfl) (Prod.ext (su_A m c ⟨0, h⟩ rfl) (sd_A m c ⟨0, h⟩ rfl))
  | n + 1, h => by
    by_cases h0 : (n + 1) % 16 = 0
    · exact Prod.ext (sg_A m c ⟨n + 1, h⟩ h0) (Prod.ext (su_A m c ⟨n + 1, h⟩ h0) (sd_A m c ⟨n + 1, h⟩ h0))
    · exact (s_B m c ⟨n + 1, h⟩ h0).trans (sc c n _)

theorem o6_A (c : Dev nD) (t : Fin cfg0.N) (h0 : t.val % 16 = 0) :
    (outsAt0 m c t.val t.isLt).1 = daB (iblk m c 0 t) (iblk m c 2 t) (iblk m c 3 t) (V m c main_v21) := by
  rw [outsAt0_A m c t h0 h0]
  dsimp only
  unfold out0_A_6
  rw [View.read_writes_junk_eq_canon]
  unfold kernelRun0_A
  dsimp only
  sl_unfold_words
  simp only [View.readAt_eq_ld, readCov_whole, (hs0_0 t).read_unread, (hs0_2 t).read_unread, (hs0_3 t).read_unread]
  simp only [View.ld_unit_zero (S := S256x1024) hz]
  rfl

theorem o6_B (c : Dev nD) (t : Fin cfg0.N) (h0 : ¬t.val % 16 = 0) :
    (outsAt0 m c t.val t.isLt).1 = daB (iblk m c 0 t) (iblk m c 2 t) (iblk m c 3 t) (V m c main_v21) := by
  rw [outsAt0_B m c t h0 h0]
  dsimp only
  rw [sc]
  unfold out0_B_6
  rw [View.read_writes_junk_eq_canon]
  unfold kernelRun0_B
  dsimp only
  sl_unfold_words
  simp only [View.readAt_eq_ld, Memref.IsWhole.read_unread, read_unread_whole]
  simp only [View.ld_unit_zero (S := S256x1024) hz]
  rfl

theorem o6 (c : Dev nD) (t : Fin cfg0.N) :
    (outsAt0 m c t.val t.isLt).1 = daB (iblk m c 0 t) (iblk m c 2 t) (iblk m c 3 t) (V m c main_v21) := by
  by_cases h0 : t.val % 16 = 0
  · exact o6_A m c t h0
  · exact o6_B m c t h0

theorem o7_A (c : Dev nD) (t : Fin cfg0.N) (h0 : t.val % 16 = 0) :
    (outsAt0 m c t.val t.isLt).2.1 = dbB (iblk m c 0 t) (iblk m c 2 t) (V m c main_v21) := by
  rw [outsAt0_A m c t h0 h0]
  dsimp only
  unfold out0_A_7
  rw [View.read_writes_junk_eq_canon]
  unfold kernelRun0_A
  dsimp only
  sl_unfold_words
  simp only [View.readAt_eq_ld, readCov_whole, (hs0_0 t).read_unread, (hs0_2 t).read_unread]
  simp only [View.ld_unit_zero (S := S256x1024) hz]
  rfl

theorem o7_B (c : Dev nD) (t : Fin cfg0.N) (h0 : ¬t.val % 16 = 0) :
    (outsAt0 m c t.val t.isLt).2.1 = dbB (iblk m c 0 t) (iblk m c 2 t) (V m c main_v21) := by
  rw [outsAt0_B m c t h0 h0]
  dsimp only
  rw [sc]
  unfold out0_B_7
  rw [View.read_writes_junk_eq_canon]
  unfold kernelRun0_B
  dsimp only
  sl_unfold_words
  simp only [View.readAt_eq_ld, Memref.IsWhole.read_unread, read_unread_whole]
  simp only [View.ld_unit_zero (S := S256x1024) hz]
  rfl

theorem o7 (c : Dev nD) (t : Fin cfg0.N) :
    (outsAt0 m c t.val t.isLt).2.1 = dbB (iblk m c 0 t) (iblk m c 2 t) (V m c main_v21) := by
  by_cases h0 : t.val % 16 = 0
  · exact o7_A m c t h0
  · exact o7_B m c t h0

theorem o8_A (c : Dev nD) (t : Fin cfg0.N) (h0 : t.val % 16 = 0) :
    (outsAt0 m c t.val t.isLt).2.2.1 = dx1B (iblk m c 0 t) (iblk m c 1 t) (iblk m c 2 t) (iblk m c 3 t) (iblk m c 4 t) (iblk m c 5 t) (V m c main_v18) (V m c main_v20) (V m c main_v21) := by
  rw [outsAt0_A m c t h0 h0]
  dsimp only
  unfold out0_A_8
  rw [View.read_writes_junk_eq_canon]
  unfold kernelRun0_A
  dsimp only
  sl_unfold_words
  rw [View.canon_unit_zero hz]
  simp only [View.readAt_eq_ld, readCov_whole, (hs0_0 t).read_unread, (hs0_1 t).read_unread, (hs0_2 t).read_unread, (hs0_3 t).read_unread, (hs0_4 t).read_unread, (hs0_5 t).read_unread]
  simp only [View.ld_unit_zero (S := S256x1024) hz, View.ld_unit_zero (S := S1x1024) hz]
  rfl

theorem o8_B (c : Dev nD) (t : Fin cfg0.N) (h0 : ¬t.val % 16 = 0) :
    (outsAt0 m c t.val t.isLt).2.2.1 = dx1B (iblk m c 0 t) (iblk m c 1 t) (iblk m c 2 t) (iblk m c 3 t) (iblk m c 4 t) (iblk m c 5 t) (V m c main_v18) (V m c main_v20) (V m c main_v21) := by
  rw [outsAt0_B m c t h0 h0]
  dsimp only
  rw [sc]
  unfold out0_B_8
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

theorem o8 (c : Dev nD) (t : Fin cfg0.N) :
    (outsAt0 m c t.val t.isLt).2.2.1 = dx1B (iblk m c 0 t) (iblk m c 1 t) (iblk m c 2 t) (iblk m c 3 t) (iblk m c 4 t) (iblk m c 5 t) (V m c main_v18) (V m c main_v20) (V m c main_v21) := by
  by_cases h0 : t.val % 16 = 0
  · exact o8_A m c t h0
  · exact o8_B m c t h0

theorem o9_A (c : Dev nD) (t : Fin cfg0.N) (h0 : t.val % 16 = 0) :
    (outsAt0 m c t.val t.isLt).2.2.2.1 = dx1bB (iblk m c 0 t) (iblk m c 1 t) (iblk m c 2 t) (iblk m c 3 t) (iblk m c 4 t) (iblk m c 5 t) (V m c main_v18) (V m c main_v20) (V m c main_v21) := by
  rw [outsAt0_A m c t h0 h0]
  dsimp only
  unfold out0_A_9
  rw [View.read_writes_junk_eq_canon]
  unfold kernelRun0_A
  dsimp only
  sl_unfold_words
  rw [View.canon_unit_zero hz]
  simp only [View.readAt_eq_ld, readCov_whole, (hs0_0 t).read_unread, (hs0_1 t).read_unread, (hs0_2 t).read_unread, (hs0_3 t).read_unread, (hs0_4 t).read_unread, (hs0_5 t).read_unread]
  simp only [View.ld_unit_zero (S := S256x1024) hz, View.ld_unit_zero (S := S1x1024) hz]
  rfl

theorem o9_B (c : Dev nD) (t : Fin cfg0.N) (h0 : ¬t.val % 16 = 0) :
    (outsAt0 m c t.val t.isLt).2.2.2.1 = dx1bB (iblk m c 0 t) (iblk m c 1 t) (iblk m c 2 t) (iblk m c 3 t) (iblk m c 4 t) (iblk m c 5 t) (V m c main_v18) (V m c main_v20) (V m c main_v21) := by
  rw [outsAt0_B m c t h0 h0]
  dsimp only
  rw [sc]
  unfold out0_B_9
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

theorem o9 (c : Dev nD) (t : Fin cfg0.N) :
    (outsAt0 m c t.val t.isLt).2.2.2.1 = dx1bB (iblk m c 0 t) (iblk m c 1 t) (iblk m c 2 t) (iblk m c 3 t) (iblk m c 4 t) (iblk m c 5 t) (V m c main_v18) (V m c main_v20) (V m c main_v21) := by
  by_cases h0 : t.val % 16 = 0
  · exact o9_A m c t h0
  · exact o9_B m c t h0

theorem o10_A (c : Dev nD) (t : Fin cfg0.N) (h0 : t.val % 16 = 0) :
    (outsAt0 m c t.val t.isLt).2.2.2.2.1 = gB (iblk m c 0 t) (iblk m c 2 t) (iblk m c 3 t) (iblk m c 4 t) (V m c main_v18) (V m c main_v20) (V m c main_v21) k0_pay3 := by
  rw [outsAt0_A m c t h0 h0]
  dsimp only
  unfold out0_A_10
  rw [View.read_writes_junk_eq_canon]
  unfold kernelRun0_A
  dsimp only
  sl_unfold_words
  rw [View.canon_cons_unit_zero (S := S1x1024) hz]
  simp only [View.readAt_eq_ld, readCov_whole, View.readCov_unit_zero (S := S1x1024) _ hz, (hs0_0 t).read_unread, (hs0_2 t).read_unread, (hs0_3 t).read_unread, (hs0_4 t).read_unread]
  simp only [View.ld_unit_zero (S := S256x1024) hz, View.ld_unit_zero (S := S1x1024) hz]
  rfl

theorem o10_B (c : Dev nD) (t : Fin cfg0.N) (h0 : ¬t.val % 16 = 0) :
    (outsAt0 m c t.val t.isLt).2.2.2.2.1 = gB (iblk m c 0 t) (iblk m c 2 t) (iblk m c 3 t) (iblk m c 4 t) (V m c main_v18) (V m c main_v20) (V m c main_v21) (outsAt0 m c (t.val - 1) (Nat.lt_of_le_of_lt (Nat.sub_le _ _) t.isLt)).2.2.2.2.1 := by
  rw [outsAt0_B m c t h0 h0]
  dsimp only
  rw [sc]
  unfold out0_B_10
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

end Cert.KernelFIdeal.Hand
-- ==== Proof.FPoint.lean ====
module

public import proofs.«01_k».proof.Proof.FMath
public import proofs.«01_k».proof.Proof.FBlocks

/-! The feed-forward layer, backward: what a grid point stores, entry by entry. -/

@[expose] public section
set_option maxRecDepth 16384
noncomputable section
open Idealize.ShloMosaic Idealize.ShloMosaic.TcCoe Idealize.SL.Sem
namespace Cert.KernelFIdeal.Hand
open Cert.KernelFIdeal Cert.KernelFIdeal.Gen Step

/-- The up projection's and the gate's gradient at one entry. -/
def dbE (x0 : Vec Ideal S256x1024 .bf16) (x2 : Vec Ideal S256x2816 .bf16) (wd : Vec Ideal S2816x1024 .bf16) (r : Fin 256) (k : Fin 2816) : EReal :=
  (∑ j : Fin 1024, x0 (ix2 r j) * wd (ix2 k j)) * x2 (ix2 r k) * Ideal.logistic (x2 (ix2 r k))
def daE (x0 : Vec Ideal S256x1024 .bf16) (x2 x3 : Vec Ideal S256x2816 .bf16) (wd : Vec Ideal S2816x1024 .bf16) (r : Fin 256) (k : Fin 2816) : EReal :=
  (∑ j : Fin 1024, x0 (ix2 r j) * wd (ix2 k j)) * x3 (ix2 r k) * (Ideal.logistic (x2 (ix2 r k)) * (1 + x2 (ix2 r k) * (1 - Ideal.logistic (x2 (ix2 r k)))))

theorem emb2 (r : Fin 256) (k : Fin 768) : (Rect.unit (s := S256x2816) ![0, 2048] ![256, 768] inb_S256x2816_S256x768_0_2048).emb (ix2 r k) = ix2 r ⟨2048 + k.val, by omega⟩ := by
  blk_ext []
theorem emb1 (r : Fin 256) (k : Fin 1024) : (Rect.unit (s := S256x2816) ![0, 1024] ![256, 1024] inb_S256x2816_S256x1024_0_1024).emb (ix2 r k) = ix2 r ⟨1024 + k.val, by omega⟩ := by
  blk_ext []
theorem emb0 (r : Fin 256) (k : Fin 1024) : (Rect.unit (s := S256x2816) ![0, 0] ![256, 1024] inb_S256x2816_S256x1024_0_0).emb (ix2 r k) = ix2 r ⟨k.val, by omega⟩ := by
  blk_ext []

theorem rmb0 (k : Fin 1024) (l : Fin 1024) : (Rect.unit (s := S2816x1024) ![0, 0] ![1024, 1024] inb_S2816x1024_S1024x1024_0_0).emb (ix2 k l) = ix2 ⟨k.val, by omega⟩ l := by
  blk_ext []
theorem c0_apply (x : Vec Ideal S256x2816 .bf16) (r : Fin 256) (k : Fin 1024) : c0 x (ix2 r k) = x (ix2 r ⟨k.val, by omega⟩) :=
  congrArg x (emb0 r k)
theorem r0_apply (w : Vec Ideal S2816x1024 .bf16) (k : Fin 1024) (l : Fin 1024) : r0 w (ix2 k l) = w (ix2 ⟨k.val, by omega⟩ l) :=
  congrArg w (rmb0 k l)

theorem rmb1 (k : Fin 1024) (l : Fin 1024) : (Rect.unit (s := S2816x1024) ![1024, 0] ![1024, 1024] inb_S2816x1024_S1024x1024_1024_0).emb (ix2 k l) = ix2 ⟨1024 + k.val, by omega⟩ l := by
  blk_ext []
theorem c1_apply (x : Vec Ideal S256x2816 .bf16) (r : Fin 256) (k : Fin 1024) : c1 x (ix2 r k) = x (ix2 r ⟨1024 + k.val, by omega⟩) :=
  congrArg x (emb1 r k)
theorem r1_apply (w : Vec Ideal S2816x1024 .bf16) (k : Fin 1024) (l : Fin 1024) : r1 w (ix2 k l) = w (ix2 ⟨1024 + k.val, by omega⟩ l) :=
  congrArg w (rmb1 k l)

theorem rmb2 (k : Fin 768) (l : Fin 1024) : (Rect.unit (s := S2816x1024) ![2048, 0] ![768, 1024] inb_S2816x1024_S768x1024_2048_0).emb (ix2 k l) = ix2 ⟨2048 + k.val, by omega⟩ l := by
  blk_ext []
theorem c2_apply (x : Vec Ideal S256x2816 .bf16) (r : Fin 256) (k : Fin 768) : c2 x (ix2 r k) = x (ix2 r ⟨2048 + k.val, by omega⟩) :=
  congrArg x (emb2 r k)
theorem r2_apply (w : Vec Ideal S2816x1024 .bf16) (k : Fin 768) (l : Fin 1024) : r2 w (ix2 k l) = w (ix2 ⟨2048 + k.val, by omega⟩ l) :=
  congrArg w (rmb2 k l)

variable (x0 : Vec Ideal S256x1024 .bf16) (x2 x3 : Vec Ideal S256x2816 .bf16) (wg wu wd : Vec Ideal S2816x1024 .bf16)

theorem db0 (W : Vec Ideal S1024x1024 .bf16) (y2 : Vec Ideal S256x1024 .bf16) (hW : ∀ k l, W (ix2 k l) = wd (ix2 ⟨k.val, by omega⟩ l))
    (h2 : ∀ r k, y2 (ix2 r k) = x2 (ix2 r ⟨k.val, by omega⟩))
    (r : Fin 256) (k : Fin 1024) : k0_pay9 x0 W y2 (ix2 r k) = dbE x0 x2 wd r ⟨k.val, by omega⟩ := by
  unfold dbE
  rw [← half_tanh]
  pointwise [k0_pay9, k0_pay8, k0_pay7, k0_pay6, k0_pay4]
  simp only [hW, h2]
theorem da0 (W : Vec Ideal S1024x1024 .bf16) (y2 y3 : Vec Ideal S256x1024 .bf16) (hW : ∀ k l, W (ix2 k l) = wd (ix2 ⟨k.val, by omega⟩ l))
    (h2 : ∀ r k, y2 (ix2 r k) = x2 (ix2 r ⟨k.val, by omega⟩))
    (h3 : ∀ r k, y3 (ix2 r k) = x3 (ix2 r ⟨k.val, by omega⟩))
    (r : Fin 256) (k : Fin 1024) : k0_pay10 x0 W y2 y3 (ix2 r k) = daE x0 x2 x3 wd r ⟨k.val, by omega⟩ := by
  unfold daE
  rw [← half_tanh]
  pointwise [k0_pay10, k0_pay8, k0_pay7, k0_pay6, k0_pay4]
  simp only [hW, h2, h3]

theorem db1 (W : Vec Ideal S1024x1024 .bf16) (y2 : Vec Ideal S256x1024 .bf16) (hW : ∀ k l, W (ix2 k l) = wd (ix2 ⟨1024 + k.val, by omega⟩ l))
    (h2 : ∀ r k, y2 (ix2 r k) = x2 (ix2 r ⟨1024 + k.val, by omega⟩))
    (r : Fin 256) (k : Fin 1024) : k0_pay15 (k0_pay4 x0) W y2 (ix2 r k) = dbE x0 x2 wd r ⟨1024 + k.val, by omega⟩ := by
  unfold dbE
  rw [← half_tanh]
  pointwise [k0_pay15, k0_pay14, k0_pay13, k0_pay12, k0_pay4]
  simp only [hW, h2]
theorem da1 (W : Vec Ideal S1024x1024 .bf16) (y2 y3 : Vec Ideal S256x1024 .bf16) (hW : ∀ k l, W (ix2 k l) = wd (ix2 ⟨1024 + k.val, by omega⟩ l))
    (h2 : ∀ r k, y2 (ix2 r k) = x2 (ix2 r ⟨1024 + k.val, by omega⟩))
    (h3 : ∀ r k, y3 (ix2 r k) = x3 (ix2 r ⟨1024 + k.val, by omega⟩))
    (r : Fin 256) (k : Fin 1024) : k0_pay16 (k0_pay4 x0) W y2 y3 (ix2 r k) = daE x0 x2 x3 wd r ⟨1024 + k.val, by omega⟩ := by
  unfold daE
  rw [← half_tanh]
  pointwise [k0_pay16, k0_pay14, k0_pay13, k0_pay12, k0_pay4]
  simp only [hW, h2, h3]

theorem db2 (W : Vec Ideal S768x1024 .bf16) (y2 : Vec Ideal S256x768 .bf16) (hW : ∀ k l, W (ix2 k l) = wd (ix2 ⟨2048 + k.val, by omega⟩ l))
    (h2 : ∀ r k, y2 (ix2 r k) = x2 (ix2 r ⟨2048 + k.val, by omega⟩))
    (r : Fin 256) (k : Fin 768) : k0_pay21 (k0_pay4 x0) W y2 (ix2 r k) = dbE x0 x2 wd r ⟨2048 + k.val, by omega⟩ := by
  unfold dbE
  rw [← half_tanh]
  pointwise [k0_pay21, k0_pay20, k0_pay19, k0_pay18, k0_pay4]
  simp only [hW, h2]
theorem da2 (W : Vec Ideal S768x1024 .bf16) (y2 y3 : Vec Ideal S256x768 .bf16) (hW : ∀ k l, W (ix2 k l) = wd (ix2 ⟨2048 + k.val, by omega⟩ l))
    (h2 : ∀ r k, y2 (ix2 r k) = x2 (ix2 r ⟨2048 + k.val, by omega⟩))
    (h3 : ∀ r k, y3 (ix2 r k) = x3 (ix2 r ⟨2048 + k.val, by omega⟩))
    (r : Fin 256) (k : Fin 768) : k0_pay22 (k0_pay4 x0) W y2 y3 (ix2 r k) = daE x0 x2 x3 wd r ⟨2048 + k.val, by omega⟩ := by
  unfold daE
  rw [← half_tanh]
  pointwise [k0_pay22, k0_pay20, k0_pay19, k0_pay18, k0_pay4]
  simp only [hW, h2, h3]

theorem dbB_apply (r : Fin 256) (k : Fin 2816) : dbB x0 x2 wd (ix2 r k) = dbE x0 x2 wd r k := by
  refine View.canon_apply_of_pieces (Val := Elt Ideal) (S := S256x2816) (e := .bf16)
    (fun y => dbE x0 x2 wd (y 0) (y 1)) _ ?_ (ix2 r k) (View.cover_of_tiledBy _ ![256, 256] (by sl_kernel_rfl) _)
  intro p hp
  simp only [List.mem_cons, List.not_mem_nil, or_false] at hp
  rcases hp with rfl | rfl | rfl <;> intro y <;> idx_vars y
  · exact (db2 x0 x2 wd (r2 wd) (c2 x2) (r2_apply wd) (c2_apply x2) y0 y1).trans (congrArg (fun y : S256x2816.Idx => dbE x0 x2 wd (y 0) (y 1)) (emb2 y0 y1)).symm
  · exact (db1 x0 x2 wd (r1 wd) (c1 x2) (r1_apply wd) (c1_apply x2) y0 y1).trans (congrArg (fun y : S256x2816.Idx => dbE x0 x2 wd (y 0) (y 1)) (emb1 y0 y1)).symm
  · exact (db0 x0 x2 wd (r0 wd) (c0 x2) (r0_apply wd) (c0_apply x2) y0 y1).trans (congrArg (fun y : S256x2816.Idx => dbE x0 x2 wd (y 0) (y 1)) (emb0 y0 y1)).symm

theorem daB_apply (r : Fin 256) (k : Fin 2816) : daB x0 x2 x3 wd (ix2 r k) = daE x0 x2 x3 wd r k := by
  refine View.canon_apply_of_pieces (Val := Elt Ideal) (S := S256x2816) (e := .bf16)
    (fun y => daE x0 x2 x3 wd (y 0) (y 1)) _ ?_ (ix2 r k) (View.cover_of_tiledBy _ ![256, 256] (by sl_kernel_rfl) _)
  intro p hp
  simp only [List.mem_cons, List.not_mem_nil, or_false] at hp
  rcases hp with rfl | rfl | rfl <;> intro y <;> idx_vars y
  · exact (da2 x0 x2 x3 wd (r2 wd) (c2 x2) (c2 x3) (r2_apply wd) (c2_apply x2) (c2_apply x3) y0 y1).trans (congrArg (fun y : S256x2816.Idx => daE x0 x2 x3 wd (y 0) (y 1)) (emb2 y0 y1)).symm
  · exact (da1 x0 x2 x3 wd (r1 wd) (c1 x2) (c1 x3) (r1_apply wd) (c1_apply x2) (c1_apply x3) y0 y1).trans (congrArg (fun y : S256x2816.Idx => daE x0 x2 x3 wd (y 0) (y 1)) (emb1 y0 y1)).symm
  · exact (da0 x0 x2 x3 wd (r0 wd) (c0 x2) (c0 x3) (r0_apply wd) (c0_apply x2) (c0_apply x3) y0 y1).trans (congrArg (fun y : S256x2816.Idx => daE x0 x2 x3 wd (y 0) (y 1)) (emb0 y0 y1)).symm

/-- A sum over 2816 indices as the kernel groups it. -/
theorem sum_three {M : Type} [AddCommMonoid M] (f : Fin 2816 → M) :
    ∑ i, f i = (∑ k : Fin 1024, f ⟨k.val, by omega⟩) + (∑ k : Fin 1024, f ⟨1024 + k.val, by omega⟩) + (∑ k : Fin 768, f ⟨2048 + k.val, by omega⟩) := by
  rw [sum_cut (n := 2816) 2048 768 rfl, sum_cut (n := 2048) 1024 1024 rfl]

/-- The gradient of the normalised rows. -/
def dhE (r : Fin 256) (l : Fin 1024) : EReal :=
  (∑ k, daE x0 x2 x3 wd r k * wg (ix2 k l)) + ∑ k, dbE x0 x2 wd r k * wu (ix2 k l)

theorem dhP (g0 g1 u0 u1 : Vec Ideal S1024x1024 .bf16) (g2 u2 : Vec Ideal S768x1024 .bf16) (a0 a1 b0 b1 : FVec Ideal S256x1024 .bf16) (a2 b2 : FVec Ideal S256x768 .bf16)
    (A B : Fin 256 → Fin 2816 → EReal) (hg0 : ∀ k l, g0 (ix2 k l) = wg (ix2 ⟨k.val, by omega⟩ l)) (hg1 : ∀ k l, g1 (ix2 k l) = wg (ix2 ⟨1024 + k.val, by omega⟩ l))
    (hg2 : ∀ k l, g2 (ix2 k l) = wg (ix2 ⟨2048 + k.val, by omega⟩ l)) (hu0 : ∀ k l, u0 (ix2 k l) = wu (ix2 ⟨k.val, by omega⟩ l))
    (hu1 : ∀ k l, u1 (ix2 k l) = wu (ix2 ⟨1024 + k.val, by omega⟩ l)) (hu2 : ∀ k l, u2 (ix2 k l) = wu (ix2 ⟨2048 + k.val, by omega⟩ l))
    (ha0 : ∀ r k, a0 (ix2 r k) = A r ⟨k.val, by omega⟩) (ha1 : ∀ r k, a1 (ix2 r k) = A r ⟨1024 + k.val, by omega⟩)
    (ha2 : ∀ r k, a2 (ix2 r k) = A r ⟨2048 + k.val, by omega⟩) (hb0 : ∀ r k, b0 (ix2 r k) = B r ⟨k.val, by omega⟩)
    (hb1 : ∀ r k, b1 (ix2 r k) = B r ⟨1024 + k.val, by omega⟩) (hb2 : ∀ r k, b2 (ix2 r k) = B r ⟨2048 + k.val, by omega⟩) (r : Fin 256) (l : Fin 1024) :
    k0_pay23 (k0_pay17 (k0_pay11 k0_pay5 b0 a0 g0 u0) b1 a1 g1 u1) b2 a2 g2 u2 (ix2 r l)
      = (∑ k, A r k * wg (ix2 k l)) + ∑ k, B r k * wu (ix2 k l) := by
  rw [sum_three, sum_three]
  pointwise [k0_pay23, k0_pay17, k0_pay11, k0_pay5]
  simp only [hg0, hg1, hg2, hu0, hu1, hu2, ha0, ha1, ha2, hb0, hb1, hb2]
  ac_rfl

theorem dhE_apply (r : Fin 256) (l : Fin 1024) :
    k0_pay23 (accB x0 x2 x3 wg wu wd) (k0_pay21 (k0_pay4 x0) (r2 wd) (c2 x2)) (k0_pay22 (k0_pay4 x0) (r2 wd) (c2 x2) (c2 x3)) (r2 wg) (r2 wu) (ix2 r l)
      = dhE x0 x2 x3 wg wu wd r l :=
  dhP wg wu _ _ _ _ _ _ _ _ _ _ _ _ (daE x0 x2 x3 wd) (dbE x0 x2 wd) (r0_apply wg) (r1_apply wg) (r2_apply wg) (r0_apply wu) (r1_apply wu) (r2_apply wu)
    (da0 x0 x2 x3 wd (r0 wd) (c0 x2) (c0 x3) (r0_apply wd) (c0_apply x2) (c0_apply x3))
    (da1 x0 x2 x3 wd (r1 wd) (c1 x2) (c1 x3) (r1_apply wd) (c1_apply x2) (c1_apply x3))
    (da2 x0 x2 x3 wd (r2 wd) (c2 x2) (c2 x3) (r2_apply wd) (c2_apply x2) (c2_apply x3))
    (db0 x0 x2 wd (r0 wd) (c0 x2) (r0_apply wd) (c0_apply x2)) (db1 x0 x2 wd (r1 wd) (c1 x2) (r1_apply wd) (c1_apply x2))
    (db2 x0 x2 wd (r2 wd) (c2 x2) (r2_apply wd) (c2_apply x2)) r l
end Cert.KernelFIdeal.Hand
end
-- ==== Proof.FValue.lean ====
module

public import proofs.«01_k».proof.Proof.FRef
public import proofs.«01_k».proof.Proof.FPoint
public import Idealize.ShloMosaic.Lib.StableHlo.ReadAt

/-! The feed-forward layer, backward: the five result arrays of the kernel are the reference's. -/

@[expose] public section
set_option maxRecDepth 16384
noncomputable section
open Idealize.ShloMosaic Idealize.ShloMosaic.TcCoe Idealize.SL.Sem
open Idealize.ShloMosaic.Pipeline (Dat)
namespace Cert.KernelFIdeal.Hand
open Cert.KernelFIdeal Cert.KernelFIdeal.Gen Step Cert.ReferenceFIdeal.Hand
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- Row `r` of block `t` among the 4096 rows. -/
def row (t : Fin cfg0.N) (r : Fin 256) : Fin 4096 := ⟨t.val * 256 + r.val, by have := t.isLt; have : cfg0.N = 16 := rfl; omega⟩

theorem d0_apply (c : Dev nD) (t : Fin cfg0.N) (r : Fin 256) (l : Fin 1024) :
    iblk m c 0 t (ix2 r l) = m ((c : Thread nD τ).loc main_arg0) (ix2 (row t r) l) := by
  unfold row
  blk_point [iblk, V, idx t]
theorem d1_apply (c : Dev nD) (t : Fin cfg0.N) (r : Fin 256) (l : Fin 1024) :
    iblk m c 1 t (ix2 r l) = m ((c : Thread nD τ).loc main_arg0) (ix2 (row t r) l) := by
  unfold row
  blk_point [iblk, V, idx t]
theorem d4_apply (c : Dev nD) (t : Fin cfg0.N) (r : Fin 256) (l : Fin 1024) :
    iblk m c 4 t (ix2 r l) = m ((c : Thread nD τ).loc main_arg1) (ix2 (row t r) l) := by
  unfold row
  blk_point [iblk, V, idx t]
theorem d5_apply (c : Dev nD) (t : Fin cfg0.N) (l : Fin 1024) :
    iblk m c 5 t (ix2 0 l) = m ((c : Thread nD τ).loc main_arg2) (ix2 0 l) := by
  blk_point [iblk, V, idx t]
theorem a_apply (c : Dev nD) (r : Fin 4096) (k : Fin 2816) :
    V m c main_v13 (ix2 r k) = pr (m ((c : Thread nD τ).loc main_arg1)) (m ((c : Thread nD τ).loc main_arg2)) (m ((c : Thread nD τ).loc main_arg3)) r k := by
  unfold V pr rs
  after_reads_at
theorem b_apply (c : Dev nD) (r : Fin 4096) (k : Fin 2816) :
    V m c main_v15 (ix2 r k) = pr (m ((c : Thread nD τ).loc main_arg1)) (m ((c : Thread nD τ).loc main_arg2)) (m ((c : Thread nD τ).loc main_arg4)) r k := by
  unfold V pr rs
  after_reads_at
theorem wg_apply (c : Dev nD) (k : Fin 2816) (l : Fin 1024) :
    V m c main_v18 (ix2 k l) = m ((c : Thread nD τ).loc main_arg3) (ix2 l k) := by
  unfold V
  after_reads_at
theorem wu_apply (c : Dev nD) (k : Fin 2816) (l : Fin 1024) :
    V m c main_v20 (ix2 k l) = m ((c : Thread nD τ).loc main_arg4) (ix2 l k) := by
  unfold V
  after_reads_at
theorem wd_apply (c : Dev nD) (k : Fin 2816) (l : Fin 1024) :
    V m c main_v21 (ix2 k l) = m ((c : Thread nD τ).loc main_arg5) (ix2 k l) := by
  unfold V
  after_reads_at
theorem d2_apply (c : Dev nD) (t : Fin cfg0.N) (r : Fin 256) (k : Fin 2816) :
    iblk m c 2 t (ix2 r k) = pr (m ((c : Thread nD τ).loc main_arg1)) (m ((c : Thread nD τ).loc main_arg2)) (m ((c : Thread nD τ).loc main_arg3)) (row t r) k := by
  rw [← a_apply]
  unfold row
  blk_point [iblk, idx t]
theorem d3_apply (c : Dev nD) (t : Fin cfg0.N) (r : Fin 256) (k : Fin 2816) :
    iblk m c 3 t (ix2 r k) = pr (m ((c : Thread nD τ).loc main_arg1)) (m ((c : Thread nD τ).loc main_arg2)) (m ((c : Thread nD τ).loc main_arg4)) (row t r) k := by
  rw [← b_apply]
  unfold row
  blk_point [iblk, idx t]

theorem daT_apply (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal))
    (t : Fin cfg0.N) (r : Fin 256) (k : Fin 2816) :
    daE (iblk m c 0 t) (iblk m c 2 t) (iblk m c 3 t) (V m c main_v21) r k = da (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k := by
  rw [← da_eq _ _ _ _ _ _ h0 h2 h4 h5]
  unfold daE df
  rw [d2_apply, d3_apply]
  simp only [d0_apply]
  exact congrArg (fun z => z * _ * _) (Finset.sum_congr rfl fun x _ => congrArg _ (wd_apply m c k x))

theorem dbT_apply (c : Dev nD) (t : Fin cfg0.N) (r : Fin 256) (k : Fin 2816) :
    dbE (iblk m c 0 t) (iblk m c 2 t) (V m c main_v21) r k = db (m ((c : Thread nD τ).loc main_arg0)) (m ((c : Thread nD τ).loc main_arg1)) (m ((c : Thread nD τ).loc main_arg2)) (m ((c : Thread nD τ).loc main_arg3)) (m ((c : Thread nD τ).loc main_arg5)) (row t r) k := by
  unfold dbE db df
  rw [d2_apply]
  simp only [d0_apply, wd_apply]
  ac_rfl

theorem dhT_apply (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal))
    (t : Fin cfg0.N) (r : Fin 256) (l : Fin 1024) :
    dhE (iblk m c 0 t) (iblk m c 2 t) (iblk m c 3 t) (V m c main_v18) (V m c main_v20) (V m c main_v21) r l = dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) l := by
  unfold dhE dh
  exact congrArg₂ (· + ·)
    (Finset.sum_congr rfl fun k _ => congrArg₂ (· * ·) (daT_apply m c h0 h2 h4 h5 t r k) (wg_apply m c k l))
    (Finset.sum_congr rfl fun k _ => congrArg₂ (· * ·) (dbT_apply m c t r k) (wu_apply m c k l))

theorem final6 (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal)) : (dats m 0 c).arrAt 6 cfg0.N = Cert.ReferenceFIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, o6]
  idx_vars y
  have he : (win0_6.blk t).view.emb (ix2 y0 y1) = ix2 (row t y0) y1 := by
    unfold row
    blk_ext [idx t]
  refine Eq.trans ?_ (congrArg _ he.symm)
  rw [da_apply]
  exact (daB_apply _ _ _ _ _ _).trans (daT_apply m c h0 h2 h4 h5 t y0 y1)

theorem final7 (c : Dev nD) : (dats m 0 c).arrAt 7 cfg0.N = Cert.ReferenceFIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp
  rw [after0_7, o7]
  idx_vars y
  have he : (win0_7.blk t).view.emb (ix2 y0 y1) = ix2 (row t y0) y1 := by
    unfold row
    blk_ext [idx t]
  refine Eq.trans ?_ (congrArg _ he.symm)
  rw [db_apply]
  exact (dbB_apply _ _ _ _ _).trans (dbT_apply m c t y0 y1)

/-- The gradient of the layer's input at one entry of a block. -/
theorem dxT_apply (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal))
    (t : Fin cfg0.N) (r : Fin 256) (l : Fin 1024) :
    dx1B (iblk m c 0 t) (iblk m c 1 t) (iblk m c 2 t) (iblk m c 3 t) (iblk m c 4 t) (iblk m c 5 t) (V m c main_v18) (V m c main_v20) (V m c main_v21) (ix2 r l)
      = Cert.ReferenceFIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  rw [dx_apply]
  pointwise [dx1B, k0_pay1, k0_pay24, k0_pay25, k0_pay27, k0_pay28]
  simp only [dhE_apply, dhT_apply m c h0 h2 h4 h5, d1_apply, d4_apply, d5_apply]
  rfl

theorem final8 (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal)) : (dats m 0 c).arrAt 8 cfg0.N = Cert.ReferenceFIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, o8]
  idx_vars y
  have he : (win0_8.blk t).view.emb (ix2 y0 y1) = ix2 (row t y0) y1 := by
    unfold row
    blk_ext [idx t]
  refine Eq.trans ?_ (congrArg _ he.symm)
  exact dxT_apply m c h0 h2 h4 h5 t y0 y1

theorem final9 (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal)) : (dats m 0 c).arrAt 9 cfg0.N = Cert.ReferenceFIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, o9]
  idx_vars y
  have he : (win0_9.blk t).view.emb (ix2 y0 y1) = ix2 (row t y0) y1 := by
    unfold row
    blk_ext [idx t]
  refine Eq.trans ?_ (congrArg _ he.symm)
  rw [dxb_apply]
  exact dxT_apply m c h0 h2 h4 h5 t y0 y1

theorem final10 (c : Dev nD)
    (h0 : ∀ i, ∃ r : ℝ, m ((c : Thread nD τ).loc main_arg0) i = (r : EReal))
    (h2 : ∀ i, ∃ r : ℝ, m ((c : Thread nD τ).loc main_arg2) i = (r : EReal))
    (h4 : ∀ i, ∃ r : ℝ, m ((c : Thread nD τ).loc main_arg4) i = (r : EReal))
    (h5 : ∀ i, ∃ r : ℝ, m ((c : Thread nD τ).loc main_arg5) i = (r : EReal)) : (dats m 0 c).arrAt 10 cfg0.N = Cert.ReferenceFIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  blk_simp
  rw [after0_10]
  idx_vars j
  obtain rfl : j0 = 0 := Subsingleton.elim _ _
  have := Pipeline.eq_sum_fin_of_reset_step_apply_last (fun n h => (outsAt0 m c n h).2.2.2.2.1) 16 (k0_pay3 (F := Ideal))
    (fun t j => ∑ r : Fin 256, dhE (iblk m c 0 t) (iblk m c 2 t) (iblk m c 3 t) (V m c main_v18) (V m c main_v20) (V m c main_v21) r (j 1)
      * k0_pay25 (iblk m c 4 t) (ix2 r (j 1)))
    (fun t h0 i => by
      idx_vars i
      beta_reduce
      rw [o10_A m c t h0]
      pointwise [gB, k0_pay26]
      simp only [dhE_apply])
    (fun t h0 i => by
      idx_vars i
      beta_reduce
      rw [o10_B m c t h0]
      pointwise [gB, k0_pay26]
      simp only [dhE_apply])
    le_rfl t0_15 rfl (ix2 0 j1)
  refine this.trans ?_
  change k0_pay3 (F := Ideal) (ix2 0 j1) + ∑ t : Fin cfg0.N, ∑ r : Fin 256,
    dhE (iblk m c 0 t) (iblk m c 2 t) (iblk m c 3 t) (V m c main_v18) (V m c main_v20) (V m c main_v21) r j1 * k0_pay25 (iblk m c 4 t) (ix2 r j1) = _
  rw [gnorm_apply, sum_blocks 16 256 rfl]
  pointwise [k0_pay3, k0_pay25, k0_pay24]
  simp only [dhT_apply m c h0 h2 h4 h5, d4_apply]
  rfl
end Cert.KernelFIdeal.Hand
end
-- ==== Proof.FClaim.lean ====
module

public import proofs.«01_k».proof.Defs
public import proofs.«01_k».proof.Proof.FValue
public import proofs.«01_k».proof.Proof.Gen.KernelF
public import proofs.«01_k».proof.Proof.Gen.KernelF.Frame
public import proofs.«01_k».proof.Proof.Gen.ReferenceFIdeal
public import proofs.«01_k».proof.Proof.Gen.ReferenceFIdeal.Run
public import Idealize.ShloMosaic.Lib.Quiescent

/-! The claims about the feed-forward layer, backward. -/

@[expose] public section
noncomputable section
open Idealize.ShloMosaic Idealize.SL.Sem
namespace Cert.Proof.F

theorem preFacts : Cert.Pre_finite_ffn.Facts where
  bcast_S_S4096x1024 := by decide +kernel
  bcast_S_S1x1024 := by decide +kernel
  bcast_S_S1024x2816 := by decide +kernel
  bcast_S_S2816x1024 := by decide +kernel

theorem frameP : Cert.quiescent_KernelF (hKernelF := Cert.KernelF.Gen.facts) := fun m ρ _ => Cert.KernelF.Gen.frame m ρ

theorem framePI : Cert.quiescent_KernelFIdeal (hKernelFIdeal := Cert.KernelFIdeal.Gen.facts) := fun m ρ _ => Cert.KernelFIdeal.Gen.frame m ρ

theorem framePIpre : Cert.quiescent_KernelFIdeal_pre_finite_ffn (hKernelFIdeal := Cert.KernelFIdeal.Gen.facts) (hPre_finite_ffn := preFacts) :=
  fun m ρ _ => Cert.KernelFIdeal.Gen.frame m ρ

theorem frameRI : Cert.quiescent_ReferenceFIdeal (hReferenceFIdeal := Cert.ReferenceFIdeal.Gen.facts) := fun m ρ _ =>
  (θ_run _ _ _).mono (fun r h => ⟨fun c => (h c).2.2.2.2.2, sem_eq_zero_of_no_sems rfl r.2⟩) (Cert.ReferenceFIdeal.Value.run m ρ)

theorem frameRIpre : Cert.quiescent_ReferenceFIdeal_pre_finite_ffn (hReferenceFIdeal := Cert.ReferenceFIdeal.Gen.facts) (hPre_finite_ffn := preFacts) :=
  fun m ρ _ => frameRI m ρ trivial

/-- An entry whose absolute value the comparison found below ∞ is a real number. -/
theorem real_of_olt {x : EReal} (h : Ideal.cmp .olt (max x (-x)) (Ideal.ofBits FTy.f32 0x7F800000#32) = 1#1) : ∃ r : ℝ, x = (r : EReal) := by
  have hi : Ideal.ofBits FTy.f32 0x7F800000#32 = (⊤ : EReal) := by simp [Ideal.ofBits, Ideal.ieee]
  rw [hi] at h
  induction x with
  | bot => simp [Ideal.cmp] at h
  | top => simp [Ideal.cmp] at h
  | coe r => exact ⟨r, rfl⟩

theorem reals (m : (ℓ : Loc Cert.KernelFIdeal.nD Cert.KernelFIdeal.τ Cert.KernelFIdeal.sig) → Buf (Elt Ideal) ℓ)
    (h : Cert.Pre_KernelFIdeal_finite_ffn (hPre_finite_ffn := preFacts) m) (c : Dev Cert.KernelFIdeal.nD) :
    (∀ i, ∃ r : ℝ, m ((c.tc : Thread Cert.KernelFIdeal.nD Cert.KernelFIdeal.τ).loc Cert.KernelFIdeal.main_arg0) i = (r : EReal))
    ∧ (∀ i, ∃ r : ℝ, m ((c.tc : Thread Cert.KernelFIdeal.nD Cert.KernelFIdeal.τ).loc Cert.KernelFIdeal.main_arg2) i = (r : EReal))
    ∧ (∀ i, ∃ r : ℝ, m ((c.tc : Thread Cert.KernelFIdeal.nD Cert.KernelFIdeal.τ).loc Cert.KernelFIdeal.main_arg4) i = (r : EReal))
    ∧ ∀ i, ∃ r : ℝ, m ((c.tc : Thread Cert.KernelFIdeal.nD Cert.KernelFIdeal.τ).loc Cert.KernelFIdeal.main_arg5) i = (r : EReal) := by
  obtain ⟨h0, h2, h4, h5⟩ := h c
  exact ⟨fun i => real_of_olt (congrFun h0 i), fun i => real_of_olt (congrFun h2 i), fun i => real_of_olt (congrFun h4 i), fun i => real_of_olt (congrFun h5 i)⟩

theorem value : Cert.algebraic_KernelFIdeal_ReferenceFIdeal_pre_finite_ffn (hKernelFIdeal := Cert.KernelFIdeal.Gen.facts)
    (hReferenceFIdeal := Cert.ReferenceFIdeal.Gen.facts) (hPre_finite_ffn := preFacts) := by
  intro m g m' g' hp hm
  refine ⟨_, _, _, _, _, (θ_run _ _ _).mono (fun r h c => ⟨(h c).1.trans (Cert.KernelFIdeal.Hand.final6 m c (reals m hp c).1 (reals m hp c).2.1 (reals m hp c).2.2.1 (reals m hp c).2.2.2),
      (h c).2.1.trans (Cert.KernelFIdeal.Hand.final7 m c),
      (h c).2.2.1.trans (Cert.KernelFIdeal.Hand.final8 m c (reals m hp c).1 (reals m hp c).2.1 (reals m hp c).2.2.1 (reals m hp c).2.2.2),
      (h c).2.2.2.1.trans (Cert.KernelFIdeal.Hand.final9 m c (reals m hp c).1 (reals m hp c).2.1 (reals m hp c).2.2.1 (reals m hp c).2.2.2),
      (h c).2.2.2.2.1.trans (Cert.KernelFIdeal.Hand.final10 m c (reals m hp c).1 (reals m hp c).2.1 (reals m hp c).2.2.1 (reals m hp c).2.2.2),
      (h c).2.2.2.2.2⟩) (Cert.KernelFIdeal.Hand.run_blocks m g),
    (θ_run _ _ _).mono (fun r h c => ?_) (Cert.ReferenceFIdeal.Value.run m' g')⟩
  obtain ⟨k47, k48, k46, k49, k29, k⟩ := h c
  obtain ⟨e0, e1, e2, e3, e4, e5⟩ := hm c
  refine ⟨?_, ?_, ?_, ?_, ?_, k⟩
  · rw [k47, Cert.ReferenceFIdeal.Read.val_main_v47_eq, e0, e1, e2, e3, e4, e5]
  · rw [← e0, ← e1, ← e2, ← e3, ← e5]
    exact k48.trans (Cert.ReferenceFIdeal.Read.val_main_v48_eq ..)
  · rw [k46, Cert.ReferenceFIdeal.Read.val_main_v46_eq, e0, e1, e2, e3, e4, e5]
  · rw [k49, Cert.ReferenceFIdeal.Read.val_main_v49_eq, e0, e1, e2, e3, e4, e5]
  · rw [k29, Cert.ReferenceFIdeal.Read.val_main_v29_eq, e0, e1, e2, e3, e4, e5]

end Cert.Proof.F
end
-- ==== Proof.WClaim.lean ====
module

public import proofs.«01_k».proof.Defs
public import proofs.«01_k».proof.Proof.Gen.KernelW
public import proofs.«01_k».proof.Proof.Gen.KernelW.Frame
public import proofs.«01_k».proof.Proof.Gen.KernelWIdeal.Value
public import proofs.«01_k».proof.Proof.Gen.ReferenceWIdeal
public import proofs.«01_k».proof.Proof.Gen.ReferenceWIdeal.Run
public import proofs.«01_k».proof.Proof.Gen.ReferenceWIdeal.Read
public import proofs.«01_k».proof.Proof.Gen.ReferenceWTIdeal
public import proofs.«01_k».proof.Proof.Gen.ReferenceWTIdeal.Run
public import proofs.«01_k».proof.Proof.Gen.ReferenceWTIdeal.Read
public import proofs.«01_k».proof.Proof.Common
public import proofs.«01_k».proof.Proof.Real
public import Idealize.ShloMosaic.Lib.Pipeline.ValueKit
public import Idealize.ShloMosaic.Lib.Pipeline.ReadBack
public import Idealize.ShloMosaic.Lib.StableHlo.ReadAt
public import Idealize.ShloMosaic.Lib.Tactic
public import Idealize.ShloMosaic.Lib.Quiescent

/-! The gradient of a weight, a product over all 4096 rows, where the kernel's left factor has 2816 columns. -/

@[expose] public section
set_option maxRecDepth 16384
noncomputable section
open Idealize.ShloMosaic Idealize.ShloMosaic.TcCoe Idealize.SL.Sem
open Idealize.ShloMosaic.Pipeline (Dat)

/-- What row `n` adds to entry `(r, l)` of the product. -/
def Cert.KernelWIdeal.Hand.term (x0 : (⟨Cert.KernelWIdeal.S4096x2816, .f32⟩ : BufTy).Contents (Elt Ideal)) (x1 : (⟨Cert.KernelWIdeal.S4096x1024, .f32⟩ : BufTy).Contents (Elt Ideal))
    (n : Fin 4096) (r : Fin 2816) (l : Fin 1024) : EReal := x0 (ix2 n r) * x1 (ix2 n l)

namespace Cert.ReferenceWIdeal.Hand
open Cert.ReferenceWIdeal Cert.ReferenceWIdeal.Gen Cert.ReferenceWIdeal.Read
theorem ref_apply (x0 : (⟨S4096x2816, .f32⟩ : BufTy).Contents (Elt Ideal)) (x1 : (⟨S4096x1024, .f32⟩ : BufTy).Contents (Elt Ideal)) (r : Fin 2816) (l : Fin 1024) :
    val_main_v4 x0 x1 (ix2 r l) = ∑ n : Fin 4096, Cert.KernelWIdeal.Hand.term x0 x1 n r l := by
  unfold Cert.KernelWIdeal.Hand.term
  pointwise [val_main_cst, val_main_v0, val_main_v1, val_main_v2, val_main_v3, val_main_v4]
  try exact Finset.sum_congr rfl fun _ _ => mul_comm _ _
end Cert.ReferenceWIdeal.Hand

namespace Cert.ReferenceWTIdeal.Hand
open Cert.ReferenceWTIdeal Cert.ReferenceWTIdeal.Gen Cert.ReferenceWTIdeal.Read
theorem ref_apply (x0 : (⟨S4096x2816, .f32⟩ : BufTy).Contents (Elt Ideal)) (x1 : (⟨S4096x1024, .f32⟩ : BufTy).Contents (Elt Ideal)) (r : Fin 2816) (l : Fin 1024) :
    val_main_v5 x0 x1 (ix2 r l) = ∑ n : Fin 4096, Cert.KernelWIdeal.Hand.term x0 x1 n r l := by
  unfold Cert.KernelWIdeal.Hand.term
  pointwise [val_main_cst, val_main_v0, val_main_v1, val_main_v2, val_main_v3, val_main_v4, val_main_v5]
  try exact Finset.sum_congr rfl fun _ _ => mul_comm _ _
end Cert.ReferenceWTIdeal.Hand

namespace Cert.KernelWIdeal.Hand
open Cert.KernelWIdeal Cert.KernelWIdeal.Gen Step
variable (m : (ℓ : Loc nD τ sig) → Buf (Elt Ideal) ℓ)

theorem s_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_junk_eq_canon]
  unfold kernelRun0_A
  dsimp only
  sl_unfold_words
  rw [View.canon_cons_unit_zero (S := S2816x1024) hz]
  simp only [View.readAt_eq_ld, View.readCov_unit_zero (S := S2816x1024) _ hz, (hs0_0 t).read_unread, (hs0_1 t).read_unread]
  simp only [View.ld_unit_zero (S := S1024x2816) hz, View.ld_unit_zero (S := S1024x1024) hz]

theorem s_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_junk_eq_canon]
    unfold kernelRun0_C
    dsimp only
    sl_unfold_words
    rw [View.canon_cons_unit_zero (S := S2816x1024) hz]
    simp only [View.readAt_eq_ld, Memref.IsWhole.read_unread, read_unread_whole]
    simp only [View.ld_unit_zero (S := S2816x1024) hz, View.ld_unit_zero (S := S1024x2816) hz, View.ld_unit_zero (S := S1024x1024) hz]
  · rw [outsAt0_B m c t h0 h1]
    dsimp only
    unfold sout0_B_0
    rw [View.read_writes_junk_eq_canon]
    unfold kernelRun0_B
    dsimp only
    sl_unfold_words
    rw [View.canon_cons_unit_zero (S := S2816x1024) hz]
    simp only [View.readAt_eq_ld, Memref.IsWhole.read_unread, read_unread_whole]
    simp only [View.ld_unit_zero (S := S2816x1024) hz, View.ld_unit_zero (S := S1024x2816) hz, View.ld_unit_zero (S := S1024x1024) hz]

theorem o_C (c : Dev nD) (t : Fin cfg0.N) (h1 : t.val % 4 = 3) :
    (outsAt0 m c t.val t.isLt).1 = k0_pay3 (outsAt0 m c t.val t.isLt).2 := by
  rw [s_B m c t (by omega), outsAt0_C m c t (by omega) h1]
  dsimp only
  unfold out0_C_2
  rw [View.read_writes_junk_eq_canon]
  unfold kernelRun0_C
  dsimp only
  sl_unfold_words
  rw [View.canon_cons_unit_zero (S := S2816x1024) hz]
  simp only [View.readAt_eq_ld, View.readCov_unit_zero (S := S2816x1024) _ hz, Memref.IsWhole.read_unread, read_unread_whole]
  simp only [View.ld_unit_zero (S := S2816x1024) hz, View.ld_unit_zero (S := S1024x2816) hz, View.ld_unit_zero (S := S1024x1024) hz]

theorem idx : ∀ t : Fin cfg0.N, win0_0.index t = ![t.val, 0] ∧ win0_1.index t = ![t.val, 0] ∧ win0_2.index t = ![0, 0] :=
  (by decide +kernel : ∀ t : Fin grid0.N, _)

/-- Row `r` of block `t` among the 4096 rows. -/
def row (t : Fin cfg0.N) (r : Fin 1024) : Fin 4096 := ⟨t.val * 1024 + r.val, by have := t.isLt; have : cfg0.N = 4 := rfl; omega⟩

theorem d0_apply (c : Dev nD) (t : Fin cfg0.N) (r : Fin 1024) (l : Fin 2816) :
    iblk m c 0 t (ix2 r l) = m ((c : Thread nD τ).loc main_arg0) (ix2 (row t r) l) := by
  unfold row
  blk_point [iblk, V, idx t]
theorem d1_apply (c : Dev nD) (t : Fin cfg0.N) (r : Fin 1024) (l : Fin 1024) :
    iblk m c 1 t (ix2 r l) = m ((c : Thread nD τ).loc main_arg1) (ix2 (row t r) l) := by
  unfold row
  blk_point [iblk, V, idx t]

theorem acc_apply (c : Dev nD) (r : Fin 2816) (l : Fin 1024) : (outsAt0 m c t0_3.val t0_3.isLt).2 (ix2 r l) =
    ∑ n : Fin 4096, term (m ((c : Thread nD τ).loc main_arg0)) (m ((c : Thread nD τ).loc main_arg1)) n r l := by
  have := Pipeline.eq_sum_fin_of_reset_step_apply_last (fun n h => (outsAt0 m c n h).2) 4 (k0_pay1 (F := Ideal))
    (fun t j => ∑ n : Fin 1024, term (m ((c : Thread nD τ).loc main_arg0)) (m ((c : Thread nD τ).loc main_arg1)) (row t n) (j 0) (j 1))
    (fun t h0 i => by
      idx_vars i
      beta_reduce
      rw [s_A m c t h0]
      pointwise [k0_pay2]
      simp only [d0_apply, d1_apply, term])
    (fun t h0 i => by
      idx_vars i
      beta_reduce
      rw [s_B m c t h0]
      pointwise [k0_pay2]
      simp only [d0_apply, d1_apply, term])
    le_rfl t0_3 rfl (ix2 r l)
  refine this.trans ?_
  change k0_pay1 (F := Ideal) (ix2 r l) + ∑ t : Fin cfg0.N, ∑ n : Fin 1024, term (m ((c : Thread nD τ).loc main_arg0)) (m ((c : Thread nD τ).loc main_arg1)) (row t n) r l = _
  rw [sum_blocks 4 1024 rfl]
  pointwise [k0_pay1]
  rfl

theorem final (c : Dev nD) (G : Buf (Elt Ideal) ((c : Thread nD τ).loc main_v2)) (hG : ∀ (r : Fin 2816) (l : Fin 1024), G (ix2 r l) =
    ∑ n : Fin 4096, term (m ((c : Thread nD τ).loc main_arg0)) (m ((c : Thread nD τ).loc main_arg1)) n r l) : (dats m 0 c).arrAt 2 cfg0.N = G := by
  refine (dats m 0 c).arrAt_eq_of_after_last 2 t0_3 (by decide +kernel) _ fun j => ?_
  blk_simp
  rw [after0_2, o_C m c t0_3 rfl]
  idx_vars j
  exact (acc_apply m c j0 j1).trans (hG j0 j1).symm
end Cert.KernelWIdeal.Hand

namespace Cert.Proof.W
theorem frameP : Cert.quiescent_KernelW (hKernelW := Cert.KernelW.Gen.facts) := fun m ρ _ => Cert.KernelW.Gen.frame m ρ
theorem framePI : Cert.quiescent_KernelWIdeal (hKernelWIdeal := Cert.KernelWIdeal.Gen.facts) := fun m ρ _ => Cert.KernelWIdeal.Gen.frame m ρ
theorem frameRI : Cert.quiescent_ReferenceWIdeal (hReferenceWIdeal := Cert.ReferenceWIdeal.Gen.facts) := fun m ρ _ =>
  (θ_run _ _ _).mono (fun r h => ⟨fun c => (h c).2, sem_eq_zero_of_no_sems rfl r.2⟩) (Cert.ReferenceWIdeal.Value.run m ρ)
theorem value : Cert.algebraic_KernelWIdeal_ReferenceWIdeal (hKernelWIdeal := Cert.KernelWIdeal.Gen.facts)
    (hReferenceWIdeal := Cert.ReferenceWIdeal.Gen.facts) := by
  intro m g m' g' _ hm
  refine ⟨_, (θ_run _ _ _).mono (fun r h c => ⟨(h c).1.trans (Cert.KernelWIdeal.Hand.final m c _ fun r l => Cert.ReferenceWIdeal.Hand.ref_apply
    (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) r l), (h c).2⟩)
    (Cert.KernelWIdeal.Value.run_blocks m g), (θ_run _ _ _).mono (fun r h c => ?_) (Cert.ReferenceWIdeal.Value.run m' g')⟩
  obtain ⟨h1, h2⟩ := h c
  obtain ⟨e0, e1⟩ := hm c
  refine ⟨?_, h2⟩
  rw [← e0, ← e1]
  exact h1.trans (Cert.ReferenceWIdeal.Read.val_main_v4_eq ..)
theorem frameRIT : Cert.quiescent_ReferenceWTIdeal (hReferenceWTIdeal := Cert.ReferenceWTIdeal.Gen.facts) := fun m ρ _ =>
  (θ_run _ _ _).mono (fun r h => ⟨fun c => (h c).2, sem_eq_zero_of_no_sems rfl r.2⟩) (Cert.ReferenceWTIdeal.Value.run m ρ)
theorem valueT : Cert.algebraic_KernelWIdeal_ReferenceWTIdeal (hKernelWIdeal := Cert.KernelWIdeal.Gen.facts)
    (hReferenceWTIdeal := Cert.ReferenceWTIdeal.Gen.facts) := by
  intro m g m' g' _ hm
  refine ⟨_, (θ_run _ _ _).mono (fun r h c => ⟨(h c).1.trans (Cert.KernelWIdeal.Hand.final m c _ fun r l => Cert.ReferenceWTIdeal.Hand.ref_apply
    (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)) r l), (h c).2⟩)
    (Cert.KernelWIdeal.Value.run_blocks m g), (θ_run _ _ _).mono (fun r h c => ?_) (Cert.ReferenceWTIdeal.Value.run m' g')⟩
  obtain ⟨h1, h2⟩ := h c
  obtain ⟨e0, e1⟩ := hm c
  refine ⟨?_, h2⟩
  rw [← e0, ← e1]
  exact h1.trans (Cert.ReferenceWTIdeal.Read.val_main_v5_eq ..)
end Cert.Proof.W
end
-- ==== Proof.WAClaim.lean ====
module

public import proofs.«01_k».proof.Defs
public import proofs.«01_k».proof.Proof.Gen.KernelWA
public import proofs.«01_k».proof.Proof.Gen.KernelWA.Frame
public import proofs.«01_k».proof.Proof.Gen.KernelWAIdeal.Value
public import proofs.«01_k».proof.Proof.Gen.ReferenceWAIdeal
public import proofs.«01_k».proof.Proof.Gen.ReferenceWAIdeal.Run
public import proofs.«01_k».proof.Proof.Gen.ReferenceWAIdeal.Read
public import proofs.«01_k».proof.Proof.Common
public import proofs.«01_k».proof.Proof.Real
public import Idealize.ShloMosaic.Lib.Pipeline.ValueKit
public import Idealize.ShloMosaic.Lib.Pipeline.ReadBack
public import Idealize.ShloMosaic.Lib.StableHlo.ReadAt
public import Idealize.ShloMosaic.Lib.Tactic
public import Idealize.ShloMosaic.Lib.Quiescent

/-! The gradient of a weight, a product over all 4096 rows, where the kernel's left factor has 512 columns. -/

@[expose] public section
set_option maxRecDepth 16384
noncomputable section
open Idealize.ShloMosaic Idealize.ShloMosaic.TcCoe Idealize.SL.Sem
open Idealize.ShloMosaic.Pipeline (Dat)

/-- What row `n` adds to entry `(r, l)` of the product. -/
def Cert.KernelWAIdeal.Hand.term (x0 : (⟨Cert.KernelWAIdeal.S4096x512, .f32⟩ : BufTy).Contents (Elt Ideal)) (x1 : (⟨Cert.KernelWAIdeal.S4096x1024, .f32⟩ : BufTy).Contents (Elt Ideal))
    (n : Fin 4096) (r : Fin 512) (l : Fin 1024) : EReal := x0 (ix2 n r) * x1 (ix2 n l)

namespace Cert.ReferenceWAIdeal.Hand
open Cert.ReferenceWAIdeal Cert.ReferenceWAIdeal.Gen Cert.ReferenceWAIdeal.Read
theorem ref_apply (x0 : (⟨S4096x512, .f32⟩ : BufTy).Contents (Elt Ideal)) (x1 : (⟨S4096x1024, .f32⟩ : BufTy).Contents (Elt Ideal)) (r : Fin 512) (l : Fin 1024) :
    val_main_v4 x0 x1 (ix2 r l) = ∑ n : Fin 4096, Cert.KernelWAIdeal.Hand.term x0 x1 n r l := by
  unfold Cert.KernelWAIdeal.Hand.term
  pointwise [val_main_cst, val_main_v0, val_main_v1, val_main_v2, val_main_v3, val_main_v4]
  try exact Finset.sum_congr rfl fun _ _ => mul_comm _ _
end Cert.ReferenceWAIdeal.Hand

namespace Cert.KernelWAIdeal.Hand
open Cert.KernelWAIdeal Cert.KernelWAIdeal.Gen Step
variable (m : (ℓ : Loc nD τ sig) → Buf (Elt Ideal) ℓ)

theorem s_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_junk_eq_canon]
  unfold kernelRun0_A
  dsimp only
  sl_unfold_words
  rw [View.canon_cons_unit_zero (S := S512x1024) hz]
  simp only [View.readAt_eq_ld, View.readCov_unit_zero (S := S512x1024) _ hz, (hs0_0 t).read_unread, (hs0_1 t).read_unread]
  simp only [View.ld_unit_zero (S := S1024x512) hz, View.ld_unit_zero (S := S1024x1024) hz]

theorem s_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_junk_eq_canon]
    unfold kernelRun0_C
    dsimp only
    sl_unfold_words
    rw [View.canon_cons_unit_zero (S := S512x1024) hz]
    simp only [View.readAt_eq_ld, Memref.IsWhole.read_unread, read_unread_whole]
    simp only [View.ld_unit_zero (S := S512x1024) hz, View.ld_unit_zero (S := S1024x512) hz, View.ld_unit_zero (S := S1024x1024) hz]
  · rw [outsAt0_B m c t h0 h1]
    dsimp only
    unfold sout0_B_0
    rw [View.read_writes_junk_eq_canon]
    unfold kernelRun0_B
    dsimp only
    sl_unfold_words
    rw [View.canon_cons_unit_zero (S := S512x1024) hz]
    simp only [View.readAt_eq_ld, Memref.IsWhole.read_unread, read_unread_whole]
    simp only [View.ld_unit_zero (S := S512x1024) hz, View.ld_unit_zero (S := S1024x512) hz, View.ld_unit_zero (S := S1024x1024) hz]

theorem o_C (c : Dev nD) (t : Fin cfg0.N) (h1 : t.val % 4 = 3) :
    (outsAt0 m c t.val t.isLt).1 = k0_pay3 (outsAt0 m c t.val t.isLt).2 := by
  rw [s_B m c t (by omega), outsAt0_C m c t (by omega) h1]
  dsimp only
  unfold out0_C_2
  rw [View.read_writes_junk_eq_canon]
  unfold kernelRun0_C
  dsimp only
  sl_unfold_words
  rw [View.canon_cons_unit_zero (S := S512x1024) hz]
  simp only [View.readAt_eq_ld, View.readCov_unit_zero (S := S512x1024) _ hz, Memref.IsWhole.read_unread, read_unread_whole]
  simp only [View.ld_unit_zero (S := S512x1024) hz, View.ld_unit_zero (S := S1024x512) hz, View.ld_unit_zero (S := S1024x1024) hz]

theorem idx : ∀ t : Fin cfg0.N, win0_0.index t = ![t.val, 0] ∧ win0_1.index t = ![t.val, 0] ∧ win0_2.index t = ![0, 0] :=
  (by decide +kernel : ∀ t : Fin grid0.N, _)

/-- Row `r` of block `t` among the 4096 rows. -/
def row (t : Fin cfg0.N) (r : Fin 1024) : Fin 4096 := ⟨t.val * 1024 + r.val, by have := t.isLt; have : cfg0.N = 4 := rfl; omega⟩

theorem d0_apply (c : Dev nD) (t : Fin cfg0.N) (r : Fin 1024) (l : Fin 512) :
    iblk m c 0 t (ix2 r l) = m ((c : Thread nD τ).loc main_arg0) (ix2 (row t r) l) := by
  unfold row
  blk_point [iblk, V, idx t]
theorem d1_apply (c : Dev nD) (t : Fin cfg0.N) (r : Fin 1024) (l : Fin 1024) :
    iblk m c 1 t (ix2 r l) = m ((c : Thread nD τ).loc main_arg1) (ix2 (row t r) l) := by
  unfold row
  blk_point [iblk, V, idx t]

theorem acc_apply (c : Dev nD) (r : Fin 512) (l : Fin 1024) : (outsAt0 m c t0_3.val t0_3.isLt).2 (ix2 r l) =
    ∑ n : Fin 4096, term (m ((c : Thread nD τ).loc main_arg0)) (m ((c : Thread nD τ).loc main_arg1)) n r l := by
  have := Pipeline.eq_sum_fin_of_reset_step_apply_last (fun n h => (outsAt0 m c n h).2) 4 (k0_pay1 (F := Ideal))
    (fun t j => ∑ n : Fin 1024, term (m ((c : Thread nD τ).loc main_arg0)) (m ((c : Thread nD τ).loc main_arg1)) (row t n) (j 0) (j 1))
    (fun t h0 i => by
      idx_vars i
      beta_reduce
      rw [s_A m c t h0]
      pointwise [k0_pay2]
      simp only [d0_apply, d1_apply, term])
    (fun t h0 i => by
      idx_vars i
      beta_reduce
      rw [s_B m c t h0]
      pointwise [k0_pay2]
      simp only [d0_apply, d1_apply, term])
    le_rfl t0_3 rfl (ix2 r l)
  refine this.trans ?_
  change k0_pay1 (F := Ideal) (ix2 r l) + ∑ t : Fin cfg0.N, ∑ n : Fin 1024, term (m ((c : Thread nD τ).loc main_arg0)) (m ((c : Thread nD τ).loc main_arg1)) (row t n) r l = _
  rw [sum_blocks 4 1024 rfl]
  pointwise [k0_pay1]
  rfl

theorem final (c : Dev nD) (G : Buf (Elt Ideal) ((c : Thread nD τ).loc main_v2)) (hG : ∀ (r : Fin 512) (l : Fin 1024), G (ix2 r l) =
    ∑ n : Fin 4096, term (m ((c : Thread nD τ).loc main_arg0)) (m ((c : Thread nD τ).loc main_arg1)) n r l) : (dats m 0 c).arrAt 2 cfg0.N = G := by
  refine (dats m 0 c).arrAt_eq_of_after_last 2 t0_3 (by decide +kernel) _ fun j => ?_
  blk_simp
  rw [after0_2, o_C m c t0_3 rfl]
  idx_vars j
  exact (acc_apply m c j0 j1).trans (hG j0 j1).symm
end Cert.KernelWAIdeal.Hand

namespace Cert.Proof.WA
theorem frameP : Cert.quiescent_KernelWA (hKernelWA := Cert.KernelWA.Gen.facts) := fun m ρ _ => Cert.KernelWA.Gen.frame m ρ
theorem framePI : Cert.quiescent_KernelWAIdeal (hKernelWAIdeal := Cert.KernelWAIdeal.Gen.facts) := fun m ρ _ => Cert.KernelWAIdeal.Gen.frame m ρ
theorem frameRI : Cert.quiescent_ReferenceWAIdeal (hReferenceWAIdeal := Cert.ReferenceWAIdeal.Gen.facts) := fun m ρ _ =>
  (θ_run _ _ _).mono (fun r h => ⟨fun c => (h c).2, sem_eq_zero_of_no_sems rfl r.2⟩) (Cert.ReferenceWAIdeal.Value.run m ρ)
theorem value : Cert.algebraic_KernelWAIdeal_ReferenceWAIdeal (hKernelWAIdeal := Cert.KernelWAIdeal.Gen.facts)
    (hReferenceWAIdeal := Cert.ReferenceWAIdeal.Gen.facts) := by
  intro m g m' g' _ hm
  refine ⟨_, (θ_run _ _ _).mono (fun r h c => ⟨(h c).1.trans (Cert.KernelWAIdeal.Hand.final m c _ fun r l => Cert.ReferenceWAIdeal.Hand.ref_apply
    (m ((c.tc : Thread Cert.KernelWAIdeal.nD Cert.KernelWAIdeal.τ).loc Cert.KernelWAIdeal.main_arg0)) (m ((c.tc : Thread Cert.KernelWAIdeal.nD Cert.KernelWAIdeal.τ).loc Cert.KernelWAIdeal.main_arg1)) r l), (h c).2⟩)
    (Cert.KernelWAIdeal.Value.run_blocks m g), (θ_run _ _ _).mono (fun r h c => ?_) (Cert.ReferenceWAIdeal.Value.run m' g')⟩
  obtain ⟨h1, h2⟩ := h c
  obtain ⟨e0, e1⟩ := hm c
  refine ⟨?_, h2⟩
  rw [← e0, ← e1]
  exact h1.trans (Cert.ReferenceWAIdeal.Read.val_main_v4_eq ..)
end Cert.Proof.WA
end
-- ==== Proof.WCClaim.lean ====
module

public import proofs.«01_k».proof.Defs
public import proofs.«01_k».proof.Proof.Gen.KernelWC
public import proofs.«01_k».proof.Proof.Gen.KernelWC.Frame
public import proofs.«01_k».proof.Proof.Gen.KernelWCIdeal.Value
public import proofs.«01_k».proof.Proof.Gen.ReferenceWCIdeal
public import proofs.«01_k».proof.Proof.Gen.ReferenceWCIdeal.Run
public import proofs.«01_k».proof.Proof.Gen.ReferenceWCIdeal.Read
public import proofs.«01_k».proof.Proof.Gen.ReferenceWCTIdeal
public import proofs.«01_k».proof.Proof.Gen.ReferenceWCTIdeal.Run
public import proofs.«01_k».proof.Proof.Gen.ReferenceWCTIdeal.Read
public import proofs.«01_k».proof.Proof.Common
public import proofs.«01_k».proof.Proof.Real
public import Idealize.ShloMosaic.Lib.Pipeline.ValueKit
public import Idealize.ShloMosaic.Lib.Pipeline.ReadBack
public import Idealize.ShloMosaic.Lib.StableHlo.ReadAt
public import Idealize.ShloMosaic.Lib.Tactic
public import Idealize.ShloMosaic.Lib.Quiescent

/-! The gradient of a weight, a product over all 4096 rows, where the kernel's left factor has 1024 columns. -/

@[expose] public section
set_option maxRecDepth 16384
noncomputable section
open Idealize.ShloMosaic Idealize.ShloMosaic.TcCoe Idealize.SL.Sem
open Idealize.ShloMosaic.Pipeline (Dat)

/-- What row `n` adds to entry `(r, l)` of the product. -/
def Cert.KernelWCIdeal.Hand.term (x0 : (⟨Cert.KernelWCIdeal.S4096x1024, .f32⟩ : BufTy).Contents (Elt Ideal)) (x1 : (⟨Cert.KernelWCIdeal.S4096x1024, .f32⟩ : BufTy).Contents (Elt Ideal))
    (n : Fin 4096) (r : Fin 1024) (l : Fin 1024) : EReal := x0 (ix2 n r) * x1 (ix2 n l)

namespace Cert.ReferenceWCIdeal.Hand
open Cert.ReferenceWCIdeal Cert.ReferenceWCIdeal.Gen Cert.ReferenceWCIdeal.Read
theorem ref_apply (x0 : (⟨S4096x1024, .f32⟩ : BufTy).Contents (Elt Ideal)) (x1 : (⟨S4096x1024, .f32⟩ : BufTy).Contents (Elt Ideal)) (r : Fin 1024) (l : Fin 1024) :
    val_main_v4 x0 x1 (ix2 r l) = ∑ n : Fin 4096, Cert.KernelWCIdeal.Hand.term x0 x1 n r l := by
  unfold Cert.KernelWCIdeal.Hand.term
  pointwise [val_main_cst, val_main_v0, val_main_v1, val_main_v2, val_main_v3, val_main_v4]
  try exact Finset.sum_congr rfl fun _ _ => mul_comm _ _
end Cert.ReferenceWCIdeal.Hand

namespace Cert.ReferenceWCTIdeal.Hand
open Cert.ReferenceWCTIdeal Cert.ReferenceWCTIdeal.Gen Cert.ReferenceWCTIdeal.Read
theorem ref_apply (x0 : (⟨S4096x1024, .f32⟩ : BufTy).Contents (Elt Ideal)) (x1 : (⟨S4096x1024, .f32⟩ : BufTy).Contents (Elt Ideal)) (r : Fin 1024) (l : Fin 1024) :
    val_main_v5 x0 x1 (ix2 r l) = ∑ n : Fin 4096, Cert.KernelWCIdeal.Hand.term x0 x1 n r l := by
  unfold Cert.KernelWCIdeal.Hand.term
  pointwise [val_main_cst, val_main_v0, val_main_v1, val_main_v2, val_main_v3, val_main_v4, val_main_v5]
  try exact Finset.sum_congr rfl fun _ _ => mul_comm _ _
end Cert.ReferenceWCTIdeal.Hand

namespace Cert.KernelWCIdeal.Hand
open Cert.KernelWCIdeal Cert.KernelWCIdeal.Gen Step
variable (m : (ℓ : Loc nD τ sig) → Buf (Elt Ideal) ℓ)

theorem s_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_junk_eq_canon]
  unfold kernelRun0_A
  dsimp only
  sl_unfold_words
  rw [View.canon_cons_unit_zero (S := S1024x1024) hz]
  simp only [View.readAt_eq_ld, View.readCov_unit_zero (S := S1024x1024) _ hz, (hs0_0 t).read_unread, (hs0_1 t).read_unread]
  simp only [View.ld_unit_zero (S := S1024x1024) hz, View.ld_unit_zero (S := S1024x1024) hz]

theorem s_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_junk_eq_canon]
    unfold kernelRun0_C
    dsimp only
    sl_unfold_words
    rw [View.canon_cons_unit_zero (S := S1024x1024) hz]
    simp only [View.readAt_eq_ld, Memref.IsWhole.read_unread, read_unread_whole]
    simp only [View.ld_unit_zero (S := S1024x1024) hz, View.ld_unit_zero (S := S1024x1024) hz, View.ld_unit_zero (S := S1024x1024) hz]
  · rw [outsAt0_B m c t h0 h1]
    dsimp only
    unfold sout0_B_0
    rw [View.read_writes_junk_eq_canon]
    unfold kernelRun0_B
    dsimp only
    sl_unfold_words
    rw [View.canon_cons_unit_zero (S := S1024x1024) hz]
    simp only [View.readAt_eq_ld, Memref.IsWhole.read_unread, read_unread_whole]
    simp only [View.ld_unit_zero (S := S1024x1024) hz, View.ld_unit_zero (S := S1024x1024) hz, View.ld_unit_zero (S := S1024x1024) hz]

theorem o_C (c : Dev nD) (t : Fin cfg0.N) (h1 : t.val % 4 = 3) :
    (outsAt0 m c t.val t.isLt).1 = k0_pay3 (outsAt0 m c t.val t.isLt).2 := by
  rw [s_B m c t (by omega), outsAt0_C m c t (by omega) h1]
  dsimp only
  unfold out0_C_2
  rw [View.read_writes_junk_eq_canon]
  unfold kernelRun0_C
  dsimp only
  sl_unfold_words
  rw [View.canon_cons_unit_zero (S := S1024x1024) hz]
  simp only [View.readAt_eq_ld, View.readCov_unit_zero (S := S1024x1024) _ hz, Memref.IsWhole.read_unread, read_unread_whole]
  simp only [View.ld_unit_zero (S := S1024x1024) hz, View.ld_unit_zero (S := S1024x1024) hz, View.ld_unit_zero (S := S1024x1024) hz]

theorem idx : ∀ t : Fin cfg0.N, win0_0.index t = ![t.val, 0] ∧ win0_1.index t = ![t.val, 0] ∧ win0_2.index t = ![0, 0] :=
  (by decide +kernel : ∀ t : Fin grid0.N, _)

/-- Row `r` of block `t` among the 4096 rows. -/
def row (t : Fin cfg0.N) (r : Fin 1024) : Fin 4096 := ⟨t.val * 1024 + r.val, by have := t.isLt; have : cfg0.N = 4 := rfl; omega⟩

theorem d0_apply (c : Dev nD) (t : Fin cfg0.N) (r : Fin 1024) (l : Fin 1024) :
    iblk m c 0 t (ix2 r l) = m ((c : Thread nD τ).loc main_arg0) (ix2 (row t r) l) := by
  unfold row
  blk_point [iblk, V, idx t]
theorem d1_apply (c : Dev nD) (t : Fin cfg0.N) (r : Fin 1024) (l : Fin 1024) :
    iblk m c 1 t (ix2 r l) = m ((c : Thread nD τ).loc main_arg1) (ix2 (row t r) l) := by
  unfold row
  blk_point [iblk, V, idx t]

theorem acc_apply (c : Dev nD) (r : Fin 1024) (l : Fin 1024) : (outsAt0 m c t0_3.val t0_3.isLt).2 (ix2 r l) =
    ∑ n : Fin 4096, term (m ((c : Thread nD τ).loc main_arg0)) (m ((c : Thread nD τ).loc main_arg1)) n r l := by
  have := Pipeline.eq_sum_fin_of_reset_step_apply_last (fun n h => (outsAt0 m c n h).2) 4 (k0_pay1 (F := Ideal))
    (fun t j => ∑ n : Fin 1024, term (m ((c : Thread nD τ).loc main_arg0)) (m ((c : Thread nD τ).loc main_arg1)) (row t n) (j 0) (j 1))
    (fun t h0 i => by
      idx_vars i
      beta_reduce
      rw [s_A m c t h0]
      pointwise [k0_pay2]
      simp only [d0_apply, d1_apply, term])
    (fun t h0 i => by
      idx_vars i
      beta_reduce
      rw [s_B m c t h0]
      pointwise [k0_pay2]
      simp only [d0_apply, d1_apply, term])
    le_rfl t0_3 rfl (ix2 r l)
  refine this.trans ?_
  change k0_pay1 (F := Ideal) (ix2 r l) + ∑ t : Fin cfg0.N, ∑ n : Fin 1024, term (m ((c : Thread nD τ).loc main_arg0)) (m ((c : Thread nD τ).loc main_arg1)) (row t n) r l = _
  rw [sum_blocks 4 1024 rfl]
  pointwise [k0_pay1]
  rfl

theorem final (c : Dev nD) (G : Buf (Elt Ideal) ((c : Thread nD τ).loc main_v2)) (hG : ∀ (r : Fin 1024) (l : Fin 1024), G (ix2 r l) =
    ∑ n : Fin 4096, term (m ((c : Thread nD τ).loc main_arg0)) (m ((c : Thread nD τ).loc main_arg1)) n r l) : (dats m 0 c).arrAt 2 cfg0.N = G := by
  refine (dats m 0 c).arrAt_eq_of_after_last 2 t0_3 (by decide +kernel) _ fun j => ?_
  blk_simp
  rw [after0_2, o_C m c t0_3 rfl]
  idx_vars j
  exact (acc_apply m c j0 j1).trans (hG j0 j1).symm
end Cert.KernelWCIdeal.Hand

namespace Cert.Proof.WC
theorem frameP : Cert.quiescent_KernelWC (hKernelWC := Cert.KernelWC.Gen.facts) := fun m ρ _ => Cert.KernelWC.Gen.frame m ρ
theorem framePI : Cert.quiescent_KernelWCIdeal (hKernelWCIdeal := Cert.KernelWCIdeal.Gen.facts) := fun m ρ _ => Cert.KernelWCIdeal.Gen.frame m ρ
theorem frameRI : Cert.quiescent_ReferenceWCIdeal (hReferenceWCIdeal := Cert.ReferenceWCIdeal.Gen.facts) := fun m ρ _ =>
  (θ_run _ _ _).mono (fun r h => ⟨fun c => (h c).2, sem_eq_zero_of_no_sems rfl r.2⟩) (Cert.ReferenceWCIdeal.Value.run m ρ)
theorem value : Cert.algebraic_KernelWCIdeal_ReferenceWCIdeal (hKernelWCIdeal := Cert.KernelWCIdeal.Gen.facts)
    (hReferenceWCIdeal := Cert.ReferenceWCIdeal.Gen.facts) := by
  intro m g m' g' _ hm
  refine ⟨_, (θ_run _ _ _).mono (fun r h c => ⟨(h c).1.trans (Cert.KernelWCIdeal.Hand.final m c _ fun r l => Cert.ReferenceWCIdeal.Hand.ref_apply
    (m ((c.tc : Thread Cert.KernelWCIdeal.nD Cert.KernelWCIdeal.τ).loc Cert.KernelWCIdeal.main_arg0)) (m ((c.tc : Thread Cert.KernelWCIdeal.nD Cert.KernelWCIdeal.τ).loc Cert.KernelWCIdeal.main_arg1)) r l), (h c).2⟩)
    (Cert.KernelWCIdeal.Value.run_blocks m g), (θ_run _ _ _).mono (fun r h c => ?_) (Cert.ReferenceWCIdeal.Value.run m' g')⟩
  obtain ⟨h1, h2⟩ := h c
  obtain ⟨e0, e1⟩ := hm c
  refine ⟨?_, h2⟩
  rw [← e0, ← e1]
  exact h1.trans (Cert.ReferenceWCIdeal.Read.val_main_v4_eq ..)
theorem frameRIT : Cert.quiescent_ReferenceWCTIdeal (hReferenceWCTIdeal := Cert.ReferenceWCTIdeal.Gen.facts) := fun m ρ _ =>
  (θ_run _ _ _).mono (fun r h => ⟨fun c => (h c).2, sem_eq_zero_of_no_sems rfl r.2⟩) (Cert.ReferenceWCTIdeal.Value.run m ρ)
theorem valueT : Cert.algebraic_KernelWCIdeal_ReferenceWCTIdeal (hKernelWCIdeal := Cert.KernelWCIdeal.Gen.facts)
    (hReferenceWCTIdeal := Cert.ReferenceWCTIdeal.Gen.facts) := by
  intro m g m' g' _ hm
  refine ⟨_, (θ_run _ _ _).mono (fun r h c => ⟨(h c).1.trans (Cert.KernelWCIdeal.Hand.final m c _ fun r l => Cert.ReferenceWCTIdeal.Hand.ref_apply
    (m ((c.tc : Thread Cert.KernelWCIdeal.nD Cert.KernelWCIdeal.τ).loc Cert.KernelWCIdeal.main_arg0)) (m ((c.tc : Thread Cert.KernelWCIdeal.nD Cert.KernelWCIdeal.τ).loc Cert.KernelWCIdeal.main_arg1)) r l), (h c).2⟩)
    (Cert.KernelWCIdeal.Value.run_blocks m g), (θ_run _ _ _).mono (fun r h c => ?_) (Cert.ReferenceWCTIdeal.Value.run m' g')⟩
  obtain ⟨h1, h2⟩ := h c
  obtain ⟨e0, e1⟩ := hm c
  refine ⟨?_, h2⟩
  rw [← e0, ← e1]
  exact h1.trans (Cert.ReferenceWCTIdeal.Read.val_main_v5_eq ..)
end Cert.Proof.WC
end
-- ==== Proof.WQClaim.lean ====
module

public import proofs.«01_k».proof.Defs
public import proofs.«01_k».proof.Proof.Gen.KernelWQ
public import proofs.«01_k».proof.Proof.Gen.KernelWQ.Frame
public import proofs.«01_k».proof.Proof.Gen.KernelWQIdeal.Value
public import proofs.«01_k».proof.Proof.Gen.ReferenceWQIdeal
public import proofs.«01_k».proof.Proof.Gen.ReferenceWQIdeal.Run
public import proofs.«01_k».proof.Proof.Gen.ReferenceWQIdeal.Read
public import proofs.«01_k».proof.Proof.Common
public import proofs.«01_k».proof.Proof.Real
public import Idealize.ShloMosaic.Lib.Pipeline.ValueKit
public import Idealize.ShloMosaic.Lib.Pipeline.ReadBack
public import Idealize.ShloMosaic.Lib.StableHlo.ReadAt
public import Idealize.ShloMosaic.Lib.Tactic
public import Idealize.ShloMosaic.Lib.Quiescent

/-! The gradient of a weight, a product over all 4096 rows, where the kernel's left factor has 1536 columns. -/

@[expose] public section
set_option maxRecDepth 16384
noncomputable section
open Idealize.ShloMosaic Idealize.ShloMosaic.TcCoe Idealize.SL.Sem
open Idealize.ShloMosaic.Pipeline (Dat)

/-- What row `n` adds to entry `(r, l)` of the product. -/
def Cert.KernelWQIdeal.Hand.term (x0 : (⟨Cert.KernelWQIdeal.S4096x1536, .f32⟩ : BufTy).Contents (Elt Ideal)) (x1 : (⟨Cert.KernelWQIdeal.S4096x1024, .f32⟩ : BufTy).Contents (Elt Ideal))
    (n : Fin 4096) (r : Fin 1536) (l : Fin 1024) : EReal := x0 (ix2 n r) * x1 (ix2 n l)

namespace Cert.ReferenceWQIdeal.Hand
open Cert.ReferenceWQIdeal Cert.ReferenceWQIdeal.Gen Cert.ReferenceWQIdeal.Read
theorem ref_apply (x0 : (⟨S4096x1536, .f32⟩ : BufTy).Contents (Elt Ideal)) (x1 : (⟨S4096x1024, .f32⟩ : BufTy).Contents (Elt Ideal)) (r : Fin 1536) (l : Fin 1024) :
    val_main_v5 x0 x1 (ix2 r l) = ∑ n : Fin 4096, Cert.KernelWQIdeal.Hand.term x0 x1 n r l := by
  unfold Cert.KernelWQIdeal.Hand.term
  pointwise [val_main_cst, val_main_v0, val_main_v1, val_main_v2, val_main_v3, val_main_v4, val_main_v5]
  try exact Finset.sum_congr rfl fun _ _ => mul_comm _ _
end Cert.ReferenceWQIdeal.Hand

namespace Cert.KernelWQIdeal.Hand
open Cert.KernelWQIdeal Cert.KernelWQIdeal.Gen Step
variable (m : (ℓ : Loc nD τ sig) → Buf (Elt Ideal) ℓ)

theorem s_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_junk_eq_canon]
  unfold kernelRun0_A
  dsimp only
  sl_unfold_words
  rw [View.canon_cons_unit_zero (S := S1536x1024) hz]
  simp only [View.readAt_eq_ld, View.readCov_unit_zero (S := S1536x1024) _ hz, (hs0_0 t).read_unread, (hs0_1 t).read_unread]
  simp only [View.ld_unit_zero (S := S1024x1536) hz, View.ld_unit_zero (S := S1024x1024) hz]

theorem s_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_junk_eq_canon]
    unfold kernelRun0_C
    dsimp only
    sl_unfold_words
    rw [View.canon_cons_unit_zero (S := S1536x1024) hz]
    simp only [View.readAt_eq_ld, Memref.IsWhole.read_unread, read_unread_whole]
    simp only [View.ld_unit_zero (S := S1536x1024) hz, View.ld_unit_zero (S := S1024x1536) hz, View.ld_unit_zero (S := S1024x1024) hz]
  · rw [outsAt0_B m c t h0 h1]
    dsimp only
    unfold sout0_B_0
    rw [View.read_writes_junk_eq_canon]
    unfold kernelRun0_B
    dsimp only
    sl_unfold_words
    rw [View.canon_cons_unit_zero (S := S1536x1024) hz]
    simp only [View.readAt_eq_ld, Memref.IsWhole.read_unread, read_unread_whole]
    simp only [View.ld_unit_zero (S := S1536x1024) hz, View.ld_unit_zero (S := S1024x1536) hz, View.ld_unit_zero (S := S1024x1024) hz]

theorem o_C (c : Dev nD) (t : Fin cfg0.N) (h1 : t.val % 4 = 3) :
    (outsAt0 m c t.val t.isLt).1 = k0_pay3 (outsAt0 m c t.val t.isLt).2 := by
  rw [s_B m c t (by omega), outsAt0_C m c t (by omega) h1]
  dsimp only
  unfold out0_C_2
  rw [View.read_writes_junk_eq_canon]
  unfold kernelRun0_C
  dsimp only
  sl_unfold_words
  rw [View.canon_cons_unit_zero (S := S1536x1024) hz]
  simp only [View.readAt_eq_ld, View.readCov_unit_zero (S := S1536x1024) _ hz, Memref.IsWhole.read_unread, read_unread_whole]
  simp only [View.ld_unit_zero (S := S1536x1024) hz, View.ld_unit_zero (S := S1024x1536) hz, View.ld_unit_zero (S := S1024x1024) hz]

theorem idx : ∀ t : Fin cfg0.N, win0_0.index t = ![t.val, 0] ∧ win0_1.index t = ![t.val, 0] ∧ win0_2.index t = ![0, 0] :=
  (by decide +kernel : ∀ t : Fin grid0.N, _)

/-- Row `r` of block `t` among the 4096 rows. -/
def row (t : Fin cfg0.N) (r : Fin 1024) : Fin 4096 := ⟨t.val * 1024 + r.val, by have := t.isLt; have : cfg0.N = 4 := rfl; omega⟩

theorem d0_apply (c : Dev nD) (t : Fin cfg0.N) (r : Fin 1024) (l : Fin 1536) :
    iblk m c 0 t (ix2 r l) = m ((c : Thread nD τ).loc main_arg0) (ix2 (row t r) l) := by
  unfold row
  blk_point [iblk, V, idx t]
theorem d1_apply (c : Dev nD) (t : Fin cfg0.N) (r : Fin 1024) (l : Fin 1024) :
    iblk m c 1 t (ix2 r l) = m ((c : Thread nD τ).loc main_arg1) (ix2 (row t r) l) := by
  unfold row
  blk_point [iblk, V, idx t]

theorem acc_apply (c : Dev nD) (r : Fin 1536) (l : Fin 1024) : (outsAt0 m c t0_3.val t0_3.isLt).2 (ix2 r l) =
    ∑ n : Fin 4096, term (m ((c : Thread nD τ).loc main_arg0)) (m ((c : Thread nD τ).loc main_arg1)) n r l := by
  have := Pipeline.eq_sum_fin_of_reset_step_apply_last (fun n h => (outsAt0 m c n h).2) 4 (k0_pay1 (F := Ideal))
    (fun t j => ∑ n : Fin 1024, term (m ((c : Thread nD τ).loc main_arg0)) (m ((c : Thread nD τ).loc main_arg1)) (row t n) (j 0) (j 1))
    (fun t h0 i => by
      idx_vars i
      beta_reduce
      rw [s_A m c t h0]
      pointwise [k0_pay2]
      simp only [d0_apply, d1_apply, term])
    (fun t h0 i => by
      idx_vars i
      beta_reduce
      rw [s_B m c t h0]
      pointwise [k0_pay2]
      simp only [d0_apply, d1_apply, term])
    le_rfl t0_3 rfl (ix2 r l)
  refine this.trans ?_
  change k0_pay1 (F := Ideal) (ix2 r l) + ∑ t : Fin cfg0.N, ∑ n : Fin 1024, term (m ((c : Thread nD τ).loc main_arg0)) (m ((c : Thread nD τ).loc main_arg1)) (row t n) r l = _
  rw [sum_blocks 4 1024 rfl]
  pointwise [k0_pay1]
  rfl

theorem final (c : Dev nD) (G : Buf (Elt Ideal) ((c : Thread nD τ).loc main_v2)) (hG : ∀ (r : Fin 1536) (l : Fin 1024), G (ix2 r l) =
    ∑ n : Fin 4096, term (m ((c : Thread nD τ).loc main_arg0)) (m ((c : Thread nD τ).loc main_arg1)) n r l) : (dats m 0 c).arrAt 2 cfg0.N = G := by
  refine (dats m 0 c).arrAt_eq_of_after_last 2 t0_3 (by decide +kernel) _ fun j => ?_
  blk_simp
  rw [after0_2, o_C m c t0_3 rfl]
  idx_vars j
  exact (acc_apply m c j0 j1).trans (hG j0 j1).symm
end Cert.KernelWQIdeal.Hand

namespace Cert.Proof.WQ
theorem frameP : Cert.quiescent_KernelWQ (hKernelWQ := Cert.KernelWQ.Gen.facts) := fun m ρ _ => Cert.KernelWQ.Gen.frame m ρ
theorem framePI : Cert.quiescent_KernelWQIdeal (hKernelWQIdeal := Cert.KernelWQIdeal.Gen.facts) := fun m ρ _ => Cert.KernelWQIdeal.Gen.frame m ρ
theorem frameRI : Cert.quiescent_ReferenceWQIdeal (hReferenceWQIdeal := Cert.ReferenceWQIdeal.Gen.facts) := fun m ρ _ =>
  (θ_run _ _ _).mono (fun r h => ⟨fun c => (h c).2, sem_eq_zero_of_no_sems rfl r.2⟩) (Cert.ReferenceWQIdeal.Value.run m ρ)
theorem value : Cert.algebraic_KernelWQIdeal_ReferenceWQIdeal (hKernelWQIdeal := Cert.KernelWQIdeal.Gen.facts)
    (hReferenceWQIdeal := Cert.ReferenceWQIdeal.Gen.facts) := by
  intro m g m' g' _ hm
  refine ⟨_, (θ_run _ _ _).mono (fun r h c => ⟨(h c).1.trans (Cert.KernelWQIdeal.Hand.final m c _ fun r l => Cert.ReferenceWQIdeal.Hand.ref_apply
    (m ((c.tc : Thread Cert.KernelWQIdeal.nD Cert.KernelWQIdeal.τ).loc Cert.KernelWQIdeal.main_arg0)) (m ((c.tc : Thread Cert.KernelWQIdeal.nD Cert.KernelWQIdeal.τ).loc Cert.KernelWQIdeal.main_arg1)) r l), (h c).2⟩)
    (Cert.KernelWQIdeal.Value.run_blocks m g), (θ_run _ _ _).mono (fun r h c => ?_) (Cert.ReferenceWQIdeal.Value.run m' g')⟩
  obtain ⟨h1, h2⟩ := h c
  obtain ⟨e0, e1⟩ := hm c
  refine ⟨?_, h2⟩
  rw [← e0, ← e1]
  exact h1.trans (Cert.ReferenceWQIdeal.Read.val_main_v5_eq ..)
end Cert.Proof.WQ
end
-- ==== Proof.WGClaim.lean ====
module

public import proofs.«01_k».proof.Defs
public import proofs.«01_k».proof.Proof.Gen.KernelWG
public import proofs.«01_k».proof.Proof.Gen.KernelWG.Frame
public import proofs.«01_k».proof.Proof.Gen.KernelWGIdeal.Value
public import proofs.«01_k».proof.Proof.Gen.ReferenceWGIdeal
public import proofs.«01_k».proof.Proof.Gen.ReferenceWGIdeal.Run
public import proofs.«01_k».proof.Proof.Gen.ReferenceWGIdeal.Read
public import proofs.«01_k».proof.Proof.Common
public import proofs.«01_k».proof.Proof.Real
public import Idealize.ShloMosaic.Lib.Pipeline.ValueKit
public import Idealize.ShloMosaic.Lib.Pipeline.ReadBack
public import Idealize.ShloMosaic.Lib.StableHlo.ReadAt
public import Idealize.ShloMosaic.Lib.Tactic
public import Idealize.ShloMosaic.Lib.Quiescent

/-! The gradient of a weight, a product over all 4096 rows, where the kernel's left factor has 2048 columns. -/

@[expose] public section
set_option maxRecDepth 16384
noncomputable section
open Idealize.ShloMosaic Idealize.ShloMosaic.TcCoe Idealize.SL.Sem
open Idealize.ShloMosaic.Pipeline (Dat)

/-- What row `n` adds to entry `(r, l)` of the product. -/
def Cert.KernelWGIdeal.Hand.term (x0 : (⟨Cert.KernelWGIdeal.S4096x2048, .f32⟩ : BufTy).Contents (Elt Ideal)) (x1 : (⟨Cert.KernelWGIdeal.S4096x1024, .f32⟩ : BufTy).Contents (Elt Ideal))
    (n : Fin 4096) (r : Fin 2048) (l : Fin 1024) : EReal := x0 (ix2 n r) * x1 (ix2 n l)

namespace Cert.ReferenceWGIdeal.Hand
open Cert.ReferenceWGIdeal Cert.ReferenceWGIdeal.Gen Cert.ReferenceWGIdeal.Read
theorem ref_apply (x0 : (⟨S4096x2048, .f32⟩ : BufTy).Contents (Elt Ideal)) (x1 : (⟨S4096x1024, .f32⟩ : BufTy).Contents (Elt Ideal)) (r : Fin 2048) (l : Fin 1024) :
    val_main_v5 x0 x1 (ix2 r l) = ∑ n : Fin 4096, Cert.KernelWGIdeal.Hand.term x0 x1 n r l := by
  unfold Cert.KernelWGIdeal.Hand.term
  pointwise [val_main_cst, val_main_v0, val_main_v1, val_main_v2, val_main_v3, val_main_v4, val_main_v5]
  try exact Finset.sum_congr rfl fun _ _ => mul_comm _ _
end Cert.ReferenceWGIdeal.Hand

namespace Cert.KernelWGIdeal.Hand
open Cert.KernelWGIdeal Cert.KernelWGIdeal.Gen Step
variable (m : (ℓ : Loc nD τ sig) → Buf (Elt Ideal) ℓ)

theorem s_A (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  unfold sout0_A_0
  rw [View.read_writes_junk_eq_canon]
  unfold kernelRun0_A
  dsimp only
  sl_unfold_words
  rw [View.canon_cons_unit_zero (S := S2048x1024) hz]
  simp only [View.readAt_eq_ld, View.readCov_unit_zero (S := S2048x1024) _ hz, (hs0_0 t).read_unread, (hs0_1 t).read_unread]
  simp only [View.ld_unit_zero (S := S1024x2048) hz, View.ld_unit_zero (S := S1024x1024) hz]

theorem s_B (c : Dev nD) (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    unfold sout0_C_0
    rw [View.read_writes_junk_eq_canon]
    unfold kernelRun0_C
    dsimp only
    sl_unfold_words
    rw [View.canon_cons_unit_zero (S := S2048x1024) hz]
    simp only [View.readAt_eq_ld, Memref.IsWhole.read_unread, read_unread_whole]
    simp only [View.ld_unit_zero (S := S2048x1024) hz, View.ld_unit_zero (S := S1024x2048) hz, View.ld_unit_zero (S := S1024x1024) hz]
  · rw [outsAt0_B m c t h0 h1]
    dsimp only
    unfold sout0_B_0
    rw [View.read_writes_junk_eq_canon]
    unfold kernelRun0_B
    dsimp only
    sl_unfold_words
    rw [View.canon_cons_unit_zero (S := S2048x1024) hz]
    simp only [View.readAt_eq_ld, Memref.IsWhole.read_unread, read_unread_whole]
    simp only [View.ld_unit_zero (S := S2048x1024) hz, View.ld_unit_zero (S := S1024x2048) hz, View.ld_unit_zero (S := S1024x1024) hz]

theorem o_C (c : Dev nD) (t : Fin cfg0.N) (h1 : t.val % 4 = 3) :
    (outsAt0 m c t.val t.isLt).1 = k0_pay3 (outsAt0 m c t.val t.isLt).2 := by
  rw [s_B m c t (by omega), outsAt0_C m c t (by omega) h1]
  dsimp only
  unfold out0_C_2
  rw [View.read_writes_junk_eq_canon]
  unfold kernelRun0_C
  dsimp only
  sl_unfold_words
  rw [View.canon_cons_unit_zero (S := S2048x1024) hz]
  simp only [View.readAt_eq_ld, View.readCov_unit_zero (S := S2048x1024) _ hz, Memref.IsWhole.read_unread, read_unread_whole]
  simp only [View.ld_unit_zero (S := S2048x1024) hz, View.ld_unit_zero (S := S1024x2048) hz, View.ld_unit_zero (S := S1024x1024) hz]

theorem idx : ∀ t : Fin cfg0.N, win0_0.index t = ![t.val, 0] ∧ win0_1.index t = ![t.val, 0] ∧ win0_2.index t = ![0, 0] :=
  (by decide +kernel : ∀ t : Fin grid0.N, _)

/-- Row `r` of block `t` among the 4096 rows. -/
def row (t : Fin cfg0.N) (r : Fin 1024) : Fin 4096 := ⟨t.val * 1024 + r.val, by have := t.isLt; have : cfg0.N = 4 := rfl; omega⟩

theorem d0_apply (c : Dev nD) (t : Fin cfg0.N) (r : Fin 1024) (l : Fin 2048) :
    iblk m c 0 t (ix2 r l) = m ((c : Thread nD τ).loc main_arg0) (ix2 (row t r) l) := by
  unfold row
  blk_point [iblk, V, idx t]
theorem d1_apply (c : Dev nD) (t : Fin cfg0.N) (r : Fin 1024) (l : Fin 1024) :
    iblk m c 1 t (ix2 r l) = m ((c : Thread nD τ).loc main_arg1) (ix2 (row t r) l) := by
  unfold row
  blk_point [iblk, V, idx t]

theorem acc_apply (c : Dev nD) (r : Fin 2048) (l : Fin 1024) : (outsAt0 m c t0_3.val t0_3.isLt).2 (ix2 r l) =
    ∑ n : Fin 4096, term (m ((c : Thread nD τ).loc main_arg0)) (m ((c : Thread nD τ).loc main_arg1)) n r l := by
  have := Pipeline.eq_sum_fin_of_reset_step_apply_last (fun n h => (outsAt0 m c n h).2) 4 (k0_pay1 (F := Ideal))
    (fun t j => ∑ n : Fin 1024, term (m ((c : Thread nD τ).loc main_arg0)) (m ((c : Thread nD τ).loc main_arg1)) (row t n) (j 0) (j 1))
    (fun t h0 i => by
      idx_vars i
      beta_reduce
      rw [s_A m c t h0]
      pointwise [k0_pay2]
      simp only [d0_apply, d1_apply, term])
    (fun t h0 i => by
      idx_vars i
      beta_reduce
      rw [s_B m c t h0]
      pointwise [k0_pay2]
      simp only [d0_apply, d1_apply, term])
    le_rfl t0_3 rfl (ix2 r l)
  refine this.trans ?_
  change k0_pay1 (F := Ideal) (ix2 r l) + ∑ t : Fin cfg0.N, ∑ n : Fin 1024, term (m ((c : Thread nD τ).loc main_arg0)) (m ((c : Thread nD τ).loc main_arg1)) (row t n) r l = _
  rw [sum_blocks 4 1024 rfl]
  pointwise [k0_pay1]
  rfl

theorem final (c : Dev nD) (G : Buf (Elt Ideal) ((c : Thread nD τ).loc main_v2)) (hG : ∀ (r : Fin 2048) (l : Fin 1024), G (ix2 r l) =
    ∑ n : Fin 4096, term (m ((c : Thread nD τ).loc main_arg0)) (m ((c : Thread nD τ).loc main_arg1)) n r l) : (dats m 0 c).arrAt 2 cfg0.N = G := by
  refine (dats m 0 c).arrAt_eq_of_after_last 2 t0_3 (by decide +kernel) _ fun j => ?_
  blk_simp
  rw [after0_2, o_C m c t0_3 rfl]
  idx_vars j
  exact (acc_apply m c j0 j1).trans (hG j0 j1).symm
end Cert.KernelWGIdeal.Hand

namespace Cert.Proof.WG
theorem frameP : Cert.quiescent_KernelWG (hKernelWG := Cert.KernelWG.Gen.facts) := fun m ρ _ => Cert.KernelWG.Gen.frame m ρ
theorem framePI : Cert.quiescent_KernelWGIdeal (hKernelWGIdeal := Cert.KernelWGIdeal.Gen.facts) := fun m ρ _ => Cert.KernelWGIdeal.Gen.frame m ρ
theorem frameRI : Cert.quiescent_ReferenceWGIdeal (hReferenceWGIdeal := Cert.ReferenceWGIdeal.Gen.facts) := fun m ρ _ =>
  (θ_run _ _ _).mono (fun r h => ⟨fun c => (h c).2, sem_eq_zero_of_no_sems rfl r.2⟩) (Cert.ReferenceWGIdeal.Value.run m ρ)
theorem value : Cert.algebraic_KernelWGIdeal_ReferenceWGIdeal (hKernelWGIdeal := Cert.KernelWGIdeal.Gen.facts)
    (hReferenceWGIdeal := Cert.ReferenceWGIdeal.Gen.facts) := by
  intro m g m' g' _ hm
  refine ⟨_, (θ_run _ _ _).mono (fun r h c => ⟨(h c).1.trans (Cert.KernelWGIdeal.Hand.final m c _ fun r l => Cert.ReferenceWGIdeal.Hand.ref_apply
    (m ((c.tc : Thread Cert.KernelWGIdeal.nD Cert.KernelWGIdeal.τ).loc Cert.KernelWGIdeal.main_arg0)) (m ((c.tc : Thread Cert.KernelWGIdeal.nD Cert.KernelWGIdeal.τ).loc Cert.KernelWGIdeal.main_arg1)) r l), (h c).2⟩)
    (Cert.KernelWGIdeal.Value.run_blocks m g), (θ_run _ _ _).mono (fun r h c => ?_) (Cert.ReferenceWGIdeal.Value.run m' g')⟩
  obtain ⟨h1, h2⟩ := h c
  obtain ⟨e0, e1⟩ := hm c
  refine ⟨?_, h2⟩
  rw [← e0, ← e1]
  exact h1.trans (Cert.ReferenceWGIdeal.Read.val_main_v5_eq ..)
end Cert.Proof.WG
end
-- ==== Proof.PBlocks.lean ====
module

public import proofs.«01_k».proof.Proof.Gen.KernelPIdeal.Value
public import proofs.«01_k».proof.Proof.Common
public import Idealize.ShloMosaic.Lib.Pipeline.ReadBack
public import Idealize.ShloMosaic.Lib.Tactic

/-! The input side of the layer, forward: what one grid point leaves in its two outputs and in the weights it keeps. -/

@[expose] public section
noncomputable section
open Idealize.ShloMosaic Idealize.ShloMosaic.TcCoe Idealize.SL.Sem
open Idealize.ShloMosaic.Pipeline (Dat)
namespace Cert.KernelPIdeal.Hand
open Cert.KernelPIdeal Cert.KernelPIdeal.Gen Step
variable {F : FTy → Type} [FloatOps F]
variable (m : (ℓ : Loc nD τ sig) → Buf (Elt F) ℓ)

/-- The projection of the normalised rows `h`, in the seventeen pieces of 512 columns it is stored in. -/
def projB (h : FVec F S256x1024 .bf16) (W : Vec F S8704x1024 .bf16) : Vec F S256x8704 .f32 :=
  View.canon (Val := Elt F) (s := S256x8704) (e := .f32)
    [⟨Rect.unit ![0, 8192] ![256, 512] inb_S256x8704_S256x512_0_8192, k0_pay1 h (View.ld W (Rect.unit ![8192, 0] ![512, 1024] inb_S8704x1024_S512x1024_8192_0))⟩,
      ⟨Rect.unit ![0, 7680] ![256, 512] inb_S256x8704_S256x512_0_7680, k0_pay1 h (View.ld W (Rect.unit ![7680, 0] ![512, 1024] inb_S8704x1024_S512x1024_7680_0))⟩,
      ⟨Rect.unit ![0, 7168] ![256, 512] inb_S256x8704_S256x512_0_7168, k0_pay1 h (View.ld W (Rect.unit ![7168, 0] ![512, 1024] inb_S8704x1024_S512x1024_7168_0))⟩,
      ⟨Rect.unit ![0, 6656] ![256, 512] inb_S256x8704_S256x512_0_6656, k0_pay1 h (View.ld W (Rect.unit ![6656, 0] ![512, 1024] inb_S8704x1024_S512x1024_6656_0))⟩,
      ⟨Rect.unit ![0, 6144] ![256, 512] inb_S256x8704_S256x512_0_6144, k0_pay1 h (View.ld W (Rect.unit ![6144, 0] ![512, 1024] inb_S8704x1024_S512x1024_6144_0))⟩,
      ⟨Rect.unit ![0, 5632] ![256, 512] inb_S256x8704_S256x512_0_5632, k0_pay1 h (View.ld W (Rect.unit ![5632, 0] ![512, 1024] inb_S8704x1024_S512x1024_5632_0))⟩,
      ⟨Rect.unit ![0, 5120] ![256, 512] inb_S256x8704_S256x512_0_5120, k0_pay1 h (View.ld W (Rect.unit ![5120, 0] ![512, 1024] inb_S8704x1024_S512x1024_5120_0))⟩,
      ⟨Rect.unit ![0, 4608] ![256, 512] inb_S256x8704_S256x512_0_4608, k0_pay1 h (View.ld W (Rect.unit ![4608, 0] ![512, 1024] inb_S8704x1024_S512x1024_4608_0))⟩,
      ⟨Rect.unit ![0, 4096] ![256, 512] inb_S256x8704_S256x512_0_4096, k0_pay1 h (View.ld W (Rect.unit ![4096, 0] ![512, 1024] inb_S8704x1024_S512x1024_4096_0))⟩,
      ⟨Rect.unit ![0, 3584] ![256, 512] inb_S256x8704_S256x512_0_3584, k0_pay1 h (View.ld W (Rect.unit ![3584, 0] ![512, 1024] inb_S8704x1024_S512x1024_3584_0))⟩,
      ⟨Rect.unit ![0, 3072] ![256, 512] inb_S256x8704_S256x512_0_3072, k0_pay1 h (View.ld W (Rect.unit ![3072, 0] ![512, 1024] inb_S8704x1024_S512x1024_3072_0))⟩,
      ⟨Rect.unit ![0, 2560] ![256, 512] inb_S256x8704_S256x512_0_2560, k0_pay1 h (View.ld W (Rect.unit ![2560, 0] ![512, 1024] inb_S8704x1024_S512x1024_2560_0))⟩,
      ⟨Rect.unit ![0, 2048] ![256, 512] inb_S256x8704_S256x512_0_2048, k0_pay1 h (View.ld W (Rect.unit ![2048, 0] ![512, 1024] inb_S8704x1024_S512x1024_2048_0))⟩,
      ⟨Rect.unit ![0, 1536] ![256, 512] inb_S256x8704_S256x512_0_1536, k0_pay1 h (View.ld W (Rect.unit ![1536, 0] ![512, 1024] inb_S8704x1024_S512x1024_1536_0))⟩,
      ⟨Rect.unit ![0, 1024] ![256, 512] inb_S256x8704_S256x512_0_1024, k0_pay1 h (View.ld W (Rect.unit ![1024, 0] ![512, 1024] inb_S8704x1024_S512x1024_1024_0))⟩,
      ⟨Rect.unit ![0, 512] ![256, 512] inb_S256x8704_S256x512_0_512, k0_pay1 h (View.ld W (Rect.unit ![512, 0] ![512, 1024] inb_S8704x1024_S512x1024_512_0))⟩,
      ⟨Rect.unit ![0, 0] ![256, 512] inb_S256x8704_S256x512_0_0, k0_pay1 h (View.ld W (Rect.unit ![0, 0] ![512, 1024] inb_S8704x1024_S512x1024_0_0))⟩]

/-! The weights a point keeps are the ones the first point copied. -/

theorem sc_A (c : Dev nD) (t : Fin cfg0.N) (h0 : t.val % 16 = 0) :
    (outsAt0 m c t.val t.isLt).2.2 = V m c main_v1 := by
  rw [outsAt0_A m c t h0]
  dsimp only
  unfold sout0_A_0
  rw [View.read_writes_junk_eq_canon]
  unfold kernelRun0_A
  dsimp only
  sl_unfold_words
  rw [canon_whole]
  rfl

theorem sc_B (c : Dev nD) (t : Fin cfg0.N) (h0 : ¬t.val % 16 = 0) :
    (outsAt0 m c t.val t.isLt).2.2 = (outsAt0 m c (t.val - 1) (Nat.lt_of_le_of_lt (Nat.sub_le _ _) t.isLt)).2.2 := by
  rw [outsAt0_B m c t h0]
  dsimp only
  rfl

theorem sc (c : Dev nD) : ∀ (n : ℕ) (h : n < cfg0.N), (outsAt0 m c n h).2.2 = V m c main_v1
  | 0, h => sc_A m c ⟨0, h⟩ rfl
  | n + 1, h => by
    by_cases h0 : (n + 1) % 16 = 0
    · exact sc_A m c ⟨n + 1, h⟩ h0
    · exact (sc_B m c ⟨n + 1, h⟩ h0).trans (sc c n _)

theorem o2_A (c : Dev nD) (t : Fin cfg0.N) (h0 : t.val % 16 = 0) :
    (outsAt0 m c t.val t.isLt).1 = k0_pay2 (iblk m c 0 t) (iblk m c 1 t) := by
  rw [outsAt0_A m c t h0]
  dsimp only
  unfold out0_A_2
  rw [View.read_writes_junk_eq_canon]
  unfold kernelRun0_A
  dsimp only
  sl_unfold_words
  rw [View.canon_unit_zero hz]
  simp only [View.readAt_eq_ld, (hs0_0 t).read_unread, (hs0_1 t).read_unread]
  simp only [View.ld_unit_zero (S := S256x1024) hz, View.ld_unit_zero (S := S1x1024) hz]

theorem o2_B (c : Dev nD) (t : Fin cfg0.N) (h0 : ¬t.val % 16 = 0) :
    (outsAt0 m c t.val t.isLt).1 = k0_pay2 (iblk m c 0 t) (iblk m c 1 t) := by
  rw [outsAt0_B m c t h0]
  dsimp only
  unfold out0_B_2
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]

theorem o2 (c : Dev nD) (t : Fin cfg0.N) : (outsAt0 m c t.val t.isLt).1 = k0_pay2 (iblk m c 0 t) (iblk m c 1 t) := by
  by_cases h0 : t.val % 16 = 0
  · exact o2_A m c t h0
  · exact o2_B m c t h0

theorem o3_A (c : Dev nD) (t : Fin cfg0.N) (h0 : t.val % 16 = 0) :
    (outsAt0 m c t.val t.isLt).2.1 = projB (k0_pay2 (iblk m c 0 t) (iblk m c 1 t)) (V m c main_v1) := by
  rw [outsAt0_A m c t h0]
  dsimp only
  unfold out0_A_3
  rw [View.read_writes_junk_eq_canon]
  unfold kernelRun0_A
  dsimp only
  sl_unfold_words
  simp only [View.readAt_eq_ld, readCov_whole, (hs0_0 t).read_unread, (hs0_1 t).read_unread]
  simp only [View.ld_unit_zero (S := S256x1024) hz, View.ld_unit_zero (S := S1x1024) hz]
  rfl

theorem o3_B (c : Dev nD) (t : Fin cfg0.N) (h0 : ¬t.val % 16 = 0) :
    (outsAt0 m c t.val t.isLt).2.1 = projB (k0_pay2 (iblk m c 0 t) (iblk m c 1 t)) (V m c main_v1) := by
  rw [outsAt0_B m c t h0]
  dsimp only
  rw [sc]
  unfold out0_B_3
  rw [View.read_writes_junk_eq_canon]
  unfold kernelRun0_B
  dsimp only
  sl_unfold_words
  simp only [View.readAt_eq_ld, Memref.IsWhole.read_unread, read_unread_whole]
  simp only [View.ld_unit_zero (S := S256x1024) hz, View.ld_unit_zero (S := S1x1024) hz]
  rfl

theorem o3 (c : Dev nD) (t : Fin cfg0.N) :
    (outsAt0 m c t.val t.isLt).2.1 = projB (k0_pay2 (iblk m c 0 t) (iblk m c 1 t)) (V m c main_v1) := by
  by_cases h0 : t.val % 16 = 0
  · exact o3_A m c t h0
  · exact o3_B m c t h0

end Cert.KernelPIdeal.Hand
-- ==== Proof.PClaim.lean ====
module

public import proofs.«01_k».proof.Defs
public import proofs.«01_k».proof.Proof.PBlocks
public import proofs.«01_k».proof.Proof.Gen.KernelP
public import proofs.«01_k».proof.Proof.Gen.KernelP.Frame
public import proofs.«01_k».proof.Proof.Gen.ReferencePIdeal
public import proofs.«01_k».proof.Proof.Gen.ReferencePIdeal.Run
public import proofs.«01_k».proof.Proof.Gen.ReferencePIdeal.Read
public import Idealize.ShloMosaic.Lib.Pipeline.ValueKit
public import Idealize.ShloMosaic.Lib.StableHlo.ReadAt
public import Idealize.ShloMosaic.Lib.Quiescent

/-! The input side of the layer, forward: the normalised rows and their projection are the reference's. -/

@[expose] public section
set_option maxRecDepth 16384
noncomputable section
open Idealize.ShloMosaic Idealize.ShloMosaic.TcCoe Idealize.SL.Sem
open Idealize.ShloMosaic.Pipeline (Dat)

namespace Cert.ReferencePIdeal.Hand
open Cert.ReferencePIdeal Cert.ReferencePIdeal.Gen Cert.ReferencePIdeal.Read
variable (x0 : (⟨S4096x1024, .f32⟩ : BufTy).Contents (Elt Ideal)) (x1 : (⟨S1x1024, .f32⟩ : BufTy).Contents (Elt Ideal))
  (x2 : (⟨S1024x8704, .f32⟩ : BufTy).Contents (Elt Ideal))

/-- The normalised rows. -/
def h (r : Fin 4096) (l : Fin 1024) : EReal :=
  x0 (ix2 r l) * Ideal.rsqrt (Ideal.div (∑ k : Fin 1024, x0 (ix2 r k) * x0 (ix2 r k)) (Ideal.ofBits FTy.f32 1149239296#32) + Ideal.ofBits FTy.f32 897988541#32) * x1 (ix2 0 l)
/-- Their projection. -/
def proj (r : Fin 4096) (k : Fin 8704) : EReal := ∑ j : Fin 1024, h x0 x1 r j * x2 (ix2 j k)

theorem h_apply (r : Fin 4096) (l : Fin 1024) : val_main_v12 x0 x1 (ix2 r l) = h x0 x1 r l := by
  unfold h
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
theorem proj_apply (r : Fin 4096) (k : Fin 8704) : val_main_v13 x0 x1 x2 (ix2 r k) = proj x0 x1 x2 r k := by
  unfold proj h
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
end Cert.ReferencePIdeal.Hand

namespace Cert.KernelPIdeal.Hand
open Cert.KernelPIdeal Cert.KernelPIdeal.Gen Cert.ReferencePIdeal.Hand

/-- One entry of the projection of a block's rows. -/
def projE (h : FVec Ideal S256x1024 .bf16) (W : Vec Ideal S8704x1024 .bf16) (r : Fin 256) (k : Fin 8704) : EReal := ∑ j : Fin 1024, h (ix2 r j) * W (ix2 k j)

theorem piece (h : FVec Ideal S256x1024 .bf16) (W : Vec Ideal S8704x1024 .bf16) (w : Vec Ideal S512x1024 .bf16) (p : Fin 512 → Fin 8704)
    (hw : ∀ k l, w (ix2 k l) = W (ix2 (p k) l)) (r : Fin 256) (k : Fin 512) : k0_pay1 h w (ix2 r k) = projE h W r (p k) := by
  unfold projE
  pointwise [k0_pay1]
  simp only [hw]

theorem emb0 (r : Fin 256) (k : Fin 512) : (Rect.unit (s := S256x8704) ![0, 0] ![256, 512] inb_S256x8704_S256x512_0_0).emb (ix2 r k) = ix2 r ⟨k.val, by omega⟩ := by
  blk_ext []
theorem rmb0 (k : Fin 512) (l : Fin 1024) : (Rect.unit (s := S8704x1024) ![0, 0] ![512, 1024] inb_S8704x1024_S512x1024_0_0).emb (ix2 k l) = ix2 ⟨k.val, by omega⟩ l := by
  blk_ext []
theorem emb1 (r : Fin 256) (k : Fin 512) : (Rect.unit (s := S256x8704) ![0, 512] ![256, 512] inb_S256x8704_S256x512_0_512).emb (ix2 r k) = ix2 r ⟨512 + k.val, by omega⟩ := by
  blk_ext []
theorem rmb1 (k : Fin 512) (l : Fin 1024) : (Rect.unit (s := S8704x1024) ![512, 0] ![512, 1024] inb_S8704x1024_S512x1024_512_0).emb (ix2 k l) = ix2 ⟨512 + k.val, by omega⟩ l := by
  blk_ext []
theorem emb2 (r : Fin 256) (k : Fin 512) : (Rect.unit (s := S256x8704) ![0, 1024] ![256, 512] inb_S256x8704_S256x512_0_1024).emb (ix2 r k) = ix2 r ⟨1024 + k.val, by omega⟩ := by
  blk_ext []
theorem rmb2 (k : Fin 512) (l : Fin 1024) : (Rect.unit (s := S8704x1024) ![1024, 0] ![512, 1024] inb_S8704x1024_S512x1024_1024_0).emb (ix2 k l) = ix2 ⟨1024 + k.val, by omega⟩ l := by
  blk_ext []
theorem emb3 (r : Fin 256) (k : Fin 512) : (Rect.unit (s := S256x8704) ![0, 1536] ![256, 512] inb_S256x8704_S256x512_0_1536).emb (ix2 r k) = ix2 r ⟨1536 + k.val, by omega⟩ := by
  blk_ext []
theorem rmb3 (k : Fin 512) (l : Fin 1024) : (Rect.unit (s := S8704x1024) ![1536, 0] ![512, 1024] inb_S8704x1024_S512x1024_1536_0).emb (ix2 k l) = ix2 ⟨1536 + k.val, by omega⟩ l := by
  blk_ext []
theorem emb4 (r : Fin 256) (k : Fin 512) : (Rect.unit (s := S256x8704) ![0, 2048] ![256, 512] inb_S256x8704_S256x512_0_2048).emb (ix2 r k) = ix2 r ⟨2048 + k.val, by omega⟩ := by
  blk_ext []
theorem rmb4 (k : Fin 512) (l : Fin 1024) : (Rect.unit (s := S8704x1024) ![2048, 0] ![512, 1024] inb_S8704x1024_S512x1024_2048_0).emb (ix2 k l) = ix2 ⟨2048 + k.val, by omega⟩ l := by
  blk_ext []
theorem emb5 (r : Fin 256) (k : Fin 512) : (Rect.unit (s := S256x8704) ![0, 2560] ![256, 512] inb_S256x8704_S256x512_0_2560).emb (ix2 r k) = ix2 r ⟨2560 + k.val, by omega⟩ := by
  blk_ext []
theorem rmb5 (k : Fin 512) (l : Fin 1024) : (Rect.unit (s := S8704x1024) ![2560, 0] ![512, 1024] inb_S8704x1024_S512x1024_2560_0).emb (ix2 k l) = ix2 ⟨2560 + k.val, by omega⟩ l := by
  blk_ext []
theorem emb6 (r : Fin 256) (k : Fin 512) : (Rect.unit (s := S256x8704) ![0, 3072] ![256, 512] inb_S256x8704_S256x512_0_3072).emb (ix2 r k) = ix2 r ⟨3072 + k.val, by omega⟩ := by
  blk_ext []
theorem rmb6 (k : Fin 512) (l : Fin 1024) : (Rect.unit (s := S8704x1024) ![3072, 0] ![512, 1024] inb_S8704x1024_S512x1024_3072_0).emb (ix2 k l) = ix2 ⟨3072 + k.val, by omega⟩ l := by
  blk_ext []
theorem emb7 (r : Fin 256) (k : Fin 512) : (Rect.unit (s := S256x8704) ![0, 3584] ![256, 512] inb_S256x8704_S256x512_0_3584).emb (ix2 r k) = ix2 r ⟨3584 + k.val, by omega⟩ := by
  blk_ext []
theorem rmb7 (k : Fin 512) (l : Fin 1024) : (Rect.unit (s := S8704x1024) ![3584, 0] ![512, 1024] inb_S8704x1024_S512x1024_3584_0).emb (ix2 k l) = ix2 ⟨3584 + k.val, by omega⟩ l := by
  blk_ext []
theorem emb8 (r : Fin 256) (k : Fin 512) : (Rect.unit (s := S256x8704) ![0, 4096] ![256, 512] inb_S256x8704_S256x512_0_4096).emb (ix2 r k) = ix2 r ⟨4096 + k.val, by omega⟩ := by
  blk_ext []
theorem rmb8 (k : Fin 512) (l : Fin 1024) : (Rect.unit (s := S8704x1024) ![4096, 0] ![512, 1024] inb_S8704x1024_S512x1024_4096_0).emb (ix2 k l) = ix2 ⟨4096 + k.val, by omega⟩ l := by
  blk_ext []
theorem emb9 (r : Fin 256) (k : Fin 512) : (Rect.unit (s := S256x8704) ![0, 4608] ![256, 512] inb_S256x8704_S256x512_0_4608).emb (ix2 r k) = ix2 r ⟨4608 + k.val, by omega⟩ := by
  blk_ext []
theorem rmb9 (k : Fin 512) (l : Fin 1024) : (Rect.unit (s := S8704x1024) ![4608, 0] ![512, 1024] inb_S8704x1024_S512x1024_4608_0).emb (ix2 k l) = ix2 ⟨4608 + k.val, by omega⟩ l := by
  blk_ext []
theorem emb10 (r : Fin 256) (k : Fin 512) : (Rect.unit (s := S256x8704) ![0, 5120] ![256, 512] inb_S256x8704_S256x512_0_5120).emb (ix2 r k) = ix2 r ⟨5120 + k.val, by omega⟩ := by
  blk_ext []
theorem rmb10 (k : Fin 512) (l : Fin 1024) : (Rect.unit (s := S8704x1024) ![5120, 0] ![512, 1024] inb_S8704x1024_S512x1024_5120_0).emb (ix2 k l) = ix2 ⟨5120 + k.val, by omega⟩ l := by
  blk_ext []
theorem emb11 (r : Fin 256) (k : Fin 512) : (Rect.unit (s := S256x8704) ![0, 5632] ![256, 512] inb_S256x8704_S256x512_0_5632).emb (ix2 r k) = ix2 r ⟨5632 + k.val, by omega⟩ := by
  blk_ext []
theorem rmb11 (k : Fin 512) (l : Fin 1024) : (Rect.unit (s := S8704x1024) ![5632, 0] ![512, 1024] inb_S8704x1024_S512x1024_5632_0).emb (ix2 k l) = ix2 ⟨5632 + k.val, by omega⟩ l := by
  blk_ext []
theorem emb12 (r : Fin 256) (k : Fin 512) : (Rect.unit (s := S256x8704) ![0, 6144] ![256, 512] inb_S256x8704_S256x512_0_6144).emb (ix2 r k) = ix2 r ⟨6144 + k.val, by omega⟩ := by
  blk_ext []
theorem rmb12 (k : Fin 512) (l : Fin 1024) : (Rect.unit (s := S8704x1024) ![6144, 0] ![512, 1024] inb_S8704x1024_S512x1024_6144_0).emb (ix2 k l) = ix2 ⟨6144 + k.val, by omega⟩ l := by
  blk_ext []
theorem emb13 (r : Fin 256) (k : Fin 512) : (Rect.unit (s := S256x8704) ![0, 6656] ![256, 512] inb_S256x8704_S256x512_0_6656).emb (ix2 r k) = ix2 r ⟨6656 + k.val, by omega⟩ := by
  blk_ext []
theorem rmb13 (k : Fin 512) (l : Fin 1024) : (Rect.unit (s := S8704x1024) ![6656, 0] ![512, 1024] inb_S8704x1024_S512x1024_6656_0).emb (ix2 k l) = ix2 ⟨6656 + k.val, by omega⟩ l := by
  blk_ext []
theorem emb14 (r : Fin 256) (k : Fin 512) : (Rect.unit (s := S256x8704) ![0, 7168] ![256, 512] inb_S256x8704_S256x512_0_7168).emb (ix2 r k) = ix2 r ⟨7168 + k.val, by omega⟩ := by
  blk_ext []
theorem rmb14 (k : Fin 512) (l : Fin 1024) : (Rect.unit (s := S8704x1024) ![7168, 0] ![512, 1024] inb_S8704x1024_S512x1024_7168_0).emb (ix2 k l) = ix2 ⟨7168 + k.val, by omega⟩ l := by
  blk_ext []
theorem emb15 (r : Fin 256) (k : Fin 512) : (Rect.unit (s := S256x8704) ![0, 7680] ![256, 512] inb_S256x8704_S256x512_0_7680).emb (ix2 r k) = ix2 r ⟨7680 + k.val, by omega⟩ := by
  blk_ext []
theorem rmb15 (k : Fin 512) (l : Fin 1024) : (Rect.unit (s := S8704x1024) ![7680, 0] ![512, 1024] inb_S8704x1024_S512x1024_7680_0).emb (ix2 k l) = ix2 ⟨7680 + k.val, by omega⟩ l := by
  blk_ext []
theorem emb16 (r : Fin 256) (k : Fin 512) : (Rect.unit (s := S256x8704) ![0, 8192] ![256, 512] inb_S256x8704_S256x512_0_8192).emb (ix2 r k) = ix2 r ⟨8192 + k.val, by omega⟩ := by
  blk_ext []
theorem rmb16 (k : Fin 512) (l : Fin 1024) : (Rect.unit (s := S8704x1024) ![8192, 0] ![512, 1024] inb_S8704x1024_S512x1024_8192_0).emb (ix2 k l) = ix2 ⟨8192 + k.val, by omega⟩ l := by
  blk_ext []

theorem projB_apply (h : FVec Ideal S256x1024 .bf16) (W : Vec Ideal S8704x1024 .bf16) (r : Fin 256) (k : Fin 8704) : projB h W (ix2 r k) = projE h W r k := by
  refine View.canon_apply_of_pieces (Val := Elt Ideal) (S := S256x8704) (e := .f32)
    (fun y => projE h W (y 0) (y 1)) _ ?_ (ix2 r k) (View.cover_of_tiledBy _ ![256, 512] (by sl_kernel_rfl) _)
  intro p hp
  simp only [List.mem_cons, List.not_mem_nil, or_false] at hp
  rcases hp with rfl | rfl | rfl | rfl | rfl | rfl | rfl | rfl | rfl | rfl | rfl | rfl | rfl | rfl | rfl | rfl | rfl <;> intro y <;> idx_vars y
  · exact (piece h W (View.ld W (Rect.unit ![8192, 0] ![512, 1024] inb_S8704x1024_S512x1024_8192_0)) (fun k => ⟨8192 + k.val, by omega⟩) (fun k l => congrArg W (rmb16 k l)) y0 y1).trans (congrArg (fun y : S256x8704.Idx => projE h W (y 0) (y 1)) (emb16 y0 y1)).symm
  · exact (piece h W (View.ld W (Rect.unit ![7680, 0] ![512, 1024] inb_S8704x1024_S512x1024_7680_0)) (fun k => ⟨7680 + k.val, by omega⟩) (fun k l => congrArg W (rmb15 k l)) y0 y1).trans (congrArg (fun y : S256x8704.Idx => projE h W (y 0) (y 1)) (emb15 y0 y1)).symm
  · exact (piece h W (View.ld W (Rect.unit ![7168, 0] ![512, 1024] inb_S8704x1024_S512x1024_7168_0)) (fun k => ⟨7168 + k.val, by omega⟩) (fun k l => congrArg W (rmb14 k l)) y0 y1).trans (congrArg (fun y : S256x8704.Idx => projE h W (y 0) (y 1)) (emb14 y0 y1)).symm
  · exact (piece h W (View.ld W (Rect.unit ![6656, 0] ![512, 1024] inb_S8704x1024_S512x1024_6656_0)) (fun k => ⟨6656 + k.val, by omega⟩) (fun k l => congrArg W (rmb13 k l)) y0 y1).trans (congrArg (fun y : S256x8704.Idx => projE h W (y 0) (y 1)) (emb13 y0 y1)).symm
  · exact (piece h W (View.ld W (Rect.unit ![6144, 0] ![512, 1024] inb_S8704x1024_S512x1024_6144_0)) (fun k => ⟨6144 + k.val, by omega⟩) (fun k l => congrArg W (rmb12 k l)) y0 y1).trans (congrArg (fun y : S256x8704.Idx => projE h W (y 0) (y 1)) (emb12 y0 y1)).symm
  · exact (piece h W (View.ld W (Rect.unit ![5632, 0] ![512, 1024] inb_S8704x1024_S512x1024_5632_0)) (fun k => ⟨5632 + k.val, by omega⟩) (fun k l => congrArg W (rmb11 k l)) y0 y1).trans (congrArg (fun y : S256x8704.Idx => projE h W (y 0) (y 1)) (emb11 y0 y1)).symm
  · exact (piece h W (View.ld W (Rect.unit ![5120, 0] ![512, 1024] inb_S8704x1024_S512x1024_5120_0)) (fun k => ⟨5120 + k.val, by omega⟩) (fun k l => congrArg W (rmb10 k l)) y0 y1).trans (congrArg (fun y : S256x8704.Idx => projE h W (y 0) (y 1)) (emb10 y0 y1)).symm
  · exact (piece h W (View.ld W (Rect.unit ![4608, 0] ![512, 1024] inb_S8704x1024_S512x1024_4608_0)) (fun k => ⟨4608 + k.val, by omega⟩) (fun k l => congrArg W (rmb9 k l)) y0 y1).trans (congrArg (fun y : S256x8704.Idx => projE h W (y 0) (y 1)) (emb9 y0 y1)).symm
  · exact (piece h W (View.ld W (Rect.unit ![4096, 0] ![512, 1024] inb_S8704x1024_S512x1024_4096_0)) (fun k => ⟨4096 + k.val, by omega⟩) (fun k l => congrArg W (rmb8 k l)) y0 y1).trans (congrArg (fun y : S256x8704.Idx => projE h W (y 0) (y 1)) (emb8 y0 y1)).symm
  · exact (piece h W (View.ld W (Rect.unit ![3584, 0] ![512, 1024] inb_S8704x1024_S512x1024_3584_0)) (fun k => ⟨3584 + k.val, by omega⟩) (fun k l => congrArg W (rmb7 k l)) y0 y1).trans (congrArg (fun y : S256x8704.Idx => projE h W (y 0) (y 1)) (emb7 y0 y1)).symm
  · exact (piece h W (View.ld W (Rect.unit ![3072, 0] ![512, 1024] inb_S8704x1024_S512x1024_3072_0)) (fun k => ⟨3072 + k.val, by omega⟩) (fun k l => congrArg W (rmb6 k l)) y0 y1).trans (congrArg (fun y : S256x8704.Idx => projE h W (y 0) (y 1)) (emb6 y0 y1)).symm
  · exact (piece h W (View.ld W (Rect.unit ![2560, 0] ![512, 1024] inb_S8704x1024_S512x1024_2560_0)) (fun k => ⟨2560 + k.val, by omega⟩) (fun k l => congrArg W (rmb5 k l)) y0 y1).trans (congrArg (fun y : S256x8704.Idx => projE h W (y 0) (y 1)) (emb5 y0 y1)).symm
  · exact (piece h W (View.ld W (Rect.unit ![2048, 0] ![512, 1024] inb_S8704x1024_S512x1024_2048_0)) (fun k => ⟨2048 + k.val, by omega⟩) (fun k l => congrArg W (rmb4 k l)) y0 y1).trans (congrArg (fun y : S256x8704.Idx => projE h W (y 0) (y 1)) (emb4 y0 y1)).symm
  · exact (piece h W (View.ld W (Rect.unit ![1536, 0] ![512, 1024] inb_S8704x1024_S512x1024_1536_0)) (fun k => ⟨1536 + k.val, by omega⟩) (fun k l => congrArg W (rmb3 k l)) y0 y1).trans (congrArg (fun y : S256x8704.Idx => projE h W (y 0) (y 1)) (emb3 y0 y1)).symm
  · exact (piece h W (View.ld W (Rect.unit ![1024, 0] ![512, 1024] inb_S8704x1024_S512x1024_1024_0)) (fun k => ⟨1024 + k.val, by omega⟩) (fun k l => congrArg W (rmb2 k l)) y0 y1).trans (congrArg (fun y : S256x8704.Idx => projE h W (y 0) (y 1)) (emb2 y0 y1)).symm
  · exact (piece h W (View.ld W (Rect.unit ![512, 0] ![512, 1024] inb_S8704x1024_S512x1024_512_0)) (fun k => ⟨512 + k.val, by omega⟩) (fun k l => congrArg W (rmb1 k l)) y0 y1).trans (congrArg (fun y : S256x8704.Idx => projE h W (y 0) (y 1)) (emb1 y0 y1)).symm
  · exact (piece h W (View.ld W (Rect.unit ![0, 0] ![512, 1024] inb_S8704x1024_S512x1024_0_0)) (fun k => ⟨k.val, by omega⟩) (fun k l => congrArg W (rmb0 k l)) y0 y1).trans (congrArg (fun y : S256x8704.Idx => projE h W (y 0) (y 1)) (emb0 y0 y1)).symm

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- Row `r` of block `t` among the 4096 rows. -/
def row (t : Fin cfg0.N) (r : Fin 256) : Fin 4096 := ⟨t.val * 256 + r.val, by have := t.isLt; have : cfg0.N = 16 := rfl; omega⟩

theorem x_apply (c : Dev nD) (t : Fin cfg0.N) (r : Fin 256) (l : Fin 1024) :
    iblk m c 0 t (ix2 r l) = m ((c : Thread nD τ).loc main_arg0) (ix2 (row t r) l) := by
  unfold row
  blk_point [iblk, V, idx t]
theorem g_apply (c : Dev nD) (t : Fin cfg0.N) (l : Fin 1024) :
    iblk m c 1 t (ix2 0 l) = m ((c : Thread nD τ).loc main_arg1) (ix2 0 l) := by
  blk_point [iblk, V, idx t]
theorem w_apply (c : Dev nD) (k : Fin 8704) (l : Fin 1024) :
    V m c main_v1 (ix2 k l) = m ((c : Thread nD τ).loc main_arg2) (ix2 l k) := by
  unfold V
  after_reads_at

theorem hT_apply (c : Dev nD) (t : Fin cfg0.N) (r : Fin 256) (l : Fin 1024) :
    k0_pay2 (iblk m c 0 t) (iblk m c 1 t) (ix2 r l) = h (m ((c : Thread nD τ).loc main_arg0)) (m ((c : Thread nD τ).loc main_arg1)) (row t r) l := by
  pointwise [k0_pay2]
  simp only [x_apply, g_apply]
  rfl

theorem final2 (c : Dev nD) : (dats m 0 c).arrAt 2 cfg0.N = Cert.ReferencePIdeal.Read.val_main_v12 (F := Ideal)
    (m ((c : Thread nD τ).loc main_arg0)) (m ((c : Thread nD τ).loc main_arg1)) := by
  refine (dats m 0 c).arrAt_eq_of_covers 2 _ (by decide +kernel) fun t hf y => ?_
  blk_simp
  rw [after0_2, o2]
  idx_vars y
  have he : (win0_2.blk t).view.emb (ix2 y0 y1) = ix2 (row t y0) y1 := by
    unfold row
    blk_ext [idx t]
  refine Eq.trans ?_ (congrArg _ he.symm)
  rw [h_apply]
  exact hT_apply m c t y0 y1

theorem final3 (c : Dev nD) : (dats m 0 c).arrAt 3 cfg0.N = Cert.ReferencePIdeal.Read.val_main_v13 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, o3]
  idx_vars y
  have he : (win0_3.blk t).view.emb (ix2 y0 y1) = ix2 (row t y0) y1 := by
    unfold row
    blk_ext [idx t]
  refine Eq.trans ?_ (congrArg _ he.symm)
  rw [proj_apply]
  refine (projB_apply _ _ _ _).trans ?_
  unfold projE proj
  exact Finset.sum_congr rfl fun j _ => congrArg₂ (· * ·) (hT_apply m c t y0 j) (w_apply m c y1 j)
end Cert.KernelPIdeal.Hand

namespace Cert.Proof.P
theorem frameP : Cert.quiescent_KernelP (hKernelP := Cert.KernelP.Gen.facts) := fun m ρ _ => Cert.KernelP.Gen.frame m ρ
theorem framePI : Cert.quiescent_KernelPIdeal (hKernelPIdeal := Cert.KernelPIdeal.Gen.facts) := fun m ρ _ => Cert.KernelPIdeal.Gen.frame m ρ
theorem frameRI : Cert.quiescent_ReferencePIdeal (hReferencePIdeal := Cert.ReferencePIdeal.Gen.facts) := fun m ρ _ =>
  (θ_run _ _ _).mono (fun r h => ⟨fun c => (h c).2.2, sem_eq_zero_of_no_sems rfl r.2⟩) (Cert.ReferencePIdeal.Value.run m ρ)
theorem value : Cert.algebraic_KernelPIdeal_ReferencePIdeal (hKernelPIdeal := Cert.KernelPIdeal.Gen.facts)
    (hReferencePIdeal := Cert.ReferencePIdeal.Gen.facts) := by
  intro m g m' g' _ hm
  refine ⟨_, _, (θ_run _ _ _).mono (fun r h c => ⟨(h c).1.trans (Cert.KernelPIdeal.Hand.final2 m c), (h c).2.1.trans (Cert.KernelPIdeal.Hand.final3 m c), (h c).2.2⟩)
    (Cert.KernelPIdeal.Value.run_blocks m g), (θ_run _ _ _).mono (fun r h c => ?_) (Cert.ReferencePIdeal.Value.run m' g')⟩
  obtain ⟨h1, h2, h3⟩ := h c
  obtain ⟨e0, e1, e2⟩ := hm c
  refine ⟨?_, ?_, h3⟩
  · rw [← e0, ← e1]
    exact h1.trans (Cert.ReferencePIdeal.Read.val_main_v12_eq ..)
  · rw [← e0, ← e1, ← e2]
    exact h2.trans (Cert.ReferencePIdeal.Read.val_main_v13_eq ..)
end Cert.Proof.P
end
-- ==== Proof.HRef.lean ====
module

public import proofs.«01_k».proof.Proof.Gen.ReferenceHIdeal.Read
public import proofs.«01_k».proof.Proof.Real
public import Idealize.ShloMosaic.Lib.Pipeline.ValueKit

/-! The feed-forward layer, forward, and the loss: what the reference computes, entry by entry. -/

@[expose] public section
set_option maxRecDepth 16384
noncomputable section
open Idealize.ShloMosaic Idealize.ShloMosaic.TcCoe Idealize.SL.Sem

namespace Step
theorem w_h : Ideal.ofBits FTy.f32 1056964608#32 = (((1 / 2 : ℝ)) : EReal) := by
  simp [Ideal.ofBits, Ideal.ieee, -EReal.coe_mul]; norm_num
theorem w_1 : Ideal.ofBits FTy.f32 1065353216#32 = ((1 : ℝ) : EReal) := by
  simp [Ideal.ofBits, Ideal.ieee, -EReal.coe_mul]; norm_num
theorem w_2 : Ideal.ofBits FTy.f32 1073741824#32 = ((2 : ℝ) : EReal) := by
  simp [Ideal.ofBits, Ideal.ieee, -EReal.coe_mul]; norm_num
theorem w_1024th : Ideal.ofBits FTy.f32 981467136#32 = ((1 / 1024 : ℝ) : EReal) := by
  simp [Ideal.ofBits, Ideal.ieee, -EReal.coe_mul]; norm_num
theorem w_2048th : Ideal.ofBits FTy.f32 973078528#32 = ((1 / 2048 : ℝ) : EReal) := by
  simp [Ideal.ofBits, Ideal.ieee, -EReal.coe_mul]; norm_num

/-- The derivative of half the mean square, as it is differentiated and as a division by the number of columns. -/
theorem square_grad (e : EReal) : Ideal.div (Ideal.ofBits FTy.f32 1056964608#32 * Ideal.ofBits FTy.f32 1065353216#32) (Ideal.ofBits FTy.f32 1149239296#32)
    * (Ideal.ofBits FTy.f32 1073741824#32 * e) = e * Ideal.ofBits FTy.f32 981467136#32 := by
  rw [w_h, w_1, w_2, w1024, w_1024th, Ideal.div_coe (by norm_num), ← EReal.coe_mul, ← EReal.coe_mul, ← mul_assoc, ← EReal.coe_mul, mul_comm]
  norm_num

/-- Half the sum of the rows' means, 256 rows at a time. -/
theorem loss_sum (q : Fin 4096 → EReal) : Ideal.ofBits FTy.f32 1056964608#32 * ∑ r, Ideal.div (q r) (Ideal.ofBits FTy.f32 1149239296#32)
    = ∑ t : Fin 16, Ideal.ofBits FTy.f32 973078528#32 * ∑ r : Fin 256, q ⟨t.val * 256 + r.val, by omega⟩ := by
  have h : ∀ r, Ideal.div (q r) (Ideal.ofBits FTy.f32 1149239296#32) = q r * ((1 / 1024 : ℝ) : EReal) := fun r => by
    rw [w1024, Ideal.div_coe (by norm_num)]
  simp only [h]
  rw [← sum_mul_coe _ _ (by norm_num), w_h, w_2048th]
  have h2 : ∀ t : Fin 16, ((1 / 2048 : ℝ) : EReal) * ∑ r : Fin 256, q ⟨t.val * 256 + r.val, by omega⟩
      = (∑ r : Fin 256, q ⟨t.val * 256 + r.val, by omega⟩) * ((1 / 2048 : ℝ) : EReal) := fun t => mul_comm _ _
  simp only [h2]
  rw [← sum_mul_coe _ _ (by norm_num), ← sum_blocks 16 256 rfl, mul_comm, mul_assoc, ← EReal.coe_mul]
  norm_num
end Step

namespace Cert.ReferenceHIdeal.Hand
open Cert.ReferenceHIdeal Cert.ReferenceHIdeal.Gen Cert.ReferenceHIdeal.Read Step
variable (x0 : (⟨S4096x1024, .f32⟩ : BufTy).Contents (Elt Ideal)) (x1 : (⟨S1x1024, .f32⟩ : BufTy).Contents (Elt Ideal))
  (x2 : (⟨S4096x1024, .f32⟩ : BufTy).Contents (Elt Ideal)) (x3 : (⟨S1x1024, .f32⟩ : BufTy).Contents (Elt Ideal))
  (x4 x5 : (⟨S1024x2816, .f32⟩ : BufTy).Contents (Elt Ideal)) (x6 : (⟨S2816x1024, .f32⟩ : BufTy).Contents (Elt Ideal))

/-- The reciprocal root of a row's mean square. -/
def rsOf (y : Fin 1024 → EReal) : EReal :=
  Ideal.rsqrt (Ideal.div (∑ k : Fin 1024, y k * y k) (Ideal.ofBits FTy.f32 1149239296#32) + Ideal.ofBits FTy.f32 897988541#32)
/-- The normalised rows that the layer reads. -/
def h (r : Fin 4096) (l : Fin 1024) : EReal := x0 (ix2 r l) * rsOf (fun k => x0 (ix2 r k)) * x1 (ix2 0 l)
/-- A projection of them: the gate with `w = x4`, the up projection with `w = x5`. -/
def pr (w : (⟨S1024x2816, .f32⟩ : BufTy).Contents (Elt Ideal)) (r : Fin 4096) (k : Fin 2816) : EReal := ∑ j : Fin 1024, h x0 x1 r j * w (ix2 j k)
/-- The gated product. -/
def f (r : Fin 4096) (k : Fin 2816) : EReal := pr x0 x1 x4 r k * Ideal.logistic (pr x0 x1 x4 r k) * pr x0 x1 x5 r k
/-- The layer's output. -/
def out (r : Fin 4096) (l : Fin 1024) : EReal := x0 (ix2 r l) + ∑ k : Fin 2816, f x0 x1 x4 x5 r k * x6 (ix2 k l)
/-- The reciprocal root of the output's rows' mean squares. -/
def rs (r : Fin 4096) : EReal := rsOf (out x0 x1 x4 x5 x6 r)
/-- How far the normalised output is from the target. -/
def err (r : Fin 4096) (l : Fin 1024) : EReal := out x0 x1 x4 x5 x6 r l * rs x0 x1 x4 x5 x6 r * x3 (ix2 0 l) - x2 (ix2 r l)
/-- The gradient that reaches the normalised output. -/
def dy (r : Fin 4096) (l : Fin 1024) : EReal := err x0 x1 x2 x3 x4 x5 x6 r l * Ideal.ofBits FTy.f32 981467136#32

theorem a_apply (r : Fin 4096) (k : Fin 2816) : val_main_v67 x0 x1 x4 (ix2 r k) = pr x0 x1 x4 r k := by
  unfold pr h rsOf
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_v15, val_main_v16, val_main_v17, val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v33, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
theorem b_apply (r : Fin 4096) (k : Fin 2816) : val_main_v68 x0 x1 x5 (ix2 r k) = pr x0 x1 x5 r k := by
  unfold pr h rsOf
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_v15, val_main_v16, val_main_v17, val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v33, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
theorem f_apply (r : Fin 4096) (k : Fin 2816) : val_main_v69 x0 x1 x4 x5 (ix2 r k) = f x0 x1 x4 x5 r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_v15, val_main_v16, val_main_v17, val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v33, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  rfl
theorem out_apply (r : Fin 4096) (l : Fin 1024) : val_main_v17 x0 x1 x4 x5 x6 (ix2 r l) = out x0 x1 x4 x5 x6 r l := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_call0_v0, val_main_call0_v1, val_main_call0_cst, val_main_call0_v2, val_main_call0_v3, val_main_call0_cst_0, val_main_call0_v4, val_main_call0_v5, val_main_v14, val_main_v15, val_main_v16, val_main_v17, val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v33, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  rfl

theorem err_apply (r : Fin 4096) (l : Fin 1024) : val_main_v33 x0 x1 x2 x3 x4 x5 x6 (ix2 r l) = err x0 x1 x2 x3 x4 x5 x6 r l := by
  pointwise [val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v33, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  simp only [out_apply]
  rfl
theorem dy_apply (r : Fin 4096) (l : Fin 1024) : val_main_v47 x0 x1 x2 x3 x4 x5 x6 (ix2 r l) = dy x0 x1 x2 x3 x4 x5 x6 r l := by
  unfold dy
  rw [← square_grad, ← err_apply]
  pointwise [val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v47, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
theorem gf_apply (l : Fin 1024) : val_main_v50 x0 x1 x2 x3 x4 x5 x6 (ix2 0 l) =
    ∑ r, dy x0 x1 x2 x3 x4 x5 x6 r l * (out x0 x1 x4 x5 x6 r l * rs x0 x1 x4 x5 x6 r) := by
  pointwise [val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  simp only [dy_apply, out_apply]
  exact Finset.sum_congr rfl fun r _ => mul_comm _ _
theorem dx_apply (r : Fin 4096) (l : Fin 1024) : val_main_v66 x0 x1 x2 x3 x4 x5 x6 (ix2 r l) =
    rs x0 x1 x4 x5 x6 r * (dy x0 x1 x2 x3 x4 x5 x6 r l * x3 (ix2 0 l) - out x0 x1 x4 x5 x6 r l * rs x0 x1 x4 x5 x6 r *
      Ideal.div (∑ k, dy x0 x1 x2 x3 x4 x5 x6 r k * x3 (ix2 0 k) * (out x0 x1 x4 x5 x6 r k * rs x0 x1 x4 x5 x6 r)) (Ideal.ofBits FTy.f32 1149239296#32)) := by
  pointwise [val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  simp only [dy_apply, out_apply]
  obtain ⟨ρ, h0, h1, h2⟩ := rstd (s := ∑ k : Fin 1024, out x0 x1 x4 x5 x6 r k * out x0 x1 x4 x5 x6 r k) (Finset.sum_nonneg fun k _ => Step.mul_self_nonneg _)
  simp only [rs, rsOf, h1, h2, Finset.univ_unique, Finset.sum_singleton]
  have := rms_grad (fun k => out x0 x1 x4 x5 x6 r k) (fun k => dy x0 x1 x2 x3 x4 x5 x6 r k * x3 (ix2 0 k)) 0 ρ h0 l
  simp only [zero_add] at this
  exact this.symm
theorem dxb_apply (r : Fin 4096) (l : Fin 1024) : val_main_v70 x0 x1 x2 x3 x4 x5 x6 (ix2 r l) = val_main_v66 x0 x1 x2 x3 x4 x5 x6 (ix2 r l) := by
  unfold val_main_v70
  rfl
theorem loss_apply (l : Fin 128) : val_main_v71 x0 x1 x2 x3 x4 x5 x6 (ix2 0 l) =
    Ideal.ofBits FTy.f32 1056964608#32 * ∑ r, Ideal.div (∑ k, err x0 x1 x2 x3 x4 x5 x6 r k * err x0 x1 x2 x3 x4 x5 x6 r k) (Ideal.ofBits FTy.f32 1149239296#32) := by
  pointwise [val_main_v18, val_main_cst_2, val_main_v19, val_main_v20, val_main_cst_3, val_main_v21, val_main_v22, val_main_cst_4, val_main_v23, val_main_v24, val_main_v25, val_main_v26, val_main_cst_5, val_main_v27, val_main_v28, val_main_v29, val_main_v30, val_main_v31, val_main_v32, val_main_v34, val_main_cst_6, val_main_v35, val_main_v36, val_main_cst_7, val_main_v37, val_main_cst_8, val_main_v38, val_main_v39, val_main_cst_9, val_main_v40, val_main_cst_10, val_main_v41, val_main_cst_11, val_main_cst_12, val_main_v42, val_main_v43, val_main_cst_13, val_main_v44, val_main_v45, val_main_v46, val_main_v48, val_main_cst_14, val_main_v49, val_main_v50, val_main_v51, val_main_v52, val_main_v53, val_main_cst_15, val_main_v54, val_main_v55, val_main_v56, val_main_v57, val_main_v58, val_main_cst_16, val_main_v59, val_main_v60, val_main_cst_17, val_main_v61, val_main_v62, val_main_v63, val_main_v64, val_main_v65, val_main_v66, val_main_v67, val_main_v68, val_main_v69, val_main_v70, val_main_v71]
  simp only [err_apply]
end Cert.ReferenceHIdeal.Hand
end
-- ==== Proof.HRun.lean ====
module

public import proofs.«01_k».proof.Proof.Gen.KernelHIdeal.Frame
public import Idealize.ShloMosaic.Lib.Pipeline.Value

/-! The feed-forward layer, forward, and the loss: the run with each of the seven result arrays named. -/

@[expose] public section
noncomputable section
open Idealize.ShloMosaic Idealize.ShloMosaic.TcCoe Idealize.SL.Sem
open Idealize.ShloMosaic.Pipeline (Dat)
namespace Cert.KernelHIdeal.Hand
open Cert.KernelHIdeal Cert.KernelHIdeal.Gen
variable {F : FTy → Type} [FloatOps F]
variable (m : (ℓ : Loc nD τ sig) → Buf (Elt F) ℓ) (ρ : Dev nD → PrngReg)

theorem post4 (r : PUnit × MemSt nD τ sig (Elt F)) (h : Pipeline.FramePost cfgs (dats m) 0 (V m) r) (c : Dev nD) :
    r.2.mem ((c : Thread nD τ).loc main_v18_0) = (dats m 0 c).arrAt 4 cfg0.N :=
  (h c).1 4

theorem post5 (r : PUnit × MemSt nD τ sig (Elt F)) (h : Pipeline.FramePost cfgs (dats m) 0 (V m) r) (c : Dev nD) :
    r.2.mem ((c : Thread nD τ).loc main_v18_1) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v18_2) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v18_3) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v18_4) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v18_5) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v18_6) = (dats m 0 c).arrAt 10 cfg0.N :=
  (h c).1 10

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Each result array after the run is what the grid points left in it; the arguments are unchanged. -/
theorem run_blocks : θ_run defs (onTc (τ := τ) (main (F := F))) ⟨m, fun _ => 0, ρ⟩ fun r => ∀ c : Dev nD,
      r.2.mem ((c : Thread nD τ).loc main_v18_0) = (dats m 0 c).arrAt 4 cfg0.N
      ∧ r.2.mem ((c : Thread nD τ).loc main_v18_1) = (dats m 0 c).arrAt 5 cfg0.N
      ∧ r.2.mem ((c : Thread nD τ).loc main_v18_2) = (dats m 0 c).arrAt 6 cfg0.N
      ∧ r.2.mem ((c : Thread nD τ).loc main_v18_3) = (dats m 0 c).arrAt 7 cfg0.N
      ∧ r.2.mem ((c : Thread nD τ).loc main_v18_4) = (dats m 0 c).arrAt 8 cfg0.N
      ∧ r.2.mem ((c : Thread nD τ).loc main_v18_5) = (dats m 0 c).arrAt 9 cfg0.N
      ∧ r.2.mem ((c : Thread nD τ).loc main_v18_6) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post4 m r h c, post5 m r h c, post6 m r h c, post7 m r h c, post8 m r h c, post9 m r h c, post10 m r h c, kept_main_arg0 m r h c, kept_main_arg1 m r h c, kept_main_arg2 m r h c, kept_main_arg3 m r h c, kept_main_arg4 m r h c, kept_main_arg5 m r h c, kept_main_arg6 m r h c⟩)
    (run_main m ρ)

end Cert.KernelHIdeal.Hand
-- ==== Proof.HBlocks.lean ====
module

public import proofs.«01_k».proof.Proof.HRun
public import proofs.«01_k».proof.Proof.Common
public import Idealize.ShloMosaic.Lib.Pipeline.ReadBack
public import Idealize.ShloMosaic.Lib.Tactic

/-! The feed-forward layer, forward, and the loss: what one grid point leaves in its seven outputs and in the three
    weights it keeps. -/

@[expose] public section
noncomputable section
open Idealize.ShloMosaic Idealize.ShloMosaic.TcCoe Idealize.SL.Sem
open Idealize.ShloMosaic.Pipeline (Dat)
namespace Cert.KernelHIdeal.Hand
open Cert.KernelHIdeal Cert.KernelHIdeal.Gen Step
variable {F : FTy → Type} [FloatOps F]
variable (m : (ℓ : Loc nD τ sig) → Buf (Elt F) ℓ)

/-- Rows 0 to 1023, 1024 to 2047 and 2048 to 2815 of a weight. -/
abbrev r0 (w : Vec F S2816x1024 .bf16) : Vec F S1024x1024 .bf16 := View.ld w (Rect.unit ![0, 0] ![1024, 1024] inb_S2816x1024_S1024x1024_0_0)
abbrev r1 (w : Vec F S2816x1024 .bf16) : Vec F S1024x1024 .bf16 := View.ld w (Rect.unit ![1024, 0] ![1024, 1024] inb_S2816x1024_S1024x1024_1024_0)
abbrev r2 (w : Vec F S2816x1024 .bf16) : Vec F S768x1024 .bf16 := View.ld w (Rect.unit ![2048, 0] ![768, 1024] inb_S2816x1024_S768x1024_2048_0)

/-- The gate, the up projection and their gated product, each in the three pieces it is stored in. -/
def aB (h : Vec F S256x1024 .bf16) (wg : Vec F S2816x1024 .bf16) : Vec F S256x2816 .bf16 :=
  View.canon (Val := Elt F) (s := S256x2816) (e := .bf16)
    [⟨Rect.unit ![0, 2048] ![256, 768] inb_S256x2816_S256x768_0_2048, k0_pay24 (k0_pay20 (k0_pay8 h) (r2 wg))⟩,
      ⟨Rect.unit ![0, 1024] ![256, 1024] inb_S256x2816_S256x1024_0_1024, k0_pay17 (k0_pay8 h) (r1 wg)⟩,
      ⟨Rect.unit ![0, 0] ![256, 1024] inb_S256x2816_S256x1024_0_0, k0_pay12 h (r0 wg)⟩]
def bB (h : Vec F S256x1024 .bf16) (wu : Vec F S2816x1024 .bf16) : Vec F S256x2816 .bf16 :=
  View.canon (Val := Elt F) (s := S256x2816) (e := .bf16)
    [⟨Rect.unit ![0, 2048] ![256, 768] inb_S256x2816_S256x768_0_2048, k0_pay25 (k0_pay21 (k0_pay8 h) (r2 wu))⟩,
      ⟨Rect.unit ![0, 1024] ![256, 1024] inb_S256x2816_S256x1024_0_1024, k0_pay18 (k0_pay8 h) (r1 wu)⟩,
      ⟨Rect.unit ![0, 0] ![256, 1024] inb_S256x2816_S256x1024_0_0, k0_pay13 h (r0 wu)⟩]
def fB (h : Vec F S256x1024 .bf16) (wg wu : Vec F S2816x1024 .bf16) : Vec F S256x2816 .bf16 :=
  View.canon (Val := Elt F) (s := S256x2816) (e := .bf16)
    [⟨Rect.unit ![0, 2048] ![256, 768] inb_S256x2816_S256x768_0_2048, k0_pay23 (k0_pay20 (k0_pay8 h) (r2 wg)) (k0_pay21 (k0_pay8 h) (r2 wu)) (k0_pay22 (k0_pay8 h) (r2 wg))⟩,
      ⟨Rect.unit ![0, 1024] ![256, 1024] inb_S256x2816_S256x1024_0_1024, k0_pay16 (k0_pay8 h) (r1 wg) (r1 wu)⟩,
      ⟨Rect.unit ![0, 0] ![256, 1024] inb_S256x2816_S256x1024_0_0, k0_pay11 h (r0 wg) (r0 wu)⟩]

/-- The layer's output, the reciprocal root of its rows' mean squares, its normalised rows and their distance to the target. -/
def x2B (h : Vec F S256x1024 .bf16) (x : Vec F S256x1024 .f32) (wg wu wd : Vec F S2816x1024 .bf16) : FVec F S256x1024 .f32 :=
  k0_pay26 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd)
def rB (h : Vec F S256x1024 .bf16) (x : Vec F S256x1024 .f32) (wg wu wd : Vec F S2816x1024 .bf16) : FVec F S256x1 .f32 :=
  k0_pay27 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd)
def xhB (h : Vec F S256x1024 .bf16) (x : Vec F S256x1024 .f32) (wg wu wd : Vec F S2816x1024 .bf16) : FVec F S256x1024 .f32 :=
  k0_pay28 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd)
def errB (h : Vec F S256x1024 .bf16) (x t : Vec F S256x1024 .f32) (g : Vec F S1x1024 .f32) (wg wu wd : Vec F S2816x1024 .bf16) : FVec F S256x1024 .f32 :=
  k0_pay29 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd) g t
/-- The sum of the squares of that distance. -/
def sqB (h : Vec F S256x1024 .bf16) (x t : Vec F S256x1024 .f32) (g : Vec F S1x1024 .f32) (wg wu wd : Vec F S2816x1024 .bf16) : FVec F S1x1x1 .f32 :=
  k0_pay31 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd) g t

/-! The weights a point keeps are the ones the first point copied. -/

theorem sg_A (c : Dev nD) (t : Fin cfg0.N) (h0 : t.val % 16 = 0) :
    (outsAt0 m c t.val t.isLt).2.2.2.2.2.2.2.1 = V m c main_v14 := by
  rw [outsAt0_A m c t h0 h0]
  dsimp only
  unfold sout0_A_0
  rw [View.read_writes_junk_eq_canon]
  unfold kernelRun0_A
  dsimp only
  sl_unfold_words
  rw [canon_whole]
  rfl

theorem su_A (c : Dev nD) (t : Fin cfg0.N) (h0 : t.val % 16 = 0) :
    (outsAt0 m c t.val t.isLt).2.2.2.2.2.2.2.2.1 = V m c main_v16 := by
  rw [outsAt0_A m c t h0 h0]
  dsimp only
  unfold sout0_A_1
  rw [View.read_writes_junk_eq_canon]
  unfold kernelRun0_A
  dsimp only
  sl_unfold_words
  rw [canon_whole]
  rfl

theorem sd_A (c : Dev nD) (t : Fin cfg0.N) (h0 : t.val % 16 = 0) :
    (outsAt0 m c t.val t.isLt).2.2.2.2.2.2.2.2.2 = V m c main_v17 := by
  rw [outsAt0_A m c t h0 h0]
  dsimp only
  unfold sout0_A_2
  rw [View.read_writes_junk_eq_canon]
  unfold kernelRun0_A
  dsimp only
  sl_unfold_words
  rw [canon_whole]
  rfl

theorem s_B (c : Dev nD) (t : Fin cfg0.N) (h0 : ¬t.val % 16 = 0) :
    (outsAt0 m c t.val t.isLt).2.2.2.2.2.2.2 = (outsAt0 m c (t.val - 1) (Nat.lt_of_le_of_lt (Nat.sub_le _ _) t.isLt)).2.2.2.2.2.2.2 := by
  rw [outsAt0_B m c t h0 h0]
  dsimp only
  rfl

theorem sc (c : Dev nD) : ∀ (n : ℕ) (h : n < cfg0.N), (outsAt0 m c n h).2.2.2.2.2.2.2 = (V m c main_v14, V m c main_v16, V m c main_v17)
  | 0, h => Prod.ext (sg_A m c ⟨0, h⟩ rfl) (Prod.ext (su_A m c ⟨0, h⟩ rfl) (sd_A m c ⟨0, h⟩ rfl))
  | n + 1, h => by
    by_cases h0 : (n + 1) % 16 = 0
    · exact Prod.ext (sg_A m c ⟨n + 1, h⟩ h0) (Prod.ext (su_A m c ⟨n + 1, h⟩ h0) (sd_A m c ⟨n + 1, h⟩ h0))
    · exact (s_B m c ⟨n + 1, h⟩ h0).trans (sc c n _)

theorem o4_A (c : Dev nD) (t : Fin cfg0.N) (h0 : t.val % 16 = 0) :
    (outsAt0 m c t.val t.isLt).1 = aB (iblk m c 0 t) (V m c main_v14) := by
  rw [outsAt0_A m c t h0 h0]
  dsimp only
  unfold out0_A_4
  rw [View.read_writes_junk_eq_canon]
  unfold kernelRun0_A
  dsimp only
  sl_unfold_words
  simp only [View.readAt_eq_ld, readCov_whole, (hs0_0 t).read_unread]
  simp only [View.ld_unit_zero (S := S256x1024) hz, View.ld_unit_zero (S := S1x1024) hz]
  rfl

theorem o4_B (c : Dev nD) (t : Fin cfg0.N) (h0 : ¬t.val % 16 = 0) :
    (outsAt0 m c t.val t.isLt).1 = aB (iblk m c 0 t) (V m c main_v14) := by
  rw [outsAt0_B m c t h0 h0]
  dsimp only
  rw [sc]
  unfold out0_B_4
  rw [View.read_writes_junk_eq_canon]
  unfold kernelRun0_B
  dsimp only
  sl_unfold_words
  simp only [View.readAt_eq_ld, Memref.IsWhole.read_unread, read_unread_whole]
  simp only [View.ld_unit_zero (S := S256x1024) hz, View.ld_unit_zero (S := S1x1024) hz]
  rfl

theorem o4 (c : Dev nD) (t : Fin cfg0.N) :
    (outsAt0 m c t.val t.isLt).1 = aB (iblk m c 0 t) (V m c main_v14) := by
  by_cases h0 : t.val % 16 = 0
  · exact o4_A m c t h0
  · exact o4_B m c t h0

theorem o5_A (c : Dev nD) (t : Fin cfg0.N) (h0 : t.val % 16 = 0) :
    (outsAt0 m c t.val t.isLt).2.1 = bB (iblk m c 0 t) (V m c main_v16) := by
  rw [outsAt0_A m c t h0 h0]
  dsimp only
  unfold out0_A_5
  rw [View.read_writes_junk_eq_canon]
  unfold kernelRun0_A
  dsimp only
  sl_unfold_words
  simp only [View.readAt_eq_ld, readCov_whole, (hs0_0 t).read_unread]
  simp only [View.ld_unit_zero (S := S256x1024) hz, View.ld_unit_zero (S := S1x1024) hz]
  rfl

theorem o5_B (c : Dev nD) (t : Fin cfg0.N) (h0 : ¬t.val % 16 = 0) :
    (outsAt0 m c t.val t.isLt).2.1 = bB (iblk m c 0 t) (V m c main_v16) := by
  rw [outsAt0_B m c t h0 h0]
  dsimp only
  rw [sc]
  unfold out0_B_5
  rw [View.read_writes_junk_eq_canon]
  unfold kernelRun0_B
  dsimp only
  sl_unfold_words
  simp only [View.readAt_eq_ld, Memref.IsWhole.read_unread, read_unread_whole]
  simp only [View.ld_unit_zero (S := S256x1024) hz, View.ld_unit_zero (S := S1x1024) hz]
  rfl

theorem o5 (c : Dev nD) (t : Fin cfg0.N) :
    (outsAt0 m c t.val t.isLt).2.1 = bB (iblk m c 0 t) (V m c main_v16) := by
  by_cases h0 : t.val % 16 = 0
  · exact o5_A m c t h0
  · exact o5_B m c t h0

theorem o6_A (c : Dev nD) (t : Fin cfg0.N) (h0 : t.val % 16 = 0) :
    (outsAt0 m c t.val t.isLt).2.2.1 = fB (iblk m c 0 t) (V m c main_v14) (V m c main_v16) := by
  rw [outsAt0_A m c t h0 h0]
  dsimp only
  unfold out0_A_6
  rw [View.read_writes_junk_eq_canon]
  unfold kernelRun0_A
  dsimp only
  sl_unfold_words
  simp only [View.readAt_eq_ld, readCov_whole, (hs0_0 t).read_unread]
  simp only [View.ld_unit_zero (S := S256x1024) hz, View.ld_unit_zero (S := S1x1024) hz]
  rfl

theorem o6_B (c : Dev nD) (t : Fin cfg0.N) (h0 : ¬t.val % 16 = 0) :
    (outsAt0 m c t.val t.isLt).2.2.1 = fB (iblk m c 0 t) (V m c main_v14) (V m c main_v16) := by
  rw [outsAt0_B m c t h0 h0]
  dsimp only
  rw [sc]
  unfold out0_B_6
  rw [View.read_writes_junk_eq_canon]
  unfold kernelRun0_B
  dsimp only
  sl_unfold_words
  simp only [View.readAt_eq_ld, Memref.IsWhole.read_unread, read_unread_whole]
  simp only [View.ld_unit_zero (S := S256x1024) hz, View.ld_unit_zero (S := S1x1024) hz]
  rfl

theorem o6 (c : Dev nD) (t : Fin cfg0.N) :
    (outsAt0 m c t.val t.isLt).2.2.1 = fB (iblk m c 0 t) (V m c main_v14) (V m c main_v16) := by
  by_cases h0 : t.val % 16 = 0
  · exact o6_A m c t h0
  · exact o6_B m c t h0

theorem o7_A (c : Dev nD) (t : Fin cfg0.N) (h0 : t.val % 16 = 0) :
    (outsAt0 m c t.val t.isLt).2.2.2.1 = k0_pay4 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  rw [outsAt0_A m c t h0 h0]
  dsimp only
  unfold out0_A_7
  rw [View.read_writes_junk_eq_canon]
  unfold kernelRun0_A
  dsimp only
  sl_unfold_words
  rw [View.canon_unit_zero hz]
  simp only [View.readAt_eq_ld, readCov_whole, (hs0_0 t).read_unread, (hs0_1 t).read_unread, (hs0_2 t).read_unread, (hs0_3 t).read_unread]
  simp only [View.ld_unit_zero (S := S256x1024) hz, View.ld_unit_zero (S := S1x1024) hz]
  rfl

theorem o7_B (c : Dev nD) (t : Fin cfg0.N) (h0 : ¬t.val % 16 = 0) :
    (outsAt0 m c t.val t.isLt).2.2.2.1 = k0_pay4 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  rw [outsAt0_B m c t h0 h0]
  dsimp only
  rw [sc]
  unfold out0_B_7
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

theorem o7 (c : Dev nD) (t : Fin cfg0.N) :
    (outsAt0 m c t.val t.isLt).2.2.2.1 = k0_pay4 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  by_cases h0 : t.val % 16 = 0
  · exact o7_A m c t h0
  · exact o7_B m c t h0

theorem o8_A (c : Dev nD) (t : Fin cfg0.N) (h0 : t.val % 16 = 0) :
    (outsAt0 m c t.val t.isLt).2.2.2.2.1 = k0_pay5 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  rw [outsAt0_A m c t h0 h0]
  dsimp only
  unfold out0_A_8
  rw [View.read_writes_junk_eq_canon]
  unfold kernelRun0_A
  dsimp only
  sl_unfold_words
  rw [View.canon_unit_zero hz]
  simp only [View.readAt_eq_ld, readCov_whole, (hs0_0 t).read_unread, (hs0_1 t).read_unread, (hs0_2 t).read_unread, (hs0_3 t).read_unread]
  simp only [View.ld_unit_zero (S := S256x1024) hz, View.ld_unit_zero (S := S1x1024) hz]
  rfl

theorem o8_B (c : Dev nD) (t : Fin cfg0.N) (h0 : ¬t.val % 16 = 0) :
    (outsAt0 m c t.val t.isLt).2.2.2.2.1 = k0_pay5 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  rw [outsAt0_B m c t h0 h0]
  dsimp only
  rw [sc]
  unfold out0_B_8
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz]
  rfl

theorem o8 (c : Dev nD) (t : Fin cfg0.N) :
    (outsAt0 m c t.val t.isLt).2.2.2.2.1 = k0_pay5 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) := by
  by_cases h0 : t.val % 16 = 0
  · exact o8_A m c t h0
  · exact o8_B m c t h0

theorem o9_A (c : Dev nD) (t : Fin cfg0.N) (h0 : t.val % 16 = 0) :
    (outsAt0 m c t.val t.isLt).2.2.2.2.2.1 = k0_pay1 (k0_pay30 k0_pay6) (sqB (iblk m c 0 t) (iblk m c 1 t) (iblk m c 2 t) (iblk m c 3 t) (V m c main_v14) (V m c main_v16) (V m c main_v17)) := by
  rw [outsAt0_A m c t h0 h0]
  dsimp only
  unfold out0_A_9
  rw [View.read_writes_junk_eq_canon]
  unfold kernelRun0_A
  dsimp only
  sl_unfold_words
  rw [View.canon_cons_unit_zero (S := S1x128) hz]
  simp only [View.readAt_eq_ld, readCov_whole, View.readCov_unit_zero (S := S1x128) _ hz, (hs0_0 t).read_unread, (hs0_1 t).read_unread, (hs0_2 t).read_unread, (hs0_3 t).read_unread]
  simp only [View.ld_unit_zero (S := S256x1024) hz, View.ld_unit_zero (S := S1x1024) hz, View.ld_unit_zero (S := S1x128) hz]
  rfl

theorem o9_B (c : Dev nD) (t : Fin cfg0.N) (h0 : ¬t.val % 16 = 0) :
    (outsAt0 m c t.val t.isLt).2.2.2.2.2.1 = k0_pay1 (k0_pay30 (outsAt0 m c (t.val - 1) (Nat.lt_of_le_of_lt (Nat.sub_le _ _) t.isLt)).2.2.2.2.2.1) (sqB (iblk m c 0 t) (iblk m c 1 t) (iblk m c 2 t) (iblk m c 3 t) (V m c main_v14) (V m c main_v16) (V m c main_v17)) := by
  rw [outsAt0_B m c t h0 h0]
  dsimp only
  rw [sc]
  unfold out0_B_9
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz, View.ld_unit_zero (S := S1x128) hz]
  rfl

theorem o10_A (c : Dev nD) (t : Fin cfg0.N) (h0 : t.val % 16 = 0) :
    (outsAt0 m c t.val t.isLt).2.2.2.2.2.2.1 = k0_pay3 (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) k0_pay7 := by
  rw [outsAt0_A m c t h0 h0]
  dsimp only
  unfold out0_A_10
  rw [View.read_writes_junk_eq_canon]
  unfold kernelRun0_A
  dsimp only
  sl_unfold_words
  rw [View.canon_cons_unit_zero (S := S1x1024) hz]
  simp only [View.readAt_eq_ld, readCov_whole, View.readCov_unit_zero (S := S1x1024) _ hz, (hs0_0 t).read_unread, (hs0_1 t).read_unread, (hs0_2 t).read_unread, (hs0_3 t).read_unread]
  simp only [View.ld_unit_zero (S := S256x1024) hz, View.ld_unit_zero (S := S1x1024) hz, View.ld_unit_zero (S := S1x128) hz]
  rfl

theorem o10_B (c : Dev nD) (t : Fin cfg0.N) (h0 : ¬t.val % 16 = 0) :
    (outsAt0 m c t.val t.isLt).2.2.2.2.2.2.1 = k0_pay3 (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (outsAt0 m c (t.val - 1) (Nat.lt_of_le_of_lt (Nat.sub_le _ _) t.isLt)).2.2.2.2.2.2.1 := by
  rw [outsAt0_B m c t h0 h0]
  dsimp only
  rw [sc]
  unfold out0_B_10
  rw [View.read_writes_junk_eq_canon]
  unfold kernelRun0_B
  dsimp only
  sl_unfold_words
  rw [View.canon_unit_zero hz]
  simp only [View.readAt_eq_ld, Memref.IsWhole.read_unread, read_unread_whole]
  simp only [View.ld_unit_zero (S := S256x1024) hz, View.ld_unit_zero (S := S1x1024) hz, View.ld_unit_zero (S := S1x128) hz]
  rfl

end Cert.KernelHIdeal.Hand
-- ==== Proof.HPoint.lean ====
module

public import proofs.«01_k».proof.Proof.FMath
public import proofs.«01_k».proof.Proof.HRef
public import proofs.«01_k».proof.Proof.HBlocks

/-! The feed-forward layer, forward, and the loss: what a grid point stores, entry by entry. -/

@[expose] public section
set_option maxRecDepth 16384
noncomputable section
open Idealize.ShloMosaic Idealize.ShloMosaic.TcCoe Idealize.SL.Sem
namespace Cert.KernelHIdeal.Hand
open Cert.KernelHIdeal Cert.KernelHIdeal.Gen Step
open Cert.ReferenceHIdeal.Hand (rsOf)

/-- A projection, the gated product and the layer's output at one entry. -/
def aE (h : Vec Ideal S256x1024 .bf16) (w : Vec Ideal S2816x1024 .bf16) (r : Fin 256) (k : Fin 2816) : EReal := ∑ j : Fin 1024, h (ix2 r j) * w (ix2 k j)
def fE (h : Vec Ideal S256x1024 .bf16) (wg wu : Vec Ideal S2816x1024 .bf16) (r : Fin 256) (k : Fin 2816) : EReal :=
  aE h wg r k * Ideal.logistic (aE h wg r k) * aE h wu r k
def x2E (h : Vec Ideal S256x1024 .bf16) (x : Vec Ideal S256x1024 .f32) (wg wu wd : Vec Ideal S2816x1024 .bf16) (r : Fin 256) (l : Fin 1024) : EReal :=
  x (ix2 r l) + ∑ k : Fin 2816, fE h wg wu r k * wd (ix2 k l)

theorem emb0 (r : Fin 256) (k : Fin 1024) : (Rect.unit (s := S256x2816) ![0, 0] ![256, 1024] inb_S256x2816_S256x1024_0_0).emb (ix2 r k) = ix2 r ⟨k.val, by omega⟩ := by
  blk_ext []
theorem rmb0 (k : Fin 1024) (l : Fin 1024) : (Rect.unit (s := S2816x1024) ![0, 0] ![1024, 1024] inb_S2816x1024_S1024x1024_0_0).emb (ix2 k l) = ix2 ⟨k.val, by omega⟩ l := by
  blk_ext []
theorem r0_apply (w : Vec Ideal S2816x1024 .bf16) (k : Fin 1024) (l : Fin 1024) : r0 w (ix2 k l) = w (ix2 ⟨k.val, by omega⟩ l) :=
  congrArg w (rmb0 k l)

theorem emb1 (r : Fin 256) (k : Fin 1024) : (Rect.unit (s := S256x2816) ![0, 1024] ![256, 1024] inb_S256x2816_S256x1024_0_1024).emb (ix2 r k) = ix2 r ⟨1024 + k.val, by omega⟩ := by
  blk_ext []
theorem rmb1 (k : Fin 1024) (l : Fin 1024) : (Rect.unit (s := S2816x1024) ![1024, 0] ![1024, 1024] inb_S2816x1024_S1024x1024_1024_0).emb (ix2 k l) = ix2 ⟨1024 + k.val, by omega⟩ l := by
  blk_ext []
theorem r1_apply (w : Vec Ideal S2816x1024 .bf16) (k : Fin 1024) (l : Fin 1024) : r1 w (ix2 k l) = w (ix2 ⟨1024 + k.val, by omega⟩ l) :=
  congrArg w (rmb1 k l)

theorem emb2 (r : Fin 256) (k : Fin 768) : (Rect.unit (s := S256x2816) ![0, 2048] ![256, 768] inb_S256x2816_S256x768_0_2048).emb (ix2 r k) = ix2 r ⟨2048 + k.val, by omega⟩ := by
  blk_ext []
theorem rmb2 (k : Fin 768) (l : Fin 1024) : (Rect.unit (s := S2816x1024) ![2048, 0] ![768, 1024] inb_S2816x1024_S768x1024_2048_0).emb (ix2 k l) = ix2 ⟨2048 + k.val, by omega⟩ l := by
  blk_ext []
theorem r2_apply (w : Vec Ideal S2816x1024 .bf16) (k : Fin 768) (l : Fin 1024) : r2 w (ix2 k l) = w (ix2 ⟨2048 + k.val, by omega⟩ l) :=
  congrArg w (rmb2 k l)

variable (h : Vec Ideal S256x1024 .bf16) (x t : Vec Ideal S256x1024 .f32) (g : Vec Ideal S1x1024 .f32) (w wg wu wd : Vec Ideal S2816x1024 .bf16)

theorem a0 (W : Vec Ideal S1024x1024 .bf16) (hW : ∀ k l, W (ix2 k l) = w (ix2 ⟨k.val, by omega⟩ l)) (r : Fin 256) (k : Fin 1024) : k0_pay12 h W (ix2 r k) = aE h w r ⟨k.val, by omega⟩ := by
  unfold aE
  pointwise [k0_pay12, k0_pay9, k0_pay8]
  simp only [hW]
theorem b0 (W : Vec Ideal S1024x1024 .bf16) (hW : ∀ k l, W (ix2 k l) = w (ix2 ⟨k.val, by omega⟩ l)) (r : Fin 256) (k : Fin 1024) : k0_pay13 h W (ix2 r k) = aE h w r ⟨k.val, by omega⟩ := by
  unfold aE
  pointwise [k0_pay13, k0_pay10, k0_pay8]
  simp only [hW]
theorem f0 (W U : Vec Ideal S1024x1024 .bf16) (hW : ∀ k l, W (ix2 k l) = wg (ix2 ⟨k.val, by omega⟩ l)) (hU : ∀ k l, U (ix2 k l) = wu (ix2 ⟨k.val, by omega⟩ l)) (r : Fin 256) (k : Fin 1024) :
    k0_pay11 h W U (ix2 r k) = fE h wg wu r ⟨k.val, by omega⟩ := by
  unfold fE aE
  rw [← half_tanh]
  pointwise [k0_pay11, k0_pay10, k0_pay9, k0_pay8]
  simp only [hW, hU]

theorem a1 (W : Vec Ideal S1024x1024 .bf16) (hW : ∀ k l, W (ix2 k l) = w (ix2 ⟨1024 + k.val, by omega⟩ l)) (r : Fin 256) (k : Fin 1024) : k0_pay17 (k0_pay8 h) W (ix2 r k) = aE h w r ⟨1024 + k.val, by omega⟩ := by
  unfold aE
  pointwise [k0_pay17, k0_pay14, k0_pay8]
  simp only [hW]
theorem b1 (W : Vec Ideal S1024x1024 .bf16) (hW : ∀ k l, W (ix2 k l) = w (ix2 ⟨1024 + k.val, by omega⟩ l)) (r : Fin 256) (k : Fin 1024) : k0_pay18 (k0_pay8 h) W (ix2 r k) = aE h w r ⟨1024 + k.val, by omega⟩ := by
  unfold aE
  pointwise [k0_pay18, k0_pay15, k0_pay8]
  simp only [hW]
theorem f1 (W U : Vec Ideal S1024x1024 .bf16) (hW : ∀ k l, W (ix2 k l) = wg (ix2 ⟨1024 + k.val, by omega⟩ l)) (hU : ∀ k l, U (ix2 k l) = wu (ix2 ⟨1024 + k.val, by omega⟩ l)) (r : Fin 256) (k : Fin 1024) :
    k0_pay16 (k0_pay8 h) W U (ix2 r k) = fE h wg wu r ⟨1024 + k.val, by omega⟩ := by
  unfold fE aE
  rw [← half_tanh]
  pointwise [k0_pay16, k0_pay15, k0_pay14, k0_pay8]
  simp only [hW, hU]

theorem a2 (W : Vec Ideal S768x1024 .bf16) (hW : ∀ k l, W (ix2 k l) = w (ix2 ⟨2048 + k.val, by omega⟩ l)) (r : Fin 256) (k : Fin 768) : k0_pay24 (k0_pay20 (k0_pay8 h) W) (ix2 r k) = aE h w r ⟨2048 + k.val, by omega⟩ := by
  unfold aE
  pointwise [k0_pay24, k0_pay20, k0_pay8]
  simp only [hW]
theorem b2 (W : Vec Ideal S768x1024 .bf16) (hW : ∀ k l, W (ix2 k l) = w (ix2 ⟨2048 + k.val, by omega⟩ l)) (r : Fin 256) (k : Fin 768) : k0_pay25 (k0_pay21 (k0_pay8 h) W) (ix2 r k) = aE h w r ⟨2048 + k.val, by omega⟩ := by
  unfold aE
  pointwise [k0_pay25, k0_pay21, k0_pay8]
  simp only [hW]
theorem f2 (W U : Vec Ideal S768x1024 .bf16) (hW : ∀ k l, W (ix2 k l) = wg (ix2 ⟨2048 + k.val, by omega⟩ l)) (hU : ∀ k l, U (ix2 k l) = wu (ix2 ⟨2048 + k.val, by omega⟩ l)) (r : Fin 256) (k : Fin 768) :
    k0_pay23 (k0_pay20 (k0_pay8 h) W) (k0_pay21 (k0_pay8 h) U) (k0_pay22 (k0_pay8 h) W) (ix2 r k) = fE h wg wu r ⟨2048 + k.val, by omega⟩ := by
  unfold fE aE
  rw [← half_tanh]
  pointwise [k0_pay23, k0_pay22, k0_pay21, k0_pay20, k0_pay8]
  simp only [hW, hU]

theorem aB_apply (r : Fin 256) (k : Fin 2816) : aB h wg (ix2 r k) = aE h wg r k := by
  refine View.canon_apply_of_pieces (Val := Elt Ideal) (S := S256x2816) (e := .bf16)
    (fun y => aE h wg (y 0) (y 1)) _ ?_ (ix2 r k) (View.cover_of_tiledBy _ ![256, 256] (by sl_kernel_rfl) _)
  intro p hp
  simp only [List.mem_cons, List.not_mem_nil, or_false] at hp
  rcases hp with rfl | rfl | rfl <;> intro y <;> idx_vars y
  · exact (a2 h wg (r2 wg) (r2_apply wg) y0 y1).trans (congrArg (fun y : S256x2816.Idx => aE h wg (y 0) (y 1)) (emb2 y0 y1)).symm
  · exact (a1 h wg (r1 wg) (r1_apply wg) y0 y1).trans (congrArg (fun y : S256x2816.Idx => aE h wg (y 0) (y 1)) (emb1 y0 y1)).symm
  · exact (a0 h wg (r0 wg) (r0_apply wg) y0 y1).trans (congrArg (fun y : S256x2816.Idx => aE h wg (y 0) (y 1)) (emb0 y0 y1)).symm

theorem bB_apply (r : Fin 256) (k : Fin 2816) : bB h wu (ix2 r k) = aE h wu r k := by
  refine View.canon_apply_of_pieces (Val := Elt Ideal) (S := S256x2816) (e := .bf16)
    (fun y => aE h wu (y 0) (y 1)) _ ?_ (ix2 r k) (View.cover_of_tiledBy _ ![256, 256] (by sl_kernel_rfl) _)
  intro p hp
  simp only [List.mem_cons, List.not_mem_nil, or_false] at hp
  rcases hp with rfl | rfl | rfl <;> intro y <;> idx_vars y
  · exact (b2 h wu (r2 wu) (r2_apply wu) y0 y1).trans (congrArg (fun y : S256x2816.Idx => aE h wu (y 0) (y 1)) (emb2 y0 y1)).symm
  · exact (b1 h wu (r1 wu) (r1_apply wu) y0 y1).trans (congrArg (fun y : S256x2816.Idx => aE h wu (y 0) (y 1)) (emb1 y0 y1)).symm
  · exact (b0 h wu (r0 wu) (r0_apply wu) y0 y1).trans (congrArg (fun y : S256x2816.Idx => aE h wu (y 0) (y 1)) (emb0 y0 y1)).symm

theorem fB_apply (r : Fin 256) (k : Fin 2816) : fB h wg wu (ix2 r k) = fE h wg wu r k := by
  refine View.canon_apply_of_pieces (Val := Elt Ideal) (S := S256x2816) (e := .bf16)
    (fun y => fE h wg wu (y 0) (y 1)) _ ?_ (ix2 r k) (View.cover_of_tiledBy _ ![256, 256] (by sl_kernel_rfl) _)
  intro p hp
  simp only [List.mem_cons, List.not_mem_nil, or_false] at hp
  rcases hp with rfl | rfl | rfl <;> intro y <;> idx_vars y
  · exact (f2 h wg wu (r2 wg) (r2 wu) (r2_apply wg) (r2_apply wu) y0 y1).trans (congrArg (fun y : S256x2816.Idx => fE h wg wu (y 0) (y 1)) (emb2 y0 y1)).symm
  · exact (f1 h wg wu (r1 wg) (r1 wu) (r1_apply wg) (r1_apply wu) y0 y1).trans (congrArg (fun y : S256x2816.Idx => fE h wg wu (y 0) (y 1)) (emb1 y0 y1)).symm
  · exact (f0 h wg wu (r0 wg) (r0 wu) (r0_apply wg) (r0_apply wu) y0 y1).trans (congrArg (fun y : S256x2816.Idx => fE h wg wu (y 0) (y 1)) (emb0 y0 y1)).symm

theorem outP (h7 f0 : FVec Ideal S256x1024 .bf16) (d0 g1 u1 d1 : Vec Ideal S1024x1024 .bf16) (d2 : Vec Ideal S768x1024 .bf16) (v54 v56 v59 : FVec Ideal S256x768 .f32)
    (A : Fin 256 → Fin 2816 → EReal) (hd0 : ∀ k l, d0 (ix2 k l) = wd (ix2 ⟨k.val, by omega⟩ l)) (hd1 : ∀ k l, d1 (ix2 k l) = wd (ix2 ⟨1024 + k.val, by omega⟩ l))
    (hd2 : ∀ k l, d2 (ix2 k l) = wd (ix2 ⟨2048 + k.val, by omega⟩ l)) (h0 : ∀ r k, f0 (ix2 r k) = A r ⟨k.val, by omega⟩)
    (h1 : ∀ r k, k0_pay16 h7 g1 u1 (ix2 r k) = A r ⟨1024 + k.val, by omega⟩) (h2 : ∀ r k, k0_pay23 v54 v56 v59 (ix2 r k) = A r ⟨2048 + k.val, by omega⟩)
    (r : Fin 256) (l : Fin 1024) :
    k0_pay26 (k0_pay19 h7 x f0 d0 g1 u1 d1) v54 v56 v59 d2 (ix2 r l) = x (ix2 r l) + ∑ k, A r k * wd (ix2 k l) := by
  rw [sum_cut (n := 2816) 2048 768 rfl, sum_cut (n := 2048) 1024 1024 rfl]
  pointwise [k0_pay26, k0_pay19]
  simp only [hd0, hd1, hd2, h0, h1, h2, add_assoc]

theorem x2_apply (r : Fin 256) (l : Fin 1024) :
    k0_pay26 (k0_pay19 (k0_pay8 h) x (k0_pay11 h (r0 wg) (r0 wu)) (r0 wd) (r1 wg) (r1 wu) (r1 wd)) (k0_pay20 (k0_pay8 h) (r2 wg)) (k0_pay21 (k0_pay8 h) (r2 wu)) (k0_pay22 (k0_pay8 h) (r2 wg)) (r2 wd) (ix2 r l)
      = x2E h x wg wu wd r l :=
  outP x wd _ _ _ _ _ _ _ _ _ _ (fE h wg wu) (r0_apply wd) (r1_apply wd) (r2_apply wd)
    (f0 h wg wu (r0 wg) (r0 wu) (r0_apply wg) (r0_apply wu)) (f1 h wg wu (r1 wg) (r1 wu) (r1_apply wg) (r1_apply wu))
    (f2 h wg wu (r2 wg) (r2 wu) (r2_apply wg) (r2_apply wu)) r l

/-- How far the normalised output is from the target, at one entry. -/
def errE (r : Fin 256) (l : Fin 1024) : EReal := x2E h x wg wu wd r l * rsOf (x2E h x wg wu wd r) * g (ix2 0 l) - t (ix2 r l)

theorem rB_apply (r : Fin 256) : rB h x wg wu wd (ix2 r 0) = rsOf (x2E h x wg wu wd r) := by
  pointwise [rB, k0_pay27]
  simp only [x2_apply]
  rfl
theorem xhB_apply (r : Fin 256) (l : Fin 1024) : xhB h x wg wu wd (ix2 r l) = x2E h x wg wu wd r l * rsOf (x2E h x wg wu wd r) := by
  pointwise [xhB, k0_pay28, k0_pay27]
  simp only [x2_apply]
  rfl
theorem errB_apply (r : Fin 256) (l : Fin 1024) : errB h x t g wg wu wd (ix2 r l) = errE h x t g wg wu wd r l := by
  pointwise [errB, k0_pay29, k0_pay28, k0_pay27]
  simp only [x2_apply]
  rfl
theorem sq_apply (acc : FVec Ideal S1x128 .f32) (l : Fin 128) : k0_pay1 (k0_pay30 acc) (sqB h x t g wg wu wd) (ix2 0 l)
    = acc (ix2 0 l) + Ideal.ofBits FTy.f32 973078528#32 * ∑ r : Fin 256, ∑ k : Fin 1024, errE h x t g wg wu wd r k * errE h x t g wg wu wd r k := by
  pointwise [sqB, k0_pay1, k0_pay30, k0_pay31, k0_pay29, k0_pay28, k0_pay27]
  simp only [x2_apply]
  rfl
/-- The gradient of a normalised row's input, from its reciprocal root, its distance to the target, the row and the scale. -/
def dxF (ρ : EReal) (e y q : Fin 1024 → EReal) (l : Fin 1024) : EReal :=
  ρ * (e l * Ideal.ofBits FTy.f32 981467136#32 * q l - y l * ρ *
    Ideal.div (∑ k : Fin 1024, e k * Ideal.ofBits FTy.f32 981467136#32 * q k * (y k * ρ)) (Ideal.ofBits FTy.f32 1149239296#32))
theorem dxP (rb : FVec Ideal S256x1 .f32) (xh er : FVec Ideal S256x1024 .f32) (ρ : EReal) (e y q : Fin 1024 → EReal) (r : Fin 256)
    (hρ : rb (ix2 r 0) = ρ) (hx : ∀ k, xh (ix2 r k) = y k * ρ) (he : ∀ k, er (ix2 r k) = e k) (hq : ∀ k, g (ix2 0 k) = q k) (l : Fin 1024) :
    k0_pay4 rb xh er g (ix2 r l) = dxF ρ e y q l := by
  unfold dxF
  pointwise [k0_pay4, k0_pay2]
  simp only [hρ, hx, he, hq]
theorem zero6 (l : Fin 128) : k0_pay6 (F := Ideal) (ix2 0 l) = 0 := by
  pointwise [k0_pay6]
theorem zero7 (l : Fin 1024) : k0_pay7 (F := Ideal) (ix2 0 l) = 0 := by
  pointwise [k0_pay7]
end Cert.KernelHIdeal.Hand
end
-- ==== Proof.HValue.lean ====
module

public import proofs.«01_k».proof.Proof.HPoint
public import Idealize.ShloMosaic.Lib.StableHlo.ReadAt

/-! The feed-forward layer, forward, and the loss: the seven result arrays of the kernel are the reference's. -/

@[expose] public section
set_option maxRecDepth 16384
noncomputable section
open Idealize.ShloMosaic Idealize.ShloMosaic.TcCoe Idealize.SL.Sem
open Idealize.ShloMosaic.Pipeline (Dat)
namespace Cert.KernelHIdeal.Hand
open Cert.KernelHIdeal Cert.KernelHIdeal.Gen Step
open Cert.ReferenceHIdeal.Hand (rsOf pr f out rs err dy a_apply b_apply f_apply err_apply dy_apply gf_apply dx_apply dxb_apply loss_apply)
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- Row `r` of block `t` among the 4096 rows. -/
def row (t : Fin cfg0.N) (r : Fin 256) : Fin 4096 := ⟨t.val * 256 + r.val, by have := t.isLt; have : cfg0.N = 16 := rfl; omega⟩

theorem h_apply (c : Dev nD) (r : Fin 4096) (l : Fin 1024) : V m c main_v12 (ix2 r l) = Cert.ReferenceHIdeal.Hand.h (m ((c : Thread nD τ).loc main_arg0)) (m ((c : Thread nD τ).loc main_arg1)) r l := by
  unfold V Cert.ReferenceHIdeal.Hand.h rsOf
  after_reads_at
theorem wg_apply (c : Dev nD) (k : Fin 2816) (l : Fin 1024) : V m c main_v14 (ix2 k l) = (m ((c : Thread nD τ).loc main_arg4)) (ix2 l k) := by
  unfold V
  after_reads_at
theorem wu_apply (c : Dev nD) (k : Fin 2816) (l : Fin 1024) : V m c main_v16 (ix2 k l) = (m ((c : Thread nD τ).loc main_arg5)) (ix2 l k) := by
  unfold V
  after_reads_at
theorem wd_apply (c : Dev nD) (k : Fin 2816) (l : Fin 1024) : V m c main_v17 (ix2 k l) = (m ((c : Thread nD τ).loc main_arg6)) (ix2 k l) := by
  unfold V
  after_reads_at
theorem d0_apply (c : Dev nD) (t : Fin cfg0.N) (r : Fin 256) (l : Fin 1024) : iblk m c 0 t (ix2 r l) = Cert.ReferenceHIdeal.Hand.h (m ((c : Thread nD τ).loc main_arg0)) (m ((c : Thread nD τ).loc main_arg1)) (row t r) l := by
  rw [← h_apply]
  unfold row
  blk_point [iblk, idx t]
theorem d1_apply (c : Dev nD) (t : Fin cfg0.N) (r : Fin 256) (l : Fin 1024) : iblk m c 1 t (ix2 r l) = (m ((c : Thread nD τ).loc main_arg0)) (ix2 (row t r) l) := by
  unfold row
  blk_point [iblk, V, idx t]
theorem d2_apply (c : Dev nD) (t : Fin cfg0.N) (r : Fin 256) (l : Fin 1024) : iblk m c 2 t (ix2 r l) = (m ((c : Thread nD τ).loc main_arg2)) (ix2 (row t r) l) := by
  unfold row
  blk_point [iblk, V, idx t]
theorem d3_apply (c : Dev nD) (t : Fin cfg0.N) (l : Fin 1024) : iblk m c 3 t (ix2 0 l) = (m ((c : Thread nD τ).loc main_arg3)) (ix2 0 l) := by
  blk_point [iblk, V, idx t]

theorem aT_apply (c : Dev nD) (t : Fin cfg0.N) (r : Fin 256) (k : Fin 2816) : aE (iblk m c 0 t) (V m c main_v14) r k = pr (m ((c : Thread nD τ).loc main_arg0)) (m ((c : Thread nD τ).loc main_arg1)) (m ((c : Thread nD τ).loc main_arg4)) (row t r) k :=
  Finset.sum_congr rfl fun x _ => congrArg₂ (· * ·) (d0_apply m c t r x) (wg_apply m c k x)
theorem bT_apply (c : Dev nD) (t : Fin cfg0.N) (r : Fin 256) (k : Fin 2816) : aE (iblk m c 0 t) (V m c main_v16) r k = pr (m ((c : Thread nD τ).loc main_arg0)) (m ((c : Thread nD τ).loc main_arg1)) (m ((c : Thread nD τ).loc main_arg5)) (row t r) k :=
  Finset.sum_congr rfl fun x _ => congrArg₂ (· * ·) (d0_apply m c t r x) (wu_apply m c k x)
theorem fT_apply (c : Dev nD) (t : Fin cfg0.N) (r : Fin 256) (k : Fin 2816) :
    fE (iblk m c 0 t) (V m c main_v14) (V m c main_v16) r k = f (m ((c : Thread nD τ).loc main_arg0)) (m ((c : Thread nD τ).loc main_arg1)) (m ((c : Thread nD τ).loc main_arg4)) (m ((c : Thread nD τ).loc main_arg5)) (row t r) k := by
  unfold fE f
  rw [aT_apply, bT_apply]
theorem x2T_apply (c : Dev nD) (t : Fin cfg0.N) (r : Fin 256) (l : Fin 1024) :
    x2E (iblk m c 0 t) (iblk m c 1 t) (V m c main_v14) (V m c main_v16) (V m c main_v17) r l = out (m ((c : Thread nD τ).loc main_arg0)) (m ((c : Thread nD τ).loc main_arg1)) (m ((c : Thread nD τ).loc main_arg4)) (m ((c : Thread nD τ).loc main_arg5)) (m ((c : Thread nD τ).loc main_arg6)) (row t r) l :=
  congrArg₂ (· + ·) (d1_apply m c t r l) (Finset.sum_congr rfl fun k _ => congrArg₂ (· * ·) (fT_apply m c t r k) (wd_apply m c k l))
theorem rT_apply (c : Dev nD) (t : Fin cfg0.N) (r : Fin 256) :
    rsOf (x2E (iblk m c 0 t) (iblk m c 1 t) (V m c main_v14) (V m c main_v16) (V m c main_v17) r) = rs (m ((c : Thread nD τ).loc main_arg0)) (m ((c : Thread nD τ).loc main_arg1)) (m ((c : Thread nD τ).loc main_arg4)) (m ((c : Thread nD τ).loc main_arg5)) (m ((c : Thread nD τ).loc main_arg6)) (row t r) :=
  congrArg rsOf (funext fun l => x2T_apply m c t r l)
theorem errT_apply (c : Dev nD) (t : Fin cfg0.N) (r : Fin 256) (l : Fin 1024) :
    errE (iblk m c 0 t) (iblk m c 1 t) (iblk m c 2 t) (iblk m c 3 t) (V m c main_v14) (V m c main_v16) (V m c main_v17) r l = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) l := by
  unfold errE err
  rw [x2T_apply, rT_apply, d2_apply, d3_apply]

/-- The gradient of the layer's output at one entry of a block. -/
theorem dxT_apply (c : Dev nD) (t : Fin cfg0.N) (r : Fin 256) (l : Fin 1024) :
    k0_pay4 (rB (iblk m c 0 t) (iblk m c 1 t) (V m c main_v14) (V m c main_v16) (V m c main_v17)) (xhB (iblk m c 0 t) (iblk m c 1 t) (V m c main_v14) (V m c main_v16) (V m c main_v17)) (errB (iblk m c 0 t) (iblk m c 1 t) (iblk m c 2 t) (iblk m c 3 t) (V m c main_v14) (V m c main_v16) (V m c main_v17)) (iblk m c 3 t) (ix2 r l)
      = Cert.ReferenceHIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) l) := by
  rw [dx_apply]
  exact dxP _ _ _ _ _ (err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r)) (out (m ((c : Thread nD τ).loc main_arg0)) (m ((c : Thread nD τ).loc main_arg1)) (m ((c : Thread nD τ).loc main_arg4)) (m ((c : Thread nD τ).loc main_arg5)) (m ((c : Thread nD τ).loc main_arg6)) (row t r)) (fun k => (m ((c : Thread nD τ).loc main_arg3)) (ix2 0 k)) r
    ((rB_apply _ _ _ _ _ r).trans (rT_apply m c t r)) (fun k => (xhB_apply _ _ _ _ _ r k).trans (congrArg₂ (· * ·) (x2T_apply m c t r k) (rT_apply m c t r)))
    (fun k => (errB_apply _ _ _ _ _ _ _ r k).trans (errT_apply m c t r k)) (d3_apply m c t) l

theorem final4 (c : Dev nD) : (dats m 0 c).arrAt 4 cfg0.N = Cert.ReferenceHIdeal.Read.val_main_v67 (F := Ideal) (m ((c : Thread nD τ).loc main_arg0)) (m ((c : Thread nD τ).loc main_arg1)) (m ((c : Thread nD τ).loc main_arg4)) := by
  refine (dats m 0 c).arrAt_eq_of_covers 4 _ (by decide +kernel) fun t hf y => ?_
  blk_simp
  rw [after0_4, o4]
  idx_vars y
  have he : (win0_4.blk t).view.emb (ix2 y0 y1) = ix2 (row t y0) y1 := by
    unfold row
    blk_ext [idx t]
  refine Eq.trans ?_ (congrArg _ he.symm)
  rw [a_apply]
  exact (aB_apply _ _ _ _).trans (aT_apply m c t y0 y1)

theorem final5 (c : Dev nD) : (dats m 0 c).arrAt 5 cfg0.N = Cert.ReferenceHIdeal.Read.val_main_v68 (F := Ideal) (m ((c : Thread nD τ).loc main_arg0)) (m ((c : Thread nD τ).loc main_arg1)) (m ((c : Thread nD τ).loc main_arg5)) := by
  refine (dats m 0 c).arrAt_eq_of_covers 5 _ (by decide +kernel) fun t hf y => ?_
  blk_simp
  rw [after0_5, o5]
  idx_vars y
  have he : (win0_5.blk t).view.emb (ix2 y0 y1) = ix2 (row t y0) y1 := by
    unfold row
    blk_ext [idx t]
  refine Eq.trans ?_ (congrArg _ he.symm)
  rw [b_apply]
  exact (bB_apply _ _ _ _).trans (bT_apply m c t y0 y1)

theorem final6 (c : Dev nD) : (dats m 0 c).arrAt 6 cfg0.N = Cert.ReferenceHIdeal.Read.val_main_v69 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 6 _ (by decide +kernel) fun t hf y => ?_
  blk_simp
  rw [after0_6, o6]
  idx_vars y
  have he : (win0_6.blk t).view.emb (ix2 y0 y1) = ix2 (row t y0) y1 := by
    unfold row
    blk_ext [idx t]
  refine Eq.trans ?_ (congrArg _ he.symm)
  rw [f_apply]
  exact (fB_apply _ _ _ _ _).trans (fT_apply m c t y0 y1)

theorem final7 (c : Dev nD) : (dats m 0 c).arrAt 7 cfg0.N = Cert.ReferenceHIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, o7]
  idx_vars y
  have he : (win0_7.blk t).view.emb (ix2 y0 y1) = ix2 (row t y0) y1 := by
    unfold row
    blk_ext [idx t]
  refine Eq.trans ?_ (congrArg _ he.symm)
  exact dxT_apply m c t y0 y1

theorem final8 (c : Dev nD) : (dats m 0 c).arrAt 8 cfg0.N = Cert.ReferenceHIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, o8]
  idx_vars y
  have he : (win0_8.blk t).view.emb (ix2 y0 y1) = ix2 (row t y0) y1 := by
    unfold row
    blk_ext [idx t]
  refine Eq.trans ?_ (congrArg _ he.symm)
  rw [dxb_apply]
  exact dxT_apply m c t y0 y1

theorem final9 (c : Dev nD) : (dats m 0 c).arrAt 9 cfg0.N = Cert.ReferenceHIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_15 (by decide +kernel) _ fun j => ?_
  blk_simp
  rw [after0_9]
  idx_vars j
  obtain rfl : j0 = 0 := Subsingleton.elim _ _
  have := Pipeline.eq_sum_fin_of_reset_step_apply_last (fun n h => (outsAt0 m c n h).2.2.2.2.2.1) 16 (k0_pay6 (F := Ideal))
    (fun t j => Ideal.ofBits FTy.f32 973078528#32 * ∑ r : Fin 256, ∑ k : Fin 1024, errE (iblk m c 0 t) (iblk m c 1 t) (iblk m c 2 t) (iblk m c 3 t) (V m c main_v14) (V m c main_v16) (V m c main_v17) r k * errE (iblk m c 0 t) (iblk m c 1 t) (iblk m c 2 t) (iblk m c 3 t) (V m c main_v14) (V m c main_v16) (V m c main_v17) r k)
    (fun t h0 i => by
      idx_vars i
      beta_reduce
      rw [o9_A m c t h0]
      obtain rfl : i0 = 0 := Subsingleton.elim _ _
      exact sq_apply _ _ _ _ _ _ _ _ _)
    (fun t h0 i => by
      idx_vars i
      beta_reduce
      rw [o9_B m c t h0]
      obtain rfl : i0 = 0 := Subsingleton.elim _ _
      exact sq_apply _ _ _ _ _ _ _ _ _)
    le_rfl t0_15 rfl (ix2 0 j1)
  refine this.trans ?_
  change k0_pay6 (F := Ideal) (ix2 0 j1) + ∑ t : Fin cfg0.N, Ideal.ofBits FTy.f32 973078528#32 * ∑ r : Fin 256, ∑ k : Fin 1024, errE (iblk m c 0 t) (iblk m c 1 t) (iblk m c 2 t) (iblk m c 3 t) (V m c main_v14) (V m c main_v16) (V m c main_v17) r k * errE (iblk m c 0 t) (iblk m c 1 t) (iblk m c 2 t) (iblk m c 3 t) (V m c main_v14) (V m c main_v16) (V m c main_v17) r k = _
  rw [loss_apply, loss_sum, zero6, zero_add]
  exact Finset.sum_congr rfl fun t _ => congrArg _ (Finset.sum_congr rfl fun r _ => Finset.sum_congr rfl fun k _ =>
    congrArg₂ (· * ·) (errT_apply m c t r k) (errT_apply m c t r k))

theorem final10 (c : Dev nD) : (dats m 0 c).arrAt 10 cfg0.N = Cert.ReferenceHIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_15 (by decide +kernel) _ fun j => ?_
  blk_simp
  rw [after0_10]
  idx_vars j
  obtain rfl : j0 = 0 := Subsingleton.elim _ _
  have := Pipeline.eq_sum_fin_of_reset_step_apply_last (fun n h => (outsAt0 m c n h).2.2.2.2.2.2.1) 16 (k0_pay7 (F := Ideal))
    (fun t j => ∑ r : Fin 256, errE (iblk m c 0 t) (iblk m c 1 t) (iblk m c 2 t) (iblk m c 3 t) (V m c main_v14) (V m c main_v16) (V m c main_v17) r (j 1) * Ideal.ofBits FTy.f32 981467136#32 * (x2E (iblk m c 0 t) (iblk m c 1 t) (V m c main_v14) (V m c main_v16) (V m c main_v17) r (j 1) * rsOf (x2E (iblk m c 0 t) (iblk m c 1 t) (V m c main_v14) (V m c main_v16) (V m c main_v17) r)))
    (fun t h0 i => by
      idx_vars i
      beta_reduce
      rw [o10_A m c t h0]
      pointwise [k0_pay3, k0_pay2]
      simp only [xhB_apply, errB_apply])
    (fun t h0 i => by
      idx_vars i
      beta_reduce
      rw [o10_B m c t h0]
      pointwise [k0_pay3, k0_pay2]
      simp only [xhB_apply, errB_apply])
    le_rfl t0_15 rfl (ix2 0 j1)
  refine this.trans ?_
  change k0_pay7 (F := Ideal) (ix2 0 j1) + ∑ t : Fin cfg0.N, ∑ r : Fin 256, errE (iblk m c 0 t) (iblk m c 1 t) (iblk m c 2 t) (iblk m c 3 t) (V m c main_v14) (V m c main_v16) (V m c main_v17) r j1 * Ideal.ofBits FTy.f32 981467136#32 * (x2E (iblk m c 0 t) (iblk m c 1 t) (V m c main_v14) (V m c main_v16) (V m c main_v17) r j1 * rsOf (x2E (iblk m c 0 t) (iblk m c 1 t) (V m c main_v14) (V m c main_v16) (V m c main_v17) r)) = _
  rw [gf_apply, sum_blocks 16 256 rfl, zero7, zero_add]
  exact Finset.sum_congr rfl fun t _ => Finset.sum_congr rfl fun r _ =>
    congrArg₂ (· * ·) (congrArg (· * _) (errT_apply m c t r j1)) (congrArg₂ (· * ·) (x2T_apply m c t r j1) (rT_apply m c t r))

end Cert.KernelHIdeal.Hand
end
-- ==== Proof.HClaim.lean ====
module

public import proofs.«01_k».proof.Defs
public import proofs.«01_k».proof.Proof.HValue
public import proofs.«01_k».proof.Proof.Gen.KernelH
public import proofs.«01_k».proof.Proof.Gen.KernelH.Frame
public import proofs.«01_k».proof.Proof.Gen.ReferenceHIdeal
public import proofs.«01_k».proof.Proof.Gen.ReferenceHIdeal.Run
public import Idealize.ShloMosaic.Lib.Quiescent

/-! The claims about the feed-forward layer, forward, and the loss. -/

@[expose] public section
noncomputable section
open Idealize.ShloMosaic Idealize.SL.Sem
namespace Cert.Proof.H

theorem frameP : Cert.quiescent_KernelH (hKernelH := Cert.KernelH.Gen.facts) := fun m ρ _ => Cert.KernelH.Gen.frame m ρ

theorem framePI : Cert.quiescent_KernelHIdeal (hKernelHIdeal := Cert.KernelHIdeal.Gen.facts) := fun m ρ _ => Cert.KernelHIdeal.Gen.frame m ρ

theorem frameRI : Cert.quiescent_ReferenceHIdeal (hReferenceHIdeal := Cert.ReferenceHIdeal.Gen.facts) := fun m ρ _ =>
  (θ_run _ _ _).mono (fun r h => ⟨fun c => (h c).2.2.2.2.2.2.2, sem_eq_zero_of_no_sems rfl r.2⟩) (Cert.ReferenceHIdeal.Value.run m ρ)

theorem value : Cert.algebraic_KernelHIdeal_ReferenceHIdeal (hKernelHIdeal := Cert.KernelHIdeal.Gen.facts)
    (hReferenceHIdeal := Cert.ReferenceHIdeal.Gen.facts) := by
  intro m g m' g' _ hm
  refine ⟨_, _, _, _, _, _, _, (θ_run _ _ _).mono (fun r h c => ⟨(h c).1.trans (Cert.KernelHIdeal.Hand.final4 m c),
      (h c).2.1.trans (Cert.KernelHIdeal.Hand.final5 m c),
      (h c).2.2.1.trans (Cert.KernelHIdeal.Hand.final6 m c),
      (h c).2.2.2.1.trans (Cert.KernelHIdeal.Hand.final7 m c),
      (h c).2.2.2.2.1.trans (Cert.KernelHIdeal.Hand.final8 m c),
      (h c).2.2.2.2.2.1.trans (Cert.KernelHIdeal.Hand.final9 m c),
      (h c).2.2.2.2.2.2.1.trans (Cert.KernelHIdeal.Hand.final10 m c),
      (h c).2.2.2.2.2.2.2⟩) (Cert.KernelHIdeal.Hand.run_blocks m g),
    (θ_run _ _ _).mono (fun r h c => ?_) (Cert.ReferenceHIdeal.Value.run m' g')⟩
  obtain ⟨k67, k68, k69, k66, k70, k71, k50, k⟩ := h c
  obtain ⟨e0, e1, e2, e3, e4, e5, e6⟩ := hm c
  refine ⟨?_, ?_, ?_, ?_, ?_, ?_, ?_, k⟩
  · rw [← e0, ← e1, ← e4]
    exact k67.trans (Cert.ReferenceHIdeal.Read.val_main_v67_eq ..)
  · rw [← e0, ← e1, ← e5]
    exact k68.trans (Cert.ReferenceHIdeal.Read.val_main_v68_eq ..)
  · rw [← e0, ← e1, ← e4, ← e5]
    exact k69.trans (Cert.ReferenceHIdeal.Read.val_main_v69_eq ..)
  · rw [← e0, ← e1, ← e2, ← e3, ← e4, ← e5, ← e6]
    exact k66.trans (Cert.ReferenceHIdeal.Read.val_main_v66_eq ..)
  · rw [← e0, ← e1, ← e2, ← e3, ← e4, ← e5, ← e6]
    exact k70.trans (Cert.ReferenceHIdeal.Read.val_main_v70_eq ..)
  · rw [← e0, ← e1, ← e2, ← e3, ← e4, ← e5, ← e6]
    exact k71.trans (Cert.ReferenceHIdeal.Read.val_main_v71_eq ..)
  · rw [← e0, ← e1, ← e2, ← e3, ← e4, ← e5, ← e6]
    exact k50.trans (Cert.ReferenceHIdeal.Read.val_main_v50_eq ..)

end Cert.Proof.H
end
-- ==== Proof.QRef.lean ====
module

public import proofs.«01_k».proof.Proof.Gen.ReferenceQIdeal
public import proofs.«01_k».proof.Proof.Gen.ReferenceQIdeal.Run
public import proofs.«01_k».proof.Proof.Gen.ReferenceQIdeal.Read
public import proofs.«01_k».proof.Proof.Common
public import Idealize.ShloMosaic.Lib.Pointwise

/-! The gated merge of the two branches, forward, one token at a time: the layer norm and silu of the convolution's
    output, both branches' projections, the gates, the merged projection onto the residual stream, and its RMS norm. -/

@[expose] public section
set_option maxRecDepth 16384
noncomputable section
open Idealize.ShloMosaic Idealize.ShloMosaic.TcCoe Idealize.SL.Sem

namespace Cert.Merge

/-- The mean of a row of 1024. -/
def mean (y : Fin 1024 → EReal) : EReal := Ideal.div (∑ k, y k) (Ideal.ofBits FTy.f32 1149239296#32)
/-- The layer norm of a row. -/
def ln (c g b : Fin 1024 → EReal) (l : Fin 1024) : EReal :=
  (c l - mean c) * Ideal.rsqrt (mean (fun k => (c k - mean c) * (c k - mean c)) + Ideal.ofBits FTy.f32 925353388#32) * g l + b l
/-- Its silu. -/
def c3 (c g b : Fin 1024 → EReal) (l : Fin 1024) : EReal := ln c g b l * Ideal.logistic (ln c g b l)
/-- A row times a matrix. -/
def dot {n : ℕ} (a : Fin n → EReal) (w : Fin n → Fin 1024 → EReal) (l : Fin 1024) : EReal := ∑ j, a j * w j l
/-- A gate, of both branches' gates side by side. -/
def gate (p b : Fin 2048 → EReal) (k : Fin 2048) : EReal := Ideal.logistic (p k + b k)
/-- The two branches, gated and added. -/
def mix (p b : Fin 2048 → EReal) (ya yc : Fin 1024 → EReal) (l : Fin 1024) : EReal :=
  gate p b ⟨l.val, by omega⟩ * ya l + gate p b ⟨1024 + l.val, by omega⟩ * yc l
/-- The RMS norm of a row. -/
def rms (y g : Fin 1024 → EReal) (l : Fin 1024) : EReal :=
  y l * Ideal.rsqrt (mean (fun k => y k * y k) + Ideal.ofBits FTy.f32 897988541#32) * g l

end Cert.Merge

namespace Cert.ReferenceQIdeal.Hand
open Cert.ReferenceQIdeal Cert.ReferenceQIdeal.Gen Cert.ReferenceQIdeal.Read Cert.Merge
variable (x0 : (⟨S4096x512, .f32⟩ : BufTy).Contents (Elt Ideal)) (x1 : (⟨S4096x1024, .f32⟩ : BufTy).Contents (Elt Ideal))
  (x2 : (⟨S4096x8704, .f32⟩ : BufTy).Contents (Elt Ideal)) (x3 : (⟨S4096x1024, .f32⟩ : BufTy).Contents (Elt Ideal))
  (x4 : (⟨S512x1024, .f32⟩ : BufTy).Contents (Elt Ideal)) (x5 x6 : (⟨S1024x1024, .f32⟩ : BufTy).Contents (Elt Ideal))
  (x7 : (⟨S1x2048, .f32⟩ : BufTy).Contents (Elt Ideal)) (x8 x9 x10 : (⟨S1x1024, .f32⟩ : BufTy).Contents (Elt Ideal))

/-- The convolution branch before its projection. -/
def c3R (r : Fin 4096) (l : Fin 1024) : EReal := c3 (fun k => x1 (ix2 r k)) (fun k => x8 (ix2 0 k)) (fun k => x9 (ix2 0 k)) l
/-- The attention branch's projection. -/
def yaR (r : Fin 4096) (l : Fin 1024) : EReal := dot (fun k => x0 (ix2 r k)) (fun j l => x4 (ix2 j l)) l
/-- The convolution branch's projection. -/
def ycR (r : Fin 4096) (l : Fin 1024) : EReal := dot (c3R x1 x8 x9 r) (fun j l => x5 (ix2 j l)) l
/-- The merged branches. -/
def mixR (r : Fin 4096) (l : Fin 1024) : EReal :=
  mix (fun k => x2 (ix2 r ⟨6656 + k.val, by omega⟩)) (fun k => x7 (ix2 0 k)) (yaR x0 x4 r) (ycR x1 x5 x8 x9 r) l
/-- The residual stream behind the merge. -/
def x1R (r : Fin 4096) (l : Fin 1024) : EReal := x3 (ix2 r l) + dot (mixR x0 x1 x2 x4 x5 x7 x8 x9 r) (fun j l => x6 (ix2 j l)) l
/-- Its RMS norm. -/
def h2R (r : Fin 4096) (l : Fin 1024) : EReal := rms (x1R x0 x1 x2 x3 x4 x5 x6 x7 x8 x9 r) (fun k => x10 (ix2 0 k)) l

theorem c3_apply (r : Fin 4096) (l : Fin 1024) : val_main_v23 x1 x8 x9 (ix2 r l) = c3R x1 x8 x9 r l := by
  unfold c3R c3 ln mean
  pointwise [val_main_cst, val_main_v1, val_main_v2, val_main_cst_0, val_main_v3, val_main_v4, val_main_v5, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_v22, val_main_call0_v0, val_main_call0_v1, val_main_call0_cst, val_main_call0_v2, val_main_call0_v3, val_main_call0_cst_0, val_main_call0_v4, val_main_call0_v5, val_main_v23]
  rfl
theorem ya_apply (r : Fin 4096) (l : Fin 1024) : val_main_v0 x0 x4 (ix2 r l) = yaR x0 x4 r l := by
  unfold yaR dot
  pointwise [val_main_v0]
theorem yc_apply (r : Fin 4096) (l : Fin 1024) : val_main_v24 x1 x5 x8 x9 (ix2 r l) = ycR x1 x5 x8 x9 r l := by
  unfold ycR dot
  pointwise [val_main_v24]
  simp only [c3_apply]
theorem gate_apply (r : Fin 4096) (k : Fin 2048) : val_main_v33 x2 x7 (ix2 r k)
    = gate (fun k => x2 (ix2 r ⟨6656 + k.val, by omega⟩)) (fun k => x7 (ix2 0 k)) k := by
  unfold gate
  pointwise [val_main_v25, val_main_v26, val_main_v27, val_main_v28, val_main_v29, val_main_cst_4, val_main_v30, val_main_v31, val_main_cst_5, val_main_v32, val_main_v33]
  rfl
theorem mix_apply (r : Fin 4096) (l : Fin 1024) : val_main_v38 x0 x1 x2 x4 x5 x7 x8 x9 (ix2 r l) = mixR x0 x1 x2 x4 x5 x7 x8 x9 r l := by
  unfold mixR mix
  rw [← gate_apply, ← gate_apply, ← ya_apply, ← yc_apply]
  pointwise [val_main_v38, val_main_v37, val_main_v36, val_main_v35, val_main_v34]
theorem x1_apply (r : Fin 4096) (l : Fin 1024) : val_main_v40 x0 x1 x2 x3 x4 x5 x6 x7 x8 x9 (ix2 r l) = x1R x0 x1 x2 x3 x4 x5 x6 x7 x8 x9 r l := by
  unfold x1R dot
  pointwise [val_main_v40, val_main_v39]
  simp only [mix_apply]
theorem h2_apply (r : Fin 4096) (l : Fin 1024) : val_main_v57 x0 x1 x2 x3 x4 x5 x6 x7 x8 x9 x10 (ix2 r l) = h2R x0 x1 x2 x3 x4 x5 x6 x7 x8 x9 x10 r l := by
  unfold h2R rms mean
  pointwise [val_main_v45, val_main_cst_6, val_main_v46, val_main_v47, val_main_cst_7, val_main_v48, val_main_v49, val_main_cst_8, val_main_v50, val_main_v51, val_main_v52, val_main_v53, val_main_v54, val_main_v55, val_main_v56, val_main_v57]
  simp only [x1_apply]

end Cert.ReferenceQIdeal.Hand
end
-- ==== Proof.QClaim.lean ====
module

public import proofs.«01_k».proof.Defs
public import proofs.«01_k».proof.Proof.QRef
public import proofs.«01_k».proof.Proof.FMath
public import proofs.«01_k».proof.Proof.Gen.KernelQ
public import proofs.«01_k».proof.Proof.Gen.KernelQ.Frame
public import proofs.«01_k».proof.Proof.Gen.KernelQIdeal.Value
public import Idealize.ShloMosaic.Lib.Pipeline.ReadBack
public import Idealize.ShloMosaic.Lib.Tactic
public import Idealize.ShloMosaic.Lib.Pipeline.ValueKit
public import Idealize.ShloMosaic.Lib.StableHlo.ReadAt
public import Idealize.ShloMosaic.Lib.Quiescent

/-! The gated merge of the two branches, forward: every result of the call is the reference's. -/

@[expose] public section
set_option maxRecDepth 16384
noncomputable section
open Idealize.ShloMosaic Idealize.ShloMosaic.TcCoe Idealize.SL.Sem
open Idealize.ShloMosaic.Pipeline (Dat)

namespace Cert.KernelQIdeal.Hand
open Cert.KernelQIdeal Cert.KernelQIdeal.Gen Cert.Merge Step

/-! What a grid point leaves in each output, from its blocks. -/

section Blocks
variable (x0 : Vec Ideal S512x512 .bf16) (x1 : Vec Ideal S512x1024 .f32) (x2 x3 x4 x5 : Vec Ideal S512x512 .f32) (x6 : Vec Ideal S512x1024 .f32)
  (x7 : Vec Ideal S512x1024 .bf16) (x8 x9 : Vec Ideal S1024x1024 .bf16) (x10 : Vec Ideal S1x2048 .f32) (x11 x12 x13 : Vec Ideal S1x1024 .f32)

theorem out14 : out0_14 x0 x1 x2 x3 x4 x5 x6 x7 x8 x9 x10 x11 x12 x13 = k0_pay7 (k0_pay5 x1 x11 x12) k0_pay6 := by
  unfold out0_14 k0_pay15 k0_pay14
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]
theorem out15 : out0_15 x0 x1 x2 x3 x4 x5 x6 x7 x8 x9 x10 x11 x12 x13 = k0_pay10 (k0_pay4 x0 x7) := by
  unfold out0_15 k0_pay13
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]
theorem out16 : out0_16 x0 x1 x2 x3 x4 x5 x6 x7 x8 x9 x10 x11 x12 x13 = k0_pay11 (k0_pay5 x1 x11 x12) k0_pay6 x8 := by
  unfold out0_16 k0_pay15 k0_pay14
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]
theorem out17 : out0_17 x0 x1 x2 x3 x4 x5 x6 x7 x8 x9 x10 x11 x12 x13 = k0_pay9 (k0_pay3 x2 x3 x4 x5) (k0_pay4 x0 x7) (k0_pay5 x1 x11 x12) k0_pay6 x8 x10 := by
  unfold out0_17 k0_pay15 k0_pay14 k0_pay13 k0_pay12
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]
theorem out18 : out0_18 x0 x1 x2 x3 x4 x5 x6 x7 x8 x9 x10 x11 x12 x13 = k0_pay1 (k0_pay9 (k0_pay3 x2 x3 x4 x5) (k0_pay4 x0 x7) (k0_pay5 x1 x11 x12) k0_pay6 x8 x10) x6 x9 := by
  unfold out0_18 k0_pay16 k0_pay15 k0_pay14 k0_pay13 k0_pay12
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]
theorem out19 : out0_19 x0 x1 x2 x3 x4 x5 x6 x7 x8 x9 x10 x11 x12 x13 = k0_pay2 (k0_pay9 (k0_pay3 x2 x3 x4 x5) (k0_pay4 x0 x7) (k0_pay5 x1 x11 x12) k0_pay6 x8 x10) x6 x9 x13 := by
  unfold out0_19 k0_pay16 k0_pay15 k0_pay14 k0_pay13 k0_pay12
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1x2048) hz]

theorem ln_apply (r : Fin 512) (l : Fin 1024) : k0_pay5 x1 x11 x12 (ix2 r l) = ln (fun k => x1 (ix2 r k)) (fun k => x11 (ix2 0 k)) (fun k => x12 (ix2 0 k)) l := by
  unfold ln mean
  pointwise [k0_pay5]
theorem c3_apply (v : FVec Ideal S512x1024 .f32) (r : Fin 512) (l : Fin 1024) : k0_pay7 v k0_pay6 (ix2 r l) = v (ix2 r l) * Ideal.logistic (v (ix2 r l)) := by
  rw [← half_tanh]
  pointwise [k0_pay7, k0_pay6]
theorem ya_apply (r : Fin 512) (l : Fin 1024) : k0_pay4 x0 x7 (ix2 r l) = dot (fun k => x0 (ix2 r k)) (fun j l => x7 (ix2 j l)) l := by
  unfold dot
  pointwise [k0_pay4]
theorem yc_apply (v : FVec Ideal S512x1024 .f32) (r : Fin 512) (l : Fin 1024) :
    k0_pay8 v k0_pay6 x8 (ix2 r l) = dot (fun k => k0_pay7 v k0_pay6 (ix2 r k)) (fun j l => x8 (ix2 j l)) l := by
  unfold dot
  pointwise [k0_pay8]
theorem mix_apply (p : FVec Ideal S512x2048 .f32) (ya v : FVec Ideal S512x1024 .f32) (r : Fin 512) (l : Fin 1024) :
    k0_pay9 p ya v k0_pay6 x8 x10 (ix2 r l)
      = mix (fun k => p (ix2 r k)) (fun k => x10 (ix2 0 k)) (fun k => ya (ix2 r k)) (fun k => k0_pay8 v k0_pay6 x8 (ix2 r k)) l := by
  unfold mix gate
  rw [← half_tanh, ← half_tanh]
  pointwise [k0_pay9]
theorem x1_apply (q : FVec Ideal S512x1024 .bf16) (r : Fin 512) (l : Fin 1024) :
    k0_pay1 q x6 x9 (ix2 r l) = x6 (ix2 r l) + dot (fun k => q (ix2 r k)) (fun j l => x9 (ix2 j l)) l := by
  unfold dot
  pointwise [k0_pay1]
theorem h2_apply (q : FVec Ideal S512x1024 .bf16) (r : Fin 512) (l : Fin 1024) :
    k0_pay2 q x6 x9 x13 (ix2 r l) = rms (fun k => k0_pay1 q x6 x9 (ix2 r k)) (fun k => x13 (ix2 0 k)) l := by
  unfold rms mean
  pointwise [k0_pay2]
end Blocks

variable (m : (ℓ : Loc nD τ sig) → Buf (Elt Ideal) ℓ)

theorem idx : ∀ t : Fin cfg0.N, win0_0.index t = ![t.val, 0] ∧ win0_1.index t = ![t.val, 0] ∧ win0_2.index t = ![t.val, 13] ∧ win0_3.index t = ![t.val, 14] ∧ win0_4.index t = ![t.val, 15] ∧ win0_5.index t = ![t.val, 16] ∧ win0_6.index t = ![t.val, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

/-- Row `r` of block `t` among the 4096 rows. -/
def row (t : Fin cfg0.N) (r : Fin 512) : Fin 4096 := ⟨t.val * 512 + r.val, by have := t.isLt; have : cfg0.N = 8 := rfl; omega⟩

theorem d0_apply (c : Dev nD) (t : Fin cfg0.N) (r : Fin 512) (l : Fin 512) : iblk m c 0 t (ix2 r l) = m ((c : Thread nD τ).loc main_arg0) (ix2 (row t r) l) := by
  unfold row
  blk_point [iblk, V, idx t]
theorem d1_apply (c : Dev nD) (t : Fin cfg0.N) (r : Fin 512) (l : Fin 1024) : iblk m c 1 t (ix2 r l) = m ((c : Thread nD τ).loc main_arg1) (ix2 (row t r) l) := by
  unfold row
  blk_point [iblk, V, idx t]
theorem d6_apply (c : Dev nD) (t : Fin cfg0.N) (r : Fin 512) (l : Fin 1024) : iblk m c 6 t (ix2 r l) = m ((c : Thread nD τ).loc main_arg3) (ix2 (row t r) l) := by
  unfold row
  blk_point [iblk, V, idx t]
theorem d2_apply (c : Dev nD) (t : Fin cfg0.N) (r l : Fin 512) : iblk m c 2 t (ix2 r l) = m ((c : Thread nD τ).loc main_arg2) (ix2 (row t r) ⟨6656 + l.val, by omega⟩) := by
  unfold row
  blk_point [iblk, V, idx t]
theorem d3_apply (c : Dev nD) (t : Fin cfg0.N) (r l : Fin 512) : iblk m c 3 t (ix2 r l) = m ((c : Thread nD τ).loc main_arg2) (ix2 (row t r) ⟨7168 + l.val, by omega⟩) := by
  unfold row
  blk_point [iblk, V, idx t]
theorem d4_apply (c : Dev nD) (t : Fin cfg0.N) (r l : Fin 512) : iblk m c 4 t (ix2 r l) = m ((c : Thread nD τ).loc main_arg2) (ix2 (row t r) ⟨7680 + l.val, by omega⟩) := by
  unfold row
  blk_point [iblk, V, idx t]
theorem d5_apply (c : Dev nD) (t : Fin cfg0.N) (r l : Fin 512) : iblk m c 5 t (ix2 r l) = m ((c : Thread nD τ).loc main_arg2) (ix2 (row t r) ⟨8192 + l.val, by omega⟩) := by
  unfold row
  blk_point [iblk, V, idx t]
theorem d7_apply (c : Dev nD) (t : Fin cfg0.N) (j : Fin 512) (l : Fin 1024) : iblk m c 7 t (ix2 j l) = m ((c : Thread nD τ).loc main_arg4) (ix2 j l) := by
  blk_point [iblk, V, idx t]
theorem d8_apply (c : Dev nD) (t : Fin cfg0.N) (j : Fin 1024) (l : Fin 1024) : iblk m c 8 t (ix2 j l) = m ((c : Thread nD τ).loc main_arg5) (ix2 j l) := by
  blk_point [iblk, V, idx t]
theorem d9_apply (c : Dev nD) (t : Fin cfg0.N) (j : Fin 1024) (l : Fin 1024) : iblk m c 9 t (ix2 j l) = m ((c : Thread nD τ).loc main_arg6) (ix2 j l) := by
  blk_point [iblk, V, idx t]
theorem d10_apply (c : Dev nD) (t : Fin cfg0.N) (l : Fin 2048) : iblk m c 10 t (ix2 0 l) = m ((c : Thread nD τ).loc main_arg7) (ix2 0 l) := by
  blk_point [iblk, V, idx t]
theorem d11_apply (c : Dev nD) (t : Fin cfg0.N) (l : Fin 1024) : iblk m c 11 t (ix2 0 l) = m ((c : Thread nD τ).loc main_arg8) (ix2 0 l) := by
  blk_point [iblk, V, idx t]
theorem d12_apply (c : Dev nD) (t : Fin cfg0.N) (l : Fin 1024) : iblk m c 12 t (ix2 0 l) = m ((c : Thread nD τ).loc main_arg9) (ix2 0 l) := by
  blk_point [iblk, V, idx t]
theorem d13_apply (c : Dev nD) (t : Fin cfg0.N) (l : Fin 1024) : iblk m c 13 t (ix2 0 l) = m ((c : Thread nD τ).loc main_arg10) (ix2 0 l) := by
  blk_point [iblk, V, idx t]

theorem p_apply (c : Dev nD) (t : Fin cfg0.N) (r : Fin 512) (k : Fin 2048) :
    k0_pay3 (iblk m c 2 t) (iblk m c 3 t) (iblk m c 4 t) (iblk m c 5 t) (ix2 r k) = m ((c : Thread nD τ).loc main_arg2) (ix2 (row t r) ⟨6656 + k.val, by omega⟩) := by
  pointwise [k0_pay3]
  split_ifs <;> simp only [d2_apply, d3_apply, d4_apply, d5_apply] <;>
    exact congrArg _ (congrArg (ix2 _) (Fin.ext (by dsimp only; omega)))

/-! A grid point's results are the reference's, row by row. -/

theorem c3T (c : Dev nD) (t : Fin cfg0.N) (r : Fin 512) (l : Fin 1024) : k0_pay7 (k0_pay5 (iblk m c 1 t) (iblk m c 11 t) (iblk m c 12 t)) k0_pay6 (ix2 r l) = Cert.ReferenceQIdeal.Hand.c3R (m ((c : Thread nD τ).loc main_arg1)) (m ((c : Thread nD τ).loc main_arg8)) (m ((c : Thread nD τ).loc main_arg9)) (row t r) l := by
  rw [c3_apply, ln_apply]
  simp only [d1_apply, d11_apply, d12_apply]
  rfl
theorem yaT (c : Dev nD) (t : Fin cfg0.N) (r : Fin 512) (l : Fin 1024) : k0_pay4 (iblk m c 0 t) (iblk m c 7 t) (ix2 r l) = Cert.ReferenceQIdeal.Hand.yaR (m ((c : Thread nD τ).loc main_arg0)) (m ((c : Thread nD τ).loc main_arg4)) (row t r) l := by
  rw [ya_apply]
  simp only [d0_apply, d7_apply]
  rfl
theorem ycT (c : Dev nD) (t : Fin cfg0.N) (r : Fin 512) (l : Fin 1024) : k0_pay8 (k0_pay5 (iblk m c 1 t) (iblk m c 11 t) (iblk m c 12 t)) k0_pay6 (iblk m c 8 t) (ix2 r l) = Cert.ReferenceQIdeal.Hand.ycR (m ((c : Thread nD τ).loc main_arg1)) (m ((c : Thread nD τ).loc main_arg5)) (m ((c : Thread nD τ).loc main_arg8)) (m ((c : Thread nD τ).loc main_arg9)) (row t r) l := by
  rw [yc_apply]
  simp only [c3T, d8_apply]
  rfl
theorem mixT (c : Dev nD) (t : Fin cfg0.N) (r : Fin 512) (l : Fin 1024) : k0_pay9 (k0_pay3 (iblk m c 2 t) (iblk m c 3 t) (iblk m c 4 t) (iblk m c 5 t)) (k0_pay4 (iblk m c 0 t) (iblk m c 7 t)) (k0_pay5 (iblk m c 1 t) (iblk m c 11 t) (iblk m c 12 t)) k0_pay6 (iblk m c 8 t) (iblk m c 10 t) (ix2 r l) = Cert.ReferenceQIdeal.Hand.mixR (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) (row t r) l := by
  rw [mix_apply]
  simp only [p_apply, yaT, ycT, d10_apply]
  rfl
theorem x1T (c : Dev nD) (t : Fin cfg0.N) (r : Fin 512) (l : Fin 1024) : k0_pay1 (k0_pay9 (k0_pay3 (iblk m c 2 t) (iblk m c 3 t) (iblk m c 4 t) (iblk m c 5 t)) (k0_pay4 (iblk m c 0 t) (iblk m c 7 t)) (k0_pay5 (iblk m c 1 t) (iblk m c 11 t) (iblk m c 12 t)) k0_pay6 (iblk m c 8 t) (iblk m c 10 t)) (iblk m c 6 t) (iblk m c 9 t) (ix2 r l) = Cert.ReferenceQIdeal.Hand.x1R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t r) l := by
  rw [x1_apply]
  simp only [mixT, d6_apply, d9_apply]
  rfl
theorem h2T (c : Dev nD) (t : Fin cfg0.N) (r : Fin 512) (l : Fin 1024) : k0_pay2 (k0_pay9 (k0_pay3 (iblk m c 2 t) (iblk m c 3 t) (iblk m c 4 t) (iblk m c 5 t)) (k0_pay4 (iblk m c 0 t) (iblk m c 7 t)) (k0_pay5 (iblk m c 1 t) (iblk m c 11 t) (iblk m c 12 t)) k0_pay6 (iblk m c 8 t) (iblk m c 10 t)) (iblk m c 6 t) (iblk m c 9 t) (iblk m c 13 t) (ix2 r l) = Cert.ReferenceQIdeal.Hand.h2R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t r) l := by
  rw [h2_apply]
  simp only [x1T, d13_apply]
  rfl

theorem final14 (c : Dev nD) : (dats m 0 c).arrAt 14 cfg0.N = Cert.ReferenceQIdeal.Read.val_main_v41 (F := Ideal) (m ((c : Thread nD τ).loc main_arg1)) (m ((c : Thread nD τ).loc main_arg8)) (m ((c : Thread nD τ).loc main_arg9)) := by
  refine (dats m 0 c).arrAt_eq_of_covers 14 _ (by decide +kernel) fun t hf y => ?_
  blk_simp
  rw [after0_14, out14]
  idx_vars y
  have he : (win0_14.blk t).view.emb (ix2 y0 y1) = ix2 (row t y0) y1 := by
    unfold row
    blk_ext [idx t]
  refine Eq.trans ?_ (congrArg _ he.symm)
  refine Eq.trans ?_ (Cert.ReferenceQIdeal.Hand.c3_apply (m ((c : Thread nD τ).loc main_arg1)) (m ((c : Thread nD τ).loc main_arg8)) (m ((c : Thread nD τ).loc main_arg9)) (row t y0) y1).symm
  exact c3T m c t y0 y1
theorem final15 (c : Dev nD) : (dats m 0 c).arrAt 15 cfg0.N = Cert.ReferenceQIdeal.Read.val_main_v42 (F := Ideal) (m ((c : Thread nD τ).loc main_arg0)) (m ((c : Thread nD τ).loc main_arg4)) := by
  refine (dats m 0 c).arrAt_eq_of_covers 15 _ (by decide +kernel) fun t hf y => ?_
  blk_simp
  rw [after0_15, out15]
  idx_vars y
  have he : (win0_15.blk t).view.emb (ix2 y0 y1) = ix2 (row t y0) y1 := by
    unfold row
    blk_ext [idx t]
  refine Eq.trans ?_ (congrArg _ he.symm)
  refine Eq.trans ?_ (Cert.ReferenceQIdeal.Hand.ya_apply (m ((c : Thread nD τ).loc main_arg0)) (m ((c : Thread nD τ).loc main_arg4)) (row t y0) y1).symm
  exact (by pointwise [k0_pay10] : k0_pay10 (k0_pay4 (iblk m c 0 t) (iblk m c 7 t)) (ix2 y0 y1) = k0_pay4 (iblk m c 0 t) (iblk m c 7 t) (ix2 y0 y1)).trans (yaT m c t y0 y1)
theorem final16 (c : Dev nD) : (dats m 0 c).arrAt 16 cfg0.N = Cert.ReferenceQIdeal.Read.val_main_v43 (F := Ideal) (m ((c : Thread nD τ).loc main_arg1)) (m ((c : Thread nD τ).loc main_arg5)) (m ((c : Thread nD τ).loc main_arg8)) (m ((c : Thread nD τ).loc main_arg9)) := by
  refine (dats m 0 c).arrAt_eq_of_covers 16 _ (by decide +kernel) fun t hf y => ?_
  blk_simp
  rw [after0_16, out16]
  idx_vars y
  have he : (win0_16.blk t).view.emb (ix2 y0 y1) = ix2 (row t y0) y1 := by
    unfold row
    blk_ext [idx t]
  refine Eq.trans ?_ (congrArg _ he.symm)
  refine Eq.trans ?_ (Cert.ReferenceQIdeal.Hand.yc_apply (m ((c : Thread nD τ).loc main_arg1)) (m ((c : Thread nD τ).loc main_arg5)) (m ((c : Thread nD τ).loc main_arg8)) (m ((c : Thread nD τ).loc main_arg9)) (row t y0) y1).symm
  exact (by pointwise [k0_pay11] : k0_pay11 (k0_pay5 (iblk m c 1 t) (iblk m c 11 t) (iblk m c 12 t)) k0_pay6 (iblk m c 8 t) (ix2 y0 y1) = k0_pay8 (k0_pay5 (iblk m c 1 t) (iblk m c 11 t) (iblk m c 12 t)) k0_pay6 (iblk m c 8 t) (ix2 y0 y1)).trans (ycT m c t y0 y1)
theorem final17 (c : Dev nD) : (dats m 0 c).arrAt 17 cfg0.N = Cert.ReferenceQIdeal.Read.val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) := by
  refine (dats m 0 c).arrAt_eq_of_covers 17 _ (by decide +kernel) fun t hf y => ?_
  blk_simp
  rw [after0_17, out17]
  idx_vars y
  have he : (win0_17.blk t).view.emb (ix2 y0 y1) = ix2 (row t y0) y1 := by
    unfold row
    blk_ext [idx t]
  refine Eq.trans ?_ (congrArg _ he.symm)
  refine Eq.trans ?_ (Cert.ReferenceQIdeal.Hand.mix_apply (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) (row t y0) y1).symm
  exact mixT m c t y0 y1
theorem final18 (c : Dev nD) : (dats m 0 c).arrAt 18 cfg0.N = Cert.ReferenceQIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 18 _ (by decide +kernel) fun t hf y => ?_
  blk_simp
  rw [after0_18, out18]
  idx_vars y
  have he : (win0_18.blk t).view.emb (ix2 y0 y1) = ix2 (row t y0) y1 := by
    unfold row
    blk_ext [idx t]
  refine Eq.trans ?_ (congrArg _ he.symm)
  refine Eq.trans ?_ (Cert.ReferenceQIdeal.Hand.x1_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t y0) y1).symm
  exact x1T m c t y0 y1
theorem final19 (c : Dev nD) : (dats m 0 c).arrAt 19 cfg0.N = Cert.ReferenceQIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 19 _ (by decide +kernel) fun t hf y => ?_
  blk_simp
  rw [after0_19, out19]
  idx_vars y
  have he : (win0_19.blk t).view.emb (ix2 y0 y1) = ix2 (row t y0) y1 := by
    unfold row
    blk_ext [idx t]
  refine Eq.trans ?_ (congrArg _ he.symm)
  refine Eq.trans ?_ (Cert.ReferenceQIdeal.Hand.h2_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t y0) y1).symm
  exact h2T m c t y0 y1
end Cert.KernelQIdeal.Hand

namespace Cert.Proof.Q
theorem frameP : Cert.quiescent_KernelQ (hKernelQ := Cert.KernelQ.Gen.facts) := fun m ρ _ => Cert.KernelQ.Gen.frame m ρ
theorem framePI : Cert.quiescent_KernelQIdeal (hKernelQIdeal := Cert.KernelQIdeal.Gen.facts) := fun m ρ _ => Cert.KernelQIdeal.Gen.frame m ρ
theorem frameRI : Cert.quiescent_ReferenceQIdeal (hReferenceQIdeal := Cert.ReferenceQIdeal.Gen.facts) := fun m ρ _ =>
  (θ_run _ _ _).mono (fun r h => ⟨fun c => (h c).2.2.2.2.2.2, sem_eq_zero_of_no_sems rfl r.2⟩) (Cert.ReferenceQIdeal.Value.run m ρ)
theorem value : Cert.algebraic_KernelQIdeal_ReferenceQIdeal (hKernelQIdeal := Cert.KernelQIdeal.Gen.facts)
    (hReferenceQIdeal := Cert.ReferenceQIdeal.Gen.facts) := by
  intro m g m' g' _ hm
  refine ⟨_, _, _, _, _, _, (θ_run _ _ _).mono (fun r h c => ⟨(h c).1.trans (Cert.KernelQIdeal.Hand.final14 m c), (h c).2.1.trans (Cert.KernelQIdeal.Hand.final15 m c), (h c).2.2.1.trans (Cert.KernelQIdeal.Hand.final16 m c), (h c).2.2.2.1.trans (Cert.KernelQIdeal.Hand.final17 m c), (h c).2.2.2.2.1.trans (Cert.KernelQIdeal.Hand.final18 m c), (h c).2.2.2.2.2.1.trans (Cert.KernelQIdeal.Hand.final19 m c), (h c).2.2.2.2.2.2⟩)
    (Cert.KernelQIdeal.Value.run_blocks m g), (θ_run _ _ _).mono (fun r h c => ?_) (Cert.ReferenceQIdeal.Value.run m' g')⟩
  obtain ⟨h1, h2, h3, h4, h5, h6, h7⟩ := h c
  obtain ⟨e0, e1, e2, e3, e4, e5, e6, e7, e8, e9, e10⟩ := hm c
  refine ⟨?_, ?_, ?_, ?_, ?_, ?_, h7⟩
  · rw [← e1, ← e8, ← e9]
    exact h1.trans (Cert.ReferenceQIdeal.Read.val_main_v41_eq ..)
  · rw [← e0, ← e4]
    exact h2.trans (Cert.ReferenceQIdeal.Read.val_main_v42_eq ..)
  · rw [← e1, ← e5, ← e8, ← e9]
    exact h3.trans (Cert.ReferenceQIdeal.Read.val_main_v43_eq ..)
  · rw [← e0, ← e1, ← e2, ← e4, ← e5, ← e7, ← e8, ← e9]
    exact h4.trans (Cert.ReferenceQIdeal.Read.val_main_v44_eq ..)
  · rw [← e0, ← e1, ← e2, ← e3, ← e4, ← e5, ← e6, ← e7, ← e8, ← e9]
    exact h5.trans (Cert.ReferenceQIdeal.Read.val_main_v40_eq ..)
  · rw [← e0, ← e1, ← e2, ← e3, ← e4, ← e5, ← e6, ← e7, ← e8, ← e9, ← e10]
    exact h6.trans (Cert.ReferenceQIdeal.Read.val_main_v57_eq ..)
end Cert.Proof.Q
end
-- ==== Proof.SPack.lean ====
module

public import proofs.«01_k».proof.Proof.Gen.KernelSIdeal
public import Idealize.ShloMosaic.Lib.Pipeline.Value
public import Idealize.ShloMosaic.Lib.Pointwise

/-! How the seven vectors lie in the one array of the small weights' optimiser: rows of 128 one vector after another, then eight
more rows. -/

@[expose] public section
set_option maxRecDepth 16384
noncomputable section
open Idealize.ShloMosaic
namespace Cert.KernelSIdeal.Hand
open Cert.KernelSIdeal Cert.KernelSIdeal.Gen

section Pack
variable (a0 : Vec Ideal S1x1024 .f32) (a1 : Vec Ideal S1x2048 .f32) (a2 a3 a4 a5 a6 : Vec Ideal S1x1024 .f32) (z : Vec Ideal S8x128 .f32)

/-- The seven vectors as rows of 128, and the eight rows `z` after them. -/
def pack : Vec Ideal S72x128 .f32 :=
  concatenate S72x128 0
    [⟨S64x128, shapeCast S64x128 (concatenate S8192 0
        [⟨S1024, shapeCast S1024 a0 shapeCasts_S1x1024_S1024⟩, ⟨S2048, shapeCast S2048 a1 shapeCasts_S1x2048_S2048⟩,
         ⟨S1024, shapeCast S1024 a2 shapeCasts_S1x1024_S1024⟩, ⟨S1024, shapeCast S1024 a3 shapeCasts_S1x1024_S1024⟩,
         ⟨S1024, shapeCast S1024 a4 shapeCasts_S1x1024_S1024⟩, ⟨S1024, shapeCast S1024 a5 shapeCasts_S1x1024_S1024⟩,
         ⟨S1024, shapeCast S1024 a6 shapeCasts_S1x1024_S1024⟩]
        concatenates_S1024_S2048_S1024_S1024_S1024_S1024_S1024_S8192_d0) shapeCasts_S8192_S64x128⟩, ⟨S8x128, z⟩]
    concatenates_S64x128_S8x128_S72x128_d0

/-- Where element `j` of row `i` of a vector laid out in rows of 128 lies in the vector. -/
def at8 (i : Fin 8) (j : Fin 128) : Fin 1024 := ⟨i.val * 128 + j.val, by omega⟩
def at16 (i : Fin 16) (j : Fin 128) : Fin 2048 := ⟨i.val * 128 + j.val, by omega⟩

theorem pack0 (i : Fin 8) (j : Fin 128) : pack a0 a1 a2 a3 a4 a5 a6 z (ix2 ⟨0 + i.val, by omega⟩ j) = a0 (ix2 0 (at8 i j)) := by
  unfold at8
  pointwise [pack]
  split_ifs <;> first | (exfalso; omega) | rfl
theorem pack1 (i : Fin 16) (j : Fin 128) : pack a0 a1 a2 a3 a4 a5 a6 z (ix2 ⟨8 + i.val, by omega⟩ j) = a1 (ix2 0 (at16 i j)) := by
  unfold at16
  pointwise [pack]
  split_ifs <;> first | (exfalso; omega) | exact congrArg _ (congrArg (ix2 _) (Fin.ext (by dsimp only; omega)))
theorem pack2 (i : Fin 8) (j : Fin 128) : pack a0 a1 a2 a3 a4 a5 a6 z (ix2 ⟨24 + i.val, by omega⟩ j) = a2 (ix2 0 (at8 i j)) := by
  unfold at8
  pointwise [pack]
  split_ifs <;> first | (exfalso; omega) | exact congrArg _ (congrArg (ix2 _) (Fin.ext (by dsimp only; omega)))
theorem pack3 (i : Fin 8) (j : Fin 128) : pack a0 a1 a2 a3 a4 a5 a6 z (ix2 ⟨32 + i.val, by omega⟩ j) = a3 (ix2 0 (at8 i j)) := by
  unfold at8
  pointwise [pack]
  split_ifs <;> first | (exfalso; omega) | exact congrArg _ (congrArg (ix2 _) (Fin.ext (by dsimp only; omega)))
theorem pack4 (i : Fin 8) (j : Fin 128) : pack a0 a1 a2 a3 a4 a5 a6 z (ix2 ⟨40 + i.val, by omega⟩ j) = a4 (ix2 0 (at8 i j)) := by
  unfold at8
  pointwise [pack]
  split_ifs <;> first | (exfalso; omega) | exact congrArg _ (congrArg (ix2 _) (Fin.ext (by dsimp only; omega)))
theorem pack5 (i : Fin 8) (j : Fin 128) : pack a0 a1 a2 a3 a4 a5 a6 z (ix2 ⟨48 + i.val, by omega⟩ j) = a5 (ix2 0 (at8 i j)) := by
  unfold at8
  pointwise [pack]
  split_ifs <;> first | (exfalso; omega) | exact congrArg _ (congrArg (ix2 _) (Fin.ext (by dsimp only; omega)))
theorem pack6 (i : Fin 8) (j : Fin 128) : pack a0 a1 a2 a3 a4 a5 a6 z (ix2 ⟨56 + i.val, by omega⟩ j) = a6 (ix2 0 (at8 i j)) := by
  unfold at8
  pointwise [pack]
  split_ifs <;> first | (exfalso; omega) | exact congrArg _ (congrArg (ix2 _) (Fin.ext (by dsimp only; omega)))
theorem pack7 (i : Fin 8) (j : Fin 128) : pack a0 a1 a2 a3 a4 a5 a6 z (ix2 ⟨64 + i.val, by omega⟩ j) = z (ix2 i j) := by
  pointwise [pack]

end Pack
end Cert.KernelSIdeal.Hand
end
-- ==== Proof.Adam.lean ====
module

public import Idealize.ShloMosaic.Lib.Pointwise

/-! The optimiser's step on one element: the two moments and the change of the weight. -/

@[expose] public section
noncomputable section
open Idealize.ShloMosaic
namespace Cert.Adam

/-- The first moment after the step. -/
def mom (g m : EReal) : EReal := Ideal.ofBits .f32 0x3F666666#32 * m + Ideal.ofBits .f32 0x3DCCCCCD#32 * g
/-- The second moment after the step. -/
def sec (g v : EReal) : EReal := Ideal.ofBits .f32 0x3F7FBE77#32 * v + Ideal.ofBits .f32 0x3A83126F#32 * (g * g)
/-- The change of the weight. -/
def delta (g w m v : EReal) : EReal :=
  Ideal.ofBits .f32 0xBA83126F#32 *
    (Ideal.div (Ideal.div (mom g m) (Ideal.ofBits .f32 0x3F26BD02#32)) (Ideal.sqrt (Ideal.div (sec g v) (Ideal.ofBits .f32 0x3C231ACC#32)) + Ideal.ofBits .f32 0x322BCC77#32)
      + Ideal.ofBits .f32 0x3C23D70A#32 * w)

end Cert.Adam
end
-- ==== Proof.SFrame.lean ====
module

public import proofs.«01_k».proof.Proof.Gen.KernelSIdeal.Launch
public import proofs.«01_k».proof.Proof.Gen.KernelSIdeal.Skeleton
public import proofs.«01_k».proof.Proof.Gen.KernelSIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The small weights' optimiser: its run, with the 33 arrays of the call named. -/

@[expose] public section

set_option maxRecDepth 16384

noncomputable section

namespace Cert.KernelSIdeal.Hand

open Cert.KernelSIdeal Cert.KernelSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1980000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩) h

/-! ## The body's accesses -/

abbrev r0_0 : Rect S72x128 := Rect.unit (s := S72x128) ![0, 0] S72x128.size inb_S72x128_S72x128_0_0
abbrev r0_1 : Rect S8x128 := Rect.unit (s := S8x128) ![0, 0] S8x128.size inb_S8x128_S8x128_0_0
abbrev r0_2 : Rect S16x128 := Rect.unit (s := S16x128) ![0, 0] S16x128.size inb_S16x128_S16x128_0_0

/-! ## What the body leaves in each output window's buffer -/

def k0_pay34 (x0 : Vec F S72x128 .f32) (x1 : Vec F S72x128 .f32) (x2 : Vec F S72x128 .f32) (x3 : Vec F S72x128 .f32) : FVec F S72x128 .f32 :=
  k0_pay3 (View.ld x0 r0_0) -- `v1`
def k0_pay35 (x0 : Vec F S72x128 .f32) (x1 : Vec F S72x128 .f32) (x2 : Vec F S72x128 .f32) (x3 : Vec F S72x128 .f32) : FVec F S72x128 .f32 :=
  k0_pay4 (View.ld x0 r0_0) (View.ld x2 r0_0) -- `v12`
def k0_pay36 (x0 : Vec F S72x128 .f32) (x1 : Vec F S72x128 .f32) (x2 : Vec F S72x128 .f32) (x3 : Vec F S72x128 .f32) : FVec F S72x128 .f32 :=
  k0_pay5 (View.ld x0 r0_0) (View.ld x3 r0_0) -- `v18`
def k0_pay37 (x0 : Vec F S72x128 .f32) (x1 : Vec F S72x128 .f32) (x2 : Vec F S72x128 .f32) (x3 : Vec F S72x128 .f32) : FVec F S72x128 .f32 :=
  k0_pay6 (View.ld x0 r0_0) (View.ld x1 r0_0) (View.ld x2 r0_0) (View.ld x3 r0_0) -- `v31`

def out0_4 (x0 : Vec F S72x128 .f32) (x1 : Vec F S72x128 .f32) (x2 : Vec F S72x128 .f32) (x3 : Vec F S72x128 .f32) : Vec F S8x128 .f32 :=
  View.canon [⟨r0_1, k0_pay7 (View.ld x0 r0_0)⟩]

theorem cover0_4 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_5 (x0 : Vec F S72x128 .f32) (x1 : Vec F S72x128 .f32) (x2 : Vec F S72x128 .f32) (x3 : Vec F S72x128 .f32) : Vec F S16x128 .f32 :=
  View.canon [⟨r0_2, k0_pay8 (View.ld x0 r0_0)⟩]

theorem cover0_5 (p0 : Vec F S16x128 .f32) (y : S16x128.Idx) :
    ∃ pc ∈ ([⟨r0_2, p0⟩] : List (View.Piece (Elt F) S16x128 .f32)), y ∈ pc.1.set :=
  View.cover_of_tiled [⟨r0_2, p0⟩] S16x128.size (by rfl) y

def out0_6 (x0 : Vec F S72x128 .f32) (x1 : Vec F S72x128 .f32) (x2 : Vec F S72x128 .f32) (x3 : Vec F S72x128 .f32) : Vec F S8x128 .f32 :=
  View.canon [⟨r0_1, k0_pay9 (View.ld x0 r0_0)⟩]

theorem cover0_6 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_7 (x0 : Vec F S72x128 .f32) (x1 : Vec F S72x128 .f32) (x2 : Vec F S72x128 .f32) (x3 : Vec F S72x128 .f32) : Vec F S8x128 .f32 :=
  View.canon [⟨r0_1, k0_pay10 (k0_pay34 x0 x1 x2 x3)⟩]

theorem cover0_7 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_8 (x0 : Vec F S72x128 .f32) (x1 : Vec F S72x128 .f32) (x2 : Vec F S72x128 .f32) (x3 : Vec F S72x128 .f32) : Vec F S8x128 .f32 :=
  View.canon [⟨r0_1, k0_pay11 (k0_pay34 x0 x1 x2 x3)⟩]

theorem cover0_8 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_9 (x0 : Vec F S72x128 .f32) (x1 : Vec F S72x128 .f32) (x2 : Vec F S72x128 .f32) (x3 : Vec F S72x128 .f32) : Vec F S8x128 .f32 :=
  View.canon [⟨r0_1, k0_pay12 (k0_pay34 x0 x1 x2 x3)⟩]

theorem cover0_9 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_10 (x0 : Vec F S72x128 .f32) (x1 : Vec F S72x128 .f32) (x2 : Vec F S72x128 .f32) (x3 : Vec F S72x128 .f32) : Vec F S8x128 .f32 :=
  View.canon [⟨r0_1, k0_pay13 (k0_pay34 x0 x1 x2 x3)⟩]

theorem cover0_10 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_11 (x0 : Vec F S72x128 .f32) (x1 : Vec F S72x128 .f32) (x2 : Vec F S72x128 .f32) (x3 : Vec F S72x128 .f32) : Vec F S8x128 .f32 :=
  View.canon [⟨r0_1, k0_pay14 (k0_pay37 x0 x1 x2 x3)⟩]

theorem cover0_11 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_12 (x0 : Vec F S72x128 .f32) (x1 : Vec F S72x128 .f32) (x2 : Vec F S72x128 .f32) (x3 : Vec F S72x128 .f32) : Vec F S16x128 .f32 :=
  View.canon [⟨r0_2, k0_pay15 (k0_pay37 x0 x1 x2 x3)⟩]

theorem cover0_12 (p0 : Vec F S16x128 .f32) (y : S16x128.Idx) :
    ∃ pc ∈ ([⟨r0_2, p0⟩] : List (View.Piece (Elt F) S16x128 .f32)), y ∈ pc.1.set :=
  View.cover_of_tiled [⟨r0_2, p0⟩] S16x128.size (by rfl) y

def out0_13 (x0 : Vec F S72x128 .f32) (x1 : Vec F S72x128 .f32) (x2 : Vec F S72x128 .f32) (x3 : Vec F S72x128 .f32) : Vec F S8x128 .f32 :=
  View.canon [⟨r0_1, k0_pay16 (k0_pay37 x0 x1 x2 x3)⟩]

theorem cover0_13 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_14 (x0 : Vec F S72x128 .f32) (x1 : Vec F S72x128 .f32) (x2 : Vec F S72x128 .f32) (x3 : Vec F S72x128 .f32) : Vec F S8x128 .f32 :=
  View.canon [⟨r0_1, k0_pay17 (k0_pay37 x0 x1 x2 x3)⟩]

theorem cover0_14 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_15 (x0 : Vec F S72x128 .f32) (x1 : Vec F S72x128 .f32) (x2 : Vec F S72x128 .f32) (x3 : Vec F S72x128 .f32) : Vec F S8x128 .f32 :=
  View.canon [⟨r0_1, k0_pay18 (k0_pay37 x0 x1 x2 x3)⟩]

theorem cover0_15 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_16 (x0 : Vec F S72x128 .f32) (x1 : Vec F S72x128 .f32) (x2 : Vec F S72x128 .f32) (x3 : Vec F S72x128 .f32) : Vec F S8x128 .f32 :=
  View.canon [⟨r0_1, k0_pay19 (k0_pay37 x0 x1 x2 x3)⟩]

theorem cover0_16 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_17 (x0 : Vec F S72x128 .f32) (x1 : Vec F S72x128 .f32) (x2 : Vec F S72x128 .f32) (x3 : Vec F S72x128 .f32) : Vec F S8x128 .f32 :=
  View.canon [⟨r0_1, k0_pay20 (k0_pay37 x0 x1 x2 x3)⟩]

theorem cover0_17 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_18 (x0 : Vec F S72x128 .f32) (x1 : Vec F S72x128 .f32) (x2 : Vec F S72x128 .f32) (x3 : Vec F S72x128 .f32) : Vec F S8x128 .f32 :=
  View.canon [⟨r0_1, k0_pay21 (k0_pay35 x0 x1 x2 x3)⟩]

theorem cover0_18 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_19 (x0 : Vec F S72x128 .f32) (x1 : Vec F S72x128 .f32) (x2 : Vec F S72x128 .f32) (x3 : Vec F S72x128 .f32) : Vec F S16x128 .f32 :=
  View.canon [⟨r0_2, k0_pay22 (k0_pay35 x0 x1 x2 x3)⟩]

theorem cover0_19 (p0 : Vec F S16x128 .f32) (y : S16x128.Idx) :
    ∃ pc ∈ ([⟨r0_2, p0⟩] : List (View.Piece (Elt F) S16x128 .f32)), y ∈ pc.1.set :=
  View.cover_of_tiled [⟨r0_2, p0⟩] S16x128.size (by rfl) y

def out0_20 (x0 : Vec F S72x128 .f32) (x1 : Vec F S72x128 .f32) (x2 : Vec F S72x128 .f32) (x3 : Vec F S72x128 .f32) : Vec F S8x128 .f32 :=
  View.canon [⟨r0_1, k0_pay23 (k0_pay35 x0 x1 x2 x3)⟩]

theorem cover0_20 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_21 (x0 : Vec F S72x128 .f32) (x1 : Vec F S72x128 .f32) (x2 : Vec F S72x128 .f32) (x3 : Vec F S72x128 .f32) : Vec F S8x128 .f32 :=
  View.canon [⟨r0_1, k0_pay24 (k0_pay35 x0 x1 x2 x3)⟩]

theorem cover0_21 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_22 (x0 : Vec F S72x128 .f32) (x1 : Vec F S72x128 .f32) (x2 : Vec F S72x128 .f32) (x3 : Vec F S72x128 .f32) : Vec F S8x128 .f32 :=
  View.canon [⟨r0_1, k0_pay25 (k0_pay35 x0 x1 x2 x3)⟩]

theorem cover0_22 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_23 (x0 : Vec F S72x128 .f32) (x1 : Vec F S72x128 .f32) (x2 : Vec F S72x128 .f32) (x3 : Vec F S72x128 .f32) : Vec F S8x128 .f32 :=
  View.canon [⟨r0_1, k0_pay26 (k0_pay35 x0 x1 x2 x3)⟩]

theorem cover0_23 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_24 (x0 : Vec F S72x128 .f32) (x1 : Vec F S72x128 .f32) (x2 : Vec F S72x128 .f32) (x3 : Vec F S72x128 .f32) : Vec F S8x128 .f32 :=
  View.canon [⟨r0_1, k0_pay27 (k0_pay35 x0 x1 x2 x3)⟩]

theorem cover0_24 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_25 (x0 : Vec F S72x128 .f32) (x1 : Vec F S72x128 .f32) (x2 : Vec F S72x128 .f32) (x3 : Vec F S72x128 .f32) : Vec F S8x128 .f32 :=
  View.canon [⟨r0_1, k0_pay28 (k0_pay36 x0 x1 x2 x3)⟩]

theorem cover0_25 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_26 (x0 : Vec F S72x128 .f32) (x1 : Vec F S72x128 .f32) (x2 : Vec F S72x128 .f32) (x3 : Vec F S72x128 .f32) : Vec F S16x128 .f32 :=
  View.canon [⟨r0_2, k0_pay29 (k0_pay36 x0 x1 x2 x3)⟩]

theorem cover0_26 (p0 : Vec F S16x128 .f32) (y : S16x128.Idx) :
    ∃ pc ∈ ([⟨r0_2, p0⟩] : List (View.Piece (Elt F) S16x128 .f32)), y ∈ pc.1.set :=
  View.cover_of_tiled [⟨r0_2, p0⟩] S16x128.size (by rfl) y

def out0_27 (x0 : Vec F S72x128 .f32) (x1 : Vec F S72x128 .f32) (x2 : Vec F S72x128 .f32) (x3 : Vec F S72x128 .f32) : Vec F S8x128 .f32 :=
  View.canon [⟨r0_1, k0_pay30 (k0_pay36 x0 x1 x2 x3)⟩]

theorem cover0_27 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_28 (x0 : Vec F S72x128 .f32) (x1 : Vec F S72x128 .f32) (x2 : Vec F S72x128 .f32) (x3 : Vec F S72x128 .f32) : Vec F S8x128 .f32 :=
  View.canon [⟨r0_1, k0_pay31 (k0_pay36 x0 x1 x2 x3)⟩]

theorem cover0_28 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_29 (x0 : Vec F S72x128 .f32) (x1 : Vec F S72x128 .f32) (x2 : Vec F S72x128 .f32) (x3 : Vec F S72x128 .f32) : Vec F S8x128 .f32 :=
  View.canon [⟨r0_1, k0_pay32 (k0_pay36 x0 x1 x2 x3)⟩]

theorem cover0_29 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_30 (x0 : Vec F S72x128 .f32) (x1 : Vec F S72x128 .f32) (x2 : Vec F S72x128 .f32) (x3 : Vec F S72x128 .f32) : Vec F S8x128 .f32 :=
  View.canon [⟨r0_1, k0_pay33 (k0_pay36 x0 x1 x2 x3)⟩]

theorem cover0_30 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_31 (x0 : Vec F S72x128 .f32) (x1 : Vec F S72x128 .f32) (x2 : Vec F S72x128 .f32) (x3 : Vec F S72x128 .f32) : Vec F S8x128 .f32 :=
  View.canon [⟨r0_1, k0_pay1 (k0_pay36 x0 x1 x2 x3)⟩]

theorem cover0_31 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

def out0_32 (x0 : Vec F S72x128 .f32) (x1 : Vec F S72x128 .f32) (x2 : Vec F S72x128 .f32) (x3 : Vec F S72x128 .f32) : Vec F S8x128 .f32 :=
  View.canon [⟨r0_1, k0_pay2 (k0_pay34 x0 x1 x2 x3)⟩]

theorem cover0_32 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

/-! ## The body's triple -/

set_option maxHeartbeats 1000000 in
theorem sound_kernel (c : Dev nD) (E : Set ℕ) (arg0 : Memref sig .tc .vmem S72x128 .f32) (harg0 : arg0.IsWhole) (arg1 : Memref sig .tc .vmem S72x128 .f32) (harg1 : arg1.IsWhole) (arg2 : Memref sig .tc .vmem S72x128 .f32) (harg2 : arg2.IsWhole) (arg3 : Memref sig .tc .vmem S72x128 .f32) (harg3 : arg3.IsWhole) (arg4 : Memref sig .tc .vmem S8x128 .f32) (harg4 : arg4.IsWhole) (arg5 : Memref sig .tc .vmem S16x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S16x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S16x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S16x128 .f32) (harg26 : arg26.IsWhole) (arg27 : Memref sig .tc .vmem S8x128 .f32) (harg27 : arg27.IsWhole) (arg28 : Memref sig .tc .vmem S8x128 .f32) (harg28 : arg28.IsWhole) (arg29 : Memref sig .tc .vmem S8x128 .f32) (harg29 : arg29.IsWhole) (arg30 : Memref sig .tc .vmem S8x128 .f32) (harg30 : arg30.IsWhole) (arg31 : Memref sig .tc .vmem S8x128 .f32) (harg31 : arg31.IsWhole) (arg32 : Memref sig .tc .vmem S8x128 .f32) (harg32 : arg32.IsWhole)
    (x0 : Vec F S72x128 .f32) (x1 : Vec F S72x128 .f32) (x2 : Vec F S72x128 .f32) (x3 : Vec F S72x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3) ∗ owns (c : Thread nD τ) arg7 fullShare (out0_7 x0 x1 x2 x3) ∗ owns (c : Thread nD τ) arg8 fullShare (out0_8 x0 x1 x2 x3) ∗ owns (c : Thread nD τ) arg9 fullShare (out0_9 x0 x1 x2 x3) ∗ owns (c : Thread nD τ) arg10 fullShare (out0_10 x0 x1 x2 x3) ∗ owns (c : Thread nD τ) arg11 fullShare (out0_11 x0 x1 x2 x3) ∗ owns (c : Thread nD τ) arg12 fullShare (out0_12 x0 x1 x2 x3) ∗ owns (c : Thread nD τ) arg13 fullShare (out0_13 x0 x1 x2 x3) ∗ owns (c : Thread nD τ) arg14 fullShare (out0_14 x0 x1 x2 x3) ∗ owns (c : Thread nD τ) arg15 fullShare (out0_15 x0 x1 x2 x3) ∗ owns (c : Thread nD τ) arg16 fullShare (out0_16 x0 x1 x2 x3) ∗ owns (c : Thread nD τ) arg17 fullShare (out0_17 x0 x1 x2 x3) ∗ owns (c : Thread nD τ) arg18 fullShare (out0_18 x0 x1 x2 x3) ∗ owns (c : Thread nD τ) arg19 fullShare (out0_19 x0 x1 x2 x3) ∗ owns (c : Thread nD τ) arg20 fullShare (out0_20 x0 x1 x2 x3) ∗ owns (c : Thread nD τ) arg21 fullShare (out0_21 x0 x1 x2 x3) ∗ owns (c : Thread nD τ) arg22 fullShare (out0_22 x0 x1 x2 x3) ∗ owns (c : Thread nD τ) arg23 fullShare (out0_23 x0 x1 x2 x3) ∗ owns (c : Thread nD τ) arg24 fullShare (out0_24 x0 x1 x2 x3) ∗ owns (c : Thread nD τ) arg25 fullShare (out0_25 x0 x1 x2 x3) ∗ owns (c : Thread nD τ) arg26 fullShare (out0_26 x0 x1 x2 x3) ∗ owns (c : Thread nD τ) arg27 fullShare (out0_27 x0 x1 x2 x3) ∗ owns (c : Thread nD τ) arg28 fullShare (out0_28 x0 x1 x2 x3) ∗ owns (c : Thread nD τ) arg29 fullShare (out0_29 x0 x1 x2 x3) ∗ owns (c : Thread nD τ) arg30 fullShare (out0_30 x0 x1 x2 x3) ∗ owns (c : Thread nD τ) arg31 fullShare (out0_31 x0 x1 x2 x3) ∗ owns (c : Thread nD τ) arg32 fullShare (out0_32 x0 x1 x2 x3)) -∗ K ⟨⟩))
      ⊢ wp frame (wpE (defs₀ (F := F)) Variants.none c none) E (cc0_small_adam arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_small_adam_eq_skeleton]; unfold cc0_small_adam_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  iexists _; isplitr
  swap; · iexact H32
  ipureintro
  refine (View.read_writes_eq_canon _ _ _ (cover0_32 _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
    | ⟨7, _⟩ => out0_7 (iblk m c 0 t) (iblk m c 1 t) (iblk m c 2 t) (iblk m c 3 t)
    | ⟨8, _⟩ => out0_8 (iblk m c 0 t) (iblk m c 1 t) (iblk m c 2 t) (iblk m c 3 t)
    | ⟨9, _⟩ => out0_9 (iblk m c 0 t) (iblk m c 1 t) (iblk m c 2 t) (iblk m c 3 t)
    | ⟨10, _⟩ => out0_10 (iblk m c 0 t) (iblk m c 1 t) (iblk m c 2 t) (iblk m c 3 t)
    | ⟨11, _⟩ => out0_11 (iblk m c 0 t) (iblk m c 1 t) (iblk m c 2 t) (iblk m c 3 t)
    | ⟨12, _⟩ => out0_12 (iblk m c 0 t) (iblk m c 1 t) (iblk m c 2 t) (iblk m c 3 t)
    | ⟨13, _⟩ => out0_13 (iblk m c 0 t) (iblk m c 1 t) (iblk m c 2 t) (iblk m c 3 t)
    | ⟨14, _⟩ => out0_14 (iblk m c 0 t) (iblk m c 1 t) (iblk m c 2 t) (iblk m c 3 t)
    | ⟨15, _⟩ => out0_15 (iblk m c 0 t) (iblk m c 1 t) (iblk m c 2 t) (iblk m c 3 t)
    | ⟨16, _⟩ => out0_16 (iblk m c 0 t) (iblk m c 1 t) (iblk m c 2 t) (iblk m c 3 t)
    | ⟨17, _⟩ => out0_17 (iblk m c 0 t) (iblk m c 1 t) (iblk m c 2 t) (iblk m c 3 t)
    | ⟨18, _⟩ => out0_18 (iblk m c 0 t) (iblk m c 1 t) (iblk m c 2 t) (iblk m c 3 t)
    | ⟨19, _⟩ => out0_19 (iblk m c 0 t) (iblk m c 1 t) (iblk m c 2 t) (iblk m c 3 t)
    | ⟨20, _⟩ => out0_20 (iblk m c 0 t) (iblk m c 1 t) (iblk m c 2 t) (iblk m c 3 t)
    | ⟨21, _⟩ => out0_21 (iblk m c 0 t) (iblk m c 1 t) (iblk m c 2 t) (iblk m c 3 t)
    | ⟨22, _⟩ => out0_22 (iblk m c 0 t) (iblk m c 1 t) (iblk m c 2 t) (iblk m c 3 t)
    | ⟨23, _⟩ => out0_23 (iblk m c 0 t) (iblk m c 1 t) (iblk m c 2 t) (iblk m c 3 t)
    | ⟨24, _⟩ => out0_24 (iblk m c 0 t) (iblk m c 1 t) (iblk m c 2 t) (iblk m c 3 t)
    | ⟨25, _⟩ => out0_25 (iblk m c 0 t) (iblk m c 1 t) (iblk m c 2 t) (iblk m c 3 t)
    | ⟨26, _⟩ => out0_26 (iblk m c 0 t) (iblk m c 1 t) (iblk m c 2 t) (iblk m c 3 t)
    | ⟨27, _⟩ => out0_27 (iblk m c 0 t) (iblk m c 1 t) (iblk m c 2 t) (iblk m c 3 t)
    | ⟨28, _⟩ => out0_28 (iblk m c 0 t) (iblk m c 1 t) (iblk m c 2 t) (iblk m c 3 t)
    | ⟨29, _⟩ => out0_29 (iblk m c 0 t) (iblk m c 1 t) (iblk m c 2 t) (iblk m c 3 t)
    | ⟨30, _⟩ => out0_30 (iblk m c 0 t) (iblk m c 1 t) (iblk m c 2 t) (iblk m c 3 t)
    | ⟨31, _⟩ => out0_31 (iblk m c 0 t) (iblk m c 1 t) (iblk m c 2 t) (iblk m c 3 t)
    | ⟨32, _⟩ => out0_32 (iblk m c 0 t) (iblk m c 1 t) (iblk m c 2 t) (iblk m c 3 t)
    | ⟨_ + 33, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) (iblk m c 3 t) := by dsimp only [dats]
theorem after0_6 (c : Dev nD) (t : Fin cfg0.N) : (dats m 0 c).after 6 t = out0_6 (iblk m c 0 t) (iblk m c 1 t) (iblk m c 2 t) (iblk m c 3 t) := by dsimp only [dats]
theorem after0_7 (c : Dev nD) (t : Fin cfg0.N) : (dats m 0 c).after 7 t = out0_7 (iblk m c 0 t) (iblk m c 1 t) (iblk m c 2 t) (iblk m c 3 t) := by dsimp only [dats]
theorem after0_8 (c : Dev nD) (t : Fin cfg0.N) : (dats m 0 c).after 8 t = out0_8 (iblk m c 0 t) (iblk m c 1 t) (iblk m c 2 t) (iblk m c 3 t) := by dsimp only [dats]
theorem after0_9 (c : Dev nD) (t : Fin cfg0.N) : (dats m 0 c).after 9 t = out0_9 (iblk m c 0 t) (iblk m c 1 t) (iblk m c 2 t) (iblk m c 3 t) := by dsimp only [dats]
theorem after0_10 (c : Dev nD) (t : Fin cfg0.N) : (dats m 0 c).after 10 t = out0_10 (iblk m c 0 t) (iblk m c 1 t) (iblk m c 2 t) (iblk m c 3 t) := by dsimp only [dats]
theorem after0_11 (c : Dev nD) (t : Fin cfg0.N) : (dats m 0 c).after 11 t = out0_11 (iblk m c 0 t) (iblk m c 1 t) (iblk m c 2 t) (iblk m c 3 t) := by dsimp only [dats]
theorem after0_12 (c : Dev nD) (t : Fin cfg0.N) : (dats m 0 c).after 12 t = out0_12 (iblk m c 0 t) (iblk m c 1 t) (iblk m c 2 t) (iblk m c 3 t) := by dsimp only [dats]
theorem after0_13 (c : Dev nD) (t : Fin cfg0.N) : (dats m 0 c).after 13 t = out0_13 (iblk m c 0 t) (iblk m c 1 t) (iblk m c 2 t) (iblk m c 3 t) := by dsimp only [dats]
theorem after0_14 (c : Dev nD) (t : Fin cfg0.N) : (dats m 0 c).after 14 t = out0_14 (iblk m c 0 t) (iblk m c 1 t) (iblk m c 2 t) (iblk m c 3 t) := by dsimp only [dats]
theorem after0_15 (c : Dev nD) (t : Fin cfg0.N) : (dats m 0 c).after 15 t = out0_15 (iblk m c 0 t) (iblk m c 1 t) (iblk m c 2 t) (iblk m c 3 t) := by dsimp only [dats]
theorem after0_16 (c : Dev nD) (t : Fin cfg0.N) : (dats m 0 c).after 16 t = out0_16 (iblk m c 0 t) (iblk m c 1 t) (iblk m c 2 t) (iblk m c 3 t) := by dsimp only [dats]
theorem after0_17 (c : Dev nD) (t : Fin cfg0.N) : (dats m 0 c).after 17 t = out0_17 (iblk m c 0 t) (iblk m c 1 t) (iblk m c 2 t) (iblk m c 3 t) := by dsimp only [dats]
theorem after0_18 (c : Dev nD) (t : Fin cfg0.N) : (dats m 0 c).after 18 t = out0_18 (iblk m c 0 t) (iblk m c 1 t) (iblk m c 2 t) (iblk m c 3 t) := by dsimp only [dats]
theorem after0_19 (c : Dev nD) (t : Fin cfg0.N) : (dats m 0 c).after 19 t = out0_19 (iblk m c 0 t) (iblk m c 1 t) (iblk m c 2 t) (iblk m c 3 t) := by dsimp only [dats]
theorem after0_20 (c : Dev nD) (t : Fin cfg0.N) : (dats m 0 c).after 20 t = out0_20 (iblk m c 0 t) (iblk m c 1 t) (iblk m c 2 t) (iblk m c 3 t) := by dsimp only [dats]
theorem after0_21 (c : Dev nD) (t : Fin cfg0.N) : (dats m 0 c).after 21 t = out0_21 (iblk m c 0 t) (iblk m c 1 t) (iblk m c 2 t) (iblk m c 3 t) := by dsimp only [dats]
theorem after0_22 (c : Dev nD) (t : Fin cfg0.N) : (dats m 0 c).after 22 t = out0_22 (iblk m c 0 t) (iblk m c 1 t) (iblk m c 2 t) (iblk m c 3 t) := by dsimp only [dats]
theorem after0_23 (c : Dev nD) (t : Fin cfg0.N) : (dats m 0 c).after 23 t = out0_23 (iblk m c 0 t) (iblk m c 1 t) (iblk m c 2 t) (iblk m c 3 t) := by dsimp only [dats]
theorem after0_24 (c : Dev nD) (t : Fin cfg0.N) : (dats m 0 c).after 24 t = out0_24 (iblk m c 0 t) (iblk m c 1 t) (iblk m c 2 t) (iblk m c 3 t) := by dsimp only [dats]
theorem after0_25 (c : Dev nD) (t : Fin cfg0.N) : (dats m 0 c).after 25 t = out0_25 (iblk m c 0 t) (iblk m c 1 t) (iblk m c 2 t) (iblk m c 3 t) := by dsimp only [dats]
theorem after0_26 (c : Dev nD) (t : Fin cfg0.N) : (dats m 0 c).after 26 t = out0_26 (iblk m c 0 t) (iblk m c 1 t) (iblk m c 2 t) (iblk m c 3 t) := by dsimp only [dats]
theorem after0_27 (c : Dev nD) (t : Fin cfg0.N) : (dats m 0 c).after 27 t = out0_27 (iblk m c 0 t) (iblk m c 1 t) (iblk m c 2 t) (iblk m c 3 t) := by dsimp only [dats]
theorem after0_28 (c : Dev nD) (t : Fin cfg0.N) : (dats m 0 c).after 28 t = out0_28 (iblk m c 0 t) (iblk m c 1 t) (iblk m c 2 t) (iblk m c 3 t) := by dsimp only [dats]
theorem after0_29 (c : Dev nD) (t : Fin cfg0.N) : (dats m 0 c).after 29 t = out0_29 (iblk m c 0 t) (iblk m c 1 t) (iblk m c 2 t) (iblk m c 3 t) := by dsimp only [dats]
theorem after0_30 (c : Dev nD) (t : Fin cfg0.N) : (dats m 0 c).after 30 t = out0_30 (iblk m c 0 t) (iblk m c 1 t) (iblk m c 2 t) (iblk m c 3 t) := by dsimp only [dats]
theorem after0_31 (c : Dev nD) (t : Fin cfg0.N) : (dats m 0 c).after 31 t = out0_31 (iblk m c 0 t) (iblk m c 1 t) (iblk m c 2 t) (iblk m c 3 t) := by dsimp only [dats]
theorem after0_32 (c : Dev nD) (t : Fin cfg0.N) : (dats m 0 c).after 32 t = out0_32 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

end Cert.KernelSIdeal.Hand

end
-- ==== Proof.SBase.lean ====
module

public import proofs.«01_k».proof.Proof.SPack
public import proofs.«01_k».proof.Proof.Adam
public import proofs.«01_k».proof.Proof.Common
public import proofs.«01_k».proof.Proof.SFrame
public import proofs.«01_k».proof.Proof.Gen.ReferenceSIdeal.Read
public import Idealize.ShloMosaic.Lib.Pipeline.ReadBack
public import Idealize.ShloMosaic.Lib.Tactic
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen Cert.ReferenceSIdeal Step

section Step
variable (g w m v : Vec Ideal S72x128 .f32)
theorem g_apply (r : Fin 72) (l : Fin 128) : k0_pay3 g (ix2 r l) = g (ix2 r l) := by
  pointwise [k0_pay3]
theorem mom_apply (r : Fin 72) (l : Fin 128) : k0_pay4 g m (ix2 r l) = Adam.mom (g (ix2 r l)) (m (ix2 r l)) := by
  unfold Adam.mom
  pointwise [k0_pay4, k0_pay3]
theorem sec_apply (r : Fin 72) (l : Fin 128) : k0_pay5 g v (ix2 r l) = Adam.sec (g (ix2 r l)) (v (ix2 r l)) := by
  unfold Adam.sec
  pointwise [k0_pay5, k0_pay3]
theorem delta_apply (r : Fin 72) (l : Fin 128) :
    k0_pay6 g w m v (ix2 r l) = Adam.delta (g (ix2 r l)) (w (ix2 r l)) (m (ix2 r l)) (v (ix2 r l)) := by
  unfold Adam.delta
  rw [← mom_apply, ← sec_apply]
  pointwise [k0_pay6]
end Step

theorem out_rows8 {lo : Nat} (h : S72x128.Slices ![lo, 0] S8x128) (hl : lo + 8 ≤ 72) (v : Vec Ideal S72x128 .f32) (i : Fin 8) (j : Fin 128) :
    extractStridedSlice S8x128 ![lo, 0] v h (ix2 i j) = v (ix2 ⟨lo + i.val, by omega⟩ j) := by
  pointwise []
theorem out_rows16 {lo : Nat} (h : S72x128.Slices ![lo, 0] S16x128) (hl : lo + 16 ≤ 72) (v : Vec Ideal S72x128 .f32) (i : Fin 16) (j : Fin 128) :
    extractStridedSlice S16x128 ![lo, 0] v h (ix2 i j) = v (ix2 ⟨lo + i.val, by omega⟩ j) := by
  pointwise []

/-- Entry `(i, j)` of a vector folded into rows of 128 is its entry `128 i + j`. -/
theorem flat8 (i : Fin 8) (j : Fin 128) : Read.idx_main_v168 (ix2 i j) = ix2 0 (at8 i j) := by
  funext a
  fin_cases a
  · rfl
  · exact Fin.ext (Nat.mod_eq_of_lt (by change i.val * 128 + j.val < 1024; omega))
theorem flat16 (i : Fin 16) (j : Fin 128) : Read.idx_main_v169 (ix2 i j) = ix2 0 (at16 i j) := by
  funext a
  fin_cases a
  · rfl
  · exact Fin.ext (Nat.mod_eq_of_lt (by change i.val * 128 + j.val < 2048; omega))

variable (m : (ℓ : Loc nD τ sig) → Buf (Elt Ideal) ℓ)

/-! The arguments: seven gradients, seven weights, seven first and seven second moments, and the loss row. -/
abbrev a0 (c : Dev nD) : Vec Ideal S1x1024 .f32 := m ((c : Thread nD τ).loc main_arg0)
abbrev a1 (c : Dev nD) : Vec Ideal S1x2048 .f32 := m ((c : Thread nD τ).loc main_arg1)
abbrev a2 (c : Dev nD) : Vec Ideal S1x1024 .f32 := m ((c : Thread nD τ).loc main_arg2)
abbrev a3 (c : Dev nD) : Vec Ideal S1x1024 .f32 := m ((c : Thread nD τ).loc main_arg3)
abbrev a4 (c : Dev nD) : Vec Ideal S1x1024 .f32 := m ((c : Thread nD τ).loc main_arg4)
abbrev a5 (c : Dev nD) : Vec Ideal S1x1024 .f32 := m ((c : Thread nD τ).loc main_arg5)
abbrev a6 (c : Dev nD) : Vec Ideal S1x1024 .f32 := m ((c : Thread nD τ).loc main_arg6)
abbrev a7 (c : Dev nD) : Vec Ideal S1x1024 .f32 := m ((c : Thread nD τ).loc main_arg7)
abbrev a8 (c : Dev nD) : Vec Ideal S1x2048 .f32 := m ((c : Thread nD τ).loc main_arg8)
abbrev a9 (c : Dev nD) : Vec Ideal S1x1024 .f32 := m ((c : Thread nD τ).loc main_arg9)
abbrev a10 (c : Dev nD) : Vec Ideal S1x1024 .f32 := m ((c : Thread nD τ).loc main_arg10)
abbrev a11 (c : Dev nD) : Vec Ideal S1x1024 .f32 := m ((c : Thread nD τ).loc main_arg11)
abbrev a12 (c : Dev nD) : Vec Ideal S1x1024 .f32 := m ((c : Thread nD τ).loc main_arg12)
abbrev a13 (c : Dev nD) : Vec Ideal S1x1024 .f32 := m ((c : Thread nD τ).loc main_arg13)
abbrev a14 (c : Dev nD) : Vec Ideal S1x1024 .f32 := m ((c : Thread nD τ).loc main_arg14)
abbrev a15 (c : Dev nD) : Vec Ideal S1x2048 .f32 := m ((c : Thread nD τ).loc main_arg15)
abbrev a16 (c : Dev nD) : Vec Ideal S1x1024 .f32 := m ((c : Thread nD τ).loc main_arg16)
abbrev a17 (c : Dev nD) : Vec Ideal S1x1024 .f32 := m ((c : Thread nD τ).loc main_arg17)
abbrev a18 (c : Dev nD) : Vec Ideal S1x1024 .f32 := m ((c : Thread nD τ).loc main_arg18)
abbrev a19 (c : Dev nD) : Vec Ideal S1x1024 .f32 := m ((c : Thread nD τ).loc main_arg19)
abbrev a20 (c : Dev nD) : Vec Ideal S1x1024 .f32 := m ((c : Thread nD τ).loc main_arg20)
abbrev a21 (c : Dev nD) : Vec Ideal S1x1024 .f32 := m ((c : Thread nD τ).loc main_arg21)
abbrev a22 (c : Dev nD) : Vec Ideal S1x2048 .f32 := m ((c : Thread nD τ).loc main_arg22)
abbrev a23 (c : Dev nD) : Vec Ideal S1x1024 .f32 := m ((c : Thread nD τ).loc main_arg23)
abbrev a24 (c : Dev nD) : Vec Ideal S1x1024 .f32 := m ((c : Thread nD τ).loc main_arg24)
abbrev a25 (c : Dev nD) : Vec Ideal S1x1024 .f32 := m ((c : Thread nD τ).loc main_arg25)
abbrev a26 (c : Dev nD) : Vec Ideal S1x1024 .f32 := m ((c : Thread nD τ).loc main_arg26)
abbrev a27 (c : Dev nD) : Vec Ideal S1x1024 .f32 := m ((c : Thread nD τ).loc main_arg27)
abbrev a28 (c : Dev nD) : Vec Ideal S1x128 .f32 := m ((c : Thread nD τ).loc main_arg28)

theorem V12 (c : Dev nD) : V m c main_v12 = pack (a0 m c) (a1 m c) (a2 m c) (a3 m c) (a4 m c) (a5 m c) (a6 m c) (broadcastInDim S8x128 ![0, 1] bcast_S1x128_S8x128_0_1 (a28 m c)) := by
  unfold V
  after_reads_simp
  rfl
theorem V22 (c : Dev nD) : ∃ z, V m c main_v22 = pack (a7 m c) (a8 m c) (a9 m c) (a10 m c) (a11 m c) (a12 m c) (a13 m c) z := by
  unfold V
  after_reads_simp
  exact ⟨_, rfl⟩
theorem V32 (c : Dev nD) : ∃ z, V m c main_v32 = pack (a14 m c) (a15 m c) (a16 m c) (a17 m c) (a18 m c) (a19 m c) (a20 m c) z := by
  unfold V
  after_reads_simp
  exact ⟨_, rfl⟩
theorem V42 (c : Dev nD) : ∃ z, V m c main_v42 = pack (a21 m c) (a22 m c) (a23 m c) (a24 m c) (a25 m c) (a26 m c) (a27 m c) z := by
  unfold V
  after_reads_simp
  exact ⟨_, rfl⟩

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-! The one block of each packed array is that array. -/
theorem block0 (c : Dev nD) (t : Fin cfg0.N) : iblk m c 0 t = V m c main_v12 := by
  funext y
  idx_vars y
  blk_point [iblk, idx t]
theorem block1 (c : Dev nD) (t : Fin cfg0.N) : iblk m c 1 t = V m c main_v22 := by
  funext y
  idx_vars y
  blk_point [iblk, idx t]
theorem block2 (c : Dev nD) (t : Fin cfg0.N) : iblk m c 2 t = V m c main_v32 := by
  funext y
  idx_vars y
  blk_point [iblk, idx t]
theorem block3 (c : Dev nD) (t : Fin cfg0.N) : iblk m c 3 t = V m c main_v42 := by
  funext y
  idx_vars y
  blk_point [iblk, idx t]

end Cert.KernelSIdeal.Hand
end
-- ==== Proof.SGrad.lean ====
module

public import proofs.«01_k».proof.Proof.SBase
public import proofs.«01_k».proof.Proof.Common
public import proofs.«01_k».proof.Proof.Gen.ReferenceSIdeal.Read
public import Idealize.ShloMosaic.Lib.Pipeline.ReadBack
public import Idealize.ShloMosaic.Lib.Tactic
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen Cert.ReferenceSIdeal Step

variable (m : (ℓ : Loc nD τ sig) → Buf (Elt Ideal) ℓ)

theorem at_origin4 : ∀ t : Fin cfg0.N, win0_4.index t = ![0, 0] := (by decide +kernel : ∀ t : Fin grid0.N, _)
theorem final4 (c : Dev nD) : (dats m 0 c).arrAt 4 cfg0.N = Read.val_main_v168 (F := Ideal) (a0 m c) := by
  refine (dats m 0 c).arrAt_eq_of_covers 4 _ (by decide +kernel) fun t hf y => ?_
  blk_simp
  rw [after0_4]
  unfold out0_4
  rw [View.canon_unit_zero hz]
  simp only [View.ld_unit_zero (S := S72x128) hz]
  idx_vars y
  refine Eq.trans ?_ (congrArg _ (by blk_ext [at_origin4 t] : (win0_4.blk t).view.emb (ix2 y0 y1) = ix2 y0 y1).symm)
  refine Eq.trans ?_ ((Read.val_main_v168_apply ..).trans (congrArg _ (flat8 y0 y1))).symm
  refine (out_rows8 slices_S72x128_o0_0_S8x128 (by omega) (k0_pay3 (iblk m c 0 t)) y0 y1).trans ?_
  rw [g_apply, block0, V12, pack0]

theorem at_origin5 : ∀ t : Fin cfg0.N, win0_5.index t = ![0, 0] := (by decide +kernel : ∀ t : Fin grid0.N, _)
theorem final5 (c : Dev nD) : (dats m 0 c).arrAt 5 cfg0.N = Read.val_main_v169 (F := Ideal) (a1 m c) := by
  refine (dats m 0 c).arrAt_eq_of_covers 5 _ (by decide +kernel) fun t hf y => ?_
  blk_simp
  rw [after0_5]
  unfold out0_5
  rw [View.canon_unit_zero hz]
  simp only [View.ld_unit_zero (S := S72x128) hz]
  idx_vars y
  refine Eq.trans ?_ (congrArg _ (by blk_ext [at_origin5 t] : (win0_5.blk t).view.emb (ix2 y0 y1) = ix2 y0 y1).symm)
  refine Eq.trans ?_ ((Read.val_main_v169_apply ..).trans (congrArg _ (flat16 y0 y1))).symm
  refine (out_rows16 slices_S72x128_o8_0_S16x128 (by omega) (k0_pay3 (iblk m c 0 t)) y0 y1).trans ?_
  rw [g_apply, block0, V12, pack1]

theorem at_origin6 : ∀ t : Fin cfg0.N, win0_6.index t = ![0, 0] := (by decide +kernel : ∀ t : Fin grid0.N, _)
theorem final6 (c : Dev nD) : (dats m 0 c).arrAt 6 cfg0.N = Read.val_main_v170 (F := Ideal) (a2 m c) := by
  refine (dats m 0 c).arrAt_eq_of_covers 6 _ (by decide +kernel) fun t hf y => ?_
  blk_simp
  rw [after0_6]
  unfold out0_6
  rw [View.canon_unit_zero hz]
  simp only [View.ld_unit_zero (S := S72x128) hz]
  idx_vars y
  refine Eq.trans ?_ (congrArg _ (by blk_ext [at_origin6 t] : (win0_6.blk t).view.emb (ix2 y0 y1) = ix2 y0 y1).symm)
  refine Eq.trans ?_ ((Read.val_main_v170_apply ..).trans (congrArg _ (flat8 y0 y1))).symm
  refine (out_rows8 slices_S72x128_o24_0_S8x128 (by omega) (k0_pay3 (iblk m c 0 t)) y0 y1).trans ?_
  rw [g_apply, block0, V12, pack2]

theorem at_origin7 : ∀ t : Fin cfg0.N, win0_7.index t = ![0, 0] := (by decide +kernel : ∀ t : Fin grid0.N, _)
theorem final7 (c : Dev nD) : (dats m 0 c).arrAt 7 cfg0.N = Read.val_main_v171 (F := Ideal) (a3 m c) := by
  refine (dats m 0 c).arrAt_eq_of_covers 7 _ (by decide +kernel) fun t hf y => ?_
  blk_simp
  rw [after0_7]
  unfold out0_7 k0_pay34
  rw [View.canon_unit_zero hz]
  simp only [View.ld_unit_zero (S := S72x128) hz]
  idx_vars y
  refine Eq.trans ?_ (congrArg _ (by blk_ext [at_origin7 t] : (win0_7.blk t).view.emb (ix2 y0 y1) = ix2 y0 y1).symm)
  refine Eq.trans ?_ ((Read.val_main_v171_apply ..).trans (congrArg _ (flat8 y0 y1))).symm
  refine (out_rows8 slices_S72x128_o32_0_S8x128 (by omega) (k0_pay3 (iblk m c 0 t)) y0 y1).trans ?_
  rw [g_apply, block0, V12, pack3]

theorem at_origin8 : ∀ t : Fin cfg0.N, win0_8.index t = ![0, 0] := (by decide +kernel : ∀ t : Fin grid0.N, _)
theorem final8 (c : Dev nD) : (dats m 0 c).arrAt 8 cfg0.N = Read.val_main_v172 (F := Ideal) (a4 m c) := by
  refine (dats m 0 c).arrAt_eq_of_covers 8 _ (by decide +kernel) fun t hf y => ?_
  blk_simp
  rw [after0_8]
  unfold out0_8 k0_pay34
  rw [View.canon_unit_zero hz]
  simp only [View.ld_unit_zero (S := S72x128) hz]
  idx_vars y
  refine Eq.trans ?_ (congrArg _ (by blk_ext [at_origin8 t] : (win0_8.blk t).view.emb (ix2 y0 y1) = ix2 y0 y1).symm)
  refine Eq.trans ?_ ((Read.val_main_v172_apply ..).trans (congrArg _ (flat8 y0 y1))).symm
  refine (out_rows8 slices_S72x128_o40_0_S8x128 (by omega) (k0_pay3 (iblk m c 0 t)) y0 y1).trans ?_
  rw [g_apply, block0, V12, pack4]

theorem at_origin9 : ∀ t : Fin cfg0.N, win0_9.index t = ![0, 0] := (by decide +kernel : ∀ t : Fin grid0.N, _)
theorem final9 (c : Dev nD) : (dats m 0 c).arrAt 9 cfg0.N = Read.val_main_v173 (F := Ideal) (a5 m c) := by
  refine (dats m 0 c).arrAt_eq_of_covers 9 _ (by decide +kernel) fun t hf y => ?_
  blk_simp
  rw [after0_9]
  unfold out0_9 k0_pay34
  rw [View.canon_unit_zero hz]
  simp only [View.ld_unit_zero (S := S72x128) hz]
  idx_vars y
  refine Eq.trans ?_ (congrArg _ (by blk_ext [at_origin9 t] : (win0_9.blk t).view.emb (ix2 y0 y1) = ix2 y0 y1).symm)
  refine Eq.trans ?_ ((Read.val_main_v173_apply ..).trans (congrArg _ (flat8 y0 y1))).symm
  refine (out_rows8 slices_S72x128_o48_0_S8x128 (by omega) (k0_pay3 (iblk m c 0 t)) y0 y1).trans ?_
  rw [g_apply, block0, V12, pack5]

theorem at_origin10 : ∀ t : Fin cfg0.N, win0_10.index t = ![0, 0] := (by decide +kernel : ∀ t : Fin grid0.N, _)
theorem final10 (c : Dev nD) : (dats m 0 c).arrAt 10 cfg0.N = Read.val_main_v174 (F := Ideal) (a6 m c) := by
  refine (dats m 0 c).arrAt_eq_of_covers 10 _ (by decide +kernel) fun t hf y => ?_
  blk_simp
  rw [after0_10]
  unfold out0_10 k0_pay34
  rw [View.canon_unit_zero hz]
  simp only [View.ld_unit_zero (S := S72x128) hz]
  idx_vars y
  refine Eq.trans ?_ (congrArg _ (by blk_ext [at_origin10 t] : (win0_10.blk t).view.emb (ix2 y0 y1) = ix2 y0 y1).symm)
  refine Eq.trans ?_ ((Read.val_main_v174_apply ..).trans (congrArg _ (flat8 y0 y1))).symm
  refine (out_rows8 slices_S72x128_o56_0_S8x128 (by omega) (k0_pay3 (iblk m c 0 t)) y0 y1).trans ?_
  rw [g_apply, block0, V12, pack6]

theorem at_origin32 : ∀ t : Fin cfg0.N, win0_32.index t = ![0, 0] := (by decide +kernel : ∀ t : Fin grid0.N, _)
theorem final32 (c : Dev nD) : (dats m 0 c).arrAt 32 cfg0.N = Read.val_main_v196 (F := Ideal) (a28 m c) := by
  refine (dats m 0 c).arrAt_eq_of_covers 32 _ (by decide +kernel) fun t hf y => ?_
  blk_simp
  rw [after0_32]
  unfold out0_32 k0_pay34
  rw [View.canon_unit_zero hz]
  simp only [View.ld_unit_zero (S := S72x128) hz]
  idx_vars y
  refine Eq.trans ?_ (congrArg _ (by blk_ext [at_origin32 t] : (win0_32.blk t).view.emb (ix2 y0 y1) = ix2 y0 y1).symm)
  refine Eq.trans ?_ (Read.val_main_v196_apply ..).symm
  refine (out_rows8 slices_S72x128_o64_0_S8x128 (by omega) (k0_pay3 (iblk m c 0 t)) y0 y1).trans ?_
  rw [g_apply, block0, V12, pack7]
  pointwise []
  exact congrArg _ (by funext a; fin_cases a <;> rfl)
end Cert.KernelSIdeal.Hand
end
-- ==== Proof.SDelta.lean ====
module

public import proofs.«01_k».proof.Proof.SBase
public import proofs.«01_k».proof.Proof.Common
public import proofs.«01_k».proof.Proof.Gen.ReferenceSIdeal.Read
public import Idealize.ShloMosaic.Lib.Pipeline.ReadBack
public import Idealize.ShloMosaic.Lib.Tactic
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen Cert.ReferenceSIdeal Step

variable (m : (ℓ : Loc nD τ sig) → Buf (Elt Ideal) ℓ)

theorem at_origin11 : ∀ t : Fin cfg0.N, win0_11.index t = ![0, 0] := (by decide +kernel : ∀ t : Fin grid0.N, _)
theorem final11 (c : Dev nD) : (dats m 0 c).arrAt 11 cfg0.N = Read.val_main_v175 (F := Ideal) (a0 m c) (a7 m c) (a14 m c) (a21 m c) := by
  refine (dats m 0 c).arrAt_eq_of_covers 11 _ (by decide +kernel) fun t hf y => ?_
  blk_simp
  rw [after0_11]
  unfold out0_11 k0_pay37
  rw [View.canon_unit_zero hz]
  simp only [View.ld_unit_zero (S := S72x128) hz]
  idx_vars y
  refine Eq.trans ?_ (congrArg _ (by blk_ext [at_origin11 t] : (win0_11.blk t).view.emb (ix2 y0 y1) = ix2 y0 y1).symm)
  refine Eq.trans ?_ ((Read.val_main_v175_apply ..).trans (congrArg _ (flat8 y0 y1))).symm
  obtain ⟨z1, e1⟩ := V22 m c
  obtain ⟨z2, e2⟩ := V32 m c
  obtain ⟨z3, e3⟩ := V42 m c
  refine (out_rows8 slices_S72x128_o0_0_S8x128 (by omega) (k0_pay6 (iblk m c 0 t) (iblk m c 1 t) (iblk m c 2 t) (iblk m c 3 t)) y0 y1).trans ?_
  rw [delta_apply, block0, block1, block2, block3, V12, e1, e2, e3, pack0, pack0, pack0, pack0]
  rfl

theorem at_origin12 : ∀ t : Fin cfg0.N, win0_12.index t = ![0, 0] := (by decide +kernel : ∀ t : Fin grid0.N, _)
theorem final12 (c : Dev nD) : (dats m 0 c).arrAt 12 cfg0.N = Read.val_main_v176 (F := Ideal) (a1 m c) (a8 m c) (a15 m c) (a22 m c) := by
  refine (dats m 0 c).arrAt_eq_of_covers 12 _ (by decide +kernel) fun t hf y => ?_
  blk_simp
  rw [after0_12]
  unfold out0_12 k0_pay37
  rw [View.canon_unit_zero hz]
  simp only [View.ld_unit_zero (S := S72x128) hz]
  idx_vars y
  refine Eq.trans ?_ (congrArg _ (by blk_ext [at_origin12 t] : (win0_12.blk t).view.emb (ix2 y0 y1) = ix2 y0 y1).symm)
  refine Eq.trans ?_ ((Read.val_main_v176_apply ..).trans (congrArg _ (flat16 y0 y1))).symm
  obtain ⟨z1, e1⟩ := V22 m c
  obtain ⟨z2, e2⟩ := V32 m c
  obtain ⟨z3, e3⟩ := V42 m c
  refine (out_rows16 slices_S72x128_o8_0_S16x128 (by omega) (k0_pay6 (iblk m c 0 t) (iblk m c 1 t) (iblk m c 2 t) (iblk m c 3 t)) y0 y1).trans ?_
  rw [delta_apply, block0, block1, block2, block3, V12, e1, e2, e3, pack1, pack1, pack1, pack1]
  rfl

theorem at_origin13 : ∀ t : Fin cfg0.N, win0_13.index t = ![0, 0] := (by decide +kernel : ∀ t : Fin grid0.N, _)
theorem final13 (c : Dev nD) : (dats m 0 c).arrAt 13 cfg0.N = Read.val_main_v177 (F := Ideal) (a2 m c) (a9 m c) (a16 m c) (a23 m c) := by
  refine (dats m 0 c).arrAt_eq_of_covers 13 _ (by decide +kernel) fun t hf y => ?_
  blk_simp
  rw [after0_13]
  unfold out0_13 k0_pay37
  rw [View.canon_unit_zero hz]
  simp only [View.ld_unit_zero (S := S72x128) hz]
  idx_vars y
  refine Eq.trans ?_ (congrArg _ (by blk_ext [at_origin13 t] : (win0_13.blk t).view.emb (ix2 y0 y1) = ix2 y0 y1).symm)
  refine Eq.trans ?_ ((Read.val_main_v177_apply ..).trans (congrArg _ (flat8 y0 y1))).symm
  obtain ⟨z1, e1⟩ := V22 m c
  obtain ⟨z2, e2⟩ := V32 m c
  obtain ⟨z3, e3⟩ := V42 m c
  refine (out_rows8 slices_S72x128_o24_0_S8x128 (by omega) (k0_pay6 (iblk m c 0 t) (iblk m c 1 t) (iblk m c 2 t) (iblk m c 3 t)) y0 y1).trans ?_
  rw [delta_apply, block0, block1, block2, block3, V12, e1, e2, e3, pack2, pack2, pack2, pack2]
  rfl

theorem at_origin14 : ∀ t : Fin cfg0.N, win0_14.index t = ![0, 0] := (by decide +kernel : ∀ t : Fin grid0.N, _)
theorem final14 (c : Dev nD) : (dats m 0 c).arrAt 14 cfg0.N = Read.val_main_v178 (F := Ideal) (a3 m c) (a10 m c) (a17 m c) (a24 m c) := by
  refine (dats m 0 c).arrAt_eq_of_covers 14 _ (by decide +kernel) fun t hf y => ?_
  blk_simp
  rw [after0_14]
  unfold out0_14 k0_pay37
  rw [View.canon_unit_zero hz]
  simp only [View.ld_unit_zero (S := S72x128) hz]
  idx_vars y
  refine Eq.trans ?_ (congrArg _ (by blk_ext [at_origin14 t] : (win0_14.blk t).view.emb (ix2 y0 y1) = ix2 y0 y1).symm)
  refine Eq.trans ?_ ((Read.val_main_v178_apply ..).trans (congrArg _ (flat8 y0 y1))).symm
  obtain ⟨z1, e1⟩ := V22 m c
  obtain ⟨z2, e2⟩ := V32 m c
  obtain ⟨z3, e3⟩ := V42 m c
  refine (out_rows8 slices_S72x128_o32_0_S8x128 (by omega) (k0_pay6 (iblk m c 0 t) (iblk m c 1 t) (iblk m c 2 t) (iblk m c 3 t)) y0 y1).trans ?_
  rw [delta_apply, block0, block1, block2, block3, V12, e1, e2, e3, pack3, pack3, pack3, pack3]
  rfl

theorem at_origin15 : ∀ t : Fin cfg0.N, win0_15.index t = ![0, 0] := (by decide +kernel : ∀ t : Fin grid0.N, _)
theorem final15 (c : Dev nD) : (dats m 0 c).arrAt 15 cfg0.N = Read.val_main_v179 (F := Ideal) (a4 m c) (a11 m c) (a18 m c) (a25 m c) := by
  refine (dats m 0 c).arrAt_eq_of_covers 15 _ (by decide +kernel) fun t hf y => ?_
  blk_simp
  rw [after0_15]
  unfold out0_15 k0_pay37
  rw [View.canon_unit_zero hz]
  simp only [View.ld_unit_zero (S := S72x128) hz]
  idx_vars y
  refine Eq.trans ?_ (congrArg _ (by blk_ext [at_origin15 t] : (win0_15.blk t).view.emb (ix2 y0 y1) = ix2 y0 y1).symm)
  refine Eq.trans ?_ ((Read.val_main_v179_apply ..).trans (congrArg _ (flat8 y0 y1))).symm
  obtain ⟨z1, e1⟩ := V22 m c
  obtain ⟨z2, e2⟩ := V32 m c
  obtain ⟨z3, e3⟩ := V42 m c
  refine (out_rows8 slices_S72x128_o40_0_S8x128 (by omega) (k0_pay6 (iblk m c 0 t) (iblk m c 1 t) (iblk m c 2 t) (iblk m c 3 t)) y0 y1).trans ?_
  rw [delta_apply, block0, block1, block2, block3, V12, e1, e2, e3, pack4, pack4, pack4, pack4]
  rfl

theorem at_origin16 : ∀ t : Fin cfg0.N, win0_16.index t = ![0, 0] := (by decide +kernel : ∀ t : Fin grid0.N, _)
theorem final16 (c : Dev nD) : (dats m 0 c).arrAt 16 cfg0.N = Read.val_main_v180 (F := Ideal) (a5 m c) (a12 m c) (a19 m c) (a26 m c) := by
  refine (dats m 0 c).arrAt_eq_of_covers 16 _ (by decide +kernel) fun t hf y => ?_
  blk_simp
  rw [after0_16]
  unfold out0_16 k0_pay37
  rw [View.canon_unit_zero hz]
  simp only [View.ld_unit_zero (S := S72x128) hz]
  idx_vars y
  refine Eq.trans ?_ (congrArg _ (by blk_ext [at_origin16 t] : (win0_16.blk t).view.emb (ix2 y0 y1) = ix2 y0 y1).symm)
  refine Eq.trans ?_ ((Read.val_main_v180_apply ..).trans (congrArg _ (flat8 y0 y1))).symm
  obtain ⟨z1, e1⟩ := V22 m c
  obtain ⟨z2, e2⟩ := V32 m c
  obtain ⟨z3, e3⟩ := V42 m c
  refine (out_rows8 slices_S72x128_o48_0_S8x128 (by omega) (k0_pay6 (iblk m c 0 t) (iblk m c 1 t) (iblk m c 2 t) (iblk m c 3 t)) y0 y1).trans ?_
  rw [delta_apply, block0, block1, block2, block3, V12, e1, e2, e3, pack5, pack5, pack5, pack5]
  rfl

theorem at_origin17 : ∀ t : Fin cfg0.N, win0_17.index t = ![0, 0] := (by decide +kernel : ∀ t : Fin grid0.N, _)
theorem final17 (c : Dev nD) : (dats m 0 c).arrAt 17 cfg0.N = Read.val_main_v181 (F := Ideal) (a6 m c) (a13 m c) (a20 m c) (a27 m c) := by
  refine (dats m 0 c).arrAt_eq_of_covers 17 _ (by decide +kernel) fun t hf y => ?_
  blk_simp
  rw [after0_17]
  unfold out0_17 k0_pay37
  rw [View.canon_unit_zero hz]
  simp only [View.ld_unit_zero (S := S72x128) hz]
  idx_vars y
  refine Eq.trans ?_ (congrArg _ (by blk_ext [at_origin17 t] : (win0_17.blk t).view.emb (ix2 y0 y1) = ix2 y0 y1).symm)
  refine Eq.trans ?_ ((Read.val_main_v181_apply ..).trans (congrArg _ (flat8 y0 y1))).symm
  obtain ⟨z1, e1⟩ := V22 m c
  obtain ⟨z2, e2⟩ := V32 m c
  obtain ⟨z3, e3⟩ := V42 m c
  refine (out_rows8 slices_S72x128_o56_0_S8x128 (by omega) (k0_pay6 (iblk m c 0 t) (iblk m c 1 t) (iblk m c 2 t) (iblk m c 3 t)) y0 y1).trans ?_
  rw [delta_apply, block0, block1, block2, block3, V12, e1, e2, e3, pack6, pack6, pack6, pack6]
  rfl
end Cert.KernelSIdeal.Hand
end
-- ==== Proof.SMom.lean ====
module

public import proofs.«01_k».proof.Proof.SBase
public import proofs.«01_k».proof.Proof.Common
public import proofs.«01_k».proof.Proof.Gen.ReferenceSIdeal.Read
public import Idealize.ShloMosaic.Lib.Pipeline.ReadBack
public import Idealize.ShloMosaic.Lib.Tactic
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen Cert.ReferenceSIdeal Step

variable (m : (ℓ : Loc nD τ sig) → Buf (Elt Ideal) ℓ)

theorem at_origin18 : ∀ t : Fin cfg0.N, win0_18.index t = ![0, 0] := (by decide +kernel : ∀ t : Fin grid0.N, _)
theorem final18 (c : Dev nD) : (dats m 0 c).arrAt 18 cfg0.N = Read.val_main_v182 (F := Ideal) (a0 m c) (a14 m c) := by
  refine (dats m 0 c).arrAt_eq_of_covers 18 _ (by decide +kernel) fun t hf y => ?_
  blk_simp
  rw [after0_18]
  unfold out0_18 k0_pay35
  rw [View.canon_unit_zero hz]
  simp only [View.ld_unit_zero (S := S72x128) hz]
  idx_vars y
  refine Eq.trans ?_ (congrArg _ (by blk_ext [at_origin18 t] : (win0_18.blk t).view.emb (ix2 y0 y1) = ix2 y0 y1).symm)
  refine Eq.trans ?_ ((Read.val_main_v182_apply ..).trans (congrArg _ (flat8 y0 y1))).symm
  obtain ⟨z2, e2⟩ := V32 m c
  refine (out_rows8 slices_S72x128_o0_0_S8x128 (by omega) (k0_pay4 (iblk m c 0 t) (iblk m c 2 t)) y0 y1).trans ?_
  rw [mom_apply, block0, block2, V12, e2, pack0, pack0]
  rfl

theorem at_origin19 : ∀ t : Fin cfg0.N, win0_19.index t = ![0, 0] := (by decide +kernel : ∀ t : Fin grid0.N, _)
theorem final19 (c : Dev nD) : (dats m 0 c).arrAt 19 cfg0.N = Read.val_main_v183 (F := Ideal) (a1 m c) (a15 m c) := by
  refine (dats m 0 c).arrAt_eq_of_covers 19 _ (by decide +kernel) fun t hf y => ?_
  blk_simp
  rw [after0_19]
  unfold out0_19 k0_pay35
  rw [View.canon_unit_zero hz]
  simp only [View.ld_unit_zero (S := S72x128) hz]
  idx_vars y
  refine Eq.trans ?_ (congrArg _ (by blk_ext [at_origin19 t] : (win0_19.blk t).view.emb (ix2 y0 y1) = ix2 y0 y1).symm)
  refine Eq.trans ?_ ((Read.val_main_v183_apply ..).trans (congrArg _ (flat16 y0 y1))).symm
  obtain ⟨z2, e2⟩ := V32 m c
  refine (out_rows16 slices_S72x128_o8_0_S16x128 (by omega) (k0_pay4 (iblk m c 0 t) (iblk m c 2 t)) y0 y1).trans ?_
  rw [mom_apply, block0, block2, V12, e2, pack1, pack1]
  rfl

theorem at_origin20 : ∀ t : Fin cfg0.N, win0_20.index t = ![0, 0] := (by decide +kernel : ∀ t : Fin grid0.N, _)
theorem final20 (c : Dev nD) : (dats m 0 c).arrAt 20 cfg0.N = Read.val_main_v184 (F := Ideal) (a2 m c) (a16 m c) := by
  refine (dats m 0 c).arrAt_eq_of_covers 20 _ (by decide +kernel) fun t hf y => ?_
  blk_simp
  rw [after0_20]
  unfold out0_20 k0_pay35
  rw [View.canon_unit_zero hz]
  simp only [View.ld_unit_zero (S := S72x128) hz]
  idx_vars y
  refine Eq.trans ?_ (congrArg _ (by blk_ext [at_origin20 t] : (win0_20.blk t).view.emb (ix2 y0 y1) = ix2 y0 y1).symm)
  refine Eq.trans ?_ ((Read.val_main_v184_apply ..).trans (congrArg _ (flat8 y0 y1))).symm
  obtain ⟨z2, e2⟩ := V32 m c
  refine (out_rows8 slices_S72x128_o24_0_S8x128 (by omega) (k0_pay4 (iblk m c 0 t) (iblk m c 2 t)) y0 y1).trans ?_
  rw [mom_apply, block0, block2, V12, e2, pack2, pack2]
  rfl

theorem at_origin21 : ∀ t : Fin cfg0.N, win0_21.index t = ![0, 0] := (by decide +kernel : ∀ t : Fin grid0.N, _)
theorem final21 (c : Dev nD) : (dats m 0 c).arrAt 21 cfg0.N = Read.val_main_v185 (F := Ideal) (a3 m c) (a17 m c) := by
  refine (dats m 0 c).arrAt_eq_of_covers 21 _ (by decide +kernel) fun t hf y => ?_
  blk_simp
  rw [after0_21]
  unfold out0_21 k0_pay35
  rw [View.canon_unit_zero hz]
  simp only [View.ld_unit_zero (S := S72x128) hz]
  idx_vars y
  refine Eq.trans ?_ (congrArg _ (by blk_ext [at_origin21 t] : (win0_21.blk t).view.emb (ix2 y0 y1) = ix2 y0 y1).symm)
  refine Eq.trans ?_ ((Read.val_main_v185_apply ..).trans (congrArg _ (flat8 y0 y1))).symm
  obtain ⟨z2, e2⟩ := V32 m c
  refine (out_rows8 slices_S72x128_o32_0_S8x128 (by omega) (k0_pay4 (iblk m c 0 t) (iblk m c 2 t)) y0 y1).trans ?_
  rw [mom_apply, block0, block2, V12, e2, pack3, pack3]
  rfl

theorem at_origin22 : ∀ t : Fin cfg0.N, win0_22.index t = ![0, 0] := (by decide +kernel : ∀ t : Fin grid0.N, _)
theorem final22 (c : Dev nD) : (dats m 0 c).arrAt 22 cfg0.N = Read.val_main_v186 (F := Ideal) (a4 m c) (a18 m c) := by
  refine (dats m 0 c).arrAt_eq_of_covers 22 _ (by decide +kernel) fun t hf y => ?_
  blk_simp
  rw [after0_22]
  unfold out0_22 k0_pay35
  rw [View.canon_unit_zero hz]
  simp only [View.ld_unit_zero (S := S72x128) hz]
  idx_vars y
  refine Eq.trans ?_ (congrArg _ (by blk_ext [at_origin22 t] : (win0_22.blk t).view.emb (ix2 y0 y1) = ix2 y0 y1).symm)
  refine Eq.trans ?_ ((Read.val_main_v186_apply ..).trans (congrArg _ (flat8 y0 y1))).symm
  obtain ⟨z2, e2⟩ := V32 m c
  refine (out_rows8 slices_S72x128_o40_0_S8x128 (by omega) (k0_pay4 (iblk m c 0 t) (iblk m c 2 t)) y0 y1).trans ?_
  rw [mom_apply, block0, block2, V12, e2, pack4, pack4]
  rfl

theorem at_origin23 : ∀ t : Fin cfg0.N, win0_23.index t = ![0, 0] := (by decide +kernel : ∀ t : Fin grid0.N, _)
theorem final23 (c : Dev nD) : (dats m 0 c).arrAt 23 cfg0.N = Read.val_main_v187 (F := Ideal) (a5 m c) (a19 m c) := by
  refine (dats m 0 c).arrAt_eq_of_covers 23 _ (by decide +kernel) fun t hf y => ?_
  blk_simp
  rw [after0_23]
  unfold out0_23 k0_pay35
  rw [View.canon_unit_zero hz]
  simp only [View.ld_unit_zero (S := S72x128) hz]
  idx_vars y
  refine Eq.trans ?_ (congrArg _ (by blk_ext [at_origin23 t] : (win0_23.blk t).view.emb (ix2 y0 y1) = ix2 y0 y1).symm)
  refine Eq.trans ?_ ((Read.val_main_v187_apply ..).trans (congrArg _ (flat8 y0 y1))).symm
  obtain ⟨z2, e2⟩ := V32 m c
  refine (out_rows8 slices_S72x128_o48_0_S8x128 (by omega) (k0_pay4 (iblk m c 0 t) (iblk m c 2 t)) y0 y1).trans ?_
  rw [mom_apply, block0, block2, V12, e2, pack5, pack5]
  rfl

theorem at_origin24 : ∀ t : Fin cfg0.N, win0_24.index t = ![0, 0] := (by decide +kernel : ∀ t : Fin grid0.N, _)
theorem final24 (c : Dev nD) : (dats m 0 c).arrAt 24 cfg0.N = Read.val_main_v188 (F := Ideal) (a6 m c) (a20 m c) := by
  refine (dats m 0 c).arrAt_eq_of_covers 24 _ (by decide +kernel) fun t hf y => ?_
  blk_simp
  rw [after0_24]
  unfold out0_24 k0_pay35
  rw [View.canon_unit_zero hz]
  simp only [View.ld_unit_zero (S := S72x128) hz]
  idx_vars y
  refine Eq.trans ?_ (congrArg _ (by blk_ext [at_origin24 t] : (win0_24.blk t).view.emb (ix2 y0 y1) = ix2 y0 y1).symm)
  refine Eq.trans ?_ ((Read.val_main_v188_apply ..).trans (congrArg _ (flat8 y0 y1))).symm
  obtain ⟨z2, e2⟩ := V32 m c
  refine (out_rows8 slices_S72x128_o56_0_S8x128 (by omega) (k0_pay4 (iblk m c 0 t) (iblk m c 2 t)) y0 y1).trans ?_
  rw [mom_apply, block0, block2, V12, e2, pack6, pack6]
  rfl
end Cert.KernelSIdeal.Hand
end
-- ==== Proof.SSec.lean ====
module

public import proofs.«01_k».proof.Proof.SBase
public import proofs.«01_k».proof.Proof.Common
public import proofs.«01_k».proof.Proof.Gen.ReferenceSIdeal.Read
public import Idealize.ShloMosaic.Lib.Pipeline.ReadBack
public import Idealize.ShloMosaic.Lib.Tactic
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen Cert.ReferenceSIdeal Step

variable (m : (ℓ : Loc nD τ sig) → Buf (Elt Ideal) ℓ)

theorem at_origin25 : ∀ t : Fin cfg0.N, win0_25.index t = ![0, 0] := (by decide +kernel : ∀ t : Fin grid0.N, _)
theorem final25 (c : Dev nD) : (dats m 0 c).arrAt 25 cfg0.N = Read.val_main_v189 (F := Ideal) (a0 m c) (a21 m c) := by
  refine (dats m 0 c).arrAt_eq_of_covers 25 _ (by decide +kernel) fun t hf y => ?_
  blk_simp
  rw [after0_25]
  unfold out0_25 k0_pay36
  rw [View.canon_unit_zero hz]
  simp only [View.ld_unit_zero (S := S72x128) hz]
  idx_vars y
  refine Eq.trans ?_ (congrArg _ (by blk_ext [at_origin25 t] : (win0_25.blk t).view.emb (ix2 y0 y1) = ix2 y0 y1).symm)
  refine Eq.trans ?_ ((Read.val_main_v189_apply ..).trans (congrArg _ (flat8 y0 y1))).symm
  obtain ⟨z3, e3⟩ := V42 m c
  refine (out_rows8 slices_S72x128_o0_0_S8x128 (by omega) (k0_pay5 (iblk m c 0 t) (iblk m c 3 t)) y0 y1).trans ?_
  rw [sec_apply, block0, block3, V12, e3, pack0, pack0]
  rfl

theorem at_origin26 : ∀ t : Fin cfg0.N, win0_26.index t = ![0, 0] := (by decide +kernel : ∀ t : Fin grid0.N, _)
theorem final26 (c : Dev nD) : (dats m 0 c).arrAt 26 cfg0.N = Read.val_main_v190 (F := Ideal) (a1 m c) (a22 m c) := by
  refine (dats m 0 c).arrAt_eq_of_covers 26 _ (by decide +kernel) fun t hf y => ?_
  blk_simp
  rw [after0_26]
  unfold out0_26 k0_pay36
  rw [View.canon_unit_zero hz]
  simp only [View.ld_unit_zero (S := S72x128) hz]
  idx_vars y
  refine Eq.trans ?_ (congrArg _ (by blk_ext [at_origin26 t] : (win0_26.blk t).view.emb (ix2 y0 y1) = ix2 y0 y1).symm)
  refine Eq.trans ?_ ((Read.val_main_v190_apply ..).trans (congrArg _ (flat16 y0 y1))).symm
  obtain ⟨z3, e3⟩ := V42 m c
  refine (out_rows16 slices_S72x128_o8_0_S16x128 (by omega) (k0_pay5 (iblk m c 0 t) (iblk m c 3 t)) y0 y1).trans ?_
  rw [sec_apply, block0, block3, V12, e3, pack1, pack1]
  rfl

theorem at_origin27 : ∀ t : Fin cfg0.N, win0_27.index t = ![0, 0] := (by decide +kernel : ∀ t : Fin grid0.N, _)
theorem final27 (c : Dev nD) : (dats m 0 c).arrAt 27 cfg0.N = Read.val_main_v191 (F := Ideal) (a2 m c) (a23 m c) := by
  refine (dats m 0 c).arrAt_eq_of_covers 27 _ (by decide +kernel) fun t hf y => ?_
  blk_simp
  rw [after0_27]
  unfold out0_27 k0_pay36
  rw [View.canon_unit_zero hz]
  simp only [View.ld_unit_zero (S := S72x128) hz]
  idx_vars y
  refine Eq.trans ?_ (congrArg _ (by blk_ext [at_origin27 t] : (win0_27.blk t).view.emb (ix2 y0 y1) = ix2 y0 y1).symm)
  refine Eq.trans ?_ ((Read.val_main_v191_apply ..).trans (congrArg _ (flat8 y0 y1))).symm
  obtain ⟨z3, e3⟩ := V42 m c
  refine (out_rows8 slices_S72x128_o24_0_S8x128 (by omega) (k0_pay5 (iblk m c 0 t) (iblk m c 3 t)) y0 y1).trans ?_
  rw [sec_apply, block0, block3, V12, e3, pack2, pack2]
  rfl

theorem at_origin28 : ∀ t : Fin cfg0.N, win0_28.index t = ![0, 0] := (by decide +kernel : ∀ t : Fin grid0.N, _)
theorem final28 (c : Dev nD) : (dats m 0 c).arrAt 28 cfg0.N = Read.val_main_v192 (F := Ideal) (a3 m c) (a24 m c) := by
  refine (dats m 0 c).arrAt_eq_of_covers 28 _ (by decide +kernel) fun t hf y => ?_
  blk_simp
  rw [after0_28]
  unfold out0_28 k0_pay36
  rw [View.canon_unit_zero hz]
  simp only [View.ld_unit_zero (S := S72x128) hz]
  idx_vars y
  refine Eq.trans ?_ (congrArg _ (by blk_ext [at_origin28 t] : (win0_28.blk t).view.emb (ix2 y0 y1) = ix2 y0 y1).symm)
  refine Eq.trans ?_ ((Read.val_main_v192_apply ..).trans (congrArg _ (flat8 y0 y1))).symm
  obtain ⟨z3, e3⟩ := V42 m c
  refine (out_rows8 slices_S72x128_o32_0_S8x128 (by omega) (k0_pay5 (iblk m c 0 t) (iblk m c 3 t)) y0 y1).trans ?_
  rw [sec_apply, block0, block3, V12, e3, pack3, pack3]
  rfl

theorem at_origin29 : ∀ t : Fin cfg0.N, win0_29.index t = ![0, 0] := (by decide +kernel : ∀ t : Fin grid0.N, _)
theorem final29 (c : Dev nD) : (dats m 0 c).arrAt 29 cfg0.N = Read.val_main_v193 (F := Ideal) (a4 m c) (a25 m c) := by
  refine (dats m 0 c).arrAt_eq_of_covers 29 _ (by decide +kernel) fun t hf y => ?_
  blk_simp
  rw [after0_29]
  unfold out0_29 k0_pay36
  rw [View.canon_unit_zero hz]
  simp only [View.ld_unit_zero (S := S72x128) hz]
  idx_vars y
  refine Eq.trans ?_ (congrArg _ (by blk_ext [at_origin29 t] : (win0_29.blk t).view.emb (ix2 y0 y1) = ix2 y0 y1).symm)
  refine Eq.trans ?_ ((Read.val_main_v193_apply ..).trans (congrArg _ (flat8 y0 y1))).symm
  obtain ⟨z3, e3⟩ := V42 m c
  refine (out_rows8 slices_S72x128_o40_0_S8x128 (by omega) (k0_pay5 (iblk m c 0 t) (iblk m c 3 t)) y0 y1).trans ?_
  rw [sec_apply, block0, block3, V12, e3, pack4, pack4]
  rfl

theorem at_origin30 : ∀ t : Fin cfg0.N, win0_30.index t = ![0, 0] := (by decide +kernel : ∀ t : Fin grid0.N, _)
theorem final30 (c : Dev nD) : (dats m 0 c).arrAt 30 cfg0.N = Read.val_main_v194 (F := Ideal) (a5 m c) (a26 m c) := by
  refine (dats m 0 c).arrAt_eq_of_covers 30 _ (by decide +kernel) fun t hf y => ?_
  blk_simp
  rw [after0_30]
  unfold out0_30 k0_pay36
  rw [View.canon_unit_zero hz]
  simp only [View.ld_unit_zero (S := S72x128) hz]
  idx_vars y
  refine Eq.trans ?_ (congrArg _ (by blk_ext [at_origin30 t] : (win0_30.blk t).view.emb (ix2 y0 y1) = ix2 y0 y1).symm)
  refine Eq.trans ?_ ((Read.val_main_v194_apply ..).trans (congrArg _ (flat8 y0 y1))).symm
  obtain ⟨z3, e3⟩ := V42 m c
  refine (out_rows8 slices_S72x128_o48_0_S8x128 (by omega) (k0_pay5 (iblk m c 0 t) (iblk m c 3 t)) y0 y1).trans ?_
  rw [sec_apply, block0, block3, V12, e3, pack5, pack5]
  rfl

theorem at_origin31 : ∀ t : Fin cfg0.N, win0_31.index t = ![0, 0] := (by decide +kernel : ∀ t : Fin grid0.N, _)
theorem final31 (c : Dev nD) : (dats m 0 c).arrAt 31 cfg0.N = Read.val_main_v195 (F := Ideal) (a6 m c) (a27 m c) := by
  refine (dats m 0 c).arrAt_eq_of_covers 31 _ (by decide +kernel) fun t hf y => ?_
  blk_simp
  rw [after0_31]
  unfold out0_31 k0_pay36
  rw [View.canon_unit_zero hz]
  simp only [View.ld_unit_zero (S := S72x128) hz]
  idx_vars y
  refine Eq.trans ?_ (congrArg _ (by blk_ext [at_origin31 t] : (win0_31.blk t).view.emb (ix2 y0 y1) = ix2 y0 y1).symm)
  refine Eq.trans ?_ ((Read.val_main_v195_apply ..).trans (congrArg _ (flat8 y0 y1))).symm
  obtain ⟨z3, e3⟩ := V42 m c
  refine (out_rows8 slices_S72x128_o56_0_S8x128 (by omega) (k0_pay5 (iblk m c 0 t) (iblk m c 3 t)) y0 y1).trans ?_
  rw [sec_apply, block0, block3, V12, e3, pack6, pack6]
  rfl
end Cert.KernelSIdeal.Hand
end
-- ==== Proof.SClaim.lean ====
module

public import proofs.«01_k».proof.Defs
public import proofs.«01_k».proof.Proof.SGrad
public import proofs.«01_k».proof.Proof.SDelta
public import proofs.«01_k».proof.Proof.SMom
public import proofs.«01_k».proof.Proof.SSec
public import proofs.«01_k».proof.Proof.Gen.KernelS
public import proofs.«01_k».proof.Proof.Gen.ReferenceSIdeal.Run
public import Idealize.ShloMosaic.Adequacy
public import Idealize.ShloMosaic.Init

/-! The optimiser step of the small weights: its value, and the frames of the ideal program and of the reference. -/

@[expose] public section
set_option maxRecDepth 16384
noncomputable section
open Idealize.ShloMosaic Idealize.ShloMosaic.TcCoe Idealize.SL.Sem
open Idealize.ShloMosaic.Pipeline (Dat)

namespace Cert.KernelSIdeal.Hand
open Cert.KernelSIdeal Cert.KernelSIdeal.Gen
variable (m : (ℓ : Loc nD τ sig) → Buf (Elt Ideal) ℓ)

/-- After the run every argument is what it was. -/
theorem kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c)⟩
end Cert.KernelSIdeal.Hand

namespace Cert.Proof.S
theorem framePI : Cert.quiescent_KernelSIdeal (hKernelSIdeal := Cert.KernelSIdeal.Gen.facts) := fun m ρ _ => Cert.KernelSIdeal.Hand.frame m ρ
theorem frameRI : Cert.quiescent_ReferenceSIdeal (hReferenceSIdeal := Cert.ReferenceSIdeal.Gen.facts) := fun m ρ _ =>
  (θ_run _ _ _).mono (fun r h => ⟨fun c => by
    obtain ⟨_, _, _, _, _, _, _, _, _, _, _, _, _, _, _, _, _, _, _, _, _, _, _, _, _, _, _, _, _, hl⟩ := h c
    exact hl, sem_eq_zero_of_no_sems rfl r.2⟩) (Cert.ReferenceSIdeal.Value.run m ρ)
set_option maxHeartbeats 8000000 in
theorem value : Cert.algebraic_KernelSIdeal_ReferenceSIdeal (hKernelSIdeal := Cert.KernelSIdeal.Gen.facts)
    (hReferenceSIdeal := Cert.ReferenceSIdeal.Gen.facts) := by
  intro m g m' g' _ hm
  refine ⟨_, _, _, _, _, _, _, _, _, _, _, _, _, _, _, _, _, _, _, _, _, _, _, _, _, _, _, _, _, (θ_run _ _ _).mono (fun r h c => ⟨((h c).1 4).trans (Cert.KernelSIdeal.Hand.final4 m c), ((h c).1 5).trans (Cert.KernelSIdeal.Hand.final5 m c), ((h c).1 6).trans (Cert.KernelSIdeal.Hand.final6 m c), ((h c).1 7).trans (Cert.KernelSIdeal.Hand.final7 m c), ((h c).1 8).trans (Cert.KernelSIdeal.Hand.final8 m c), ((h c).1 9).trans (Cert.KernelSIdeal.Hand.final9 m c), ((h c).1 10).trans (Cert.KernelSIdeal.Hand.final10 m c), ((h c).1 11).trans (Cert.KernelSIdeal.Hand.final11 m c), ((h c).1 12).trans (Cert.KernelSIdeal.Hand.final12 m c), ((h c).1 13).trans (Cert.KernelSIdeal.Hand.final13 m c), ((h c).1 14).trans (Cert.KernelSIdeal.Hand.final14 m c), ((h c).1 15).trans (Cert.KernelSIdeal.Hand.final15 m c), ((h c).1 16).trans (Cert.KernelSIdeal.Hand.final16 m c), ((h c).1 17).trans (Cert.KernelSIdeal.Hand.final17 m c), ((h c).1 18).trans (Cert.KernelSIdeal.Hand.final18 m c), ((h c).1 19).trans (Cert.KernelSIdeal.Hand.final19 m c), ((h c).1 20).trans (Cert.KernelSIdeal.Hand.final20 m c), ((h c).1 21).trans (Cert.KernelSIdeal.Hand.final21 m c), ((h c).1 22).trans (Cert.KernelSIdeal.Hand.final22 m c), ((h c).1 23).trans (Cert.KernelSIdeal.Hand.final23 m c), ((h c).1 24).trans (Cert.KernelSIdeal.Hand.final24 m c), ((h c).1 25).trans (Cert.KernelSIdeal.Hand.final25 m c), ((h c).1 26).trans (Cert.KernelSIdeal.Hand.final26 m c), ((h c).1 27).trans (Cert.KernelSIdeal.Hand.final27 m c), ((h c).1 28).trans (Cert.KernelSIdeal.Hand.final28 m c), ((h c).1 29).trans (Cert.KernelSIdeal.Hand.final29 m c), ((h c).1 30).trans (Cert.KernelSIdeal.Hand.final30 m c), ((h c).1 31).trans (Cert.KernelSIdeal.Hand.final31 m c), ((h c).1 32).trans (Cert.KernelSIdeal.Hand.final32 m c), Cert.KernelSIdeal.Hand.kept m r h c⟩)
    (Cert.KernelSIdeal.Hand.run_main m g), (θ_run _ _ _).mono (fun r h c => ?_) (Cert.ReferenceSIdeal.Value.run m' g')⟩
  obtain ⟨h0, h1, h2, h3, h4, h5, h6, h7, h8, h9, h10, h11, h12, h13, h14, h15, h16, h17, h18, h19, h20, h21, h22, h23, h24, h25, h26, h27, h28, hl⟩ := h c
  obtain ⟨e0, e1, e2, e3, e4, e5, e6, e7, e8, e9, e10, e11, e12, e13, e14, e15, e16, e17, e18, e19, e20, e21, e22, e23, e24, e25, e26, e27, e28⟩ := hm c
  refine ⟨?_, ?_, ?_, ?_, ?_, ?_, ?_, ?_, ?_, ?_, ?_, ?_, ?_, ?_, ?_, ?_, ?_, ?_, ?_, ?_, ?_, ?_, ?_, ?_, ?_, ?_, ?_, ?_, ?_, hl⟩
  · dsimp only [Cert.KernelSIdeal.Hand.a0]
    rw [← e0]
    exact h0.trans (Cert.ReferenceSIdeal.Read.val_main_v168_eq ..)
  · dsimp only [Cert.KernelSIdeal.Hand.a1]
    rw [← e1]
    exact h1.trans (Cert.ReferenceSIdeal.Read.val_main_v169_eq ..)
  · dsimp only [Cert.KernelSIdeal.Hand.a2]
    rw [← e2]
    exact h2.trans (Cert.ReferenceSIdeal.Read.val_main_v170_eq ..)
  · dsimp only [Cert.KernelSIdeal.Hand.a3]
    rw [← e3]
    exact h3.trans (Cert.ReferenceSIdeal.Read.val_main_v171_eq ..)
  · dsimp only [Cert.KernelSIdeal.Hand.a4]
    rw [← e4]
    exact h4.trans (Cert.ReferenceSIdeal.Read.val_main_v172_eq ..)
  · dsimp only [Cert.KernelSIdeal.Hand.a5]
    rw [← e5]
    exact h5.trans (Cert.ReferenceSIdeal.Read.val_main_v173_eq ..)
  · dsimp only [Cert.KernelSIdeal.Hand.a6]
    rw [← e6]
    exact h6.trans (Cert.ReferenceSIdeal.Read.val_main_v174_eq ..)
  · dsimp only [Cert.KernelSIdeal.Hand.a0, Cert.KernelSIdeal.Hand.a7, Cert.KernelSIdeal.Hand.a14, Cert.KernelSIdeal.Hand.a21]
    rw [← e0, ← e7, ← e14, ← e21]
    exact h7.trans (Cert.ReferenceSIdeal.Read.val_main_v175_eq ..)
  · dsimp only [Cert.KernelSIdeal.Hand.a1, Cert.KernelSIdeal.Hand.a8, Cert.KernelSIdeal.Hand.a15, Cert.KernelSIdeal.Hand.a22]
    rw [← e1, ← e8, ← e15, ← e22]
    exact h8.trans (Cert.ReferenceSIdeal.Read.val_main_v176_eq ..)
  · dsimp only [Cert.KernelSIdeal.Hand.a2, Cert.KernelSIdeal.Hand.a9, Cert.KernelSIdeal.Hand.a16, Cert.KernelSIdeal.Hand.a23]
    rw [← e2, ← e9, ← e16, ← e23]
    exact h9.trans (Cert.ReferenceSIdeal.Read.val_main_v177_eq ..)
  · dsimp only [Cert.KernelSIdeal.Hand.a3, Cert.KernelSIdeal.Hand.a10, Cert.KernelSIdeal.Hand.a17, Cert.KernelSIdeal.Hand.a24]
    rw [← e3, ← e10, ← e17, ← e24]
    exact h10.trans (Cert.ReferenceSIdeal.Read.val_main_v178_eq ..)
  · dsimp only [Cert.KernelSIdeal.Hand.a4, Cert.KernelSIdeal.Hand.a11, Cert.KernelSIdeal.Hand.a18, Cert.KernelSIdeal.Hand.a25]
    rw [← e4, ← e11, ← e18, ← e25]
    exact h11.trans (Cert.ReferenceSIdeal.Read.val_main_v179_eq ..)
  · dsimp only [Cert.KernelSIdeal.Hand.a5, Cert.KernelSIdeal.Hand.a12, Cert.KernelSIdeal.Hand.a19, Cert.KernelSIdeal.Hand.a26]
    rw [← e5, ← e12, ← e19, ← e26]
    exact h12.trans (Cert.ReferenceSIdeal.Read.val_main_v180_eq ..)
  · dsimp only [Cert.KernelSIdeal.Hand.a6, Cert.KernelSIdeal.Hand.a13, Cert.KernelSIdeal.Hand.a20, Cert.KernelSIdeal.Hand.a27]
    rw [← e6, ← e13, ← e20, ← e27]
    exact h13.trans (Cert.ReferenceSIdeal.Read.val_main_v181_eq ..)
  · dsimp only [Cert.KernelSIdeal.Hand.a0, Cert.KernelSIdeal.Hand.a14]
    rw [← e0, ← e14]
    exact h14.trans (Cert.ReferenceSIdeal.Read.val_main_v182_eq ..)
  · dsimp only [Cert.KernelSIdeal.Hand.a1, Cert.KernelSIdeal.Hand.a15]
    rw [← e1, ← e15]
    exact h15.trans (Cert.ReferenceSIdeal.Read.val_main_v183_eq ..)
  · dsimp only [Cert.KernelSIdeal.Hand.a2, Cert.KernelSIdeal.Hand.a16]
    rw [← e2, ← e16]
    exact h16.trans (Cert.ReferenceSIdeal.Read.val_main_v184_eq ..)
  · dsimp only [Cert.KernelSIdeal.Hand.a3, Cert.KernelSIdeal.Hand.a17]
    rw [← e3, ← e17]
    exact h17.trans (Cert.ReferenceSIdeal.Read.val_main_v185_eq ..)
  · dsimp only [Cert.KernelSIdeal.Hand.a4, Cert.KernelSIdeal.Hand.a18]
    rw [← e4, ← e18]
    exact h18.trans (Cert.ReferenceSIdeal.Read.val_main_v186_eq ..)
  · dsimp only [Cert.KernelSIdeal.Hand.a5, Cert.KernelSIdeal.Hand.a19]
    rw [← e5, ← e19]
    exact h19.trans (Cert.ReferenceSIdeal.Read.val_main_v187_eq ..)
  · dsimp only [Cert.KernelSIdeal.Hand.a6, Cert.KernelSIdeal.Hand.a20]
    rw [← e6, ← e20]
    exact h20.trans (Cert.ReferenceSIdeal.Read.val_main_v188_eq ..)
  · dsimp only [Cert.KernelSIdeal.Hand.a0, Cert.KernelSIdeal.Hand.a21]
    rw [← e0, ← e21]
    exact h21.trans (Cert.ReferenceSIdeal.Read.val_main_v189_eq ..)
  · dsimp only [Cert.KernelSIdeal.Hand.a1, Cert.KernelSIdeal.Hand.a22]
    rw [← e1, ← e22]
    exact h22.trans (Cert.ReferenceSIdeal.Read.val_main_v190_eq ..)
  · dsimp only [Cert.KernelSIdeal.Hand.a2, Cert.KernelSIdeal.Hand.a23]
    rw [← e2, ← e23]
    exact h23.trans (Cert.ReferenceSIdeal.Read.val_main_v191_eq ..)
  · dsimp only [Cert.KernelSIdeal.Hand.a3, Cert.KernelSIdeal.Hand.a24]
    rw [← e3, ← e24]
    exact h24.trans (Cert.ReferenceSIdeal.Read.val_main_v192_eq ..)
  · dsimp only [Cert.KernelSIdeal.Hand.a4, Cert.KernelSIdeal.Hand.a25]
    rw [← e4, ← e25]
    exact h25.trans (Cert.ReferenceSIdeal.Read.val_main_v193_eq ..)
  · dsimp only [Cert.KernelSIdeal.Hand.a5, Cert.KernelSIdeal.Hand.a26]
    rw [← e5, ← e26]
    exact h26.trans (Cert.ReferenceSIdeal.Read.val_main_v194_eq ..)
  · dsimp only [Cert.KernelSIdeal.Hand.a6, Cert.KernelSIdeal.Hand.a27]
    rw [← e6, ← e27]
    exact h27.trans (Cert.ReferenceSIdeal.Read.val_main_v195_eq ..)
  · dsimp only [Cert.KernelSIdeal.Hand.a28]
    rw [← e28]
    exact h28.trans (Cert.ReferenceSIdeal.Read.val_main_v196_eq ..)
end Cert.Proof.S
end
-- ==== Proof.SBits.lean ====
module

public import proofs.«01_k».proof.Defs
public import proofs.«01_k».proof.Proof.SFrame
public import proofs.«01_k».proof.Proof.Gen.KernelS
public import proofs.«01_k».proof.Proof.Gen.ReferenceSIdeal.Run
public import Idealize.ShloMosaic.Adequacy
public import Idealize.ShloMosaic.Init

/-! The optimiser step of the small weights: the frame of the program over bits. Its text is that of the ideal program, so the
run of `SFrame`, taken over bits, is its run once the two body tables are seen to be equal. -/

@[expose] public section
set_option maxRecDepth 16384
noncomputable section
open Idealize.ShloMosaic Idealize.ShloMosaic.TcCoe Idealize.SL.Sem
open Idealize.ShloMosaic.Pipeline (Dat)

namespace Cert.Proof.S

set_option maxHeartbeats 4000000 in
/-- The two tables of bodies are equal: each has one label. -/
theorem tables0 : Cert.KernelS.defs₀ (F := Bits) = Cert.KernelSIdeal.defs₀ (F := Bits) := by
  unfold Cert.KernelS.defs₀ Cert.KernelSIdeal.defs₀
  refine congrArg Defs.onTc (funext fun l => ?_)
  match l with
  | ⟨0, _⟩ => exact funext fun ⟨t, s⟩ => rfl
set_option maxHeartbeats 8000000 in
/-- So are the tables with the pipelines added. -/
theorem tables : Cert.KernelS.defs (F := Bits) = Cert.KernelSIdeal.defs (F := Bits) :=
  congrArg (Pipeline.defs Cert.KernelSIdeal.pcfgs) tables0
set_option maxHeartbeats 8000000 in
theorem frameP : Cert.quiescent_KernelS (hKernelS := Cert.KernelS.Gen.facts) := fun m ρ _ =>
  Eq.mpr (congrArg (fun d => θ_run d (onTc (τ := Cert.KernelS.τ) (Cert.KernelS.main (F := Bits))) ⟨m, fun _ => 0, ρ⟩ _) tables) (Cert.KernelSIdeal.Hand.frame (F := Bits) m ρ)
end Cert.Proof.S
end
-- ==== Proof.lean ====
module

public import proofs.«01_k».proof.Defs
public import proofs.«01_k».proof.Proof.Gen.KernelI
public import proofs.«01_k».proof.Proof.Gen.KernelIIdeal
public import proofs.«01_k».proof.Proof.Gen.KernelIIdeal.Value
public import proofs.«01_k».proof.Proof.Gen.ReferenceIIdeal
public import proofs.«01_k».proof.Proof.Gen.ReferenceIIdeal.Run
public import proofs.«01_k».proof.Proof.Gen.ReferenceIIdeal.Read
public import proofs.«01_k».proof.Proof.Gen.KernelF
public import proofs.«01_k».proof.Proof.Gen.KernelFIdeal
public import proofs.«01_k».proof.Proof.Gen.ReferenceFIdeal
public import proofs.«01_k».proof.Proof.Gen.ReferenceFIdeal.Run
public import proofs.«01_k».proof.Proof.Gen.ReferenceFIdeal.Read
public import proofs.«01_k».proof.Proof.Gen.KernelW
public import proofs.«01_k».proof.Proof.Gen.KernelWIdeal
public import proofs.«01_k».proof.Proof.Gen.KernelWIdeal.Value
public import proofs.«01_k».proof.Proof.Gen.ReferenceWIdeal
public import proofs.«01_k».proof.Proof.Gen.ReferenceWIdeal.Run
public import proofs.«01_k».proof.Proof.Gen.ReferenceWIdeal.Read
public import proofs.«01_k».proof.Proof.Gen.ReferenceWTIdeal
public import proofs.«01_k».proof.Proof.Gen.ReferenceWTIdeal.Run
public import proofs.«01_k».proof.Proof.Gen.ReferenceWTIdeal.Read
public import proofs.«01_k».proof.Proof.Gen.KernelWA
public import proofs.«01_k».proof.Proof.Gen.KernelWAIdeal
public import proofs.«01_k».proof.Proof.Gen.KernelWAIdeal.Value
public import proofs.«01_k».proof.Proof.Gen.ReferenceWAIdeal
public import proofs.«01_k».proof.Proof.Gen.ReferenceWAIdeal.Run
public import proofs.«01_k».proof.Proof.Gen.ReferenceWAIdeal.Read
public import proofs.«01_k».proof.Proof.Gen.KernelWC
public import proofs.«01_k».proof.Proof.Gen.KernelWCIdeal
public import proofs.«01_k».proof.Proof.Gen.KernelWCIdeal.Value
public import proofs.«01_k».proof.Proof.Gen.ReferenceWCIdeal
public import proofs.«01_k».proof.Proof.Gen.ReferenceWCIdeal.Run
public import proofs.«01_k».proof.Proof.Gen.ReferenceWCIdeal.Read
public import proofs.«01_k».proof.Proof.Gen.ReferenceWCTIdeal
public import proofs.«01_k».proof.Proof.Gen.ReferenceWCTIdeal.Run
public import proofs.«01_k».proof.Proof.Gen.ReferenceWCTIdeal.Read
public import proofs.«01_k».proof.Proof.Gen.KernelWQ
public import proofs.«01_k».proof.Proof.Gen.KernelWQIdeal
public import proofs.«01_k».proof.Proof.Gen.KernelWQIdeal.Value
public import proofs.«01_k».proof.Proof.Gen.ReferenceWQIdeal
public import proofs.«01_k».proof.Proof.Gen.ReferenceWQIdeal.Run
public import proofs.«01_k».proof.Proof.Gen.ReferenceWQIdeal.Read
public import proofs.«01_k».proof.Proof.Gen.KernelWG
public import proofs.«01_k».proof.Proof.Gen.KernelWGIdeal
public import proofs.«01_k».proof.Proof.Gen.KernelWGIdeal.Value
public import proofs.«01_k».proof.Proof.Gen.ReferenceWGIdeal
public import proofs.«01_k».proof.Proof.Gen.ReferenceWGIdeal.Run
public import proofs.«01_k».proof.Proof.Gen.ReferenceWGIdeal.Read
public import proofs.«01_k».proof.Proof.Gen.KernelP
public import proofs.«01_k».proof.Proof.Gen.KernelPIdeal
public import proofs.«01_k».proof.Proof.Gen.KernelPIdeal.Value
public import proofs.«01_k».proof.Proof.Gen.ReferencePIdeal
public import proofs.«01_k».proof.Proof.Gen.ReferencePIdeal.Run
public import proofs.«01_k».proof.Proof.Gen.ReferencePIdeal.Read
public import proofs.«01_k».proof.Proof.Gen.KernelH
public import proofs.«01_k».proof.Proof.Gen.KernelHIdeal
public import proofs.«01_k».proof.Proof.Gen.ReferenceHIdeal
public import proofs.«01_k».proof.Proof.Gen.ReferenceHIdeal.Run
public import proofs.«01_k».proof.Proof.Gen.ReferenceHIdeal.Read
public import proofs.«01_k».proof.Proof.Gen.KernelQ
public import proofs.«01_k».proof.Proof.Gen.KernelQIdeal
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Gen.KernelS
public import proofs.«01_k».proof.Proof.Gen.KernelSIdeal
public import proofs.«01_k».proof.Proof.Gen.ReferenceSIdeal
public import proofs.«01_k».proof.Proof.Gen.ReferenceSIdeal.Run
public import proofs.«01_k».proof.Proof.Gen.ReferenceSIdeal.Read
public import proofs.«01_k».proof.Proof.InClaim
public import proofs.«01_k».proof.Proof.FClaim
public import proofs.«01_k».proof.Proof.WClaim
public import proofs.«01_k».proof.Proof.WAClaim
public import proofs.«01_k».proof.Proof.WCClaim
public import proofs.«01_k».proof.Proof.WQClaim
public import proofs.«01_k».proof.Proof.WGClaim
public import proofs.«01_k».proof.Proof.PClaim
public import proofs.«01_k».proof.Proof.HClaim
public import proofs.«01_k».proof.Proof.QClaim
public import proofs.«01_k».proof.Proof.SClaim
public import proofs.«01_k».proof.Proof.SBits

@[expose] public section

theorem Cert.Proof.claim : Cert.Claim :=
  open Cert.Proof in
  ⟨Cert.KernelI.Gen.facts, Cert.KernelIIdeal.Gen.facts, Cert.ReferenceIIdeal.Gen.facts,
    Cert.KernelF.Gen.facts, Cert.KernelFIdeal.Gen.facts, Cert.ReferenceFIdeal.Gen.facts,
    Cert.KernelW.Gen.facts, Cert.KernelWIdeal.Gen.facts, Cert.ReferenceWIdeal.Gen.facts, Cert.ReferenceWTIdeal.Gen.facts,
    Cert.KernelWA.Gen.facts, Cert.KernelWAIdeal.Gen.facts, Cert.ReferenceWAIdeal.Gen.facts,
    Cert.KernelWC.Gen.facts, Cert.KernelWCIdeal.Gen.facts, Cert.ReferenceWCIdeal.Gen.facts, Cert.ReferenceWCTIdeal.Gen.facts,
    Cert.KernelWQ.Gen.facts, Cert.KernelWQIdeal.Gen.facts, Cert.ReferenceWQIdeal.Gen.facts,
    Cert.KernelWG.Gen.facts, Cert.KernelWGIdeal.Gen.facts, Cert.ReferenceWGIdeal.Gen.facts,
    Cert.KernelP.Gen.facts, Cert.KernelPIdeal.Gen.facts, Cert.ReferencePIdeal.Gen.facts,
    Cert.KernelH.Gen.facts, Cert.KernelHIdeal.Gen.facts, Cert.ReferenceHIdeal.Gen.facts,
    Cert.KernelQ.Gen.facts, Cert.KernelQIdeal.Gen.facts, Cert.ReferenceQIdeal.Gen.facts,
    Cert.KernelS.Gen.facts, Cert.KernelSIdeal.Gen.facts, Cert.ReferenceSIdeal.Gen.facts,
    F.preFacts,
    In.frameP, In.framePI, In.frameRI,
    F.frameP, F.framePI, F.framePIpre, F.frameRI, F.frameRIpre,
    W.frameP, W.framePI, W.frameRI, W.frameRIT,
    WA.frameP, WA.framePI, WA.frameRI,
    WC.frameP, WC.framePI, WC.frameRI, WC.frameRIT,
    WQ.frameP, WQ.framePI, WQ.frameRI,
    WG.frameP, WG.framePI, WG.frameRI,
    P.frameP, P.framePI, P.frameRI,
    H.frameP, H.framePI, H.frameRI,
    Q.frameP, Q.framePI, Q.frameRI,
    S.frameP, S.framePI, S.frameRI,
    trivial, In.value,
    trivial, F.value,
    trivial, W.value, W.valueT,
    trivial, WA.value,
    trivial, WC.value, WC.valueT,
    trivial, WQ.value,
    trivial, WG.value,
    trivial, P.value,
    trivial, H.value,
    trivial, Q.value,
    trivial, S.value⟩
end
